-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1152x1x512 : Shape := ⟨4, ![4, 1152, 1, 512]⟩
abbrev S4x1152x1 : Shape := ⟨3, ![4, 1152, 1]⟩
abbrev S4x16x1x512 : Shape := ⟨4, ![4, 16, 1, 512]⟩
abbrev S4x16x1 : Shape := ⟨3, ![4, 16, 1]⟩
abbrev S32x512 : Shape := ⟨2, ![32, 512]⟩
abbrev S32x512x7168 : Shape := ⟨3, ![32, 512, 7168]⟩
abbrev S7168 : Shape := ⟨1, ![7168]⟩
abbrev S7168x512 : Shape := ⟨2, ![7168, 512]⟩
abbrev S512 : Shape := ⟨1, ![512]⟩
abbrev S4x1152x512 : Shape := ⟨3, ![4, 1152, 512]⟩
abbrev S4x1x1152 : Shape := ⟨3, ![4, 1, 1152]⟩
abbrev S4x16x512 : Shape := ⟨3, ![4, 16, 512]⟩
abbrev S4x1x16 : Shape := ⟨3, ![4, 1, 16]⟩
abbrev S16384x7168 : Shape := ⟨2, ![16384, 7168]⟩
abbrev S1x7168 : Shape := ⟨2, ![1, 7168]⟩
abbrev S1x512 : Shape := ⟨2, ![1, 512]⟩
abbrev S4x72x512 : Shape := ⟨3, ![4, 72, 512]⟩
abbrev S4x1x72 : Shape := ⟨3, ![4, 1, 72]⟩
abbrev S4x72x7168 : Shape := ⟨3, ![4, 72, 7168]⟩
abbrev S16384x512 : Shape := ⟨2, ![16384, 512]⟩
abbrev S4x4672x128 : Shape := ⟨3, ![4, 4672, 128]⟩
abbrev S288x16384 : Shape := ⟨2, ![288, 16384]⟩
abbrev S14x288x512 : Shape := ⟨3, ![14, 288, 512]⟩
abbrev S288x7168 : Shape := ⟨2, ![288, 7168]⟩
abbrev S288x128 : Shape := ⟨2, ![288, 128]⟩
abbrev S8x128 : Shape := ⟨2, ![8, 128]⟩
abbrev S1x1x16 : Shape := ⟨3, ![1, 1, 16]⟩
abbrev S1x16 : Shape := ⟨2, ![1, 16]⟩
abbrev S8x16 : Shape := ⟨2, ![8, 16]⟩
abbrev S8 : Shape := ⟨1, ![8]⟩
abbrev S8x1 : Shape := ⟨2, ![8, 1]⟩
abbrev S1x16x512 : Shape := ⟨3, ![1, 16, 512]⟩
abbrev S16x512 : Shape := ⟨2, ![16, 512]⟩
abbrev S8x512 : Shape := ⟨2, ![8, 512]⟩
abbrev S1x8x128 : Shape := ⟨3, ![1, 8, 128]⟩
abbrev S1x1x128 : Shape := ⟨3, ![1, 1, 128]⟩
abbrev S1x128 : Shape := ⟨2, ![1, 128]⟩
abbrev S1x32x512 : Shape := ⟨3, ![1, 32, 512]⟩
abbrev S8x128x1 : Shape := ⟨3, ![8, 128, 1]⟩
abbrev S1x72x128 : Shape := ⟨3, ![1, 72, 128]⟩
abbrev S72x128 : Shape := ⟨2, ![72, 128]⟩
abbrev S288x512 : Shape := ⟨2, ![288, 512]⟩
abbrev S1x288x512 : Shape := ⟨3, ![1, 288, 512]⟩
abbrev S288 : Shape := ⟨1, ![288]⟩
abbrev S288x1 : Shape := ⟨2, ![288, 1]⟩
abbrev S288x256 : Shape := ⟨2, ![288, 256]⟩
abbrev S128 : Shape := ⟨1, ![128]⟩
abbrev S1x72 : Shape := ⟨2, ![1, 72]⟩
abbrev S1x1x72 : Shape := ⟨3, ![1, 1, 72]⟩
abbrev S1x72x512 : Shape := ⟨3, ![1, 72, 512]⟩
abbrev S72x512 : Shape := ⟨2, ![72, 512]⟩

abbrev nBuf : Space → Nat
  | .hbm => 24
  | .vmem => 23
  | .smem => 0
  | _ => 0

abbrev bufTy : (tb : Table) → Fin (tcTables nBuf tb) → BufTy
  | .hbm, ⟨0, _⟩ => ⟨S4x1152x1x512, .fp8e4m3⟩
  | .hbm, ⟨1, _⟩ => ⟨S4x1152x1, .f32⟩
  | .hbm, ⟨2, _⟩ => ⟨S4x16x1x512, .fp8e4m3⟩
  | .hbm, ⟨3, _⟩ => ⟨S4x16x1, .f32⟩
  | .hbm, ⟨4, _⟩ => ⟨S32x512, .f32⟩
  | .hbm, ⟨5, _⟩ => ⟨S32x512x7168, .fp8e4m3⟩
  | .hbm, ⟨6, _⟩ => ⟨S7168, .f32⟩
  | .hbm, ⟨7, _⟩ => ⟨S7168, .f32⟩
  | .hbm, ⟨8, _⟩ => ⟨S7168x512, .fp8e4m3⟩
  | .hbm, ⟨9, _⟩ => ⟨S512, .f32⟩
  | .hbm, ⟨10, _⟩ => ⟨S512, .f32⟩
  | .hbm, ⟨11, _⟩ => ⟨S4x1152x512, .fp8e4m3⟩
  | .hbm, ⟨12, _⟩ => ⟨S4x1x1152, .f32⟩
  | .hbm, ⟨13, _⟩ => ⟨S4x16x512, .fp8e4m3⟩
  | .hbm, ⟨14, _⟩ => ⟨S4x1x16, .f32⟩
  | .hbm, ⟨15, _⟩ => ⟨S16384x7168, .fp8e4m3⟩
  | .hbm, ⟨16, _⟩ => ⟨S1x7168, .f32⟩
  | .hbm, ⟨17, _⟩ => ⟨S1x7168, .f32⟩
  | .hbm, ⟨18, _⟩ => ⟨S1x512, .f32⟩
  | .hbm, ⟨19, _⟩ => ⟨S1x512, .f32⟩
  | .hbm, ⟨20, _⟩ => ⟨S4x72x512, .fp8e4m3⟩
  | .hbm, ⟨21, _⟩ => ⟨S4x1x72, .f32⟩
  | .hbm, ⟨22, _⟩ => ⟨S4x72x7168, .fp8e4m3⟩
  | .hbm, ⟨23, _⟩ => ⟨S4x1x72, .f32⟩
  | .local _ .vmem, ⟨0, _⟩ => ⟨S4x1152x512, .fp8e4m3⟩
  | .local _ .vmem, ⟨1, _⟩ => ⟨S4x1x1152, .f32⟩
  | .local _ .vmem, ⟨2, _⟩ => ⟨S4x16x512, .fp8e4m3⟩
  | .local _ .vmem, ⟨3, _⟩ => ⟨S4x1x16, .f32⟩
  | .local _ .vmem, ⟨4, _⟩ => ⟨S32x512, .f32⟩
  | .local _ .vmem, ⟨5, _⟩ => ⟨S16384x512, .fp8e4m3⟩
  | .local _ .vmem, ⟨6, _⟩ => ⟨S16384x512, .fp8e4m3⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S7168x512, .fp8e4m3⟩
  | .local _ .vmem, ⟨12, _⟩ => ⟨S1x512, .f32⟩
  | .local _ .vmem, ⟨13, _⟩ => ⟨S1x512, .f32⟩
  | .local _ .vmem, ⟨14, _⟩ => ⟨S4x72x512, .fp8e4m3⟩
  | .local _ .vmem, ⟨15, _⟩ => ⟨S4x1x72, .f32⟩
  | .local _ .vmem, ⟨16, _⟩ => ⟨S4x72x7168, .fp8e4m3⟩
  | .local _ .vmem, ⟨17, _⟩ => ⟨S4x1x72, .f32⟩
  | .local _ .vmem, ⟨18, _⟩ => ⟨S4x4672x128, .f32⟩
  | .local _ .vmem, ⟨19, _⟩ => ⟨S288x16384, .bf16⟩
  | .local _ .vmem, ⟨20, _⟩ => ⟨S14x288x512, .f32⟩
  | .local _ .vmem, ⟨21, _⟩ => ⟨S288x7168, .fp8e4m3⟩
  | .local _ .vmem, ⟨22, _⟩ => ⟨S288x128, .f32⟩
  | _, _ => ⟨S4x1152x1x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_85 : BitVec 32 := 0#32
  let c9_i32 : BitVec 32 := 9#32
  let v218 : BitVec 32 := Scalar.addi c0_i32_85 c9_i32
  let c1_i32 : BitVec 32 := 1#32
  ⟨c0_i32_85, v218, c1_i32⟩
def k0_mult1 (k0_t1 : Fin k0_t1_loop.trips) : BitVec 32 :=
  let c0_i32_85 : BitVec 32 := 0#32
  let c1_i32 : BitVec 32 := 1#32
  let arg21 : BitVec 32 := Scf.iv c0_i32_85 c1_i32 k0_t1
  let c128_i32 : BitVec 32 := 128#32
  let v3276 : BitVec 32 := Scalar.muli arg21 c128_i32
  v3276
def k0_off1 (k0_t1 : Fin k0_t1_loop.trips) : Fin 3 → Nat :=
  let c0_2017 : Index := 0#32
  let c0_2018 : Index := 0#32
  let c0_i32_85 : BitVec 32 := 0#32
  let c1_i32 : BitVec 32 := 1#32
  let arg21 : BitVec 32 := Scf.iv c0_i32_85 c1_i32 k0_t1
  let c128_i32 : BitVec 32 := 128#32
  let v3276 : BitVec 32 := Scalar.muli arg21 c128_i32
  let v3277 : BitVec 32 := v3276
  let v3278 : Index := Scalar.indexCast v3277
  ![0, 0, v3278.toNat]
def k0_mult2 (k0_t1 : Fin k0_t1_loop.trips) : BitVec 32 :=
  let c0_i32_85 : BitVec 32 := 0#32
  let c1_i32 : BitVec 32 := 1#32
  let arg21 : BitVec 32 := Scf.iv c0_i32_85 c1_i32 k0_t1
  let c128_i32_2019 : BitVec 32 := 128#32
  let v3283 : BitVec 32 := Scalar.muli arg21 c128_i32_2019
  let c0_i32_2020 : BitVec 32 := 0#32
  let v3284 : BitVec 32 := Scalar.addi v3283 c0_i32_2020
  v3284
def k0_off2 (k0_t1 : Fin k0_t1_loop.trips) (c0_i32_2020 : BitVec 32) : Fin 3 → Nat :=
  let c0_2021 : Index := 0#32
  let c0_i32_85 : BitVec 32 := 0#32
  let c1_i32 : BitVec 32 := 1#32
  let arg21 : BitVec 32 := Scf.iv c0_i32_85 c1_i32 k0_t1
  let c128_i32_2019 : BitVec 32 := 128#32
  let v3283 : BitVec 32 := Scalar.muli arg21 c128_i32_2019
  let v3284 : BitVec 32 := Scalar.addi v3283 c0_i32_2020
  let v3285 : BitVec 32 := v3284
  let v3286 : Index := Scalar.indexCast v3285
  let c0_2022 : Index := 0#32
  ![0, v3286.toNat, 0]
def k0_mult3 (k0_t1 : Fin k0_t1_loop.trips) : BitVec 32 :=
  let c16_i32 : BitVec 32 := 16#32
  let c0_i32_85 : BitVec 32 := 0#32
  let c1_i32 : BitVec 32 := 1#32
  let arg21 : BitVec 32 := Scf.iv c0_i32_85 c1_i32 k0_t1
  let c128_i32_2026 : BitVec 32 := 128#32
  let v3302 : BitVec 32 := Scalar.muli arg21 c128_i32_2026
  let v3303 : BitVec 32 := Scalar.addi c16_i32 v3302
  let c0_i32_2027 : BitVec 32 := 0#32
  let v3304 : BitVec 32 := Scalar.addi v3303 c0_i32_2027
  let c0_i32_2028 : BitVec 32 := 0#32
  let v3305 : BitVec 32 := Scalar.addi v3304 c0_i32_2028
  v3305
def k0_off3 (k0_t1 : Fin k0_t1_loop.trips) (c0_i32_2027 : BitVec 32) (c0_i32_2028 : BitVec 32) : Fin 3 → Nat :=
  let c0_2029 : Index := 0#32
  let c16_i32 : BitVec 32 := 16#32
  let c0_i32_85 : BitVec 32 := 0#32
  let c1_i32 : BitVec 32 := 1#32
  let arg21 : BitVec 32 := Scf.iv c0_i32_85 c1_i32 k0_t1
  let c128_i32_2026 : BitVec 32 := 128#32
  let v3302 : BitVec 32 := Scalar.muli arg21 c128_i32_2026
  let v3303 : BitVec 32 := Scalar.addi c16_i32 v3302
  let v3304 : BitVec 32 := Scalar.addi v3303 c0_i32_2027
  let v3305 : BitVec 32 := Scalar.addi v3304 c0_i32_2028
  let v3306 : BitVec 32 := v3305
  let v3307 : Index := Scalar.indexCast v3306
  let c0_2030 : Index := 0#32
  ![0, v3307.toNat, 0]
def k0_mult4 (k0_t1 : Fin k0_t1_loop.trips) : BitVec 32 :=
  let c16_i32_2032 : BitVec 32 := 16#32
  let c0_i32_85 : BitVec 32 := 0#32
  let c1_i32 : BitVec 32 := 1#32
  let arg21 : BitVec 32 := Scf.iv c0_i32_85 c1_i32 k0_t1
  let c128_i32_2031 : BitVec 32 := 128#32
  let v3313 : BitVec 32 := Scalar.muli arg21 c128_i32_2031
  let v3314 : BitVec 32 := Scalar.addi c16_i32_2032 v3313
  let c0_i32_2033 : BitVec 32 := 0#32
  let v3315 : BitVec 32 := Scalar.addi v3314 c0_i32_2033
  let c0_i32_2034 : BitVec 32 := 0#32
  let v3316 : BitVec 32 := Scalar.addi v3315 c0_i32_2034
  v3316
def k0_off4 (k0_t1 : Fin k0_t1_loop.trips) (c0_i32_2033 : BitVec 32) (c0_i32_2034 : BitVec 32) : Fin 3 → Nat :=
  let c1_2035 : Index := 1#32
  let c16_i32_2032 : BitVec 32 := 16#32
  let c0_i32_85 : BitVec 32 := 0#32
  let c1_i32 : BitVec 32 := 1#32
  let arg21 : BitVec 32 := Scf.iv c0_i32_85 c1_i32 k0_t1
  let c128_i32_2031 : BitVec 32 := 128#32
  let v3313 : BitVec 32 := Scalar.muli arg21 c128_i32_2031
  let v3314 : BitVec 32 := Scalar.addi c16_i32_2032 v3313
  let v3315 : BitVec 32 := Scalar.addi v3314 c0_i32_2033
  let v3316 : BitVec 32 := Scalar.addi v3315 c0_i32_2034
  let v3317 : BitVec 32 := v3316
  let v3318 : Index := Scalar.indexCast v3317
  let c0_2036 : Index := 0#32
  ![1, v3318.toNat, 0]
def k0_mult5 (k0_t1 : Fin k0_t1_loop.trips) : BitVec 32 :=
  let c16_i32_2038 : BitVec 32 := 16#32
  let c0_i32_85 : BitVec 32 := 0#32
  let c1_i32 : BitVec 32 := 1#32
  let arg21 : BitVec 32 := Scf.iv c0_i32_85 c1_i32 k0_t1
  let c128_i32_2037 : BitVec 32 := 128#32
  let v3324 : BitVec 32 := Scalar.muli arg21 c128_i32_2037
  let v3325 : BitVec 32 := Scalar.addi c16_i32_2038 v3324
  let c0_i32_2039 : BitVec 32 := 0#32
  let v3326 : BitVec 32 := Scalar.addi v3325 c0_i32_2039
  let c0_i32_2040 : BitVec 32 := 0#32
  let v3327 : BitVec 32 := Scalar.addi v3326 c0_i32_2040
  v3327
def k0_off5 (k0_t1 : Fin k0_t1_loop.trips) (c0_i32_2039 : BitVec 32) (c0_i32_2040 : BitVec 32) : Fin 3 → Nat :=
  let c2_2041 : Index := 2#32
  let c16_i32_2038 : BitVec 32 := 16#32
  let c0_i32_85 : BitVec 32 := 0#32
  let c1_i32 : BitVec 32 := 1#32
  let arg21 : BitVec 32 := Scf.iv c0_i32_85 c1_i32 k0_t1
  let c128_i32_2037 : BitVec 32 := 128#32
  let v3324 : BitVec 32 := Scalar.muli arg21 c128_i32_2037
  let v3325 : BitVec 32 := Scalar.addi c16_i32_2038 v3324
  let v3326 : BitVec 32 := Scalar.addi v3325 c0_i32_2039
  let v3327 : BitVec 32 := Scalar.addi v3326 c0_i32_2040
  let v3328 : BitVec 32 := v3327
  let v3329 : Index := Scalar.indexCast v3328
  let c0_2042 : Index := 0#32
  ![2, v3329.toNat, 0]
def k0_mult6 (k0_t1 : Fin k0_t1_loop.trips) : BitVec 32 :=
  let c16_i32_2044 : BitVec 32 := 16#32
  let c0_i32_85 : BitVec 32 := 0#32
  let c1_i32 : BitVec 32 := 1#32
  let arg21 : BitVec 32 := Scf.iv c0_i32_85 c1_i32 k0_t1
  let c128_i32_2043 : BitVec 32 := 128#32
  let v3335 : BitVec 32 := Scalar.muli arg21 c128_i32_2043
  let v3336 : BitVec 32 := Scalar.addi c16_i32_2044 v3335
  let c0_i32_2045 : BitVec 32 := 0#32
  let v3337 : BitVec 32 := Scalar.addi v3336 c0_i32_2045
  let c0_i32_2046 : BitVec 32 := 0#32
  let v3338 : BitVec 32 := Scalar.addi v3337 c0_i32_2046
  v3338
def k0_off6 (k0_t1 : Fin k0_t1_loop.trips) (c0_i32_2045 : BitVec 32) (c0_i32_2046 : BitVec 32) : Fin 3 → Nat :=
  let c3_2047 : Index := 3#32
  let c16_i32_2044 : BitVec 32 := 16#32
  let c0_i32_85 : BitVec 32 := 0#32
  let c1_i32 : BitVec 32 := 1#32
  let arg21 : BitVec 32 := Scf.iv c0_i32_85 c1_i32 k0_t1
  let c128_i32_2043 : BitVec 32 := 128#32
  let v3335 : BitVec 32 := Scalar.muli arg21 c128_i32_2043
  let v3336 : BitVec 32 := Scalar.addi c16_i32_2044 v3335
  let v3337 : BitVec 32 := Scalar.addi v3336 c0_i32_2045
  let v3338 : BitVec 32 := Scalar.addi v3337 c0_i32_2046
  let v3339 : BitVec 32 := v3338
  let v3340 : Index := Scalar.indexCast v3339
  let c0_2048 : Index := 0#32
  ![3, v3340.toNat, 0]
def k0_mult7 (k0_t1 : Fin k0_t1_loop.trips) : BitVec 32 :=
  let c16_i32_2053 : BitVec 32 := 16#32
  let c0_i32_85 : BitVec 32 := 0#32
  let c1_i32 : BitVec 32 := 1#32
  let arg21 : BitVec 32 := Scf.iv c0_i32_85 c1_i32 k0_t1
  let c128_i32_2052 : BitVec 32 := 128#32
  let v3356 : BitVec 32 := Scalar.muli arg21 c128_i32_2052
  let v3357 : BitVec 32 := Scalar.addi c16_i32_2053 v3356
  let c0_i32_2054 : BitVec 32 := 0#32
  let v3358 : BitVec 32 := Scalar.addi v3357 c0_i32_2054
  let c8_i32_2055 : BitVec 32 := 8#32
  let v3359 : BitVec 32 := Scalar.addi v3358 c8_i32_2055
  v3359
def k0_mult8 (k0_t1 : Fin k0_t1_loop.trips) : BitVec 32 :=
  let c16_i32_2059 : BitVec 32 := 16#32
  let c0_i32_85 : BitVec 32 := 0#32
  let c1_i32 : BitVec 32 := 1#32
  let arg21 : BitVec 32 := Scf.iv c0_i32_85 c1_i32 k0_t1
  let c128_i32_2058 : BitVec 32 := 128#32
  let v3367 : BitVec 32 := Scalar.muli arg21 c128_i32_2058
  let v3368 : BitVec 32 := Scalar.addi c16_i32_2059 v3367
  let c0_i32_2060 : BitVec 32 := 0#32
  let v3369 : BitVec 32 := Scalar.addi v3368 c0_i32_2060
  let c8_i32_2061 : BitVec 32 := 8#32
  let v3370 : BitVec 32 := Scalar.addi v3369 c8_i32_2061
  v3370
def k0_mult9 (k0_t1 : Fin k0_t1_loop.trips) : BitVec 32 :=
  let c16_i32_2065 : BitVec 32 := 16#32
  let c0_i32_85 : BitVec 32 := 0#32
  let c1_i32 : BitVec 32 := 1#32
  let arg21 : BitVec 32 := Scf.iv c0_i32_85 c1_i32 k0_t1
  let c128_i32_2064 : BitVec 32 := 128#32
  let v3378 : BitVec 32 := Scalar.muli arg21 c128_i32_2064
  let v3379 : BitVec 32 := Scalar.addi c16_i32_2065 v3378
  let c0_i32_2066 : BitVec 32 := 0#32
  let v3380 : BitVec 32 := Scalar.addi v3379 c0_i32_2066
  let c8_i32_2067 : BitVec 32 := 8#32
  let v3381 : BitVec 32 := Scalar.addi v3380 c8_i32_2067
  v3381
def k0_mult10 (k0_t1 : Fin k0_t1_loop.trips) : BitVec 32 :=
  let c16_i32_2071 : BitVec 32 := 16#32
  let c0_i32_85 : BitVec 32 := 0#32
  let c1_i32 : BitVec 32 := 1#32
  let arg21 : BitVec 32 := Scf.iv c0_i32_85 c1_i32 k0_t1
  let c128_i32_2070 : BitVec 32 := 128#32
  let v3389 : BitVec 32 := Scalar.muli arg21 c128_i32_2070
  let v3390 : BitVec 32 := Scalar.addi c16_i32_2071 v3389
  let c0_i32_2072 : BitVec 32 := 0#32
  let v3391 : BitVec 32 := Scalar.addi v3390 c0_i32_2072
  let c8_i32_2073 : BitVec 32 := 8#32
  let v3392 : BitVec 32 := Scalar.addi v3391 c8_i32_2073
  v3392
def k0_mult11 (k0_t1 : Fin k0_t1_loop.trips) : BitVec 32 :=
  let c16_i32_2080 : BitVec 32 := 16#32
  let c0_i32_85 : BitVec 32 := 0#32
  let c1_i32 : BitVec 32 := 1#32
  let arg21 : BitVec 32 := Scf.iv c0_i32_85 c1_i32 k0_t1
  let c128_i32_2079 : BitVec 32 := 128#32
  let v3410 : BitVec 32 := Scalar.muli arg21 c128_i32_2079
  let v3411 : BitVec 32 := Scalar.addi c16_i32_2080 v3410
  let c0_i32_2081 : BitVec 32 := 0#32
  let v3412 : BitVec 32 := Scalar.addi v3411 c0_i32_2081
  let c16_i32_2082 : BitVec 32 := 16#32
  let v3413 : BitVec 32 := Scalar.addi v3412 c16_i32_2082
  v3413
def k0_mult12 (k0_t1 : Fin k0_t1_loop.trips) : BitVec 32 :=
  let c16_i32_2086 : BitVec 32 := 16#32
  let c0_i32_85 : BitVec 32 := 0#32
  let c1_i32 : BitVec 32 := 1#32
  let arg21 : BitVec 32 := Scf.iv c0_i32_85 c1_i32 k0_t1
  let c128_i32_2085 : BitVec 32 := 128#32
  let v3421 : BitVec 32 := Scalar.muli arg21 c128_i32_2085
  let v3422 : BitVec 32 := Scalar.addi c16_i32_2086 v3421
  let c0_i32_2087 : BitVec 32 := 0#32
  let v3423 : BitVec 32 := Scalar.addi v3422 c0_i32_2087
  let c16_i32_2088 : BitVec 32 := 16#32
  let v3424 : BitVec 32 := Scalar.addi v3423 c16_i32_2088
  v3424
def k0_mult13 (k0_t1 : Fin k0_t1_loop.trips) : BitVec 32 :=
  let c16_i32_2092 : BitVec 32 := 16#32
  let c0_i32_85 : BitVec 32 := 0#32
  let c1_i32 : BitVec 32 := 1#32
  let arg21 : BitVec 32 := Scf.iv c0_i32_85 c1_i32 k0_t1
  let c128_i32_2091 : BitVec 32 := 128#32
  let v3432 : BitVec 32 := Scalar.muli arg21 c128_i32_2091
  let v3433 : BitVec 32 := Scalar.addi c16_i32_2092 v3432
  let c0_i32_2093 : BitVec 32 := 0#32
  let v3434 : BitVec 32 := Scalar.addi v3433 c0_i32_2093
  let c16_i32_2094 : BitVec 32 := 16#32
  let v3435 : BitVec 32 := Scalar.addi v3434 c16_i32_2094
  v3435
def k0_mult14 (k0_t1 : Fin k0_t1_loop.trips) : BitVec 32 :=
  let c16_i32_2098 : BitVec 32 := 16#32
  let c0_i32_85 : BitVec 32 := 0#32
  let c1_i32 : BitVec 32 := 1#32
  let arg21 : BitVec 32 := Scf.iv c0_i32_85 c1_i32 k0_t1
  let c128_i32_2097 : BitVec 32 := 128#32
  let v3443 : BitVec 32 := Scalar.muli arg21 c128_i32_2097
  let v3444 : BitVec 32 := Scalar.addi c16_i32_2098 v3443
  let c0_i32_2099 : BitVec 32 := 0#32
  let v3445 : BitVec 32 := Scalar.addi v3444 c0_i32_2099
  let c16_i32_2100 : BitVec 32 := 16#32
  let v3446 : BitVec 32 := Scalar.addi v3445 c16_i32_2100
  v3446
def k0_mult15 (k0_t1 : Fin k0_t1_loop.trips) : BitVec 32 :=
  let c16_i32_2106 : BitVec 32 := 16#32
  let c0_i32_85 : BitVec 32 := 0#32
  let c1_i32 : BitVec 32 := 1#32
  let arg21 : BitVec 32 := Scf.iv c0_i32_85 c1_i32 k0_t1
  let c128_i32_2105 : BitVec 32 := 128#32
  let v3464 : BitVec 32 := Scalar.muli arg21 c128_i32_2105
  let v3465 : BitVec 32 := Scalar.addi c16_i32_2106 v3464
  let c0_i32_2107 : BitVec 32 := 0#32
  let v3466 : BitVec 32 := Scalar.addi v3465 c0_i32_2107
  let c24_i32_2108 : BitVec 32 := 24#32
  let v3467 : BitVec 32 := Scalar.addi v3466 c24_i32_2108
  v3467
def k0_mult16 (k0_t1 : Fin k0_t1_loop.trips) : BitVec 32 :=
  let c16_i32_2112 : BitVec 32 := 16#32
  let c0_i32_85 : BitVec 32 := 0#32
  let c1_i32 : BitVec 32 := 1#32
  let arg21 : BitVec 32 := Scf.iv c0_i32_85 c1_i32 k0_t1
  let c128_i32_2111 : BitVec 32 := 128#32
  let v3475 : BitVec 32 := Scalar.muli arg21 c128_i32_2111
  let v3476 : BitVec 32 := Scalar.addi c16_i32_2112 v3475
  let c0_i32_2113 : BitVec 32 := 0#32
  let v3477 : BitVec 32 := Scalar.addi v3476 c0_i32_2113
  let c24_i32_2114 : BitVec 32 := 24#32
  let v3478 : BitVec 32 := Scalar.addi v3477 c24_i32_2114
  v3478
def k0_mult17 (k0_t1 : Fin k0_t1_loop.trips) : BitVec 32 :=
  let c16_i32_2118 : BitVec 32 := 16#32
  let c0_i32_85 : BitVec 32 := 0#32
  let c1_i32 : BitVec 32 := 1#32
  let arg21 : BitVec 32 := Scf.iv c0_i32_85 c1_i32 k0_t1
  let c128_i32_2117 : BitVec 32 := 128#32
  let v3486 : BitVec 32 := Scalar.muli arg21 c128_i32_2117
  let v3487 : BitVec 32 := Scalar.addi c16_i32_2118 v3486
  let c0_i32_2119 : BitVec 32 := 0#32
  let v3488 : BitVec 32 := Scalar.addi v3487 c0_i32_2119
  let c24_i32_2120 : BitVec 32 := 24#32
  let v3489 : BitVec 32 := Scalar.addi v3488 c24_i32_2120
  v3489
def k0_mult18 (k0_t1 : Fin k0_t1_loop.trips) : BitVec 32 :=
  let c16_i32_2124 : BitVec 32 := 16#32
  let c0_i32_85 : BitVec 32 := 0#32
  let c1_i32 : BitVec 32 := 1#32
  let arg21 : BitVec 32 := Scf.iv c0_i32_85 c1_i32 k0_t1
  let c128_i32_2123 : BitVec 32 := 128#32
  let v3497 : BitVec 32 := Scalar.muli arg21 c128_i32_2123
  let v3498 : BitVec 32 := Scalar.addi c16_i32_2124 v3497
  let c0_i32_2125 : BitVec 32 := 0#32
  let v3499 : BitVec 32 := Scalar.addi v3498 c0_i32_2125
  let c24_i32_2126 : BitVec 32 := 24#32
  let v3500 : BitVec 32 := Scalar.addi v3499 c24_i32_2126
  v3500
def k0_mult19 (k0_t1 : Fin k0_t1_loop.trips) : BitVec 32 :=
  let c0_i32_85 : BitVec 32 := 0#32
  let c1_i32 : BitVec 32 := 1#32
  let arg21 : BitVec 32 := Scf.iv c0_i32_85 c1_i32 k0_t1
  let c128_i32_2129 : BitVec 32 := 128#32
  let v3506 : BitVec 32 := Scalar.muli arg21 c128_i32_2129
  let c32_i32 : BitVec 32 := 32#32
  let v3507 : BitVec 32 := Scalar.addi v3506 c32_i32
  v3507
def k0_mult20 (k0_t1 : Fin k0_t1_loop.trips) : BitVec 32 :=
  let c16_i32_2136 : BitVec 32 := 16#32
  let c0_i32_85 : BitVec 32 := 0#32
  let c1_i32 : BitVec 32 := 1#32
  let arg21 : BitVec 32 := Scf.iv c0_i32_85 c1_i32 k0_t1
  let c128_i32_2135 : BitVec 32 := 128#32
  let v3525 : BitVec 32 := Scalar.muli arg21 c128_i32_2135
  let v3526 : BitVec 32 := Scalar.addi c16_i32_2136 v3525
  let c32_i32_2137 : BitVec 32 := 32#32
  let v3527 : BitVec 32 := Scalar.addi v3526 c32_i32_2137
  let c0_i32_2138 : BitVec 32 := 0#32
  let v3528 : BitVec 32 := Scalar.addi v3527 c0_i32_2138
  v3528
def k0_mult21 (k0_t1 : Fin k0_t1_loop.trips) : BitVec 32 :=
  let c16_i32_2142 : BitVec 32 := 16#32
  let c0_i32_85 : BitVec 32 := 0#32
  let c1_i32 : BitVec 32 := 1#32
  let arg21 : BitVec 32 := Scf.iv c0_i32_85 c1_i32 k0_t1
  let c128_i32_2141 : BitVec 32 := 128#32
  let v3536 : BitVec 32 := Scalar.muli arg21 c128_i32_2141
  let v3537 : BitVec 32 := Scalar.addi c16_i32_2142 v3536
  let c32_i32_2143 : BitVec 32 := 32#32
  let v3538 : BitVec 32 := Scalar.addi v3537 c32_i32_2143
  let c0_i32_2144 : BitVec 32 := 0#32
  let v3539 : BitVec 32 := Scalar.addi v3538 c0_i32_2144
  v3539
def k0_mult22 (k0_t1 : Fin k0_t1_loop.trips) : BitVec 32 :=
  let c16_i32_2148 : BitVec 32 := 16#32
  let c0_i32_85 : BitVec 32 := 0#32
  let c1_i32 : BitVec 32 := 1#32
  let arg21 : BitVec 32 := Scf.iv c0_i32_85 c1_i32 k0_t1
  let c128_i32_2147 : BitVec 32 := 128#32
  let v3547 : BitVec 32 := Scalar.muli arg21 c128_i32_2147
  let v3548 : BitVec 32 := Scalar.addi c16_i32_2148 v3547
  let c32_i32_2149 : BitVec 32 := 32#32
  let v3549 : BitVec 32 := Scalar.addi v3548 c32_i32_2149
  let c0_i32_2150 : BitVec 32 := 0#32
  let v3550 : BitVec 32 := Scalar.addi v3549 c0_i32_2150
  v3550
def k0_mult23 (k0_t1 : Fin k0_t1_loop.trips) : BitVec 32 :=
  let c16_i32_2154 : BitVec 32 := 16#32
  let c0_i32_85 : BitVec 32 := 0#32
  let c1_i32 : BitVec 32 := 1#32
  let arg21 : BitVec 32 := Scf.iv c0_i32_85 c1_i32 k0_t1
  let c128_i32_2153 : BitVec 32 := 128#32
  let v3558 : BitVec 32 := Scalar.muli arg21 c128_i32_2153
  let v3559 : BitVec 32 := Scalar.addi c16_i32_2154 v3558
  let c32_i32_2155 : BitVec 32 := 32#32
  let v3560 : BitVec 32 := Scalar.addi v3559 c32_i32_2155
  let c0_i32_2156 : BitVec 32 := 0#32
  let v3561 : BitVec 32 := Scalar.addi v3560 c0_i32_2156
  v3561
def k0_mult24 (k0_t1 : Fin k0_t1_loop.trips) : BitVec 32 :=
  let c16_i32_2162 : BitVec 32 := 16#32
  let c0_i32_85 : BitVec 32 := 0#32
  let c1_i32 : BitVec 32 := 1#32
  let arg21 : BitVec 32 := Scf.iv c0_i32_85 c1_i32 k0_t1
  let c128_i32_2161 : BitVec 32 := 128#32
  let v3579 : BitVec 32 := Scalar.muli arg21 c128_i32_2161
  let v3580 : BitVec 32 := Scalar.addi c16_i32_2162 v3579
  let c32_i32_2163 : BitVec 32 := 32#32
  let v3581 : BitVec 32 := Scalar.addi v3580 c32_i32_2163
  let c8_i32_2164 : BitVec 32 := 8#32
  let v3582 : BitVec 32 := Scalar.addi v3581 c8_i32_2164
  v3582
def k0_mult25 (k0_t1 : Fin k0_t1_loop.trips) : BitVec 32 :=
  let c16_i32_2168 : BitVec 32 := 16#32
  let c0_i32_85 : BitVec 32 := 0#32
  let c1_i32 : BitVec 32 := 1#32
  let arg21 : BitVec 32 := Scf.iv c0_i32_85 c1_i32 k0_t1
  let c128_i32_2167 : BitVec 32 := 128#32
  let v3590 : BitVec 32 := Scalar.muli arg21 c128_i32_2167
  let v3591 : BitVec 32 := Scalar.addi c16_i32_2168 v3590
  let c32_i32_2169 : BitVec 32 := 32#32
  let v3592 : BitVec 32 := Scalar.addi v3591 c32_i32_2169
  let c8_i32_2170 : BitVec 32 := 8#32
  let v3593 : BitVec 32 := Scalar.addi v3592 c8_i32_2170
  v3593
def k0_mult26 (k0_t1 : Fin k0_t1_loop.trips) : BitVec 32 :=
  let c16_i32_2174 : BitVec 32 := 16#32
  let c0_i32_85 : BitVec 32 := 0#32
  let c1_i32 : BitVec 32 := 1#32
  let arg21 : BitVec 32 := Scf.iv c0_i32_85 c1_i32 k0_t1
  let c128_i32_2173 : BitVec 32 := 128#32
  let v3601 : BitVec 32 := Scalar.muli arg21 c128_i32_2173
  let v3602 : BitVec 32 := Scalar.addi c16_i32_2174 v3601
  let c32_i32_2175 : BitVec 32 := 32#32
  let v3603 : BitVec 32 := Scalar.addi v3602 c32_i32_2175
  let c8_i32_2176 : BitVec 32 := 8#32
  let v3604 : BitVec 32 := Scalar.addi v3603 c8_i32_2176
  v3604
def k0_mult27 (k0_t1 : Fin k0_t1_loop.trips) : BitVec 32 :=
  let c16_i32_2180 : BitVec 32 := 16#32
  let c0_i32_85 : BitVec 32 := 0#32
  let c1_i32 : BitVec 32 := 1#32
  let arg21 : BitVec 32 := Scf.iv c0_i32_85 c1_i32 k0_t1
  let c128_i32_2179 : BitVec 32 := 128#32
  let v3612 : BitVec 32 := Scalar.muli arg21 c128_i32_2179
  let v3613 : BitVec 32 := Scalar.addi c16_i32_2180 v3612
  let c32_i32_2181 : BitVec 32 := 32#32
  let v3614 : BitVec 32 := Scalar.addi v3613 c32_i32_2181
  let c8_i32_2182 : BitVec 32 := 8#32
  let v3615 : BitVec 32 := Scalar.addi v3614 c8_i32_2182
  v3615
def k0_mult28 (k0_t1 : Fin k0_t1_loop.trips) : BitVec 32 :=
  let c16_i32_2188 : BitVec 32 := 16#32
  let c0_i32_85 : BitVec 32 := 0#32
  let c1_i32 : BitVec 32 := 1#32
  let arg21 : BitVec 32 := Scf.iv c0_i32_85 c1_i32 k0_t1
  let c128_i32_2187 : BitVec 32 := 128#32
  let v3633 : BitVec 32 := Scalar.muli arg21 c128_i32_2187
  let v3634 : BitVec 32 := Scalar.addi c16_i32_2188 v3633
  let c32_i32_2189 : BitVec 32 := 32#32
  let v3635 : BitVec 32 := Scalar.addi v3634 c32_i32_2189
  let c16_i32_2190 : BitVec 32 := 16#32
  let v3636 : BitVec 32 := Scalar.addi v3635 c16_i32_2190
  v3636
def k0_mult29 (k0_t1 : Fin k0_t1_loop.trips) : BitVec 32 :=
  let c16_i32_2194 : BitVec 32 := 16#32
  let c0_i32_85 : BitVec 32 := 0#32
  let c1_i32 : BitVec 32 := 1#32
  let arg21 : BitVec 32 := Scf.iv c0_i32_85 c1_i32 k0_t1
  let c128_i32_2193 : BitVec 32 := 128#32
  let v3644 : BitVec 32 := Scalar.muli arg21 c128_i32_2193
  let v3645 : BitVec 32 := Scalar.addi c16_i32_2194 v3644
  let c32_i32_2195 : BitVec 32 := 32#32
  let v3646 : BitVec 32 := Scalar.addi v3645 c32_i32_2195
  let c16_i32_2196 : BitVec 32 := 16#32
  let v3647 : BitVec 32 := Scalar.addi v3646 c16_i32_2196
  v3647
def k0_mult30 (k0_t1 : Fin k0_t1_loop.trips) : BitVec 32 :=
  let c16_i32_2200 : BitVec 32 := 16#32
  let c0_i32_85 : BitVec 32 := 0#32
  let c1_i32 : BitVec 32 := 1#32
  let arg21 : BitVec 32 := Scf.iv c0_i32_85 c1_i32 k0_t1
  let c128_i32_2199 : BitVec 32 := 128#32
  let v3655 : BitVec 32 := Scalar.muli arg21 c128_i32_2199
  let v3656 : BitVec 32 := Scalar.addi c16_i32_2200 v3655
  let c32_i32_2201 : BitVec 32 := 32#32
  let v3657 : BitVec 32 := Scalar.addi v3656 c32_i32_2201
  let c16_i32_2202 : BitVec 32 := 16#32
  let v3658 : BitVec 32 := Scalar.addi v3657 c16_i32_2202
  v3658
def k0_mult31 (k0_t1 : Fin k0_t1_loop.trips) : BitVec 32 :=
  let c16_i32_2206 : BitVec 32 := 16#32
  let c0_i32_85 : BitVec 32 := 0#32
  let c1_i32 : BitVec 32 := 1#32
  let arg21 : BitVec 32 := Scf.iv c0_i32_85 c1_i32 k0_t1
  let c128_i32_2205 : BitVec 32 := 128#32
  let v3666 : BitVec 32 := Scalar.muli arg21 c128_i32_2205
  let v3667 : BitVec 32 := Scalar.addi c16_i32_2206 v3666
  let c32_i32_2207 : BitVec 32 := 32#32
  let v3668 : BitVec 32 := Scalar.addi v3667 c32_i32_2207
  let c16_i32_2208 : BitVec 32 := 16#32
  let v3669 : BitVec 32 := Scalar.addi v3668 c16_i32_2208
  v3669
def k0_mult32 (k0_t1 : Fin k0_t1_loop.trips) : BitVec 32 :=
  let c16_i32_2214 : BitVec 32 := 16#32
  let c0_i32_85 : BitVec 32 := 0#32
  let c1_i32 : BitVec 32 := 1#32
  let arg21 : BitVec 32 := Scf.iv c0_i32_85 c1_i32 k0_t1
  let c128_i32_2213 : BitVec 32 := 128#32
  let v3687 : BitVec 32 := Scalar.muli arg21 c128_i32_2213
  let v3688 : BitVec 32 := Scalar.addi c16_i32_2214 v3687
  let c32_i32_2215 : BitVec 32 := 32#32
  let v3689 : BitVec 32 := Scalar.addi v3688 c32_i32_2215
  let c24_i32_2216 : BitVec 32 := 24#32
  let v3690 : BitVec 32 := Scalar.addi v3689 c24_i32_2216
  v3690
def k0_mult33 (k0_t1 : Fin k0_t1_loop.trips) : BitVec 32 :=
  let c16_i32_2220 : BitVec 32 := 16#32
  let c0_i32_85 : BitVec 32 := 0#32
  let c1_i32 : BitVec 32 := 1#32
  let arg21 : BitVec 32 := Scf.iv c0_i32_85 c1_i32 k0_t1
  let c128_i32_2219 : BitVec 32 := 128#32
  let v3698 : BitVec 32 := Scalar.muli arg21 c128_i32_2219
  let v3699 : BitVec 32 := Scalar.addi c16_i32_2220 v3698
  let c32_i32_2221 : BitVec 32 := 32#32
  let v3700 : BitVec 32 := Scalar.addi v3699 c32_i32_2221
  let c24_i32_2222 : BitVec 32 := 24#32
  let v3701 : BitVec 32 := Scalar.addi v3700 c24_i32_2222
  v3701
def k0_mult34 (k0_t1 : Fin k0_t1_loop.trips) : BitVec 32 :=
  let c16_i32_2226 : BitVec 32 := 16#32
  let c0_i32_85 : BitVec 32 := 0#32
  let c1_i32 : BitVec 32 := 1#32
  let arg21 : BitVec 32 := Scf.iv c0_i32_85 c1_i32 k0_t1
  let c128_i32_2225 : BitVec 32 := 128#32
  let v3709 : BitVec 32 := Scalar.muli arg21 c128_i32_2225
  let v3710 : BitVec 32 := Scalar.addi c16_i32_2226 v3709
  let c32_i32_2227 : BitVec 32 := 32#32
  let v3711 : BitVec 32 := Scalar.addi v3710 c32_i32_2227
  let c24_i32_2228 : BitVec 32 := 24#32
  let v3712 : BitVec 32 := Scalar.addi v3711 c24_i32_2228
  v3712
def k0_mult35 (k0_t1 : Fin k0_t1_loop.trips) : BitVec 32 :=
  let c16_i32_2232 : BitVec 32 := 16#32
  let c0_i32_85 : BitVec 32 := 0#32
  let c1_i32 : BitVec 32 := 1#32
  let arg21 : BitVec 32 := Scf.iv c0_i32_85 c1_i32 k0_t1
  let c128_i32_2231 : BitVec 32 := 128#32
  let v3720 : BitVec 32 := Scalar.muli arg21 c128_i32_2231
  let v3721 : BitVec 32 := Scalar.addi c16_i32_2232 v3720
  let c32_i32_2233 : BitVec 32 := 32#32
  let v3722 : BitVec 32 := Scalar.addi v3721 c32_i32_2233
  let c24_i32_2234 : BitVec 32 := 24#32
  let v3723 : BitVec 32 := Scalar.addi v3722 c24_i32_2234
  v3723
def k0_mult36 (k0_t1 : Fin k0_t1_loop.trips) : BitVec 32 :=
  let c0_i32_85 : BitVec 32 := 0#32
  let c1_i32 : BitVec 32 := 1#32
  let arg21 : BitVec 32 := Scf.iv c0_i32_85 c1_i32 k0_t1
  let c128_i32_2237 : BitVec 32 := 128#32
  let v3729 : BitVec 32 := Scalar.muli arg21 c128_i32_2237
  let c64_i32 : BitVec 32 := 64#32
  let v3730 : BitVec 32 := Scalar.addi v3729 c64_i32
  v3730
def k0_mult37 (k0_t1 : Fin k0_t1_loop.trips) : BitVec 32 :=
  let c16_i32_2244 : BitVec 32 := 16#32
  let c0_i32_85 : BitVec 32 := 0#32
  let c1_i32 : BitVec 32 := 1#32
  let arg21 : BitVec 32 := Scf.iv c0_i32_85 c1_i32 k0_t1
  let c128_i32_2243 : BitVec 32 := 128#32
  let v3748 : BitVec 32 := Scalar.muli arg21 c128_i32_2243
  let v3749 : BitVec 32 := Scalar.addi c16_i32_2244 v3748
  let c64_i32_2245 : BitVec 32 := 64#32
  let v3750 : BitVec 32 := Scalar.addi v3749 c64_i32_2245
  let c0_i32_2246 : BitVec 32 := 0#32
  let v3751 : BitVec 32 := Scalar.addi v3750 c0_i32_2246
  v3751
def k0_mult38 (k0_t1 : Fin k0_t1_loop.trips) : BitVec 32 :=
  let c16_i32_2250 : BitVec 32 := 16#32
  let c0_i32_85 : BitVec 32 := 0#32
  let c1_i32 : BitVec 32 := 1#32
  let arg21 : BitVec 32 := Scf.iv c0_i32_85 c1_i32 k0_t1
  let c128_i32_2249 : BitVec 32 := 128#32
  let v3759 : BitVec 32 := Scalar.muli arg21 c128_i32_2249
  let v3760 : BitVec 32 := Scalar.addi c16_i32_2250 v3759
  let c64_i32_2251 : BitVec 32 := 64#32
  let v3761 : BitVec 32 := Scalar.addi v3760 c64_i32_2251
  let c0_i32_2252 : BitVec 32 := 0#32
  let v3762 : BitVec 32 := Scalar.addi v3761 c0_i32_2252
  v3762
def k0_mult39 (k0_t1 : Fin k0_t1_loop.trips) : BitVec 32 :=
  let c16_i32_2256 : BitVec 32 := 16#32
  let c0_i32_85 : BitVec 32 := 0#32
  let c1_i32 : BitVec 32 := 1#32
  let arg21 : BitVec 32 := Scf.iv c0_i32_85 c1_i32 k0_t1
  let c128_i32_2255 : BitVec 32 := 128#32
  let v3770 : BitVec 32 := Scalar.muli arg21 c128_i32_2255
  let v3771 : BitVec 32 := Scalar.addi c16_i32_2256 v3770
  let c64_i32_2257 : BitVec 32 := 64#32
  let v3772 : BitVec 32 := Scalar.addi v3771 c64_i32_2257
  let c0_i32_2258 : BitVec 32 := 0#32
  let v3773 : BitVec 32 := Scalar.addi v3772 c0_i32_2258
  v3773
def k0_mult40 (k0_t1 : Fin k0_t1_loop.trips) : BitVec 32 :=
  let c16_i32_2262 : BitVec 32 := 16#32
  let c0_i32_85 : BitVec 32 := 0#32
  let c1_i32 : BitVec 32 := 1#32
  let arg21 : BitVec 32 := Scf.iv c0_i32_85 c1_i32 k0_t1
  let c128_i32_2261 : BitVec 32 := 128#32
  let v3781 : BitVec 32 := Scalar.muli arg21 c128_i32_2261
  let v3782 : BitVec 32 := Scalar.addi c16_i32_2262 v3781
  let c64_i32_2263 : BitVec 32 := 64#32
  let v3783 : BitVec 32 := Scalar.addi v3782 c64_i32_2263
  let c0_i32_2264 : BitVec 32 := 0#32
  let v3784 : BitVec 32 := Scalar.addi v3783 c0_i32_2264
  v3784
def k0_mult41 (k0_t1 : Fin k0_t1_loop.trips) : BitVec 32 :=
  let c16_i32_2270 : BitVec 32 := 16#32
  let c0_i32_85 : BitVec 32 := 0#32
  let c1_i32 : BitVec 32 := 1#32
  let arg21 : BitVec 32 := Scf.iv c0_i32_85 c1_i32 k0_t1
  let c128_i32_2269 : BitVec 32 := 128#32
  let v3802 : BitVec 32 := Scalar.muli arg21 c128_i32_2269
  let v3803 : BitVec 32 := Scalar.addi c16_i32_2270 v3802
  let c64_i32_2271 : BitVec 32 := 64#32
  let v3804 : BitVec 32 := Scalar.addi v3803 c64_i32_2271
  let c8_i32_2272 : BitVec 32 := 8#32
  let v3805 : BitVec 32 := Scalar.addi v3804 c8_i32_2272
  v3805
def k0_mult42 (k0_t1 : Fin k0_t1_loop.trips) : BitVec 32 :=
  let c16_i32_2276 : BitVec 32 := 16#32
  let c0_i32_85 : BitVec 32 := 0#32
  let c1_i32 : BitVec 32 := 1#32
  let arg21 : BitVec 32 := Scf.iv c0_i32_85 c1_i32 k0_t1
  let c128_i32_2275 : BitVec 32 := 128#32
  let v3813 : BitVec 32 := Scalar.muli arg21 c128_i32_2275
  let v3814 : BitVec 32 := Scalar.addi c16_i32_2276 v3813
  let c64_i32_2277 : BitVec 32 := 64#32
  let v3815 : BitVec 32 := Scalar.addi v3814 c64_i32_2277
  let c8_i32_2278 : BitVec 32 := 8#32
  let v3816 : BitVec 32 := Scalar.addi v3815 c8_i32_2278
  v3816
def k0_mult43 (k0_t1 : Fin k0_t1_loop.trips) : BitVec 32 :=
  let c16_i32_2282 : BitVec 32 := 16#32
  let c0_i32_85 : BitVec 32 := 0#32
  let c1_i32 : BitVec 32 := 1#32
  let arg21 : BitVec 32 := Scf.iv c0_i32_85 c1_i32 k0_t1
  let c128_i32_2281 : BitVec 32 := 128#32
  let v3824 : BitVec 32 := Scalar.muli arg21 c128_i32_2281
  let v3825 : BitVec 32 := Scalar.addi c16_i32_2282 v3824
  let c64_i32_2283 : BitVec 32 := 64#32
  let v3826 : BitVec 32 := Scalar.addi v3825 c64_i32_2283
  let c8_i32_2284 : BitVec 32 := 8#32
  let v3827 : BitVec 32 := Scalar.addi v3826 c8_i32_2284
  v3827
def k0_mult44 (k0_t1 : Fin k0_t1_loop.trips) : BitVec 32 :=
  let c16_i32_2288 : BitVec 32 := 16#32
  let c0_i32_85 : BitVec 32 := 0#32
  let c1_i32 : BitVec 32 := 1#32
  let arg21 : BitVec 32 := Scf.iv c0_i32_85 c1_i32 k0_t1
  let c128_i32_2287 : BitVec 32 := 128#32
  let v3835 : BitVec 32 := Scalar.muli arg21 c128_i32_2287
  let v3836 : BitVec 32 := Scalar.addi c16_i32_2288 v3835
  let c64_i32_2289 : BitVec 32 := 64#32
  let v3837 : BitVec 32 := Scalar.addi v3836 c64_i32_2289
  let c8_i32_2290 : BitVec 32 := 8#32
  let v3838 : BitVec 32 := Scalar.addi v3837 c8_i32_2290
  v3838
def k0_mult45 (k0_t1 : Fin k0_t1_loop.trips) : BitVec 32 :=
  let c16_i32_2296 : BitVec 32 := 16#32
  let c0_i32_85 : BitVec 32 := 0#32
  let c1_i32 : BitVec 32 := 1#32
  let arg21 : BitVec 32 := Scf.iv c0_i32_85 c1_i32 k0_t1
  let c128_i32_2295 : BitVec 32 := 128#32
  let v3856 : BitVec 32 := Scalar.muli arg21 c128_i32_2295
  let v3857 : BitVec 32 := Scalar.addi c16_i32_2296 v3856
  let c64_i32_2297 : BitVec 32 := 64#32
  let v3858 : BitVec 32 := Scalar.addi v3857 c64_i32_2297
  let c16_i32_2298 : BitVec 32 := 16#32
  let v3859 : BitVec 32 := Scalar.addi v3858 c16_i32_2298
  v3859
def k0_mult46 (k0_t1 : Fin k0_t1_loop.trips) : BitVec 32 :=
  let c16_i32_2302 : BitVec 32 := 16#32
  let c0_i32_85 : BitVec 32 := 0#32
  let c1_i32 : BitVec 32 := 1#32
  let arg21 : BitVec 32 := Scf.iv c0_i32_85 c1_i32 k0_t1
  let c128_i32_2301 : BitVec 32 := 128#32
  let v3867 : BitVec 32 := Scalar.muli arg21 c128_i32_2301
  let v3868 : BitVec 32 := Scalar.addi c16_i32_2302 v3867
  let c64_i32_2303 : BitVec 32 := 64#32
  let v3869 : BitVec 32 := Scalar.addi v3868 c64_i32_2303
  let c16_i32_2304 : BitVec 32 := 16#32
  let v3870 : BitVec 32 := Scalar.addi v3869 c16_i32_2304
  v3870
def k0_mult47 (k0_t1 : Fin k0_t1_loop.trips) : BitVec 32 :=
  let c16_i32_2308 : BitVec 32 := 16#32
  let c0_i32_85 : BitVec 32 := 0#32
  let c1_i32 : BitVec 32 := 1#32
  let arg21 : BitVec 32 := Scf.iv c0_i32_85 c1_i32 k0_t1
  let c128_i32_2307 : BitVec 32 := 128#32
  let v3878 : BitVec 32 := Scalar.muli arg21 c128_i32_2307
  let v3879 : BitVec 32 := Scalar.addi c16_i32_2308 v3878
  let c64_i32_2309 : BitVec 32 := 64#32
  let v3880 : BitVec 32 := Scalar.addi v3879 c64_i32_2309
  let c16_i32_2310 : BitVec 32 := 16#32
  let v3881 : BitVec 32 := Scalar.addi v3880 c16_i32_2310
  v3881
def k0_mult48 (k0_t1 : Fin k0_t1_loop.trips) : BitVec 32 :=
  let c16_i32_2314 : BitVec 32 := 16#32
  let c0_i32_85 : BitVec 32 := 0#32
  let c1_i32 : BitVec 32 := 1#32
  let arg21 : BitVec 32 := Scf.iv c0_i32_85 c1_i32 k0_t1
  let c128_i32_2313 : BitVec 32 := 128#32
  let v3889 : BitVec 32 := Scalar.muli arg21 c128_i32_2313
  let v3890 : BitVec 32 := Scalar.addi c16_i32_2314 v3889
  let c64_i32_2315 : BitVec 32 := 64#32
  let v3891 : BitVec 32 := Scalar.addi v3890 c64_i32_2315
  let c16_i32_2316 : BitVec 32 := 16#32
  let v3892 : BitVec 32 := Scalar.addi v3891 c16_i32_2316
  v3892
def k0_mult49 (k0_t1 : Fin k0_t1_loop.trips) : BitVec 32 :=
  let c16_i32_2322 : BitVec 32 := 16#32
  let c0_i32_85 : BitVec 32 := 0#32
  let c1_i32 : BitVec 32 := 1#32
  let arg21 : BitVec 32 := Scf.iv c0_i32_85 c1_i32 k0_t1
  let c128_i32_2321 : BitVec 32 := 128#32
  let v3910 : BitVec 32 := Scalar.muli arg21 c128_i32_2321
  let v3911 : BitVec 32 := Scalar.addi c16_i32_2322 v3910
  let c64_i32_2323 : BitVec 32 := 64#32
  let v3912 : BitVec 32 := Scalar.addi v3911 c64_i32_2323
  let c24_i32_2324 : BitVec 32 := 24#32
  let v3913 : BitVec 32 := Scalar.addi v3912 c24_i32_2324
  v3913
def k0_mult50 (k0_t1 : Fin k0_t1_loop.trips) : BitVec 32 :=
  let c16_i32_2328 : BitVec 32 := 16#32
  let c0_i32_85 : BitVec 32 := 0#32
  let c1_i32 : BitVec 32 := 1#32
  let arg21 : BitVec 32 := Scf.iv c0_i32_85 c1_i32 k0_t1
  let c128_i32_2327 : BitVec 32 := 128#32
  let v3921 : BitVec 32 := Scalar.muli arg21 c128_i32_2327
  let v3922 : BitVec 32 := Scalar.addi c16_i32_2328 v3921
  let c64_i32_2329 : BitVec 32 := 64#32
  let v3923 : BitVec 32 := Scalar.addi v3922 c64_i32_2329
  let c24_i32_2330 : BitVec 32 := 24#32
  let v3924 : BitVec 32 := Scalar.addi v3923 c24_i32_2330
  v3924
def k0_mult51 (k0_t1 : Fin k0_t1_loop.trips) : BitVec 32 :=
  let c16_i32_2334 : BitVec 32 := 16#32
  let c0_i32_85 : BitVec 32 := 0#32
  let c1_i32 : BitVec 32 := 1#32
  let arg21 : BitVec 32 := Scf.iv c0_i32_85 c1_i32 k0_t1
  let c128_i32_2333 : BitVec 32 := 128#32
  let v3932 : BitVec 32 := Scalar.muli arg21 c128_i32_2333
  let v3933 : BitVec 32 := Scalar.addi c16_i32_2334 v3932
  let c64_i32_2335 : BitVec 32 := 64#32
  let v3934 : BitVec 32 := Scalar.addi v3933 c64_i32_2335
  let c24_i32_2336 : BitVec 32 := 24#32
  let v3935 : BitVec 32 := Scalar.addi v3934 c24_i32_2336
  v3935
def k0_mult52 (k0_t1 : Fin k0_t1_loop.trips) : BitVec 32 :=
  let c16_i32_2340 : BitVec 32 := 16#32
  let c0_i32_85 : BitVec 32 := 0#32
  let c1_i32 : BitVec 32 := 1#32
  let arg21 : BitVec 32 := Scf.iv c0_i32_85 c1_i32 k0_t1
  let c128_i32_2339 : BitVec 32 := 128#32
  let v3943 : BitVec 32 := Scalar.muli arg21 c128_i32_2339
  let v3944 : BitVec 32 := Scalar.addi c16_i32_2340 v3943
  let c64_i32_2341 : BitVec 32 := 64#32
  let v3945 : BitVec 32 := Scalar.addi v3944 c64_i32_2341
  let c24_i32_2342 : BitVec 32 := 24#32
  let v3946 : BitVec 32 := Scalar.addi v3945 c24_i32_2342
  v3946
def k0_mult53 (k0_t1 : Fin k0_t1_loop.trips) : BitVec 32 :=
  let c0_i32_85 : BitVec 32 := 0#32
  let c1_i32 : BitVec 32 := 1#32
  let arg21 : BitVec 32 := Scf.iv c0_i32_85 c1_i32 k0_t1
  let c128_i32_2345 : BitVec 32 := 128#32
  let v3952 : BitVec 32 := Scalar.muli arg21 c128_i32_2345
  let c96_i32 : BitVec 32 := 96#32
  let v3953 : BitVec 32 := Scalar.addi v3952 c96_i32
  v3953
def k0_mult54 (k0_t1 : Fin k0_t1_loop.trips) : BitVec 32 :=
  let c16_i32_2352 : BitVec 32 := 16#32
  let c0_i32_85 : BitVec 32 := 0#32
  let c1_i32 : BitVec 32 := 1#32
  let arg21 : BitVec 32 := Scf.iv c0_i32_85 c1_i32 k0_t1
  let c128_i32_2351 : BitVec 32 := 128#32
  let v3971 : BitVec 32 := Scalar.muli arg21 c128_i32_2351
  let v3972 : BitVec 32 := Scalar.addi c16_i32_2352 v3971
  let c96_i32_2353 : BitVec 32 := 96#32
  let v3973 : BitVec 32 := Scalar.addi v3972 c96_i32_2353
  let c0_i32_2354 : BitVec 32 := 0#32
  let v3974 : BitVec 32 := Scalar.addi v3973 c0_i32_2354
  v3974
def k0_mult55 (k0_t1 : Fin k0_t1_loop.trips) : BitVec 32 :=
  let c16_i32_2358 : BitVec 32 := 16#32
  let c0_i32_85 : BitVec 32 := 0#32
  let c1_i32 : BitVec 32 := 1#32
  let arg21 : BitVec 32 := Scf.iv c0_i32_85 c1_i32 k0_t1
  let c128_i32_2357 : BitVec 32 := 128#32
  let v3982 : BitVec 32 := Scalar.muli arg21 c128_i32_2357
  let v3983 : BitVec 32 := Scalar.addi c16_i32_2358 v3982
  let c96_i32_2359 : BitVec 32 := 96#32
  let v3984 : BitVec 32 := Scalar.addi v3983 c96_i32_2359
  let c0_i32_2360 : BitVec 32 := 0#32
  let v3985 : BitVec 32 := Scalar.addi v3984 c0_i32_2360
  v3985
def k0_mult56 (k0_t1 : Fin k0_t1_loop.trips) : BitVec 32 :=
  let c16_i32_2364 : BitVec 32 := 16#32
  let c0_i32_85 : BitVec 32 := 0#32
  let c1_i32 : BitVec 32 := 1#32
  let arg21 : BitVec 32 := Scf.iv c0_i32_85 c1_i32 k0_t1
  let c128_i32_2363 : BitVec 32 := 128#32
  let v3993 : BitVec 32 := Scalar.muli arg21 c128_i32_2363
  let v3994 : BitVec 32 := Scalar.addi c16_i32_2364 v3993
  let c96_i32_2365 : BitVec 32 := 96#32
  let v3995 : BitVec 32 := Scalar.addi v3994 c96_i32_2365
  let c0_i32_2366 : BitVec 32 := 0#32
  let v3996 : BitVec 32 := Scalar.addi v3995 c0_i32_2366
  v3996
def k0_mult57 (k0_t1 : Fin k0_t1_loop.trips) : BitVec 32 :=
  let c16_i32_2370 : BitVec 32 := 16#32
  let c0_i32_85 : BitVec 32 := 0#32
  let c1_i32 : BitVec 32 := 1#32
  let arg21 : BitVec 32 := Scf.iv c0_i32_85 c1_i32 k0_t1
  let c128_i32_2369 : BitVec 32 := 128#32
  let v4004 : BitVec 32 := Scalar.muli arg21 c128_i32_2369
  let v4005 : BitVec 32 := Scalar.addi c16_i32_2370 v4004
  let c96_i32_2371 : BitVec 32 := 96#32
  let v4006 : BitVec 32 := Scalar.addi v4005 c96_i32_2371
  let c0_i32_2372 : BitVec 32 := 0#32
  let v4007 : BitVec 32 := Scalar.addi v4006 c0_i32_2372
  v4007
def k0_mult58 (k0_t1 : Fin k0_t1_loop.trips) : BitVec 32 :=
  let c16_i32_2378 : BitVec 32 := 16#32
  let c0_i32_85 : BitVec 32 := 0#32
  let c1_i32 : BitVec 32 := 1#32
  let arg21 : BitVec 32 := Scf.iv c0_i32_85 c1_i32 k0_t1
  let c128_i32_2377 : BitVec 32 := 128#32
  let v4025 : BitVec 32 := Scalar.muli arg21 c128_i32_2377
  let v4026 : BitVec 32 := Scalar.addi c16_i32_2378 v4025
  let c96_i32_2379 : BitVec 32 := 96#32
  let v4027 : BitVec 32 := Scalar.addi v4026 c96_i32_2379
  let c8_i32_2380 : BitVec 32 := 8#32
  let v4028 : BitVec 32 := Scalar.addi v4027 c8_i32_2380
  v4028
def k0_mult59 (k0_t1 : Fin k0_t1_loop.trips) : BitVec 32 :=
  let c16_i32_2384 : BitVec 32 := 16#32
  let c0_i32_85 : BitVec 32 := 0#32
  let c1_i32 : BitVec 32 := 1#32
  let arg21 : BitVec 32 := Scf.iv c0_i32_85 c1_i32 k0_t1
  let c128_i32_2383 : BitVec 32 := 128#32
  let v4036 : BitVec 32 := Scalar.muli arg21 c128_i32_2383
  let v4037 : BitVec 32 := Scalar.addi c16_i32_2384 v4036
  let c96_i32_2385 : BitVec 32 := 96#32
  let v4038 : BitVec 32 := Scalar.addi v4037 c96_i32_2385
  let c8_i32_2386 : BitVec 32 := 8#32
  let v4039 : BitVec 32 := Scalar.addi v4038 c8_i32_2386
  v4039
def k0_mult60 (k0_t1 : Fin k0_t1_loop.trips) : BitVec 32 :=
  let c16_i32_2390 : BitVec 32 := 16#32
  let c0_i32_85 : BitVec 32 := 0#32
  let c1_i32 : BitVec 32 := 1#32
  let arg21 : BitVec 32 := Scf.iv c0_i32_85 c1_i32 k0_t1
  let c128_i32_2389 : BitVec 32 := 128#32
  let v4047 : BitVec 32 := Scalar.muli arg21 c128_i32_2389
  let v4048 : BitVec 32 := Scalar.addi c16_i32_2390 v4047
  let c96_i32_2391 : BitVec 32 := 96#32
  let v4049 : BitVec 32 := Scalar.addi v4048 c96_i32_2391
  let c8_i32_2392 : BitVec 32 := 8#32
  let v4050 : BitVec 32 := Scalar.addi v4049 c8_i32_2392
  v4050
def k0_mult61 (k0_t1 : Fin k0_t1_loop.trips) : BitVec 32 :=
  let c16_i32_2396 : BitVec 32 := 16#32
  let c0_i32_85 : BitVec 32 := 0#32
  let c1_i32 : BitVec 32 := 1#32
  let arg21 : BitVec 32 := Scf.iv c0_i32_85 c1_i32 k0_t1
  let c128_i32_2395 : BitVec 32 := 128#32
  let v4058 : BitVec 32 := Scalar.muli arg21 c128_i32_2395
  let v4059 : BitVec 32 := Scalar.addi c16_i32_2396 v4058
  let c96_i32_2397 : BitVec 32 := 96#32
  let v4060 : BitVec 32 := Scalar.addi v4059 c96_i32_2397
  let c8_i32_2398 : BitVec 32 := 8#32
  let v4061 : BitVec 32 := Scalar.addi v4060 c8_i32_2398
  v4061
def k0_mult62 (k0_t1 : Fin k0_t1_loop.trips) : BitVec 32 :=
  let c16_i32_2404 : BitVec 32 := 16#32
  let c0_i32_85 : BitVec 32 := 0#32
  let c1_i32 : BitVec 32 := 1#32
  let arg21 : BitVec 32 := Scf.iv c0_i32_85 c1_i32 k0_t1
  let c128_i32_2403 : BitVec 32 := 128#32
  let v4079 : BitVec 32 := Scalar.muli arg21 c128_i32_2403
  let v4080 : BitVec 32 := Scalar.addi c16_i32_2404 v4079
  let c96_i32_2405 : BitVec 32 := 96#32
  let v4081 : BitVec 32 := Scalar.addi v4080 c96_i32_2405
  let c16_i32_2406 : BitVec 32 := 16#32
  let v4082 : BitVec 32 := Scalar.addi v4081 c16_i32_2406
  v4082
def k0_mult63 (k0_t1 : Fin k0_t1_loop.trips) : BitVec 32 :=
  let c16_i32_2410 : BitVec 32 := 16#32
  let c0_i32_85 : BitVec 32 := 0#32
  let c1_i32 : BitVec 32 := 1#32
  let arg21 : BitVec 32 := Scf.iv c0_i32_85 c1_i32 k0_t1
  let c128_i32_2409 : BitVec 32 := 128#32
  let v4090 : BitVec 32 := Scalar.muli arg21 c128_i32_2409
  let v4091 : BitVec 32 := Scalar.addi c16_i32_2410 v4090
  let c96_i32_2411 : BitVec 32 := 96#32
  let v4092 : BitVec 32 := Scalar.addi v4091 c96_i32_2411
  let c16_i32_2412 : BitVec 32 := 16#32
  let v4093 : BitVec 32 := Scalar.addi v4092 c16_i32_2412
  v4093
def k0_mult64 (k0_t1 : Fin k0_t1_loop.trips) : BitVec 32 :=
  let c16_i32_2416 : BitVec 32 := 16#32
  let c0_i32_85 : BitVec 32 := 0#32
  let c1_i32 : BitVec 32 := 1#32
  let arg21 : BitVec 32 := Scf.iv c0_i32_85 c1_i32 k0_t1
  let c128_i32_2415 : BitVec 32 := 128#32
  let v4101 : BitVec 32 := Scalar.muli arg21 c128_i32_2415
  let v4102 : BitVec 32 := Scalar.addi c16_i32_2416 v4101
  let c96_i32_2417 : BitVec 32 := 96#32
  let v4103 : BitVec 32 := Scalar.addi v4102 c96_i32_2417
  let c16_i32_2418 : BitVec 32 := 16#32
  let v4104 : BitVec 32 := Scalar.addi v4103 c16_i32_2418
  v4104
def k0_mult65 (k0_t1 : Fin k0_t1_loop.trips) : BitVec 32 :=
  let c16_i32_2422 : BitVec 32 := 16#32
  let c0_i32_85 : BitVec 32 := 0#32
  let c1_i32 : BitVec 32 := 1#32
  let arg21 : BitVec 32 := Scf.iv c0_i32_85 c1_i32 k0_t1
  let c128_i32_2421 : BitVec 32 := 128#32
  let v4112 : BitVec 32 := Scalar.muli arg21 c128_i32_2421
  let v4113 : BitVec 32 := Scalar.addi c16_i32_2422 v4112
  let c96_i32_2423 : BitVec 32 := 96#32
  let v4114 : BitVec 32 := Scalar.addi v4113 c96_i32_2423
  let c16_i32_2424 : BitVec 32 := 16#32
  let v4115 : BitVec 32 := Scalar.addi v4114 c16_i32_2424
  v4115
def k0_mult66 (k0_t1 : Fin k0_t1_loop.trips) : BitVec 32 :=
  let c16_i32_2430 : BitVec 32 := 16#32
  let c0_i32_85 : BitVec 32 := 0#32
  let c1_i32 : BitVec 32 := 1#32
  let arg21 : BitVec 32 := Scf.iv c0_i32_85 c1_i32 k0_t1
  let c128_i32_2429 : BitVec 32 := 128#32
  let v4133 : BitVec 32 := Scalar.muli arg21 c128_i32_2429
  let v4134 : BitVec 32 := Scalar.addi c16_i32_2430 v4133
  let c96_i32_2431 : BitVec 32 := 96#32
  let v4135 : BitVec 32 := Scalar.addi v4134 c96_i32_2431
  let c24_i32_2432 : BitVec 32 := 24#32
  let v4136 : BitVec 32 := Scalar.addi v4135 c24_i32_2432
  v4136
def k0_mult67 (k0_t1 : Fin k0_t1_loop.trips) : BitVec 32 :=
  let c16_i32_2436 : BitVec 32 := 16#32
  let c0_i32_85 : BitVec 32 := 0#32
  let c1_i32 : BitVec 32 := 1#32
  let arg21 : BitVec 32 := Scf.iv c0_i32_85 c1_i32 k0_t1
  let c128_i32_2435 : BitVec 32 := 128#32
  let v4144 : BitVec 32 := Scalar.muli arg21 c128_i32_2435
  let v4145 : BitVec 32 := Scalar.addi c16_i32_2436 v4144
  let c96_i32_2437 : BitVec 32 := 96#32
  let v4146 : BitVec 32 := Scalar.addi v4145 c96_i32_2437
  let c24_i32_2438 : BitVec 32 := 24#32
  let v4147 : BitVec 32 := Scalar.addi v4146 c24_i32_2438
  v4147
def k0_mult68 (k0_t1 : Fin k0_t1_loop.trips) : BitVec 32 :=
  let c16_i32_2442 : BitVec 32 := 16#32
  let c0_i32_85 : BitVec 32 := 0#32
  let c1_i32 : BitVec 32 := 1#32
  let arg21 : BitVec 32 := Scf.iv c0_i32_85 c1_i32 k0_t1
  let c128_i32_2441 : BitVec 32 := 128#32
  let v4155 : BitVec 32 := Scalar.muli arg21 c128_i32_2441
  let v4156 : BitVec 32 := Scalar.addi c16_i32_2442 v4155
  let c96_i32_2443 : BitVec 32 := 96#32
  let v4157 : BitVec 32 := Scalar.addi v4156 c96_i32_2443
  let c24_i32_2444 : BitVec 32 := 24#32
  let v4158 : BitVec 32 := Scalar.addi v4157 c24_i32_2444
  v4158
def k0_mult69 (k0_t1 : Fin k0_t1_loop.trips) : BitVec 32 :=
  let c16_i32_2448 : BitVec 32 := 16#32
  let c0_i32_85 : BitVec 32 := 0#32
  let c1_i32 : BitVec 32 := 1#32
  let arg21 : BitVec 32 := Scf.iv c0_i32_85 c1_i32 k0_t1
  let c128_i32_2447 : BitVec 32 := 128#32
  let v4166 : BitVec 32 := Scalar.muli arg21 c128_i32_2447
  let v4167 : BitVec 32 := Scalar.addi c16_i32_2448 v4166
  let c96_i32_2449 : BitVec 32 := 96#32
  let v4168 : BitVec 32 := Scalar.addi v4167 c96_i32_2449
  let c24_i32_2450 : BitVec 32 := 24#32
  let v4169 : BitVec 32 := Scalar.addi v4168 c24_i32_2450
  v4169
@[reducible] def k0_t2_loop : Scf.Loop 32 :=
  let c0_i32_124 : BitVec 32 := 0#32
  let c9_i32_125 : BitVec 32 := 9#32
  let v297 : BitVec 32 := Scalar.addi c0_i32_124 c9_i32_125
  let c1_i32_126 : BitVec 32 := 1#32
  ⟨c0_i32_124, v297, c1_i32_126⟩
def k0_mult70 (k0_t2 : Fin k0_t2_loop.trips) : BitVec 32 :=
  let c0_i32_124 : BitVec 32 := 0#32
  let c1_i32_126 : BitVec 32 := 1#32
  let arg21 : BitVec 32 := Scf.iv c0_i32_124 c1_i32_126 k0_t2
  let c128_i32 : BitVec 32 := 128#32
  let v3276 : BitVec 32 := Scalar.muli arg21 c128_i32
  v3276
def k0_off7 (k0_t2 : Fin k0_t2_loop.trips) : Fin 3 → Nat :=
  let c1_2017 : Index := 1#32
  let c0_2018 : Index := 0#32
  let c0_i32_124 : BitVec 32 := 0#32
  let c1_i32_126 : BitVec 32 := 1#32
  let arg21 : BitVec 32 := Scf.iv c0_i32_124 c1_i32_126 k0_t2
  let c128_i32 : BitVec 32 := 128#32
  let v3276 : BitVec 32 := Scalar.muli arg21 c128_i32
  let v3277 : BitVec 32 := v3276
  let v3278 : Index := Scalar.indexCast v3277
  ![1, 0, v3278.toNat]
def k0_mult71 (k0_t2 : Fin k0_t2_loop.trips) : BitVec 32 :=
  let c0_i32_124 : BitVec 32 := 0#32
  let c1_i32_126 : BitVec 32 := 1#32
  let arg21 : BitVec 32 := Scf.iv c0_i32_124 c1_i32_126 k0_t2
  let c128_i32_2019 : BitVec 32 := 128#32
  let v3283 : BitVec 32 := Scalar.muli arg21 c128_i32_2019
  let c0_i32_2020 : BitVec 32 := 0#32
  let v3284 : BitVec 32 := Scalar.addi v3283 c0_i32_2020
  v3284
def k0_off8 (k0_t2 : Fin k0_t2_loop.trips) (c0_i32_2020 : BitVec 32) : Fin 3 → Nat :=
  let c1_2021 : Index := 1#32
  let c0_i32_124 : BitVec 32 := 0#32
  let c1_i32_126 : BitVec 32 := 1#32
  let arg21 : BitVec 32 := Scf.iv c0_i32_124 c1_i32_126 k0_t2
  let c128_i32_2019 : BitVec 32 := 128#32
  let v3283 : BitVec 32 := Scalar.muli arg21 c128_i32_2019
  let v3284 : BitVec 32 := Scalar.addi v3283 c0_i32_2020
  let v3285 : BitVec 32 := v3284
  let v3286 : Index := Scalar.indexCast v3285
  let c0_2022 : Index := 0#32
  ![1, v3286.toNat, 0]
def k0_mult72 (k0_t2 : Fin k0_t2_loop.trips) : BitVec 32 :=
  let c1184_i32 : BitVec 32 := 1184#32
  let c0_i32_124 : BitVec 32 := 0#32
  let c1_i32_126 : BitVec 32 := 1#32
  let arg21 : BitVec 32 := Scf.iv c0_i32_124 c1_i32_126 k0_t2
  let c128_i32_2026 : BitVec 32 := 128#32
  let v3302 : BitVec 32 := Scalar.muli arg21 c128_i32_2026
  let v3303 : BitVec 32 := Scalar.addi c1184_i32 v3302
  let c0_i32_2027 : BitVec 32 := 0#32
  let v3304 : BitVec 32 := Scalar.addi v3303 c0_i32_2027
  let c0_i32_2028 : BitVec 32 := 0#32
  let v3305 : BitVec 32 := Scalar.addi v3304 c0_i32_2028
  v3305
def k0_off9 (k0_t2 : Fin k0_t2_loop.trips) (c0_i32_2027 : BitVec 32) (c0_i32_2028 : BitVec 32) : Fin 3 → Nat :=
  let c0_2029 : Index := 0#32
  let c1184_i32 : BitVec 32 := 1184#32
  let c0_i32_124 : BitVec 32 := 0#32
  let c1_i32_126 : BitVec 32 := 1#32
  let arg21 : BitVec 32 := Scf.iv c0_i32_124 c1_i32_126 k0_t2
  let c128_i32_2026 : BitVec 32 := 128#32
  let v3302 : BitVec 32 := Scalar.muli arg21 c128_i32_2026
  let v3303 : BitVec 32 := Scalar.addi c1184_i32 v3302
  let v3304 : BitVec 32 := Scalar.addi v3303 c0_i32_2027
  let v3305 : BitVec 32 := Scalar.addi v3304 c0_i32_2028
  let v3306 : BitVec 32 := v3305
  let v3307 : Index := Scalar.indexCast v3306
  let c0_2030 : Index := 0#32
  ![0, v3307.toNat, 0]
def k0_mult73 (k0_t2 : Fin k0_t2_loop.trips) : BitVec 32 :=
  let c1184_i32_2032 : BitVec 32 := 1184#32
  let c0_i32_124 : BitVec 32 := 0#32
  let c1_i32_126 : BitVec 32 := 1#32
  let arg21 : BitVec 32 := Scf.iv c0_i32_124 c1_i32_126 k0_t2
  let c128_i32_2031 : BitVec 32 := 128#32
  let v3313 : BitVec 32 := Scalar.muli arg21 c128_i32_2031
  let v3314 : BitVec 32 := Scalar.addi c1184_i32_2032 v3313
  let c0_i32_2033 : BitVec 32 := 0#32
  let v3315 : BitVec 32 := Scalar.addi v3314 c0_i32_2033
  let c0_i32_2034 : BitVec 32 := 0#32
  let v3316 : BitVec 32 := Scalar.addi v3315 c0_i32_2034
  v3316
def k0_off10 (k0_t2 : Fin k0_t2_loop.trips) (c0_i32_2033 : BitVec 32) (c0_i32_2034 : BitVec 32) : Fin 3 → Nat :=
  let c1_2035 : Index := 1#32
  let c1184_i32_2032 : BitVec 32 := 1184#32
  let c0_i32_124 : BitVec 32 := 0#32
  let c1_i32_126 : BitVec 32 := 1#32
  let arg21 : BitVec 32 := Scf.iv c0_i32_124 c1_i32_126 k0_t2
  let c128_i32_2031 : BitVec 32 := 128#32
  let v3313 : BitVec 32 := Scalar.muli arg21 c128_i32_2031
  let v3314 : BitVec 32 := Scalar.addi c1184_i32_2032 v3313
  let v3315 : BitVec 32 := Scalar.addi v3314 c0_i32_2033
  let v3316 : BitVec 32 := Scalar.addi v3315 c0_i32_2034
  let v3317 : BitVec 32 := v3316
  let v3318 : Index := Scalar.indexCast v3317
  let c0_2036 : Index := 0#32
  ![1, v3318.toNat, 0]
def k0_mult74 (k0_t2 : Fin k0_t2_loop.trips) : BitVec 32 :=
  let c1184_i32_2038 : BitVec 32 := 1184#32
  let c0_i32_124 : BitVec 32 := 0#32
  let c1_i32_126 : BitVec 32 := 1#32
  let arg21 : BitVec 32 := Scf.iv c0_i32_124 c1_i32_126 k0_t2
  let c128_i32_2037 : BitVec 32 := 128#32
  let v3324 : BitVec 32 := Scalar.muli arg21 c128_i32_2037
  let v3325 : BitVec 32 := Scalar.addi c1184_i32_2038 v3324
  let c0_i32_2039 : BitVec 32 := 0#32
  let v3326 : BitVec 32 := Scalar.addi v3325 c0_i32_2039
  let c0_i32_2040 : BitVec 32 := 0#32
  let v3327 : BitVec 32 := Scalar.addi v3326 c0_i32_2040
  v3327
def k0_off11 (k0_t2 : Fin k0_t2_loop.trips) (c0_i32_2039 : BitVec 32) (c0_i32_2040 : BitVec 32) : Fin 3 → Nat :=
  let c2_2041 : Index := 2#32
  let c1184_i32_2038 : BitVec 32 := 1184#32
  let c0_i32_124 : BitVec 32 := 0#32
  let c1_i32_126 : BitVec 32 := 1#32
  let arg21 : BitVec 32 := Scf.iv c0_i32_124 c1_i32_126 k0_t2
  let c128_i32_2037 : BitVec 32 := 128#32
  let v3324 : BitVec 32 := Scalar.muli arg21 c128_i32_2037
  let v3325 : BitVec 32 := Scalar.addi c1184_i32_2038 v3324
  let v3326 : BitVec 32 := Scalar.addi v3325 c0_i32_2039
  let v3327 : BitVec 32 := Scalar.addi v3326 c0_i32_2040
  let v3328 : BitVec 32 := v3327
  let v3329 : Index := Scalar.indexCast v3328
  let c0_2042 : Index := 0#32
  ![2, v3329.toNat, 0]
def k0_mult75 (k0_t2 : Fin k0_t2_loop.trips) : BitVec 32 :=
  let c1184_i32_2044 : BitVec 32 := 1184#32
  let c0_i32_124 : BitVec 32 := 0#32
  let c1_i32_126 : BitVec 32 := 1#32
  let arg21 : BitVec 32 := Scf.iv c0_i32_124 c1_i32_126 k0_t2
  let c128_i32_2043 : BitVec 32 := 128#32
  let v3335 : BitVec 32 := Scalar.muli arg21 c128_i32_2043
  let v3336 : BitVec 32 := Scalar.addi c1184_i32_2044 v3335
  let c0_i32_2045 : BitVec 32 := 0#32
  let v3337 : BitVec 32 := Scalar.addi v3336 c0_i32_2045
  let c0_i32_2046 : BitVec 32 := 0#32
  let v3338 : BitVec 32 := Scalar.addi v3337 c0_i32_2046
  v3338
def k0_off12 (k0_t2 : Fin k0_t2_loop.trips) (c0_i32_2045 : BitVec 32) (c0_i32_2046 : BitVec 32) : Fin 3 → Nat :=
  let c3_2047 : Index := 3#32
  let c1184_i32_2044 : BitVec 32 := 1184#32
  let c0_i32_124 : BitVec 32 := 0#32
  let c1_i32_126 : BitVec 32 := 1#32
  let arg21 : BitVec 32 := Scf.iv c0_i32_124 c1_i32_126 k0_t2
  let c128_i32_2043 : BitVec 32 := 128#32
  let v3335 : BitVec 32 := Scalar.muli arg21 c128_i32_2043
  let v3336 : BitVec 32 := Scalar.addi c1184_i32_2044 v3335
  let v3337 : BitVec 32 := Scalar.addi v3336 c0_i32_2045
  let v3338 : BitVec 32 := Scalar.addi v3337 c0_i32_2046
  let v3339 : BitVec 32 := v3338
  let v3340 : Index := Scalar.indexCast v3339
  let c0_2048 : Index := 0#32
  ![3, v3340.toNat, 0]
def k0_mult76 (k0_t2 : Fin k0_t2_loop.trips) : BitVec 32 :=
  let c1184_i32_2053 : BitVec 32 := 1184#32
  let c0_i32_124 : BitVec 32 := 0#32
  let c1_i32_126 : BitVec 32 := 1#32
  let arg21 : BitVec 32 := Scf.iv c0_i32_124 c1_i32_126 k0_t2
  let c128_i32_2052 : BitVec 32 := 128#32
  let v3356 : BitVec 32 := Scalar.muli arg21 c128_i32_2052
  let v3357 : BitVec 32 := Scalar.addi c1184_i32_2053 v3356
  let c0_i32_2054 : BitVec 32 := 0#32
  let v3358 : BitVec 32 := Scalar.addi v3357 c0_i32_2054
  let c8_i32_2055 : BitVec 32 := 8#32
  let v3359 : BitVec 32 := Scalar.addi v3358 c8_i32_2055
  v3359
def k0_mult77 (k0_t2 : Fin k0_t2_loop.trips) : BitVec 32 :=
  let c1184_i32_2059 : BitVec 32 := 1184#32
  let c0_i32_124 : BitVec 32 := 0#32
  let c1_i32_126 : BitVec 32 := 1#32
  let arg21 : BitVec 32 := Scf.iv c0_i32_124 c1_i32_126 k0_t2
  let c128_i32_2058 : BitVec 32 := 128#32
  let v3367 : BitVec 32 := Scalar.muli arg21 c128_i32_2058
  let v3368 : BitVec 32 := Scalar.addi c1184_i32_2059 v3367
  let c0_i32_2060 : BitVec 32 := 0#32
  let v3369 : BitVec 32 := Scalar.addi v3368 c0_i32_2060
  let c8_i32_2061 : BitVec 32 := 8#32
  let v3370 : BitVec 32 := Scalar.addi v3369 c8_i32_2061
  v3370
def k0_mult78 (k0_t2 : Fin k0_t2_loop.trips) : BitVec 32 :=
  let c1184_i32_2065 : BitVec 32 := 1184#32
  let c0_i32_124 : BitVec 32 := 0#32
  let c1_i32_126 : BitVec 32 := 1#32
  let arg21 : BitVec 32 := Scf.iv c0_i32_124 c1_i32_126 k0_t2
  let c128_i32_2064 : BitVec 32 := 128#32
  let v3378 : BitVec 32 := Scalar.muli arg21 c128_i32_2064
  let v3379 : BitVec 32 := Scalar.addi c1184_i32_2065 v3378
  let c0_i32_2066 : BitVec 32 := 0#32
  let v3380 : BitVec 32 := Scalar.addi v3379 c0_i32_2066
  let c8_i32_2067 : BitVec 32 := 8#32
  let v3381 : BitVec 32 := Scalar.addi v3380 c8_i32_2067
  v3381
def k0_mult79 (k0_t2 : Fin k0_t2_loop.trips) : BitVec 32 :=
  let c1184_i32_2071 : BitVec 32 := 1184#32
  let c0_i32_124 : BitVec 32 := 0#32
  let c1_i32_126 : BitVec 32 := 1#32
  let arg21 : BitVec 32 := Scf.iv c0_i32_124 c1_i32_126 k0_t2
  let c128_i32_2070 : BitVec 32 := 128#32
  let v3389 : BitVec 32 := Scalar.muli arg21 c128_i32_2070
  let v3390 : BitVec 32 := Scalar.addi c1184_i32_2071 v3389
  let c0_i32_2072 : BitVec 32 := 0#32
  let v3391 : BitVec 32 := Scalar.addi v3390 c0_i32_2072
  let c8_i32_2073 : BitVec 32 := 8#32
  let v3392 : BitVec 32 := Scalar.addi v3391 c8_i32_2073
  v3392
def k0_mult80 (k0_t2 : Fin k0_t2_loop.trips) : BitVec 32 :=
  let c1184_i32_2079 : BitVec 32 := 1184#32
  let c0_i32_124 : BitVec 32 := 0#32
  let c1_i32_126 : BitVec 32 := 1#32
  let arg21 : BitVec 32 := Scf.iv c0_i32_124 c1_i32_126 k0_t2
  let c128_i32_2078 : BitVec 32 := 128#32
  let v3410 : BitVec 32 := Scalar.muli arg21 c128_i32_2078
  let v3411 : BitVec 32 := Scalar.addi c1184_i32_2079 v3410
  let c0_i32_2080 : BitVec 32 := 0#32
  let v3412 : BitVec 32 := Scalar.addi v3411 c0_i32_2080
  let c16_i32_2081 : BitVec 32 := 16#32
  let v3413 : BitVec 32 := Scalar.addi v3412 c16_i32_2081
  v3413
def k0_mult81 (k0_t2 : Fin k0_t2_loop.trips) : BitVec 32 :=
  let c1184_i32_2085 : BitVec 32 := 1184#32
  let c0_i32_124 : BitVec 32 := 0#32
  let c1_i32_126 : BitVec 32 := 1#32
  let arg21 : BitVec 32 := Scf.iv c0_i32_124 c1_i32_126 k0_t2
  let c128_i32_2084 : BitVec 32 := 128#32
  let v3421 : BitVec 32 := Scalar.muli arg21 c128_i32_2084
  let v3422 : BitVec 32 := Scalar.addi c1184_i32_2085 v3421
  let c0_i32_2086 : BitVec 32 := 0#32
  let v3423 : BitVec 32 := Scalar.addi v3422 c0_i32_2086
  let c16_i32_2087 : BitVec 32 := 16#32
  let v3424 : BitVec 32 := Scalar.addi v3423 c16_i32_2087
  v3424
def k0_mult82 (k0_t2 : Fin k0_t2_loop.trips) : BitVec 32 :=
  let c1184_i32_2091 : BitVec 32 := 1184#32
  let c0_i32_124 : BitVec 32 := 0#32
  let c1_i32_126 : BitVec 32 := 1#32
  let arg21 : BitVec 32 := Scf.iv c0_i32_124 c1_i32_126 k0_t2
  let c128_i32_2090 : BitVec 32 := 128#32
  let v3432 : BitVec 32 := Scalar.muli arg21 c128_i32_2090
  let v3433 : BitVec 32 := Scalar.addi c1184_i32_2091 v3432
  let c0_i32_2092 : BitVec 32 := 0#32
  let v3434 : BitVec 32 := Scalar.addi v3433 c0_i32_2092
  let c16_i32_2093 : BitVec 32 := 16#32
  let v3435 : BitVec 32 := Scalar.addi v3434 c16_i32_2093
  v3435
def k0_mult83 (k0_t2 : Fin k0_t2_loop.trips) : BitVec 32 :=
  let c1184_i32_2097 : BitVec 32 := 1184#32
  let c0_i32_124 : BitVec 32 := 0#32
  let c1_i32_126 : BitVec 32 := 1#32
  let arg21 : BitVec 32 := Scf.iv c0_i32_124 c1_i32_126 k0_t2
  let c128_i32_2096 : BitVec 32 := 128#32
  let v3443 : BitVec 32 := Scalar.muli arg21 c128_i32_2096
  let v3444 : BitVec 32 := Scalar.addi c1184_i32_2097 v3443
  let c0_i32_2098 : BitVec 32 := 0#32
  let v3445 : BitVec 32 := Scalar.addi v3444 c0_i32_2098
  let c16_i32_2099 : BitVec 32 := 16#32
  let v3446 : BitVec 32 := Scalar.addi v3445 c16_i32_2099
  v3446
def k0_mult84 (k0_t2 : Fin k0_t2_loop.trips) : BitVec 32 :=
  let c1184_i32_2105 : BitVec 32 := 1184#32
  let c0_i32_124 : BitVec 32 := 0#32
  let c1_i32_126 : BitVec 32 := 1#32
  let arg21 : BitVec 32 := Scf.iv c0_i32_124 c1_i32_126 k0_t2
  let c128_i32_2104 : BitVec 32 := 128#32
  let v3464 : BitVec 32 := Scalar.muli arg21 c128_i32_2104
  let v3465 : BitVec 32 := Scalar.addi c1184_i32_2105 v3464
  let c0_i32_2106 : BitVec 32 := 0#32
  let v3466 : BitVec 32 := Scalar.addi v3465 c0_i32_2106
  let c24_i32_2107 : BitVec 32 := 24#32
  let v3467 : BitVec 32 := Scalar.addi v3466 c24_i32_2107
  v3467
def k0_mult85 (k0_t2 : Fin k0_t2_loop.trips) : BitVec 32 :=
  let c1184_i32_2111 : BitVec 32 := 1184#32
  let c0_i32_124 : BitVec 32 := 0#32
  let c1_i32_126 : BitVec 32 := 1#32
  let arg21 : BitVec 32 := Scf.iv c0_i32_124 c1_i32_126 k0_t2
  let c128_i32_2110 : BitVec 32 := 128#32
  let v3475 : BitVec 32 := Scalar.muli arg21 c128_i32_2110
  let v3476 : BitVec 32 := Scalar.addi c1184_i32_2111 v3475
  let c0_i32_2112 : BitVec 32 := 0#32
  let v3477 : BitVec 32 := Scalar.addi v3476 c0_i32_2112
  let c24_i32_2113 : BitVec 32 := 24#32
  let v3478 : BitVec 32 := Scalar.addi v3477 c24_i32_2113
  v3478
def k0_mult86 (k0_t2 : Fin k0_t2_loop.trips) : BitVec 32 :=
  let c1184_i32_2117 : BitVec 32 := 1184#32
  let c0_i32_124 : BitVec 32 := 0#32
  let c1_i32_126 : BitVec 32 := 1#32
  let arg21 : BitVec 32 := Scf.iv c0_i32_124 c1_i32_126 k0_t2
  let c128_i32_2116 : BitVec 32 := 128#32
  let v3486 : BitVec 32 := Scalar.muli arg21 c128_i32_2116
  let v3487 : BitVec 32 := Scalar.addi c1184_i32_2117 v3486
  let c0_i32_2118 : BitVec 32 := 0#32
  let v3488 : BitVec 32 := Scalar.addi v3487 c0_i32_2118
  let c24_i32_2119 : BitVec 32 := 24#32
  let v3489 : BitVec 32 := Scalar.addi v3488 c24_i32_2119
  v3489
def k0_mult87 (k0_t2 : Fin k0_t2_loop.trips) : BitVec 32 :=
  let c1184_i32_2123 : BitVec 32 := 1184#32
  let c0_i32_124 : BitVec 32 := 0#32
  let c1_i32_126 : BitVec 32 := 1#32
  let arg21 : BitVec 32 := Scf.iv c0_i32_124 c1_i32_126 k0_t2
  let c128_i32_2122 : BitVec 32 := 128#32
  let v3497 : BitVec 32 := Scalar.muli arg21 c128_i32_2122
  let v3498 : BitVec 32 := Scalar.addi c1184_i32_2123 v3497
  let c0_i32_2124 : BitVec 32 := 0#32
  let v3499 : BitVec 32 := Scalar.addi v3498 c0_i32_2124
  let c24_i32_2125 : BitVec 32 := 24#32
  let v3500 : BitVec 32 := Scalar.addi v3499 c24_i32_2125
  v3500
def k0_mult88 (k0_t2 : Fin k0_t2_loop.trips) : BitVec 32 :=
  let c0_i32_124 : BitVec 32 := 0#32
  let c1_i32_126 : BitVec 32 := 1#32
  let arg21 : BitVec 32 := Scf.iv c0_i32_124 c1_i32_126 k0_t2
  let c128_i32_2128 : BitVec 32 := 128#32
  let v3506 : BitVec 32 := Scalar.muli arg21 c128_i32_2128
  let c32_i32 : BitVec 32 := 32#32
  let v3507 : BitVec 32 := Scalar.addi v3506 c32_i32
  v3507
def k0_mult89 (k0_t2 : Fin k0_t2_loop.trips) : BitVec 32 :=
  let c1184_i32_2135 : BitVec 32 := 1184#32
  let c0_i32_124 : BitVec 32 := 0#32
  let c1_i32_126 : BitVec 32 := 1#32
  let arg21 : BitVec 32 := Scf.iv c0_i32_124 c1_i32_126 k0_t2
  let c128_i32_2134 : BitVec 32 := 128#32
  let v3525 : BitVec 32 := Scalar.muli arg21 c128_i32_2134
  let v3526 : BitVec 32 := Scalar.addi c1184_i32_2135 v3525
  let c32_i32_2136 : BitVec 32 := 32#32
  let v3527 : BitVec 32 := Scalar.addi v3526 c32_i32_2136
  let c0_i32_2137 : BitVec 32 := 0#32
  let v3528 : BitVec 32 := Scalar.addi v3527 c0_i32_2137
  v3528
def k0_mult90 (k0_t2 : Fin k0_t2_loop.trips) : BitVec 32 :=
  let c1184_i32_2141 : BitVec 32 := 1184#32
  let c0_i32_124 : BitVec 32 := 0#32
  let c1_i32_126 : BitVec 32 := 1#32
  let arg21 : BitVec 32 := Scf.iv c0_i32_124 c1_i32_126 k0_t2
  let c128_i32_2140 : BitVec 32 := 128#32
  let v3536 : BitVec 32 := Scalar.muli arg21 c128_i32_2140
  let v3537 : BitVec 32 := Scalar.addi c1184_i32_2141 v3536
  let c32_i32_2142 : BitVec 32 := 32#32
  let v3538 : BitVec 32 := Scalar.addi v3537 c32_i32_2142
  let c0_i32_2143 : BitVec 32 := 0#32
  let v3539 : BitVec 32 := Scalar.addi v3538 c0_i32_2143
  v3539
def k0_mult91 (k0_t2 : Fin k0_t2_loop.trips) : BitVec 32 :=
  let c1184_i32_2147 : BitVec 32 := 1184#32
  let c0_i32_124 : BitVec 32 := 0#32
  let c1_i32_126 : BitVec 32 := 1#32
  let arg21 : BitVec 32 := Scf.iv c0_i32_124 c1_i32_126 k0_t2
  let c128_i32_2146 : BitVec 32 := 128#32
  let v3547 : BitVec 32 := Scalar.muli arg21 c128_i32_2146
  let v3548 : BitVec 32 := Scalar.addi c1184_i32_2147 v3547
  let c32_i32_2148 : BitVec 32 := 32#32
  let v3549 : BitVec 32 := Scalar.addi v3548 c32_i32_2148
  let c0_i32_2149 : BitVec 32 := 0#32
  let v3550 : BitVec 32 := Scalar.addi v3549 c0_i32_2149
  v3550
def k0_mult92 (k0_t2 : Fin k0_t2_loop.trips) : BitVec 32 :=
  let c1184_i32_2153 : BitVec 32 := 1184#32
  let c0_i32_124 : BitVec 32 := 0#32
  let c1_i32_126 : BitVec 32 := 1#32
  let arg21 : BitVec 32 := Scf.iv c0_i32_124 c1_i32_126 k0_t2
  let c128_i32_2152 : BitVec 32 := 128#32
  let v3558 : BitVec 32 := Scalar.muli arg21 c128_i32_2152
  let v3559 : BitVec 32 := Scalar.addi c1184_i32_2153 v3558
  let c32_i32_2154 : BitVec 32 := 32#32
  let v3560 : BitVec 32 := Scalar.addi v3559 c32_i32_2154
  let c0_i32_2155 : BitVec 32 := 0#32
  let v3561 : BitVec 32 := Scalar.addi v3560 c0_i32_2155
  v3561
def k0_mult93 (k0_t2 : Fin k0_t2_loop.trips) : BitVec 32 :=
  let c1184_i32_2161 : BitVec 32 := 1184#32
  let c0_i32_124 : BitVec 32 := 0#32
  let c1_i32_126 : BitVec 32 := 1#32
  let arg21 : BitVec 32 := Scf.iv c0_i32_124 c1_i32_126 k0_t2
  let c128_i32_2160 : BitVec 32 := 128#32
  let v3579 : BitVec 32 := Scalar.muli arg21 c128_i32_2160
  let v3580 : BitVec 32 := Scalar.addi c1184_i32_2161 v3579
  let c32_i32_2162 : BitVec 32 := 32#32
  let v3581 : BitVec 32 := Scalar.addi v3580 c32_i32_2162
  let c8_i32_2163 : BitVec 32 := 8#32
  let v3582 : BitVec 32 := Scalar.addi v3581 c8_i32_2163
  v3582
def k0_mult94 (k0_t2 : Fin k0_t2_loop.trips) : BitVec 32 :=
  let c1184_i32_2167 : BitVec 32 := 1184#32
  let c0_i32_124 : BitVec 32 := 0#32
  let c1_i32_126 : BitVec 32 := 1#32
  let arg21 : BitVec 32 := Scf.iv c0_i32_124 c1_i32_126 k0_t2
  let c128_i32_2166 : BitVec 32 := 128#32
  let v3590 : BitVec 32 := Scalar.muli arg21 c128_i32_2166
  let v3591 : BitVec 32 := Scalar.addi c1184_i32_2167 v3590
  let c32_i32_2168 : BitVec 32 := 32#32
  let v3592 : BitVec 32 := Scalar.addi v3591 c32_i32_2168
  let c8_i32_2169 : BitVec 32 := 8#32
  let v3593 : BitVec 32 := Scalar.addi v3592 c8_i32_2169
  v3593
def k0_mult95 (k0_t2 : Fin k0_t2_loop.trips) : BitVec 32 :=
  let c1184_i32_2173 : BitVec 32 := 1184#32
  let c0_i32_124 : BitVec 32 := 0#32
  let c1_i32_126 : BitVec 32 := 1#32
  let arg21 : BitVec 32 := Scf.iv c0_i32_124 c1_i32_126 k0_t2
  let c128_i32_2172 : BitVec 32 := 128#32
  let v3601 : BitVec 32 := Scalar.muli arg21 c128_i32_2172
  let v3602 : BitVec 32 := Scalar.addi c1184_i32_2173 v3601
  let c32_i32_2174 : BitVec 32 := 32#32
  let v3603 : BitVec 32 := Scalar.addi v3602 c32_i32_2174
  let c8_i32_2175 : BitVec 32 := 8#32
  let v3604 : BitVec 32 := Scalar.addi v3603 c8_i32_2175
  v3604
def k0_mult96 (k0_t2 : Fin k0_t2_loop.trips) : BitVec 32 :=
  let c1184_i32_2179 : BitVec 32 := 1184#32
  let c0_i32_124 : BitVec 32 := 0#32
  let c1_i32_126 : BitVec 32 := 1#32
  let arg21 : BitVec 32 := Scf.iv c0_i32_124 c1_i32_126 k0_t2
  let c128_i32_2178 : BitVec 32 := 128#32
  let v3612 : BitVec 32 := Scalar.muli arg21 c128_i32_2178
  let v3613 : BitVec 32 := Scalar.addi c1184_i32_2179 v3612
  let c32_i32_2180 : BitVec 32 := 32#32
  let v3614 : BitVec 32 := Scalar.addi v3613 c32_i32_2180
  let c8_i32_2181 : BitVec 32 := 8#32
  let v3615 : BitVec 32 := Scalar.addi v3614 c8_i32_2181
  v3615
def k0_mult97 (k0_t2 : Fin k0_t2_loop.trips) : BitVec 32 :=
  let c1184_i32_2187 : BitVec 32 := 1184#32
  let c0_i32_124 : BitVec 32 := 0#32
  let c1_i32_126 : BitVec 32 := 1#32
  let arg21 : BitVec 32 := Scf.iv c0_i32_124 c1_i32_126 k0_t2
  let c128_i32_2186 : BitVec 32 := 128#32
  let v3633 : BitVec 32 := Scalar.muli arg21 c128_i32_2186
  let v3634 : BitVec 32 := Scalar.addi c1184_i32_2187 v3633
  let c32_i32_2188 : BitVec 32 := 32#32
  let v3635 : BitVec 32 := Scalar.addi v3634 c32_i32_2188
  let c16_i32_2189 : BitVec 32 := 16#32
  let v3636 : BitVec 32 := Scalar.addi v3635 c16_i32_2189
  v3636
def k0_mult98 (k0_t2 : Fin k0_t2_loop.trips) : BitVec 32 :=
  let c1184_i32_2193 : BitVec 32 := 1184#32
  let c0_i32_124 : BitVec 32 := 0#32
  let c1_i32_126 : BitVec 32 := 1#32
  let arg21 : BitVec 32 := Scf.iv c0_i32_124 c1_i32_126 k0_t2
  let c128_i32_2192 : BitVec 32 := 128#32
  let v3644 : BitVec 32 := Scalar.muli arg21 c128_i32_2192
  let v3645 : BitVec 32 := Scalar.addi c1184_i32_2193 v3644
  let c32_i32_2194 : BitVec 32 := 32#32
  let v3646 : BitVec 32 := Scalar.addi v3645 c32_i32_2194
  let c16_i32_2195 : BitVec 32 := 16#32
  let v3647 : BitVec 32 := Scalar.addi v3646 c16_i32_2195
  v3647
def k0_mult99 (k0_t2 : Fin k0_t2_loop.trips) : BitVec 32 :=
  let c1184_i32_2199 : BitVec 32 := 1184#32
  let c0_i32_124 : BitVec 32 := 0#32
  let c1_i32_126 : BitVec 32 := 1#32
  let arg21 : BitVec 32 := Scf.iv c0_i32_124 c1_i32_126 k0_t2
  let c128_i32_2198 : BitVec 32 := 128#32
  let v3655 : BitVec 32 := Scalar.muli arg21 c128_i32_2198
  let v3656 : BitVec 32 := Scalar.addi c1184_i32_2199 v3655
  let c32_i32_2200 : BitVec 32 := 32#32
  let v3657 : BitVec 32 := Scalar.addi v3656 c32_i32_2200
  let c16_i32_2201 : BitVec 32 := 16#32
  let v3658 : BitVec 32 := Scalar.addi v3657 c16_i32_2201
  v3658
def k0_mult100 (k0_t2 : Fin k0_t2_loop.trips) : BitVec 32 :=
  let c1184_i32_2205 : BitVec 32 := 1184#32
  let c0_i32_124 : BitVec 32 := 0#32
  let c1_i32_126 : BitVec 32 := 1#32
  let arg21 : BitVec 32 := Scf.iv c0_i32_124 c1_i32_126 k0_t2
  let c128_i32_2204 : BitVec 32 := 128#32
  let v3666 : BitVec 32 := Scalar.muli arg21 c128_i32_2204
  let v3667 : BitVec 32 := Scalar.addi c1184_i32_2205 v3666
  let c32_i32_2206 : BitVec 32 := 32#32
  let v3668 : BitVec 32 := Scalar.addi v3667 c32_i32_2206
  let c16_i32_2207 : BitVec 32 := 16#32
  let v3669 : BitVec 32 := Scalar.addi v3668 c16_i32_2207
  v3669
def k0_mult101 (k0_t2 : Fin k0_t2_loop.trips) : BitVec 32 :=
  let c1184_i32_2213 : BitVec 32 := 1184#32
  let c0_i32_124 : BitVec 32 := 0#32
  let c1_i32_126 : BitVec 32 := 1#32
  let arg21 : BitVec 32 := Scf.iv c0_i32_124 c1_i32_126 k0_t2
  let c128_i32_2212 : BitVec 32 := 128#32
  let v3687 : BitVec 32 := Scalar.muli arg21 c128_i32_2212
  let v3688 : BitVec 32 := Scalar.addi c1184_i32_2213 v3687
  let c32_i32_2214 : BitVec 32 := 32#32
  let v3689 : BitVec 32 := Scalar.addi v3688 c32_i32_2214
  let c24_i32_2215 : BitVec 32 := 24#32
  let v3690 : BitVec 32 := Scalar.addi v3689 c24_i32_2215
  v3690
def k0_mult102 (k0_t2 : Fin k0_t2_loop.trips) : BitVec 32 :=
  let c1184_i32_2219 : BitVec 32 := 1184#32
  let c0_i32_124 : BitVec 32 := 0#32
  let c1_i32_126 : BitVec 32 := 1#32
  let arg21 : BitVec 32 := Scf.iv c0_i32_124 c1_i32_126 k0_t2
  let c128_i32_2218 : BitVec 32 := 128#32
  let v3698 : BitVec 32 := Scalar.muli arg21 c128_i32_2218
  let v3699 : BitVec 32 := Scalar.addi c1184_i32_2219 v3698
  let c32_i32_2220 : BitVec 32 := 32#32
  let v3700 : BitVec 32 := Scalar.addi v3699 c32_i32_2220
  let c24_i32_2221 : BitVec 32 := 24#32
  let v3701 : BitVec 32 := Scalar.addi v3700 c24_i32_2221
  v3701
def k0_mult103 (k0_t2 : Fin k0_t2_loop.trips) : BitVec 32 :=
  let c1184_i32_2225 : BitVec 32 := 1184#32
  let c0_i32_124 : BitVec 32 := 0#32
  let c1_i32_126 : BitVec 32 := 1#32
  let arg21 : BitVec 32 := Scf.iv c0_i32_124 c1_i32_126 k0_t2
  let c128_i32_2224 : BitVec 32 := 128#32
  let v3709 : BitVec 32 := Scalar.muli arg21 c128_i32_2224
  let v3710 : BitVec 32 := Scalar.addi c1184_i32_2225 v3709
  let c32_i32_2226 : BitVec 32 := 32#32
  let v3711 : BitVec 32 := Scalar.addi v3710 c32_i32_2226
  let c24_i32_2227 : BitVec 32 := 24#32
  let v3712 : BitVec 32 := Scalar.addi v3711 c24_i32_2227
  v3712
def k0_mult104 (k0_t2 : Fin k0_t2_loop.trips) : BitVec 32 :=
  let c1184_i32_2231 : BitVec 32 := 1184#32
  let c0_i32_124 : BitVec 32 := 0#32
  let c1_i32_126 : BitVec 32 := 1#32
  let arg21 : BitVec 32 := Scf.iv c0_i32_124 c1_i32_126 k0_t2
  let c128_i32_2230 : BitVec 32 := 128#32
  let v3720 : BitVec 32 := Scalar.muli arg21 c128_i32_2230
  let v3721 : BitVec 32 := Scalar.addi c1184_i32_2231 v3720
  let c32_i32_2232 : BitVec 32 := 32#32
  let v3722 : BitVec 32 := Scalar.addi v3721 c32_i32_2232
  let c24_i32_2233 : BitVec 32 := 24#32
  let v3723 : BitVec 32 := Scalar.addi v3722 c24_i32_2233
  v3723
def k0_mult105 (k0_t2 : Fin k0_t2_loop.trips) : BitVec 32 :=
  let c0_i32_124 : BitVec 32 := 0#32
  let c1_i32_126 : BitVec 32 := 1#32
  let arg21 : BitVec 32 := Scf.iv c0_i32_124 c1_i32_126 k0_t2
  let c128_i32_2236 : BitVec 32 := 128#32
  let v3729 : BitVec 32 := Scalar.muli arg21 c128_i32_2236
  let c64_i32 : BitVec 32 := 64#32
  let v3730 : BitVec 32 := Scalar.addi v3729 c64_i32
  v3730
def k0_mult106 (k0_t2 : Fin k0_t2_loop.trips) : BitVec 32 :=
  let c1184_i32_2243 : BitVec 32 := 1184#32
  let c0_i32_124 : BitVec 32 := 0#32
  let c1_i32_126 : BitVec 32 := 1#32
  let arg21 : BitVec 32 := Scf.iv c0_i32_124 c1_i32_126 k0_t2
  let c128_i32_2242 : BitVec 32 := 128#32
  let v3748 : BitVec 32 := Scalar.muli arg21 c128_i32_2242
  let v3749 : BitVec 32 := Scalar.addi c1184_i32_2243 v3748
  let c64_i32_2244 : BitVec 32 := 64#32
  let v3750 : BitVec 32 := Scalar.addi v3749 c64_i32_2244
  let c0_i32_2245 : BitVec 32 := 0#32
  let v3751 : BitVec 32 := Scalar.addi v3750 c0_i32_2245
  v3751
def k0_mult107 (k0_t2 : Fin k0_t2_loop.trips) : BitVec 32 :=
  let c1184_i32_2249 : BitVec 32 := 1184#32
  let c0_i32_124 : BitVec 32 := 0#32
  let c1_i32_126 : BitVec 32 := 1#32
  let arg21 : BitVec 32 := Scf.iv c0_i32_124 c1_i32_126 k0_t2
  let c128_i32_2248 : BitVec 32 := 128#32
  let v3759 : BitVec 32 := Scalar.muli arg21 c128_i32_2248
  let v3760 : BitVec 32 := Scalar.addi c1184_i32_2249 v3759
  let c64_i32_2250 : BitVec 32 := 64#32
  let v3761 : BitVec 32 := Scalar.addi v3760 c64_i32_2250
  let c0_i32_2251 : BitVec 32 := 0#32
  let v3762 : BitVec 32 := Scalar.addi v3761 c0_i32_2251
  v3762
def k0_mult108 (k0_t2 : Fin k0_t2_loop.trips) : BitVec 32 :=
  let c1184_i32_2255 : BitVec 32 := 1184#32
  let c0_i32_124 : BitVec 32 := 0#32
  let c1_i32_126 : BitVec 32 := 1#32
  let arg21 : BitVec 32 := Scf.iv c0_i32_124 c1_i32_126 k0_t2
  let c128_i32_2254 : BitVec 32 := 128#32
  let v3770 : BitVec 32 := Scalar.muli arg21 c128_i32_2254
  let v3771 : BitVec 32 := Scalar.addi c1184_i32_2255 v3770
  let c64_i32_2256 : BitVec 32 := 64#32
  let v3772 : BitVec 32 := Scalar.addi v3771 c64_i32_2256
  let c0_i32_2257 : BitVec 32 := 0#32
  let v3773 : BitVec 32 := Scalar.addi v3772 c0_i32_2257
  v3773
def k0_mult109 (k0_t2 : Fin k0_t2_loop.trips) : BitVec 32 :=
  let c1184_i32_2261 : BitVec 32 := 1184#32
  let c0_i32_124 : BitVec 32 := 0#32
  let c1_i32_126 : BitVec 32 := 1#32
  let arg21 : BitVec 32 := Scf.iv c0_i32_124 c1_i32_126 k0_t2
  let c128_i32_2260 : BitVec 32 := 128#32
  let v3781 : BitVec 32 := Scalar.muli arg21 c128_i32_2260
  let v3782 : BitVec 32 := Scalar.addi c1184_i32_2261 v3781
  let c64_i32_2262 : BitVec 32 := 64#32
  let v3783 : BitVec 32 := Scalar.addi v3782 c64_i32_2262
  let c0_i32_2263 : BitVec 32 := 0#32
  let v3784 : BitVec 32 := Scalar.addi v3783 c0_i32_2263
  v3784
def k0_mult110 (k0_t2 : Fin k0_t2_loop.trips) : BitVec 32 :=
  let c1184_i32_2269 : BitVec 32 := 1184#32
  let c0_i32_124 : BitVec 32 := 0#32
  let c1_i32_126 : BitVec 32 := 1#32
  let arg21 : BitVec 32 := Scf.iv c0_i32_124 c1_i32_126 k0_t2
  let c128_i32_2268 : BitVec 32 := 128#32
  let v3802 : BitVec 32 := Scalar.muli arg21 c128_i32_2268
  let v3803 : BitVec 32 := Scalar.addi c1184_i32_2269 v3802
  let c64_i32_2270 : BitVec 32 := 64#32
  let v3804 : BitVec 32 := Scalar.addi v3803 c64_i32_2270
  let c8_i32_2271 : BitVec 32 := 8#32
  let v3805 : BitVec 32 := Scalar.addi v3804 c8_i32_2271
  v3805
def k0_mult111 (k0_t2 : Fin k0_t2_loop.trips) : BitVec 32 :=
  let c1184_i32_2275 : BitVec 32 := 1184#32
  let c0_i32_124 : BitVec 32 := 0#32
  let c1_i32_126 : BitVec 32 := 1#32
  let arg21 : BitVec 32 := Scf.iv c0_i32_124 c1_i32_126 k0_t2
  let c128_i32_2274 : BitVec 32 := 128#32
  let v3813 : BitVec 32 := Scalar.muli arg21 c128_i32_2274
  let v3814 : BitVec 32 := Scalar.addi c1184_i32_2275 v3813
  let c64_i32_2276 : BitVec 32 := 64#32
  let v3815 : BitVec 32 := Scalar.addi v3814 c64_i32_2276
  let c8_i32_2277 : BitVec 32 := 8#32
  let v3816 : BitVec 32 := Scalar.addi v3815 c8_i32_2277
  v3816
def k0_mult112 (k0_t2 : Fin k0_t2_loop.trips) : BitVec 32 :=
  let c1184_i32_2281 : BitVec 32 := 1184#32
  let c0_i32_124 : BitVec 32 := 0#32
  let c1_i32_126 : BitVec 32 := 1#32
  let arg21 : BitVec 32 := Scf.iv c0_i32_124 c1_i32_126 k0_t2
  let c128_i32_2280 : BitVec 32 := 128#32
  let v3824 : BitVec 32 := Scalar.muli arg21 c128_i32_2280
  let v3825 : BitVec 32 := Scalar.addi c1184_i32_2281 v3824
  let c64_i32_2282 : BitVec 32 := 64#32
  let v3826 : BitVec 32 := Scalar.addi v3825 c64_i32_2282
  let c8_i32_2283 : BitVec 32 := 8#32
  let v3827 : BitVec 32 := Scalar.addi v3826 c8_i32_2283
  v3827
def k0_mult113 (k0_t2 : Fin k0_t2_loop.trips) : BitVec 32 :=
  let c1184_i32_2287 : BitVec 32 := 1184#32
  let c0_i32_124 : BitVec 32 := 0#32
  let c1_i32_126 : BitVec 32 := 1#32
  let arg21 : BitVec 32 := Scf.iv c0_i32_124 c1_i32_126 k0_t2
  let c128_i32_2286 : BitVec 32 := 128#32
  let v3835 : BitVec 32 := Scalar.muli arg21 c128_i32_2286
  let v3836 : BitVec 32 := Scalar.addi c1184_i32_2287 v3835
  let c64_i32_2288 : BitVec 32 := 64#32
  let v3837 : BitVec 32 := Scalar.addi v3836 c64_i32_2288
  let c8_i32_2289 : BitVec 32 := 8#32
  let v3838 : BitVec 32 := Scalar.addi v3837 c8_i32_2289
  v3838
def k0_mult114 (k0_t2 : Fin k0_t2_loop.trips) : BitVec 32 :=
  let c1184_i32_2295 : BitVec 32 := 1184#32
  let c0_i32_124 : BitVec 32 := 0#32
  let c1_i32_126 : BitVec 32 := 1#32
  let arg21 : BitVec 32 := Scf.iv c0_i32_124 c1_i32_126 k0_t2
  let c128_i32_2294 : BitVec 32 := 128#32
  let v3856 : BitVec 32 := Scalar.muli arg21 c128_i32_2294
  let v3857 : BitVec 32 := Scalar.addi c1184_i32_2295 v3856
  let c64_i32_2296 : BitVec 32 := 64#32
  let v3858 : BitVec 32 := Scalar.addi v3857 c64_i32_2296
  let c16_i32_2297 : BitVec 32 := 16#32
  let v3859 : BitVec 32 := Scalar.addi v3858 c16_i32_2297
  v3859
def k0_mult115 (k0_t2 : Fin k0_t2_loop.trips) : BitVec 32 :=
  let c1184_i32_2301 : BitVec 32 := 1184#32
  let c0_i32_124 : BitVec 32 := 0#32
  let c1_i32_126 : BitVec 32 := 1#32
  let arg21 : BitVec 32 := Scf.iv c0_i32_124 c1_i32_126 k0_t2
  let c128_i32_2300 : BitVec 32 := 128#32
  let v3867 : BitVec 32 := Scalar.muli arg21 c128_i32_2300
  let v3868 : BitVec 32 := Scalar.addi c1184_i32_2301 v3867
  let c64_i32_2302 : BitVec 32 := 64#32
  let v3869 : BitVec 32 := Scalar.addi v3868 c64_i32_2302
  let c16_i32_2303 : BitVec 32 := 16#32
  let v3870 : BitVec 32 := Scalar.addi v3869 c16_i32_2303
  v3870
def k0_mult116 (k0_t2 : Fin k0_t2_loop.trips) : BitVec 32 :=
  let c1184_i32_2307 : BitVec 32 := 1184#32
  let c0_i32_124 : BitVec 32 := 0#32
  let c1_i32_126 : BitVec 32 := 1#32
  let arg21 : BitVec 32 := Scf.iv c0_i32_124 c1_i32_126 k0_t2
  let c128_i32_2306 : BitVec 32 := 128#32
  let v3878 : BitVec 32 := Scalar.muli arg21 c128_i32_2306
  let v3879 : BitVec 32 := Scalar.addi c1184_i32_2307 v3878
  let c64_i32_2308 : BitVec 32 := 64#32
  let v3880 : BitVec 32 := Scalar.addi v3879 c64_i32_2308
  let c16_i32_2309 : BitVec 32 := 16#32
  let v3881 : BitVec 32 := Scalar.addi v3880 c16_i32_2309
  v3881
def k0_mult117 (k0_t2 : Fin k0_t2_loop.trips) : BitVec 32 :=
  let c1184_i32_2313 : BitVec 32 := 1184#32
  let c0_i32_124 : BitVec 32 := 0#32
  let c1_i32_126 : BitVec 32 := 1#32
  let arg21 : BitVec 32 := Scf.iv c0_i32_124 c1_i32_126 k0_t2
  let c128_i32_2312 : BitVec 32 := 128#32
  let v3889 : BitVec 32 := Scalar.muli arg21 c128_i32_2312
  let v3890 : BitVec 32 := Scalar.addi c1184_i32_2313 v3889
  let c64_i32_2314 : BitVec 32 := 64#32
  let v3891 : BitVec 32 := Scalar.addi v3890 c64_i32_2314
  let c16_i32_2315 : BitVec 32 := 16#32
  let v3892 : BitVec 32 := Scalar.addi v3891 c16_i32_2315
  v3892
def k0_mult118 (k0_t2 : Fin k0_t2_loop.trips) : BitVec 32 :=
  let c1184_i32_2321 : BitVec 32 := 1184#32
  let c0_i32_124 : BitVec 32 := 0#32
  let c1_i32_126 : BitVec 32 := 1#32
  let arg21 : BitVec 32 := Scf.iv c0_i32_124 c1_i32_126 k0_t2
  let c128_i32_2320 : BitVec 32 := 128#32
  let v3910 : BitVec 32 := Scalar.muli arg21 c128_i32_2320
  let v3911 : BitVec 32 := Scalar.addi c1184_i32_2321 v3910
  let c64_i32_2322 : BitVec 32 := 64#32
  let v3912 : BitVec 32 := Scalar.addi v3911 c64_i32_2322
  let c24_i32_2323 : BitVec 32 := 24#32
  let v3913 : BitVec 32 := Scalar.addi v3912 c24_i32_2323
  v3913
def k0_mult119 (k0_t2 : Fin k0_t2_loop.trips) : BitVec 32 :=
  let c1184_i32_2327 : BitVec 32 := 1184#32
  let c0_i32_124 : BitVec 32 := 0#32
  let c1_i32_126 : BitVec 32 := 1#32
  let arg21 : BitVec 32 := Scf.iv c0_i32_124 c1_i32_126 k0_t2
  let c128_i32_2326 : BitVec 32 := 128#32
  let v3921 : BitVec 32 := Scalar.muli arg21 c128_i32_2326
  let v3922 : BitVec 32 := Scalar.addi c1184_i32_2327 v3921
  let c64_i32_2328 : BitVec 32 := 64#32
  let v3923 : BitVec 32 := Scalar.addi v3922 c64_i32_2328
  let c24_i32_2329 : BitVec 32 := 24#32
  let v3924 : BitVec 32 := Scalar.addi v3923 c24_i32_2329
  v3924
def k0_mult120 (k0_t2 : Fin k0_t2_loop.trips) : BitVec 32 :=
  let c1184_i32_2333 : BitVec 32 := 1184#32
  let c0_i32_124 : BitVec 32 := 0#32
  let c1_i32_126 : BitVec 32 := 1#32
  let arg21 : BitVec 32 := Scf.iv c0_i32_124 c1_i32_126 k0_t2
  let c128_i32_2332 : BitVec 32 := 128#32
  let v3932 : BitVec 32 := Scalar.muli arg21 c128_i32_2332
  let v3933 : BitVec 32 := Scalar.addi c1184_i32_2333 v3932
  let c64_i32_2334 : BitVec 32 := 64#32
  let v3934 : BitVec 32 := Scalar.addi v3933 c64_i32_2334
  let c24_i32_2335 : BitVec 32 := 24#32
  let v3935 : BitVec 32 := Scalar.addi v3934 c24_i32_2335
  v3935
def k0_mult121 (k0_t2 : Fin k0_t2_loop.trips) : BitVec 32 :=
  let c1184_i32_2339 : BitVec 32 := 1184#32
  let c0_i32_124 : BitVec 32 := 0#32
  let c1_i32_126 : BitVec 32 := 1#32
  let arg21 : BitVec 32 := Scf.iv c0_i32_124 c1_i32_126 k0_t2
  let c128_i32_2338 : BitVec 32 := 128#32
  let v3943 : BitVec 32 := Scalar.muli arg21 c128_i32_2338
  let v3944 : BitVec 32 := Scalar.addi c1184_i32_2339 v3943
  let c64_i32_2340 : BitVec 32 := 64#32
  let v3945 : BitVec 32 := Scalar.addi v3944 c64_i32_2340
  let c24_i32_2341 : BitVec 32 := 24#32
  let v3946 : BitVec 32 := Scalar.addi v3945 c24_i32_2341
  v3946
def k0_mult122 (k0_t2 : Fin k0_t2_loop.trips) : BitVec 32 :=
  let c0_i32_124 : BitVec 32 := 0#32
  let c1_i32_126 : BitVec 32 := 1#32
  let arg21 : BitVec 32 := Scf.iv c0_i32_124 c1_i32_126 k0_t2
  let c128_i32_2344 : BitVec 32 := 128#32
  let v3952 : BitVec 32 := Scalar.muli arg21 c128_i32_2344
  let c96_i32 : BitVec 32 := 96#32
  let v3953 : BitVec 32 := Scalar.addi v3952 c96_i32
  v3953
def k0_mult123 (k0_t2 : Fin k0_t2_loop.trips) : BitVec 32 :=
  let c1184_i32_2351 : BitVec 32 := 1184#32
  let c0_i32_124 : BitVec 32 := 0#32
  let c1_i32_126 : BitVec 32 := 1#32
  let arg21 : BitVec 32 := Scf.iv c0_i32_124 c1_i32_126 k0_t2
  let c128_i32_2350 : BitVec 32 := 128#32
  let v3971 : BitVec 32 := Scalar.muli arg21 c128_i32_2350
  let v3972 : BitVec 32 := Scalar.addi c1184_i32_2351 v3971
  let c96_i32_2352 : BitVec 32 := 96#32
  let v3973 : BitVec 32 := Scalar.addi v3972 c96_i32_2352
  let c0_i32_2353 : BitVec 32 := 0#32
  let v3974 : BitVec 32 := Scalar.addi v3973 c0_i32_2353
  v3974
def k0_mult124 (k0_t2 : Fin k0_t2_loop.trips) : BitVec 32 :=
  let c1184_i32_2357 : BitVec 32 := 1184#32
  let c0_i32_124 : BitVec 32 := 0#32
  let c1_i32_126 : BitVec 32 := 1#32
  let arg21 : BitVec 32 := Scf.iv c0_i32_124 c1_i32_126 k0_t2
  let c128_i32_2356 : BitVec 32 := 128#32
  let v3982 : BitVec 32 := Scalar.muli arg21 c128_i32_2356
  let v3983 : BitVec 32 := Scalar.addi c1184_i32_2357 v3982
  let c96_i32_2358 : BitVec 32 := 96#32
  let v3984 : BitVec 32 := Scalar.addi v3983 c96_i32_2358
  let c0_i32_2359 : BitVec 32 := 0#32
  let v3985 : BitVec 32 := Scalar.addi v3984 c0_i32_2359
  v3985
def k0_mult125 (k0_t2 : Fin k0_t2_loop.trips) : BitVec 32 :=
  let c1184_i32_2363 : BitVec 32 := 1184#32
  let c0_i32_124 : BitVec 32 := 0#32
  let c1_i32_126 : BitVec 32 := 1#32
  let arg21 : BitVec 32 := Scf.iv c0_i32_124 c1_i32_126 k0_t2
  let c128_i32_2362 : BitVec 32 := 128#32
  let v3993 : BitVec 32 := Scalar.muli arg21 c128_i32_2362
  let v3994 : BitVec 32 := Scalar.addi c1184_i32_2363 v3993
  let c96_i32_2364 : BitVec 32 := 96#32
  let v3995 : BitVec 32 := Scalar.addi v3994 c96_i32_2364
  let c0_i32_2365 : BitVec 32 := 0#32
  let v3996 : BitVec 32 := Scalar.addi v3995 c0_i32_2365
  v3996
def k0_mult126 (k0_t2 : Fin k0_t2_loop.trips) : BitVec 32 :=
  let c1184_i32_2369 : BitVec 32 := 1184#32
  let c0_i32_124 : BitVec 32 := 0#32
  let c1_i32_126 : BitVec 32 := 1#32
  let arg21 : BitVec 32 := Scf.iv c0_i32_124 c1_i32_126 k0_t2
  let c128_i32_2368 : BitVec 32 := 128#32
  let v4004 : BitVec 32 := Scalar.muli arg21 c128_i32_2368
  let v4005 : BitVec 32 := Scalar.addi c1184_i32_2369 v4004
  let c96_i32_2370 : BitVec 32 := 96#32
  let v4006 : BitVec 32 := Scalar.addi v4005 c96_i32_2370
  let c0_i32_2371 : BitVec 32 := 0#32
  let v4007 : BitVec 32 := Scalar.addi v4006 c0_i32_2371
  v4007
def k0_mult127 (k0_t2 : Fin k0_t2_loop.trips) : BitVec 32 :=
  let c1184_i32_2377 : BitVec 32 := 1184#32
  let c0_i32_124 : BitVec 32 := 0#32
  let c1_i32_126 : BitVec 32 := 1#32
  let arg21 : BitVec 32 := Scf.iv c0_i32_124 c1_i32_126 k0_t2
  let c128_i32_2376 : BitVec 32 := 128#32
  let v4025 : BitVec 32 := Scalar.muli arg21 c128_i32_2376
  let v4026 : BitVec 32 := Scalar.addi c1184_i32_2377 v4025
  let c96_i32_2378 : BitVec 32 := 96#32
  let v4027 : BitVec 32 := Scalar.addi v4026 c96_i32_2378
  let c8_i32_2379 : BitVec 32 := 8#32
  let v4028 : BitVec 32 := Scalar.addi v4027 c8_i32_2379
  v4028
def k0_mult128 (k0_t2 : Fin k0_t2_loop.trips) : BitVec 32 :=
  let c1184_i32_2383 : BitVec 32 := 1184#32
  let c0_i32_124 : BitVec 32 := 0#32
  let c1_i32_126 : BitVec 32 := 1#32
  let arg21 : BitVec 32 := Scf.iv c0_i32_124 c1_i32_126 k0_t2
  let c128_i32_2382 : BitVec 32 := 128#32
  let v4036 : BitVec 32 := Scalar.muli arg21 c128_i32_2382
  let v4037 : BitVec 32 := Scalar.addi c1184_i32_2383 v4036
  let c96_i32_2384 : BitVec 32 := 96#32
  let v4038 : BitVec 32 := Scalar.addi v4037 c96_i32_2384
  let c8_i32_2385 : BitVec 32 := 8#32
  let v4039 : BitVec 32 := Scalar.addi v4038 c8_i32_2385
  v4039
def k0_mult129 (k0_t2 : Fin k0_t2_loop.trips) : BitVec 32 :=
  let c1184_i32_2389 : BitVec 32 := 1184#32
  let c0_i32_124 : BitVec 32 := 0#32
  let c1_i32_126 : BitVec 32 := 1#32
  let arg21 : BitVec 32 := Scf.iv c0_i32_124 c1_i32_126 k0_t2
  let c128_i32_2388 : BitVec 32 := 128#32
  let v4047 : BitVec 32 := Scalar.muli arg21 c128_i32_2388
  let v4048 : BitVec 32 := Scalar.addi c1184_i32_2389 v4047
  let c96_i32_2390 : BitVec 32 := 96#32
  let v4049 : BitVec 32 := Scalar.addi v4048 c96_i32_2390
  let c8_i32_2391 : BitVec 32 := 8#32
  let v4050 : BitVec 32 := Scalar.addi v4049 c8_i32_2391
  v4050
def k0_mult130 (k0_t2 : Fin k0_t2_loop.trips) : BitVec 32 :=
  let c1184_i32_2395 : BitVec 32 := 1184#32
  let c0_i32_124 : BitVec 32 := 0#32
  let c1_i32_126 : BitVec 32 := 1#32
  let arg21 : BitVec 32 := Scf.iv c0_i32_124 c1_i32_126 k0_t2
  let c128_i32_2394 : BitVec 32 := 128#32
  let v4058 : BitVec 32 := Scalar.muli arg21 c128_i32_2394
  let v4059 : BitVec 32 := Scalar.addi c1184_i32_2395 v4058
  let c96_i32_2396 : BitVec 32 := 96#32
  let v4060 : BitVec 32 := Scalar.addi v4059 c96_i32_2396
  let c8_i32_2397 : BitVec 32 := 8#32
  let v4061 : BitVec 32 := Scalar.addi v4060 c8_i32_2397
  v4061
def k0_mult131 (k0_t2 : Fin k0_t2_loop.trips) : BitVec 32 :=
  let c1184_i32_2403 : BitVec 32 := 1184#32
  let c0_i32_124 : BitVec 32 := 0#32
  let c1_i32_126 : BitVec 32 := 1#32
  let arg21 : BitVec 32 := Scf.iv c0_i32_124 c1_i32_126 k0_t2
  let c128_i32_2402 : BitVec 32 := 128#32
  let v4079 : BitVec 32 := Scalar.muli arg21 c128_i32_2402
  let v4080 : BitVec 32 := Scalar.addi c1184_i32_2403 v4079
  let c96_i32_2404 : BitVec 32 := 96#32
  let v4081 : BitVec 32 := Scalar.addi v4080 c96_i32_2404
  let c16_i32_2405 : BitVec 32 := 16#32
  let v4082 : BitVec 32 := Scalar.addi v4081 c16_i32_2405
  v4082
def k0_mult132 (k0_t2 : Fin k0_t2_loop.trips) : BitVec 32 :=
  let c1184_i32_2409 : BitVec 32 := 1184#32
  let c0_i32_124 : BitVec 32 := 0#32
  let c1_i32_126 : BitVec 32 := 1#32
  let arg21 : BitVec 32 := Scf.iv c0_i32_124 c1_i32_126 k0_t2
  let c128_i32_2408 : BitVec 32 := 128#32
  let v4090 : BitVec 32 := Scalar.muli arg21 c128_i32_2408
  let v4091 : BitVec 32 := Scalar.addi c1184_i32_2409 v4090
  let c96_i32_2410 : BitVec 32 := 96#32
  let v4092 : BitVec 32 := Scalar.addi v4091 c96_i32_2410
  let c16_i32_2411 : BitVec 32 := 16#32
  let v4093 : BitVec 32 := Scalar.addi v4092 c16_i32_2411
  v4093
def k0_mult133 (k0_t2 : Fin k0_t2_loop.trips) : BitVec 32 :=
  let c1184_i32_2415 : BitVec 32 := 1184#32
  let c0_i32_124 : BitVec 32 := 0#32
  let c1_i32_126 : BitVec 32 := 1#32
  let arg21 : BitVec 32 := Scf.iv c0_i32_124 c1_i32_126 k0_t2
  let c128_i32_2414 : BitVec 32 := 128#32
  let v4101 : BitVec 32 := Scalar.muli arg21 c128_i32_2414
  let v4102 : BitVec 32 := Scalar.addi c1184_i32_2415 v4101
  let c96_i32_2416 : BitVec 32 := 96#32
  let v4103 : BitVec 32 := Scalar.addi v4102 c96_i32_2416
  let c16_i32_2417 : BitVec 32 := 16#32
  let v4104 : BitVec 32 := Scalar.addi v4103 c16_i32_2417
  v4104
def k0_mult134 (k0_t2 : Fin k0_t2_loop.trips) : BitVec 32 :=
  let c1184_i32_2421 : BitVec 32 := 1184#32
  let c0_i32_124 : BitVec 32 := 0#32
  let c1_i32_126 : BitVec 32 := 1#32
  let arg21 : BitVec 32 := Scf.iv c0_i32_124 c1_i32_126 k0_t2
  let c128_i32_2420 : BitVec 32 := 128#32
  let v4112 : BitVec 32 := Scalar.muli arg21 c128_i32_2420
  let v4113 : BitVec 32 := Scalar.addi c1184_i32_2421 v4112
  let c96_i32_2422 : BitVec 32 := 96#32
  let v4114 : BitVec 32 := Scalar.addi v4113 c96_i32_2422
  let c16_i32_2423 : BitVec 32 := 16#32
  let v4115 : BitVec 32 := Scalar.addi v4114 c16_i32_2423
  v4115
def k0_mult135 (k0_t2 : Fin k0_t2_loop.trips) : BitVec 32 :=
  let c1184_i32_2429 : BitVec 32 := 1184#32
  let c0_i32_124 : BitVec 32 := 0#32
  let c1_i32_126 : BitVec 32 := 1#32
  let arg21 : BitVec 32 := Scf.iv c0_i32_124 c1_i32_126 k0_t2
  let c128_i32_2428 : BitVec 32 := 128#32
  let v4133 : BitVec 32 := Scalar.muli arg21 c128_i32_2428
  let v4134 : BitVec 32 := Scalar.addi c1184_i32_2429 v4133
  let c96_i32_2430 : BitVec 32 := 96#32
  let v4135 : BitVec 32 := Scalar.addi v4134 c96_i32_2430
  let c24_i32_2431 : BitVec 32 := 24#32
  let v4136 : BitVec 32 := Scalar.addi v4135 c24_i32_2431
  v4136
def k0_mult136 (k0_t2 : Fin k0_t2_loop.trips) : BitVec 32 :=
  let c1184_i32_2435 : BitVec 32 := 1184#32
  let c0_i32_124 : BitVec 32 := 0#32
  let c1_i32_126 : BitVec 32 := 1#32
  let arg21 : BitVec 32 := Scf.iv c0_i32_124 c1_i32_126 k0_t2
  let c128_i32_2434 : BitVec 32 := 128#32
  let v4144 : BitVec 32 := Scalar.muli arg21 c128_i32_2434
  let v4145 : BitVec 32 := Scalar.addi c1184_i32_2435 v4144
  let c96_i32_2436 : BitVec 32 := 96#32
  let v4146 : BitVec 32 := Scalar.addi v4145 c96_i32_2436
  let c24_i32_2437 : BitVec 32 := 24#32
  let v4147 : BitVec 32 := Scalar.addi v4146 c24_i32_2437
  v4147
def k0_mult137 (k0_t2 : Fin k0_t2_loop.trips) : BitVec 32 :=
  let c1184_i32_2441 : BitVec 32 := 1184#32
  let c0_i32_124 : BitVec 32 := 0#32
  let c1_i32_126 : BitVec 32 := 1#32
  let arg21 : BitVec 32 := Scf.iv c0_i32_124 c1_i32_126 k0_t2
  let c128_i32_2440 : BitVec 32 := 128#32
  let v4155 : BitVec 32 := Scalar.muli arg21 c128_i32_2440
  let v4156 : BitVec 32 := Scalar.addi c1184_i32_2441 v4155
  let c96_i32_2442 : BitVec 32 := 96#32
  let v4157 : BitVec 32 := Scalar.addi v4156 c96_i32_2442
  let c24_i32_2443 : BitVec 32 := 24#32
  let v4158 : BitVec 32 := Scalar.addi v4157 c24_i32_2443
  v4158
def k0_mult138 (k0_t2 : Fin k0_t2_loop.trips) : BitVec 32 :=
  let c1184_i32_2447 : BitVec 32 := 1184#32
  let c0_i32_124 : BitVec 32 := 0#32
  let c1_i32_126 : BitVec 32 := 1#32
  let arg21 : BitVec 32 := Scf.iv c0_i32_124 c1_i32_126 k0_t2
  let c128_i32_2446 : BitVec 32 := 128#32
  let v4166 : BitVec 32 := Scalar.muli arg21 c128_i32_2446
  let v4167 : BitVec 32 := Scalar.addi c1184_i32_2447 v4166
  let c96_i32_2448 : BitVec 32 := 96#32
  let v4168 : BitVec 32 := Scalar.addi v4167 c96_i32_2448
  let c24_i32_2449 : BitVec 32 := 24#32
  let v4169 : BitVec 32 := Scalar.addi v4168 c24_i32_2449
  v4169
@[reducible] def k0_t3_loop : Scf.Loop 32 :=
  let c0_i32_165 : BitVec 32 := 0#32
  let c9_i32_166 : BitVec 32 := 9#32
  let v376 : BitVec 32 := Scalar.addi c0_i32_165 c9_i32_166
  let c1_i32_167 : BitVec 32 := 1#32
  ⟨c0_i32_165, v376, c1_i32_167⟩
def k0_mult139 (k0_t3 : Fin k0_t3_loop.trips) : BitVec 32 :=
  let c0_i32_165 : BitVec 32 := 0#32
  let c1_i32_167 : BitVec 32 := 1#32
  let arg21 : BitVec 32 := Scf.iv c0_i32_165 c1_i32_167 k0_t3
  let c128_i32 : BitVec 32 := 128#32
  let v3276 : BitVec 32 := Scalar.muli arg21 c128_i32
  v3276
def k0_off13 (k0_t3 : Fin k0_t3_loop.trips) : Fin 3 → Nat :=
  let c2_2017 : Index := 2#32
  let c0_2018 : Index := 0#32
  let c0_i32_165 : BitVec 32 := 0#32
  let c1_i32_167 : BitVec 32 := 1#32
  let arg21 : BitVec 32 := Scf.iv c0_i32_165 c1_i32_167 k0_t3
  let c128_i32 : BitVec 32 := 128#32
  let v3276 : BitVec 32 := Scalar.muli arg21 c128_i32
  let v3277 : BitVec 32 := v3276
  let v3278 : Index := Scalar.indexCast v3277
  ![2, 0, v3278.toNat]
def k0_mult140 (k0_t3 : Fin k0_t3_loop.trips) : BitVec 32 :=
  let c0_i32_165 : BitVec 32 := 0#32
  let c1_i32_167 : BitVec 32 := 1#32
  let arg21 : BitVec 32 := Scf.iv c0_i32_165 c1_i32_167 k0_t3
  let c128_i32_2019 : BitVec 32 := 128#32
  let v3283 : BitVec 32 := Scalar.muli arg21 c128_i32_2019
  let c0_i32_2020 : BitVec 32 := 0#32
  let v3284 : BitVec 32 := Scalar.addi v3283 c0_i32_2020
  v3284
def k0_off14 (k0_t3 : Fin k0_t3_loop.trips) (c0_i32_2020 : BitVec 32) : Fin 3 → Nat :=
  let c2_2021 : Index := 2#32
  let c0_i32_165 : BitVec 32 := 0#32
  let c1_i32_167 : BitVec 32 := 1#32
  let arg21 : BitVec 32 := Scf.iv c0_i32_165 c1_i32_167 k0_t3
  let c128_i32_2019 : BitVec 32 := 128#32
  let v3283 : BitVec 32 := Scalar.muli arg21 c128_i32_2019
  let v3284 : BitVec 32 := Scalar.addi v3283 c0_i32_2020
  let v3285 : BitVec 32 := v3284
  let v3286 : Index := Scalar.indexCast v3285
  let c0_2022 : Index := 0#32
  ![2, v3286.toNat, 0]
def k0_mult141 (k0_t3 : Fin k0_t3_loop.trips) : BitVec 32 :=
  let c2352_i32 : BitVec 32 := 2352#32
  let c0_i32_165 : BitVec 32 := 0#32
  let c1_i32_167 : BitVec 32 := 1#32
  let arg21 : BitVec 32 := Scf.iv c0_i32_165 c1_i32_167 k0_t3
  let c128_i32_2026 : BitVec 32 := 128#32
  let v3302 : BitVec 32 := Scalar.muli arg21 c128_i32_2026
  let v3303 : BitVec 32 := Scalar.addi c2352_i32 v3302
  let c0_i32_2027 : BitVec 32 := 0#32
  let v3304 : BitVec 32 := Scalar.addi v3303 c0_i32_2027
  let c0_i32_2028 : BitVec 32 := 0#32
  let v3305 : BitVec 32 := Scalar.addi v3304 c0_i32_2028
  v3305
def k0_off15 (k0_t3 : Fin k0_t3_loop.trips) (c0_i32_2027 : BitVec 32) (c0_i32_2028 : BitVec 32) : Fin 3 → Nat :=
  let c0_2029 : Index := 0#32
  let c2352_i32 : BitVec 32 := 2352#32
  let c0_i32_165 : BitVec 32 := 0#32
  let c1_i32_167 : BitVec 32 := 1#32
  let arg21 : BitVec 32 := Scf.iv c0_i32_165 c1_i32_167 k0_t3
  let c128_i32_2026 : BitVec 32 := 128#32
  let v3302 : BitVec 32 := Scalar.muli arg21 c128_i32_2026
  let v3303 : BitVec 32 := Scalar.addi c2352_i32 v3302
  let v3304 : BitVec 32 := Scalar.addi v3303 c0_i32_2027
  let v3305 : BitVec 32 := Scalar.addi v3304 c0_i32_2028
  let v3306 : BitVec 32 := v3305
  let v3307 : Index := Scalar.indexCast v3306
  let c0_2030 : Index := 0#32
  ![0, v3307.toNat, 0]
def k0_mult142 (k0_t3 : Fin k0_t3_loop.trips) : BitVec 32 :=
  let c2352_i32_2032 : BitVec 32 := 2352#32
  let c0_i32_165 : BitVec 32 := 0#32
  let c1_i32_167 : BitVec 32 := 1#32
  let arg21 : BitVec 32 := Scf.iv c0_i32_165 c1_i32_167 k0_t3
  let c128_i32_2031 : BitVec 32 := 128#32
  let v3313 : BitVec 32 := Scalar.muli arg21 c128_i32_2031
  let v3314 : BitVec 32 := Scalar.addi c2352_i32_2032 v3313
  let c0_i32_2033 : BitVec 32 := 0#32
  let v3315 : BitVec 32 := Scalar.addi v3314 c0_i32_2033
  let c0_i32_2034 : BitVec 32 := 0#32
  let v3316 : BitVec 32 := Scalar.addi v3315 c0_i32_2034
  v3316
def k0_off16 (k0_t3 : Fin k0_t3_loop.trips) (c0_i32_2033 : BitVec 32) (c0_i32_2034 : BitVec 32) : Fin 3 → Nat :=
  let c1_2035 : Index := 1#32
  let c2352_i32_2032 : BitVec 32 := 2352#32
  let c0_i32_165 : BitVec 32 := 0#32
  let c1_i32_167 : BitVec 32 := 1#32
  let arg21 : BitVec 32 := Scf.iv c0_i32_165 c1_i32_167 k0_t3
  let c128_i32_2031 : BitVec 32 := 128#32
  let v3313 : BitVec 32 := Scalar.muli arg21 c128_i32_2031
  let v3314 : BitVec 32 := Scalar.addi c2352_i32_2032 v3313
  let v3315 : BitVec 32 := Scalar.addi v3314 c0_i32_2033
  let v3316 : BitVec 32 := Scalar.addi v3315 c0_i32_2034
  let v3317 : BitVec 32 := v3316
  let v3318 : Index := Scalar.indexCast v3317
  let c0_2036 : Index := 0#32
  ![1, v3318.toNat, 0]
def k0_mult143 (k0_t3 : Fin k0_t3_loop.trips) : BitVec 32 :=
  let c2352_i32_2038 : BitVec 32 := 2352#32
  let c0_i32_165 : BitVec 32 := 0#32
  let c1_i32_167 : BitVec 32 := 1#32
  let arg21 : BitVec 32 := Scf.iv c0_i32_165 c1_i32_167 k0_t3
  let c128_i32_2037 : BitVec 32 := 128#32
  let v3324 : BitVec 32 := Scalar.muli arg21 c128_i32_2037
  let v3325 : BitVec 32 := Scalar.addi c2352_i32_2038 v3324
  let c0_i32_2039 : BitVec 32 := 0#32
  let v3326 : BitVec 32 := Scalar.addi v3325 c0_i32_2039
  let c0_i32_2040 : BitVec 32 := 0#32
  let v3327 : BitVec 32 := Scalar.addi v3326 c0_i32_2040
  v3327
def k0_off17 (k0_t3 : Fin k0_t3_loop.trips) (c0_i32_2039 : BitVec 32) (c0_i32_2040 : BitVec 32) : Fin 3 → Nat :=
  let c2_2041 : Index := 2#32
  let c2352_i32_2038 : BitVec 32 := 2352#32
  let c0_i32_165 : BitVec 32 := 0#32
  let c1_i32_167 : BitVec 32 := 1#32
  let arg21 : BitVec 32 := Scf.iv c0_i32_165 c1_i32_167 k0_t3
  let c128_i32_2037 : BitVec 32 := 128#32
  let v3324 : BitVec 32 := Scalar.muli arg21 c128_i32_2037
  let v3325 : BitVec 32 := Scalar.addi c2352_i32_2038 v3324
  let v3326 : BitVec 32 := Scalar.addi v3325 c0_i32_2039
  let v3327 : BitVec 32 := Scalar.addi v3326 c0_i32_2040
  let v3328 : BitVec 32 := v3327
  let v3329 : Index := Scalar.indexCast v3328
  let c0_2042 : Index := 0#32
  ![2, v3329.toNat, 0]
def k0_mult144 (k0_t3 : Fin k0_t3_loop.trips) : BitVec 32 :=
  let c2352_i32_2044 : BitVec 32 := 2352#32
  let c0_i32_165 : BitVec 32 := 0#32
  let c1_i32_167 : BitVec 32 := 1#32
  let arg21 : BitVec 32 := Scf.iv c0_i32_165 c1_i32_167 k0_t3
  let c128_i32_2043 : BitVec 32 := 128#32
  let v3335 : BitVec 32 := Scalar.muli arg21 c128_i32_2043
  let v3336 : BitVec 32 := Scalar.addi c2352_i32_2044 v3335
  let c0_i32_2045 : BitVec 32 := 0#32
  let v3337 : BitVec 32 := Scalar.addi v3336 c0_i32_2045
  let c0_i32_2046 : BitVec 32 := 0#32
  let v3338 : BitVec 32 := Scalar.addi v3337 c0_i32_2046
  v3338
def k0_off18 (k0_t3 : Fin k0_t3_loop.trips) (c0_i32_2045 : BitVec 32) (c0_i32_2046 : BitVec 32) : Fin 3 → Nat :=
  let c3_2047 : Index := 3#32
  let c2352_i32_2044 : BitVec 32 := 2352#32
  let c0_i32_165 : BitVec 32 := 0#32
  let c1_i32_167 : BitVec 32 := 1#32
  let arg21 : BitVec 32 := Scf.iv c0_i32_165 c1_i32_167 k0_t3
  let c128_i32_2043 : BitVec 32 := 128#32
  let v3335 : BitVec 32 := Scalar.muli arg21 c128_i32_2043
  let v3336 : BitVec 32 := Scalar.addi c2352_i32_2044 v3335
  let v3337 : BitVec 32 := Scalar.addi v3336 c0_i32_2045
  let v3338 : BitVec 32 := Scalar.addi v3337 c0_i32_2046
  let v3339 : BitVec 32 := v3338
  let v3340 : Index := Scalar.indexCast v3339
  let c0_2048 : Index := 0#32
  ![3, v3340.toNat, 0]
def k0_mult145 (k0_t3 : Fin k0_t3_loop.trips) : BitVec 32 :=
  let c2352_i32_2053 : BitVec 32 := 2352#32
  let c0_i32_165 : BitVec 32 := 0#32
  let c1_i32_167 : BitVec 32 := 1#32
  let arg21 : BitVec 32 := Scf.iv c0_i32_165 c1_i32_167 k0_t3
  let c128_i32_2052 : BitVec 32 := 128#32
  let v3356 : BitVec 32 := Scalar.muli arg21 c128_i32_2052
  let v3357 : BitVec 32 := Scalar.addi c2352_i32_2053 v3356
  let c0_i32_2054 : BitVec 32 := 0#32
  let v3358 : BitVec 32 := Scalar.addi v3357 c0_i32_2054
  let c8_i32_2055 : BitVec 32 := 8#32
  let v3359 : BitVec 32 := Scalar.addi v3358 c8_i32_2055
  v3359
def k0_mult146 (k0_t3 : Fin k0_t3_loop.trips) : BitVec 32 :=
  let c2352_i32_2059 : BitVec 32 := 2352#32
  let c0_i32_165 : BitVec 32 := 0#32
  let c1_i32_167 : BitVec 32 := 1#32
  let arg21 : BitVec 32 := Scf.iv c0_i32_165 c1_i32_167 k0_t3
  let c128_i32_2058 : BitVec 32 := 128#32
  let v3367 : BitVec 32 := Scalar.muli arg21 c128_i32_2058
  let v3368 : BitVec 32 := Scalar.addi c2352_i32_2059 v3367
  let c0_i32_2060 : BitVec 32 := 0#32
  let v3369 : BitVec 32 := Scalar.addi v3368 c0_i32_2060
  let c8_i32_2061 : BitVec 32 := 8#32
  let v3370 : BitVec 32 := Scalar.addi v3369 c8_i32_2061
  v3370
def k0_mult147 (k0_t3 : Fin k0_t3_loop.trips) : BitVec 32 :=
  let c2352_i32_2065 : BitVec 32 := 2352#32
  let c0_i32_165 : BitVec 32 := 0#32
  let c1_i32_167 : BitVec 32 := 1#32
  let arg21 : BitVec 32 := Scf.iv c0_i32_165 c1_i32_167 k0_t3
  let c128_i32_2064 : BitVec 32 := 128#32
  let v3378 : BitVec 32 := Scalar.muli arg21 c128_i32_2064
  let v3379 : BitVec 32 := Scalar.addi c2352_i32_2065 v3378
  let c0_i32_2066 : BitVec 32 := 0#32
  let v3380 : BitVec 32 := Scalar.addi v3379 c0_i32_2066
  let c8_i32_2067 : BitVec 32 := 8#32
  let v3381 : BitVec 32 := Scalar.addi v3380 c8_i32_2067
  v3381
def k0_mult148 (k0_t3 : Fin k0_t3_loop.trips) : BitVec 32 :=
  let c2352_i32_2071 : BitVec 32 := 2352#32
  let c0_i32_165 : BitVec 32 := 0#32
  let c1_i32_167 : BitVec 32 := 1#32
  let arg21 : BitVec 32 := Scf.iv c0_i32_165 c1_i32_167 k0_t3
  let c128_i32_2070 : BitVec 32 := 128#32
  let v3389 : BitVec 32 := Scalar.muli arg21 c128_i32_2070
  let v3390 : BitVec 32 := Scalar.addi c2352_i32_2071 v3389
  let c0_i32_2072 : BitVec 32 := 0#32
  let v3391 : BitVec 32 := Scalar.addi v3390 c0_i32_2072
  let c8_i32_2073 : BitVec 32 := 8#32
  let v3392 : BitVec 32 := Scalar.addi v3391 c8_i32_2073
  v3392
def k0_mult149 (k0_t3 : Fin k0_t3_loop.trips) : BitVec 32 :=
  let c2352_i32_2079 : BitVec 32 := 2352#32
  let c0_i32_165 : BitVec 32 := 0#32
  let c1_i32_167 : BitVec 32 := 1#32
  let arg21 : BitVec 32 := Scf.iv c0_i32_165 c1_i32_167 k0_t3
  let c128_i32_2078 : BitVec 32 := 128#32
  let v3410 : BitVec 32 := Scalar.muli arg21 c128_i32_2078
  let v3411 : BitVec 32 := Scalar.addi c2352_i32_2079 v3410
  let c0_i32_2080 : BitVec 32 := 0#32
  let v3412 : BitVec 32 := Scalar.addi v3411 c0_i32_2080
  let c16_i32_2081 : BitVec 32 := 16#32
  let v3413 : BitVec 32 := Scalar.addi v3412 c16_i32_2081
  v3413
def k0_mult150 (k0_t3 : Fin k0_t3_loop.trips) : BitVec 32 :=
  let c2352_i32_2085 : BitVec 32 := 2352#32
  let c0_i32_165 : BitVec 32 := 0#32
  let c1_i32_167 : BitVec 32 := 1#32
  let arg21 : BitVec 32 := Scf.iv c0_i32_165 c1_i32_167 k0_t3
  let c128_i32_2084 : BitVec 32 := 128#32
  let v3421 : BitVec 32 := Scalar.muli arg21 c128_i32_2084
  let v3422 : BitVec 32 := Scalar.addi c2352_i32_2085 v3421
  let c0_i32_2086 : BitVec 32 := 0#32
  let v3423 : BitVec 32 := Scalar.addi v3422 c0_i32_2086
  let c16_i32_2087 : BitVec 32 := 16#32
  let v3424 : BitVec 32 := Scalar.addi v3423 c16_i32_2087
  v3424
def k0_mult151 (k0_t3 : Fin k0_t3_loop.trips) : BitVec 32 :=
  let c2352_i32_2091 : BitVec 32 := 2352#32
  let c0_i32_165 : BitVec 32 := 0#32
  let c1_i32_167 : BitVec 32 := 1#32
  let arg21 : BitVec 32 := Scf.iv c0_i32_165 c1_i32_167 k0_t3
  let c128_i32_2090 : BitVec 32 := 128#32
  let v3432 : BitVec 32 := Scalar.muli arg21 c128_i32_2090
  let v3433 : BitVec 32 := Scalar.addi c2352_i32_2091 v3432
  let c0_i32_2092 : BitVec 32 := 0#32
  let v3434 : BitVec 32 := Scalar.addi v3433 c0_i32_2092
  let c16_i32_2093 : BitVec 32 := 16#32
  let v3435 : BitVec 32 := Scalar.addi v3434 c16_i32_2093
  v3435
def k0_mult152 (k0_t3 : Fin k0_t3_loop.trips) : BitVec 32 :=
  let c2352_i32_2097 : BitVec 32 := 2352#32
  let c0_i32_165 : BitVec 32 := 0#32
  let c1_i32_167 : BitVec 32 := 1#32
  let arg21 : BitVec 32 := Scf.iv c0_i32_165 c1_i32_167 k0_t3
  let c128_i32_2096 : BitVec 32 := 128#32
  let v3443 : BitVec 32 := Scalar.muli arg21 c128_i32_2096
  let v3444 : BitVec 32 := Scalar.addi c2352_i32_2097 v3443
  let c0_i32_2098 : BitVec 32 := 0#32
  let v3445 : BitVec 32 := Scalar.addi v3444 c0_i32_2098
  let c16_i32_2099 : BitVec 32 := 16#32
  let v3446 : BitVec 32 := Scalar.addi v3445 c16_i32_2099
  v3446
def k0_mult153 (k0_t3 : Fin k0_t3_loop.trips) : BitVec 32 :=
  let c2352_i32_2105 : BitVec 32 := 2352#32
  let c0_i32_165 : BitVec 32 := 0#32
  let c1_i32_167 : BitVec 32 := 1#32
  let arg21 : BitVec 32 := Scf.iv c0_i32_165 c1_i32_167 k0_t3
  let c128_i32_2104 : BitVec 32 := 128#32
  let v3464 : BitVec 32 := Scalar.muli arg21 c128_i32_2104
  let v3465 : BitVec 32 := Scalar.addi c2352_i32_2105 v3464
  let c0_i32_2106 : BitVec 32 := 0#32
  let v3466 : BitVec 32 := Scalar.addi v3465 c0_i32_2106
  let c24_i32_2107 : BitVec 32 := 24#32
  let v3467 : BitVec 32 := Scalar.addi v3466 c24_i32_2107
  v3467
def k0_mult154 (k0_t3 : Fin k0_t3_loop.trips) : BitVec 32 :=
  let c2352_i32_2111 : BitVec 32 := 2352#32
  let c0_i32_165 : BitVec 32 := 0#32
  let c1_i32_167 : BitVec 32 := 1#32
  let arg21 : BitVec 32 := Scf.iv c0_i32_165 c1_i32_167 k0_t3
  let c128_i32_2110 : BitVec 32 := 128#32
  let v3475 : BitVec 32 := Scalar.muli arg21 c128_i32_2110
  let v3476 : BitVec 32 := Scalar.addi c2352_i32_2111 v3475
  let c0_i32_2112 : BitVec 32 := 0#32
  let v3477 : BitVec 32 := Scalar.addi v3476 c0_i32_2112
  let c24_i32_2113 : BitVec 32 := 24#32
  let v3478 : BitVec 32 := Scalar.addi v3477 c24_i32_2113
  v3478
def k0_mult155 (k0_t3 : Fin k0_t3_loop.trips) : BitVec 32 :=
  let c2352_i32_2117 : BitVec 32 := 2352#32
  let c0_i32_165 : BitVec 32 := 0#32
  let c1_i32_167 : BitVec 32 := 1#32
  let arg21 : BitVec 32 := Scf.iv c0_i32_165 c1_i32_167 k0_t3
  let c128_i32_2116 : BitVec 32 := 128#32
  let v3486 : BitVec 32 := Scalar.muli arg21 c128_i32_2116
  let v3487 : BitVec 32 := Scalar.addi c2352_i32_2117 v3486
  let c0_i32_2118 : BitVec 32 := 0#32
  let v3488 : BitVec 32 := Scalar.addi v3487 c0_i32_2118
  let c24_i32_2119 : BitVec 32 := 24#32
  let v3489 : BitVec 32 := Scalar.addi v3488 c24_i32_2119
  v3489
def k0_mult156 (k0_t3 : Fin k0_t3_loop.trips) : BitVec 32 :=
  let c2352_i32_2123 : BitVec 32 := 2352#32
  let c0_i32_165 : BitVec 32 := 0#32
  let c1_i32_167 : BitVec 32 := 1#32
  let arg21 : BitVec 32 := Scf.iv c0_i32_165 c1_i32_167 k0_t3
  let c128_i32_2122 : BitVec 32 := 128#32
  let v3497 : BitVec 32 := Scalar.muli arg21 c128_i32_2122
  let v3498 : BitVec 32 := Scalar.addi c2352_i32_2123 v3497
  let c0_i32_2124 : BitVec 32 := 0#32
  let v3499 : BitVec 32 := Scalar.addi v3498 c0_i32_2124
  let c24_i32_2125 : BitVec 32 := 24#32
  let v3500 : BitVec 32 := Scalar.addi v3499 c24_i32_2125
  v3500
def k0_mult157 (k0_t3 : Fin k0_t3_loop.trips) : BitVec 32 :=
  let c0_i32_165 : BitVec 32 := 0#32
  let c1_i32_167 : BitVec 32 := 1#32
  let arg21 : BitVec 32 := Scf.iv c0_i32_165 c1_i32_167 k0_t3
  let c128_i32_2128 : BitVec 32 := 128#32
  let v3506 : BitVec 32 := Scalar.muli arg21 c128_i32_2128
  let c32_i32 : BitVec 32 := 32#32
  let v3507 : BitVec 32 := Scalar.addi v3506 c32_i32
  v3507
def k0_mult158 (k0_t3 : Fin k0_t3_loop.trips) : BitVec 32 :=
  let c2352_i32_2135 : BitVec 32 := 2352#32
  let c0_i32_165 : BitVec 32 := 0#32
  let c1_i32_167 : BitVec 32 := 1#32
  let arg21 : BitVec 32 := Scf.iv c0_i32_165 c1_i32_167 k0_t3
  let c128_i32_2134 : BitVec 32 := 128#32
  let v3525 : BitVec 32 := Scalar.muli arg21 c128_i32_2134
  let v3526 : BitVec 32 := Scalar.addi c2352_i32_2135 v3525
  let c32_i32_2136 : BitVec 32 := 32#32
  let v3527 : BitVec 32 := Scalar.addi v3526 c32_i32_2136
  let c0_i32_2137 : BitVec 32 := 0#32
  let v3528 : BitVec 32 := Scalar.addi v3527 c0_i32_2137
  v3528
def k0_mult159 (k0_t3 : Fin k0_t3_loop.trips) : BitVec 32 :=
  let c2352_i32_2141 : BitVec 32 := 2352#32
  let c0_i32_165 : BitVec 32 := 0#32
  let c1_i32_167 : BitVec 32 := 1#32
  let arg21 : BitVec 32 := Scf.iv c0_i32_165 c1_i32_167 k0_t3
  let c128_i32_2140 : BitVec 32 := 128#32
  let v3536 : BitVec 32 := Scalar.muli arg21 c128_i32_2140
  let v3537 : BitVec 32 := Scalar.addi c2352_i32_2141 v3536
  let c32_i32_2142 : BitVec 32 := 32#32
  let v3538 : BitVec 32 := Scalar.addi v3537 c32_i32_2142
  let c0_i32_2143 : BitVec 32 := 0#32
  let v3539 : BitVec 32 := Scalar.addi v3538 c0_i32_2143
  v3539
def k0_mult160 (k0_t3 : Fin k0_t3_loop.trips) : BitVec 32 :=
  let c2352_i32_2147 : BitVec 32 := 2352#32
  let c0_i32_165 : BitVec 32 := 0#32
  let c1_i32_167 : BitVec 32 := 1#32
  let arg21 : BitVec 32 := Scf.iv c0_i32_165 c1_i32_167 k0_t3
  let c128_i32_2146 : BitVec 32 := 128#32
  let v3547 : BitVec 32 := Scalar.muli arg21 c128_i32_2146
  let v3548 : BitVec 32 := Scalar.addi c2352_i32_2147 v3547
  let c32_i32_2148 : BitVec 32 := 32#32
  let v3549 : BitVec 32 := Scalar.addi v3548 c32_i32_2148
  let c0_i32_2149 : BitVec 32 := 0#32
  let v3550 : BitVec 32 := Scalar.addi v3549 c0_i32_2149
  v3550
def k0_mult161 (k0_t3 : Fin k0_t3_loop.trips) : BitVec 32 :=
  let c2352_i32_2153 : BitVec 32 := 2352#32
  let c0_i32_165 : BitVec 32 := 0#32
  let c1_i32_167 : BitVec 32 := 1#32
  let arg21 : BitVec 32 := Scf.iv c0_i32_165 c1_i32_167 k0_t3
  let c128_i32_2152 : BitVec 32 := 128#32
  let v3558 : BitVec 32 := Scalar.muli arg21 c128_i32_2152
  let v3559 : BitVec 32 := Scalar.addi c2352_i32_2153 v3558
  let c32_i32_2154 : BitVec 32 := 32#32
  let v3560 : BitVec 32 := Scalar.addi v3559 c32_i32_2154
  let c0_i32_2155 : BitVec 32 := 0#32
  let v3561 : BitVec 32 := Scalar.addi v3560 c0_i32_2155
  v3561
def k0_mult162 (k0_t3 : Fin k0_t3_loop.trips) : BitVec 32 :=
  let c2352_i32_2161 : BitVec 32 := 2352#32
  let c0_i32_165 : BitVec 32 := 0#32
  let c1_i32_167 : BitVec 32 := 1#32
  let arg21 : BitVec 32 := Scf.iv c0_i32_165 c1_i32_167 k0_t3
  let c128_i32_2160 : BitVec 32 := 128#32
  let v3579 : BitVec 32 := Scalar.muli arg21 c128_i32_2160
  let v3580 : BitVec 32 := Scalar.addi c2352_i32_2161 v3579
  let c32_i32_2162 : BitVec 32 := 32#32
  let v3581 : BitVec 32 := Scalar.addi v3580 c32_i32_2162
  let c8_i32_2163 : BitVec 32 := 8#32
  let v3582 : BitVec 32 := Scalar.addi v3581 c8_i32_2163
  v3582
def k0_mult163 (k0_t3 : Fin k0_t3_loop.trips) : BitVec 32 :=
  let c2352_i32_2167 : BitVec 32 := 2352#32
  let c0_i32_165 : BitVec 32 := 0#32
  let c1_i32_167 : BitVec 32 := 1#32
  let arg21 : BitVec 32 := Scf.iv c0_i32_165 c1_i32_167 k0_t3
  let c128_i32_2166 : BitVec 32 := 128#32
  let v3590 : BitVec 32 := Scalar.muli arg21 c128_i32_2166
  let v3591 : BitVec 32 := Scalar.addi c2352_i32_2167 v3590
  let c32_i32_2168 : BitVec 32 := 32#32
  let v3592 : BitVec 32 := Scalar.addi v3591 c32_i32_2168
  let c8_i32_2169 : BitVec 32 := 8#32
  let v3593 : BitVec 32 := Scalar.addi v3592 c8_i32_2169
  v3593
def k0_mult164 (k0_t3 : Fin k0_t3_loop.trips) : BitVec 32 :=
  let c2352_i32_2173 : BitVec 32 := 2352#32
  let c0_i32_165 : BitVec 32 := 0#32
  let c1_i32_167 : BitVec 32 := 1#32
  let arg21 : BitVec 32 := Scf.iv c0_i32_165 c1_i32_167 k0_t3
  let c128_i32_2172 : BitVec 32 := 128#32
  let v3601 : BitVec 32 := Scalar.muli arg21 c128_i32_2172
  let v3602 : BitVec 32 := Scalar.addi c2352_i32_2173 v3601
  let c32_i32_2174 : BitVec 32 := 32#32
  let v3603 : BitVec 32 := Scalar.addi v3602 c32_i32_2174
  let c8_i32_2175 : BitVec 32 := 8#32
  let v3604 : BitVec 32 := Scalar.addi v3603 c8_i32_2175
  v3604
def k0_mult165 (k0_t3 : Fin k0_t3_loop.trips) : BitVec 32 :=
  let c2352_i32_2179 : BitVec 32 := 2352#32
  let c0_i32_165 : BitVec 32 := 0#32
  let c1_i32_167 : BitVec 32 := 1#32
  let arg21 : BitVec 32 := Scf.iv c0_i32_165 c1_i32_167 k0_t3
  let c128_i32_2178 : BitVec 32 := 128#32
  let v3612 : BitVec 32 := Scalar.muli arg21 c128_i32_2178
  let v3613 : BitVec 32 := Scalar.addi c2352_i32_2179 v3612
  let c32_i32_2180 : BitVec 32 := 32#32
  let v3614 : BitVec 32 := Scalar.addi v3613 c32_i32_2180
  let c8_i32_2181 : BitVec 32 := 8#32
  let v3615 : BitVec 32 := Scalar.addi v3614 c8_i32_2181
  v3615
def k0_mult166 (k0_t3 : Fin k0_t3_loop.trips) : BitVec 32 :=
  let c2352_i32_2187 : BitVec 32 := 2352#32
  let c0_i32_165 : BitVec 32 := 0#32
  let c1_i32_167 : BitVec 32 := 1#32
  let arg21 : BitVec 32 := Scf.iv c0_i32_165 c1_i32_167 k0_t3
  let c128_i32_2186 : BitVec 32 := 128#32
  let v3633 : BitVec 32 := Scalar.muli arg21 c128_i32_2186
  let v3634 : BitVec 32 := Scalar.addi c2352_i32_2187 v3633
  let c32_i32_2188 : BitVec 32 := 32#32
  let v3635 : BitVec 32 := Scalar.addi v3634 c32_i32_2188
  let c16_i32_2189 : BitVec 32 := 16#32
  let v3636 : BitVec 32 := Scalar.addi v3635 c16_i32_2189
  v3636
def k0_mult167 (k0_t3 : Fin k0_t3_loop.trips) : BitVec 32 :=
  let c2352_i32_2193 : BitVec 32 := 2352#32
  let c0_i32_165 : BitVec 32 := 0#32
  let c1_i32_167 : BitVec 32 := 1#32
  let arg21 : BitVec 32 := Scf.iv c0_i32_165 c1_i32_167 k0_t3
  let c128_i32_2192 : BitVec 32 := 128#32
  let v3644 : BitVec 32 := Scalar.muli arg21 c128_i32_2192
  let v3645 : BitVec 32 := Scalar.addi c2352_i32_2193 v3644
  let c32_i32_2194 : BitVec 32 := 32#32
  let v3646 : BitVec 32 := Scalar.addi v3645 c32_i32_2194
  let c16_i32_2195 : BitVec 32 := 16#32
  let v3647 : BitVec 32 := Scalar.addi v3646 c16_i32_2195
  v3647
def k0_mult168 (k0_t3 : Fin k0_t3_loop.trips) : BitVec 32 :=
  let c2352_i32_2199 : BitVec 32 := 2352#32
  let c0_i32_165 : BitVec 32 := 0#32
  let c1_i32_167 : BitVec 32 := 1#32
  let arg21 : BitVec 32 := Scf.iv c0_i32_165 c1_i32_167 k0_t3
  let c128_i32_2198 : BitVec 32 := 128#32
  let v3655 : BitVec 32 := Scalar.muli arg21 c128_i32_2198
  let v3656 : BitVec 32 := Scalar.addi c2352_i32_2199 v3655
  let c32_i32_2200 : BitVec 32 := 32#32
  let v3657 : BitVec 32 := Scalar.addi v3656 c32_i32_2200
  let c16_i32_2201 : BitVec 32 := 16#32
  let v3658 : BitVec 32 := Scalar.addi v3657 c16_i32_2201
  v3658
def k0_mult169 (k0_t3 : Fin k0_t3_loop.trips) : BitVec 32 :=
  let c2352_i32_2205 : BitVec 32 := 2352#32
  let c0_i32_165 : BitVec 32 := 0#32
  let c1_i32_167 : BitVec 32 := 1#32
  let arg21 : BitVec 32 := Scf.iv c0_i32_165 c1_i32_167 k0_t3
  let c128_i32_2204 : BitVec 32 := 128#32
  let v3666 : BitVec 32 := Scalar.muli arg21 c128_i32_2204
  let v3667 : BitVec 32 := Scalar.addi c2352_i32_2205 v3666
  let c32_i32_2206 : BitVec 32 := 32#32
  let v3668 : BitVec 32 := Scalar.addi v3667 c32_i32_2206
  let c16_i32_2207 : BitVec 32 := 16#32
  let v3669 : BitVec 32 := Scalar.addi v3668 c16_i32_2207
  v3669
def k0_mult170 (k0_t3 : Fin k0_t3_loop.trips) : BitVec 32 :=
  let c2352_i32_2213 : BitVec 32 := 2352#32
  let c0_i32_165 : BitVec 32 := 0#32
  let c1_i32_167 : BitVec 32 := 1#32
  let arg21 : BitVec 32 := Scf.iv c0_i32_165 c1_i32_167 k0_t3
  let c128_i32_2212 : BitVec 32 := 128#32
  let v3687 : BitVec 32 := Scalar.muli arg21 c128_i32_2212
  let v3688 : BitVec 32 := Scalar.addi c2352_i32_2213 v3687
  let c32_i32_2214 : BitVec 32 := 32#32
  let v3689 : BitVec 32 := Scalar.addi v3688 c32_i32_2214
  let c24_i32_2215 : BitVec 32 := 24#32
  let v3690 : BitVec 32 := Scalar.addi v3689 c24_i32_2215
  v3690
def k0_mult171 (k0_t3 : Fin k0_t3_loop.trips) : BitVec 32 :=
  let c2352_i32_2219 : BitVec 32 := 2352#32
  let c0_i32_165 : BitVec 32 := 0#32
  let c1_i32_167 : BitVec 32 := 1#32
  let arg21 : BitVec 32 := Scf.iv c0_i32_165 c1_i32_167 k0_t3
  let c128_i32_2218 : BitVec 32 := 128#32
  let v3698 : BitVec 32 := Scalar.muli arg21 c128_i32_2218
  let v3699 : BitVec 32 := Scalar.addi c2352_i32_2219 v3698
  let c32_i32_2220 : BitVec 32 := 32#32
  let v3700 : BitVec 32 := Scalar.addi v3699 c32_i32_2220
  let c24_i32_2221 : BitVec 32 := 24#32
  let v3701 : BitVec 32 := Scalar.addi v3700 c24_i32_2221
  v3701
def k0_mult172 (k0_t3 : Fin k0_t3_loop.trips) : BitVec 32 :=
  let c2352_i32_2225 : BitVec 32 := 2352#32
  let c0_i32_165 : BitVec 32 := 0#32
  let c1_i32_167 : BitVec 32 := 1#32
  let arg21 : BitVec 32 := Scf.iv c0_i32_165 c1_i32_167 k0_t3
  let c128_i32_2224 : BitVec 32 := 128#32
  let v3709 : BitVec 32 := Scalar.muli arg21 c128_i32_2224
  let v3710 : BitVec 32 := Scalar.addi c2352_i32_2225 v3709
  let c32_i32_2226 : BitVec 32 := 32#32
  let v3711 : BitVec 32 := Scalar.addi v3710 c32_i32_2226
  let c24_i32_2227 : BitVec 32 := 24#32
  let v3712 : BitVec 32 := Scalar.addi v3711 c24_i32_2227
  v3712
def k0_mult173 (k0_t3 : Fin k0_t3_loop.trips) : BitVec 32 :=
  let c2352_i32_2231 : BitVec 32 := 2352#32
  let c0_i32_165 : BitVec 32 := 0#32
  let c1_i32_167 : BitVec 32 := 1#32
  let arg21 : BitVec 32 := Scf.iv c0_i32_165 c1_i32_167 k0_t3
  let c128_i32_2230 : BitVec 32 := 128#32
  let v3720 : BitVec 32 := Scalar.muli arg21 c128_i32_2230
  let v3721 : BitVec 32 := Scalar.addi c2352_i32_2231 v3720
  let c32_i32_2232 : BitVec 32 := 32#32
  let v3722 : BitVec 32 := Scalar.addi v3721 c32_i32_2232
  let c24_i32_2233 : BitVec 32 := 24#32
  let v3723 : BitVec 32 := Scalar.addi v3722 c24_i32_2233
  v3723
def k0_mult174 (k0_t3 : Fin k0_t3_loop.trips) : BitVec 32 :=
  let c0_i32_165 : BitVec 32 := 0#32
  let c1_i32_167 : BitVec 32 := 1#32
  let arg21 : BitVec 32 := Scf.iv c0_i32_165 c1_i32_167 k0_t3
  let c128_i32_2236 : BitVec 32 := 128#32
  let v3729 : BitVec 32 := Scalar.muli arg21 c128_i32_2236
  let c64_i32 : BitVec 32 := 64#32
  let v3730 : BitVec 32 := Scalar.addi v3729 c64_i32
  v3730
def k0_mult175 (k0_t3 : Fin k0_t3_loop.trips) : BitVec 32 :=
  let c2352_i32_2243 : BitVec 32 := 2352#32
  let c0_i32_165 : BitVec 32 := 0#32
  let c1_i32_167 : BitVec 32 := 1#32
  let arg21 : BitVec 32 := Scf.iv c0_i32_165 c1_i32_167 k0_t3
  let c128_i32_2242 : BitVec 32 := 128#32
  let v3748 : BitVec 32 := Scalar.muli arg21 c128_i32_2242
  let v3749 : BitVec 32 := Scalar.addi c2352_i32_2243 v3748
  let c64_i32_2244 : BitVec 32 := 64#32
  let v3750 : BitVec 32 := Scalar.addi v3749 c64_i32_2244
  let c0_i32_2245 : BitVec 32 := 0#32
  let v3751 : BitVec 32 := Scalar.addi v3750 c0_i32_2245
  v3751
def k0_mult176 (k0_t3 : Fin k0_t3_loop.trips) : BitVec 32 :=
  let c2352_i32_2249 : BitVec 32 := 2352#32
  let c0_i32_165 : BitVec 32 := 0#32
  let c1_i32_167 : BitVec 32 := 1#32
  let arg21 : BitVec 32 := Scf.iv c0_i32_165 c1_i32_167 k0_t3
  let c128_i32_2248 : BitVec 32 := 128#32
  let v3759 : BitVec 32 := Scalar.muli arg21 c128_i32_2248
  let v3760 : BitVec 32 := Scalar.addi c2352_i32_2249 v3759
  let c64_i32_2250 : BitVec 32 := 64#32
  let v3761 : BitVec 32 := Scalar.addi v3760 c64_i32_2250
  let c0_i32_2251 : BitVec 32 := 0#32
  let v3762 : BitVec 32 := Scalar.addi v3761 c0_i32_2251
  v3762
def k0_mult177 (k0_t3 : Fin k0_t3_loop.trips) : BitVec 32 :=
  let c2352_i32_2255 : BitVec 32 := 2352#32
  let c0_i32_165 : BitVec 32 := 0#32
  let c1_i32_167 : BitVec 32 := 1#32
  let arg21 : BitVec 32 := Scf.iv c0_i32_165 c1_i32_167 k0_t3
  let c128_i32_2254 : BitVec 32 := 128#32
  let v3770 : BitVec 32 := Scalar.muli arg21 c128_i32_2254
  let v3771 : BitVec 32 := Scalar.addi c2352_i32_2255 v3770
  let c64_i32_2256 : BitVec 32 := 64#32
  let v3772 : BitVec 32 := Scalar.addi v3771 c64_i32_2256
  let c0_i32_2257 : BitVec 32 := 0#32
  let v3773 : BitVec 32 := Scalar.addi v3772 c0_i32_2257
  v3773
def k0_mult178 (k0_t3 : Fin k0_t3_loop.trips) : BitVec 32 :=
  let c2352_i32_2261 : BitVec 32 := 2352#32
  let c0_i32_165 : BitVec 32 := 0#32
  let c1_i32_167 : BitVec 32 := 1#32
  let arg21 : BitVec 32 := Scf.iv c0_i32_165 c1_i32_167 k0_t3
  let c128_i32_2260 : BitVec 32 := 128#32
  let v3781 : BitVec 32 := Scalar.muli arg21 c128_i32_2260
  let v3782 : BitVec 32 := Scalar.addi c2352_i32_2261 v3781
  let c64_i32_2262 : BitVec 32 := 64#32
  let v3783 : BitVec 32 := Scalar.addi v3782 c64_i32_2262
  let c0_i32_2263 : BitVec 32 := 0#32
  let v3784 : BitVec 32 := Scalar.addi v3783 c0_i32_2263
  v3784
def k0_mult179 (k0_t3 : Fin k0_t3_loop.trips) : BitVec 32 :=
  let c2352_i32_2269 : BitVec 32 := 2352#32
  let c0_i32_165 : BitVec 32 := 0#32
  let c1_i32_167 : BitVec 32 := 1#32
  let arg21 : BitVec 32 := Scf.iv c0_i32_165 c1_i32_167 k0_t3
  let c128_i32_2268 : BitVec 32 := 128#32
  let v3802 : BitVec 32 := Scalar.muli arg21 c128_i32_2268
  let v3803 : BitVec 32 := Scalar.addi c2352_i32_2269 v3802
  let c64_i32_2270 : BitVec 32 := 64#32
  let v3804 : BitVec 32 := Scalar.addi v3803 c64_i32_2270
  let c8_i32_2271 : BitVec 32 := 8#32
  let v3805 : BitVec 32 := Scalar.addi v3804 c8_i32_2271
  v3805
def k0_mult180 (k0_t3 : Fin k0_t3_loop.trips) : BitVec 32 :=
  let c2352_i32_2275 : BitVec 32 := 2352#32
  let c0_i32_165 : BitVec 32 := 0#32
  let c1_i32_167 : BitVec 32 := 1#32
  let arg21 : BitVec 32 := Scf.iv c0_i32_165 c1_i32_167 k0_t3
  let c128_i32_2274 : BitVec 32 := 128#32
  let v3813 : BitVec 32 := Scalar.muli arg21 c128_i32_2274
  let v3814 : BitVec 32 := Scalar.addi c2352_i32_2275 v3813
  let c64_i32_2276 : BitVec 32 := 64#32
  let v3815 : BitVec 32 := Scalar.addi v3814 c64_i32_2276
  let c8_i32_2277 : BitVec 32 := 8#32
  let v3816 : BitVec 32 := Scalar.addi v3815 c8_i32_2277
  v3816
def k0_mult181 (k0_t3 : Fin k0_t3_loop.trips) : BitVec 32 :=
  let c2352_i32_2281 : BitVec 32 := 2352#32
  let c0_i32_165 : BitVec 32 := 0#32
  let c1_i32_167 : BitVec 32 := 1#32
  let arg21 : BitVec 32 := Scf.iv c0_i32_165 c1_i32_167 k0_t3
  let c128_i32_2280 : BitVec 32 := 128#32
  let v3824 : BitVec 32 := Scalar.muli arg21 c128_i32_2280
  let v3825 : BitVec 32 := Scalar.addi c2352_i32_2281 v3824
  let c64_i32_2282 : BitVec 32 := 64#32
  let v3826 : BitVec 32 := Scalar.addi v3825 c64_i32_2282
  let c8_i32_2283 : BitVec 32 := 8#32
  let v3827 : BitVec 32 := Scalar.addi v3826 c8_i32_2283
  v3827
def k0_mult182 (k0_t3 : Fin k0_t3_loop.trips) : BitVec 32 :=
  let c2352_i32_2287 : BitVec 32 := 2352#32
  let c0_i32_165 : BitVec 32 := 0#32
  let c1_i32_167 : BitVec 32 := 1#32
  let arg21 : BitVec 32 := Scf.iv c0_i32_165 c1_i32_167 k0_t3
  let c128_i32_2286 : BitVec 32 := 128#32
  let v3835 : BitVec 32 := Scalar.muli arg21 c128_i32_2286
  let v3836 : BitVec 32 := Scalar.addi c2352_i32_2287 v3835
  let c64_i32_2288 : BitVec 32 := 64#32
  let v3837 : BitVec 32 := Scalar.addi v3836 c64_i32_2288
  let c8_i32_2289 : BitVec 32 := 8#32
  let v3838 : BitVec 32 := Scalar.addi v3837 c8_i32_2289
  v3838
def k0_mult183 (k0_t3 : Fin k0_t3_loop.trips) : BitVec 32 :=
  let c2352_i32_2295 : BitVec 32 := 2352#32
  let c0_i32_165 : BitVec 32 := 0#32
  let c1_i32_167 : BitVec 32 := 1#32
  let arg21 : BitVec 32 := Scf.iv c0_i32_165 c1_i32_167 k0_t3
  let c128_i32_2294 : BitVec 32 := 128#32
  let v3856 : BitVec 32 := Scalar.muli arg21 c128_i32_2294
  let v3857 : BitVec 32 := Scalar.addi c2352_i32_2295 v3856
  let c64_i32_2296 : BitVec 32 := 64#32
  let v3858 : BitVec 32 := Scalar.addi v3857 c64_i32_2296
  let c16_i32_2297 : BitVec 32 := 16#32
  let v3859 : BitVec 32 := Scalar.addi v3858 c16_i32_2297
  v3859
def k0_mult184 (k0_t3 : Fin k0_t3_loop.trips) : BitVec 32 :=
  let c2352_i32_2301 : BitVec 32 := 2352#32
  let c0_i32_165 : BitVec 32 := 0#32
  let c1_i32_167 : BitVec 32 := 1#32
  let arg21 : BitVec 32 := Scf.iv c0_i32_165 c1_i32_167 k0_t3
  let c128_i32_2300 : BitVec 32 := 128#32
  let v3867 : BitVec 32 := Scalar.muli arg21 c128_i32_2300
  let v3868 : BitVec 32 := Scalar.addi c2352_i32_2301 v3867
  let c64_i32_2302 : BitVec 32 := 64#32
  let v3869 : BitVec 32 := Scalar.addi v3868 c64_i32_2302
  let c16_i32_2303 : BitVec 32 := 16#32
  let v3870 : BitVec 32 := Scalar.addi v3869 c16_i32_2303
  v3870
def k0_mult185 (k0_t3 : Fin k0_t3_loop.trips) : BitVec 32 :=
  let c2352_i32_2307 : BitVec 32 := 2352#32
  let c0_i32_165 : BitVec 32 := 0#32
  let c1_i32_167 : BitVec 32 := 1#32
  let arg21 : BitVec 32 := Scf.iv c0_i32_165 c1_i32_167 k0_t3
  let c128_i32_2306 : BitVec 32 := 128#32
  let v3878 : BitVec 32 := Scalar.muli arg21 c128_i32_2306
  let v3879 : BitVec 32 := Scalar.addi c2352_i32_2307 v3878
  let c64_i32_2308 : BitVec 32 := 64#32
  let v3880 : BitVec 32 := Scalar.addi v3879 c64_i32_2308
  let c16_i32_2309 : BitVec 32 := 16#32
  let v3881 : BitVec 32 := Scalar.addi v3880 c16_i32_2309
  v3881
def k0_mult186 (k0_t3 : Fin k0_t3_loop.trips) : BitVec 32 :=
  let c2352_i32_2313 : BitVec 32 := 2352#32
  let c0_i32_165 : BitVec 32 := 0#32
  let c1_i32_167 : BitVec 32 := 1#32
  let arg21 : BitVec 32 := Scf.iv c0_i32_165 c1_i32_167 k0_t3
  let c128_i32_2312 : BitVec 32 := 128#32
  let v3889 : BitVec 32 := Scalar.muli arg21 c128_i32_2312
  let v3890 : BitVec 32 := Scalar.addi c2352_i32_2313 v3889
  let c64_i32_2314 : BitVec 32 := 64#32
  let v3891 : BitVec 32 := Scalar.addi v3890 c64_i32_2314
  let c16_i32_2315 : BitVec 32 := 16#32
  let v3892 : BitVec 32 := Scalar.addi v3891 c16_i32_2315
  v3892
def k0_mult187 (k0_t3 : Fin k0_t3_loop.trips) : BitVec 32 :=
  let c2352_i32_2321 : BitVec 32 := 2352#32
  let c0_i32_165 : BitVec 32 := 0#32
  let c1_i32_167 : BitVec 32 := 1#32
  let arg21 : BitVec 32 := Scf.iv c0_i32_165 c1_i32_167 k0_t3
  let c128_i32_2320 : BitVec 32 := 128#32
  let v3910 : BitVec 32 := Scalar.muli arg21 c128_i32_2320
  let v3911 : BitVec 32 := Scalar.addi c2352_i32_2321 v3910
  let c64_i32_2322 : BitVec 32 := 64#32
  let v3912 : BitVec 32 := Scalar.addi v3911 c64_i32_2322
  let c24_i32_2323 : BitVec 32 := 24#32
  let v3913 : BitVec 32 := Scalar.addi v3912 c24_i32_2323
  v3913
def k0_mult188 (k0_t3 : Fin k0_t3_loop.trips) : BitVec 32 :=
  let c2352_i32_2327 : BitVec 32 := 2352#32
  let c0_i32_165 : BitVec 32 := 0#32
  let c1_i32_167 : BitVec 32 := 1#32
  let arg21 : BitVec 32 := Scf.iv c0_i32_165 c1_i32_167 k0_t3
  let c128_i32_2326 : BitVec 32 := 128#32
  let v3921 : BitVec 32 := Scalar.muli arg21 c128_i32_2326
  let v3922 : BitVec 32 := Scalar.addi c2352_i32_2327 v3921
  let c64_i32_2328 : BitVec 32 := 64#32
  let v3923 : BitVec 32 := Scalar.addi v3922 c64_i32_2328
  let c24_i32_2329 : BitVec 32 := 24#32
  let v3924 : BitVec 32 := Scalar.addi v3923 c24_i32_2329
  v3924
def k0_mult189 (k0_t3 : Fin k0_t3_loop.trips) : BitVec 32 :=
  let c2352_i32_2333 : BitVec 32 := 2352#32
  let c0_i32_165 : BitVec 32 := 0#32
  let c1_i32_167 : BitVec 32 := 1#32
  let arg21 : BitVec 32 := Scf.iv c0_i32_165 c1_i32_167 k0_t3
  let c128_i32_2332 : BitVec 32 := 128#32
  let v3932 : BitVec 32 := Scalar.muli arg21 c128_i32_2332
  let v3933 : BitVec 32 := Scalar.addi c2352_i32_2333 v3932
  let c64_i32_2334 : BitVec 32 := 64#32
  let v3934 : BitVec 32 := Scalar.addi v3933 c64_i32_2334
  let c24_i32_2335 : BitVec 32 := 24#32
  let v3935 : BitVec 32 := Scalar.addi v3934 c24_i32_2335
  v3935
def k0_mult190 (k0_t3 : Fin k0_t3_loop.trips) : BitVec 32 :=
  let c2352_i32_2339 : BitVec 32 := 2352#32
  let c0_i32_165 : BitVec 32 := 0#32
  let c1_i32_167 : BitVec 32 := 1#32
  let arg21 : BitVec 32 := Scf.iv c0_i32_165 c1_i32_167 k0_t3
  let c128_i32_2338 : BitVec 32 := 128#32
  let v3943 : BitVec 32 := Scalar.muli arg21 c128_i32_2338
  let v3944 : BitVec 32 := Scalar.addi c2352_i32_2339 v3943
  let c64_i32_2340 : BitVec 32 := 64#32
  let v3945 : BitVec 32 := Scalar.addi v3944 c64_i32_2340
  let c24_i32_2341 : BitVec 32 := 24#32
  let v3946 : BitVec 32 := Scalar.addi v3945 c24_i32_2341
  v3946
def k0_mult191 (k0_t3 : Fin k0_t3_loop.trips) : BitVec 32 :=
  let c0_i32_165 : BitVec 32 := 0#32
  let c1_i32_167 : BitVec 32 := 1#32
  let arg21 : BitVec 32 := Scf.iv c0_i32_165 c1_i32_167 k0_t3
  let c128_i32_2344 : BitVec 32 := 128#32
  let v3952 : BitVec 32 := Scalar.muli arg21 c128_i32_2344
  let c96_i32 : BitVec 32 := 96#32
  let v3953 : BitVec 32 := Scalar.addi v3952 c96_i32
  v3953
def k0_mult192 (k0_t3 : Fin k0_t3_loop.trips) : BitVec 32 :=
  let c2352_i32_2351 : BitVec 32 := 2352#32
  let c0_i32_165 : BitVec 32 := 0#32
  let c1_i32_167 : BitVec 32 := 1#32
  let arg21 : BitVec 32 := Scf.iv c0_i32_165 c1_i32_167 k0_t3
  let c128_i32_2350 : BitVec 32 := 128#32
  let v3971 : BitVec 32 := Scalar.muli arg21 c128_i32_2350
  let v3972 : BitVec 32 := Scalar.addi c2352_i32_2351 v3971
  let c96_i32_2352 : BitVec 32 := 96#32
  let v3973 : BitVec 32 := Scalar.addi v3972 c96_i32_2352
  let c0_i32_2353 : BitVec 32 := 0#32
  let v3974 : BitVec 32 := Scalar.addi v3973 c0_i32_2353
  v3974
def k0_mult193 (k0_t3 : Fin k0_t3_loop.trips) : BitVec 32 :=
  let c2352_i32_2357 : BitVec 32 := 2352#32
  let c0_i32_165 : BitVec 32 := 0#32
  let c1_i32_167 : BitVec 32 := 1#32
  let arg21 : BitVec 32 := Scf.iv c0_i32_165 c1_i32_167 k0_t3
  let c128_i32_2356 : BitVec 32 := 128#32
  let v3982 : BitVec 32 := Scalar.muli arg21 c128_i32_2356
  let v3983 : BitVec 32 := Scalar.addi c2352_i32_2357 v3982
  let c96_i32_2358 : BitVec 32 := 96#32
  let v3984 : BitVec 32 := Scalar.addi v3983 c96_i32_2358
  let c0_i32_2359 : BitVec 32 := 0#32
  let v3985 : BitVec 32 := Scalar.addi v3984 c0_i32_2359
  v3985
def k0_mult194 (k0_t3 : Fin k0_t3_loop.trips) : BitVec 32 :=
  let c2352_i32_2363 : BitVec 32 := 2352#32
  let c0_i32_165 : BitVec 32 := 0#32
  let c1_i32_167 : BitVec 32 := 1#32
  let arg21 : BitVec 32 := Scf.iv c0_i32_165 c1_i32_167 k0_t3
  let c128_i32_2362 : BitVec 32 := 128#32
  let v3993 : BitVec 32 := Scalar.muli arg21 c128_i32_2362
  let v3994 : BitVec 32 := Scalar.addi c2352_i32_2363 v3993
  let c96_i32_2364 : BitVec 32 := 96#32
  let v3995 : BitVec 32 := Scalar.addi v3994 c96_i32_2364
  let c0_i32_2365 : BitVec 32 := 0#32
  let v3996 : BitVec 32 := Scalar.addi v3995 c0_i32_2365
  v3996
def k0_mult195 (k0_t3 : Fin k0_t3_loop.trips) : BitVec 32 :=
  let c2352_i32_2369 : BitVec 32 := 2352#32
  let c0_i32_165 : BitVec 32 := 0#32
  let c1_i32_167 : BitVec 32 := 1#32
  let arg21 : BitVec 32 := Scf.iv c0_i32_165 c1_i32_167 k0_t3
  let c128_i32_2368 : BitVec 32 := 128#32
  let v4004 : BitVec 32 := Scalar.muli arg21 c128_i32_2368
  let v4005 : BitVec 32 := Scalar.addi c2352_i32_2369 v4004
  let c96_i32_2370 : BitVec 32 := 96#32
  let v4006 : BitVec 32 := Scalar.addi v4005 c96_i32_2370
  let c0_i32_2371 : BitVec 32 := 0#32
  let v4007 : BitVec 32 := Scalar.addi v4006 c0_i32_2371
  v4007
def k0_mult196 (k0_t3 : Fin k0_t3_loop.trips) : BitVec 32 :=
  let c2352_i32_2377 : BitVec 32 := 2352#32
  let c0_i32_165 : BitVec 32 := 0#32
  let c1_i32_167 : BitVec 32 := 1#32
  let arg21 : BitVec 32 := Scf.iv c0_i32_165 c1_i32_167 k0_t3
  let c128_i32_2376 : BitVec 32 := 128#32
  let v4025 : BitVec 32 := Scalar.muli arg21 c128_i32_2376
  let v4026 : BitVec 32 := Scalar.addi c2352_i32_2377 v4025
  let c96_i32_2378 : BitVec 32 := 96#32
  let v4027 : BitVec 32 := Scalar.addi v4026 c96_i32_2378
  let c8_i32_2379 : BitVec 32 := 8#32
  let v4028 : BitVec 32 := Scalar.addi v4027 c8_i32_2379
  v4028
def k0_mult197 (k0_t3 : Fin k0_t3_loop.trips) : BitVec 32 :=
  let c2352_i32_2383 : BitVec 32 := 2352#32
  let c0_i32_165 : BitVec 32 := 0#32
  let c1_i32_167 : BitVec 32 := 1#32
  let arg21 : BitVec 32 := Scf.iv c0_i32_165 c1_i32_167 k0_t3
  let c128_i32_2382 : BitVec 32 := 128#32
  let v4036 : BitVec 32 := Scalar.muli arg21 c128_i32_2382
  let v4037 : BitVec 32 := Scalar.addi c2352_i32_2383 v4036
  let c96_i32_2384 : BitVec 32 := 96#32
  let v4038 : BitVec 32 := Scalar.addi v4037 c96_i32_2384
  let c8_i32_2385 : BitVec 32 := 8#32
  let v4039 : BitVec 32 := Scalar.addi v4038 c8_i32_2385
  v4039
def k0_mult198 (k0_t3 : Fin k0_t3_loop.trips) : BitVec 32 :=
  let c2352_i32_2389 : BitVec 32 := 2352#32
  let c0_i32_165 : BitVec 32 := 0#32
  let c1_i32_167 : BitVec 32 := 1#32
  let arg21 : BitVec 32 := Scf.iv c0_i32_165 c1_i32_167 k0_t3
  let c128_i32_2388 : BitVec 32 := 128#32
  let v4047 : BitVec 32 := Scalar.muli arg21 c128_i32_2388
  let v4048 : BitVec 32 := Scalar.addi c2352_i32_2389 v4047
  let c96_i32_2390 : BitVec 32 := 96#32
  let v4049 : BitVec 32 := Scalar.addi v4048 c96_i32_2390
  let c8_i32_2391 : BitVec 32 := 8#32
  let v4050 : BitVec 32 := Scalar.addi v4049 c8_i32_2391
  v4050
def k0_mult199 (k0_t3 : Fin k0_t3_loop.trips) : BitVec 32 :=
  let c2352_i32_2395 : BitVec 32 := 2352#32
  let c0_i32_165 : BitVec 32 := 0#32
  let c1_i32_167 : BitVec 32 := 1#32
  let arg21 : BitVec 32 := Scf.iv c0_i32_165 c1_i32_167 k0_t3
  let c128_i32_2394 : BitVec 32 := 128#32
  let v4058 : BitVec 32 := Scalar.muli arg21 c128_i32_2394
  let v4059 : BitVec 32 := Scalar.addi c2352_i32_2395 v4058
  let c96_i32_2396 : BitVec 32 := 96#32
  let v4060 : BitVec 32 := Scalar.addi v4059 c96_i32_2396
  let c8_i32_2397 : BitVec 32 := 8#32
  let v4061 : BitVec 32 := Scalar.addi v4060 c8_i32_2397
  v4061
def k0_mult200 (k0_t3 : Fin k0_t3_loop.trips) : BitVec 32 :=
  let c2352_i32_2403 : BitVec 32 := 2352#32
  let c0_i32_165 : BitVec 32 := 0#32
  let c1_i32_167 : BitVec 32 := 1#32
  let arg21 : BitVec 32 := Scf.iv c0_i32_165 c1_i32_167 k0_t3
  let c128_i32_2402 : BitVec 32 := 128#32
  let v4079 : BitVec 32 := Scalar.muli arg21 c128_i32_2402
  let v4080 : BitVec 32 := Scalar.addi c2352_i32_2403 v4079
  let c96_i32_2404 : BitVec 32 := 96#32
  let v4081 : BitVec 32 := Scalar.addi v4080 c96_i32_2404
  let c16_i32_2405 : BitVec 32 := 16#32
  let v4082 : BitVec 32 := Scalar.addi v4081 c16_i32_2405
  v4082
def k0_mult201 (k0_t3 : Fin k0_t3_loop.trips) : BitVec 32 :=
  let c2352_i32_2409 : BitVec 32 := 2352#32
  let c0_i32_165 : BitVec 32 := 0#32
  let c1_i32_167 : BitVec 32 := 1#32
  let arg21 : BitVec 32 := Scf.iv c0_i32_165 c1_i32_167 k0_t3
  let c128_i32_2408 : BitVec 32 := 128#32
  let v4090 : BitVec 32 := Scalar.muli arg21 c128_i32_2408
  let v4091 : BitVec 32 := Scalar.addi c2352_i32_2409 v4090
  let c96_i32_2410 : BitVec 32 := 96#32
  let v4092 : BitVec 32 := Scalar.addi v4091 c96_i32_2410
  let c16_i32_2411 : BitVec 32 := 16#32
  let v4093 : BitVec 32 := Scalar.addi v4092 c16_i32_2411
  v4093
def k0_mult202 (k0_t3 : Fin k0_t3_loop.trips) : BitVec 32 :=
  let c2352_i32_2415 : BitVec 32 := 2352#32
  let c0_i32_165 : BitVec 32 := 0#32
  let c1_i32_167 : BitVec 32 := 1#32
  let arg21 : BitVec 32 := Scf.iv c0_i32_165 c1_i32_167 k0_t3
  let c128_i32_2414 : BitVec 32 := 128#32
  let v4101 : BitVec 32 := Scalar.muli arg21 c128_i32_2414
  let v4102 : BitVec 32 := Scalar.addi c2352_i32_2415 v4101
  let c96_i32_2416 : BitVec 32 := 96#32
  let v4103 : BitVec 32 := Scalar.addi v4102 c96_i32_2416
  let c16_i32_2417 : BitVec 32 := 16#32
  let v4104 : BitVec 32 := Scalar.addi v4103 c16_i32_2417
  v4104
def k0_mult203 (k0_t3 : Fin k0_t3_loop.trips) : BitVec 32 :=
  let c2352_i32_2421 : BitVec 32 := 2352#32
  let c0_i32_165 : BitVec 32 := 0#32
  let c1_i32_167 : BitVec 32 := 1#32
  let arg21 : BitVec 32 := Scf.iv c0_i32_165 c1_i32_167 k0_t3
  let c128_i32_2420 : BitVec 32 := 128#32
  let v4112 : BitVec 32 := Scalar.muli arg21 c128_i32_2420
  let v4113 : BitVec 32 := Scalar.addi c2352_i32_2421 v4112
  let c96_i32_2422 : BitVec 32 := 96#32
  let v4114 : BitVec 32 := Scalar.addi v4113 c96_i32_2422
  let c16_i32_2423 : BitVec 32 := 16#32
  let v4115 : BitVec 32 := Scalar.addi v4114 c16_i32_2423
  v4115
def k0_mult204 (k0_t3 : Fin k0_t3_loop.trips) : BitVec 32 :=
  let c2352_i32_2429 : BitVec 32 := 2352#32
  let c0_i32_165 : BitVec 32 := 0#32
  let c1_i32_167 : BitVec 32 := 1#32
  let arg21 : BitVec 32 := Scf.iv c0_i32_165 c1_i32_167 k0_t3
  let c128_i32_2428 : BitVec 32 := 128#32
  let v4133 : BitVec 32 := Scalar.muli arg21 c128_i32_2428
  let v4134 : BitVec 32 := Scalar.addi c2352_i32_2429 v4133
  let c96_i32_2430 : BitVec 32 := 96#32
  let v4135 : BitVec 32 := Scalar.addi v4134 c96_i32_2430
  let c24_i32_2431 : BitVec 32 := 24#32
  let v4136 : BitVec 32 := Scalar.addi v4135 c24_i32_2431
  v4136
def k0_mult205 (k0_t3 : Fin k0_t3_loop.trips) : BitVec 32 :=
  let c2352_i32_2435 : BitVec 32 := 2352#32
  let c0_i32_165 : BitVec 32 := 0#32
  let c1_i32_167 : BitVec 32 := 1#32
  let arg21 : BitVec 32 := Scf.iv c0_i32_165 c1_i32_167 k0_t3
  let c128_i32_2434 : BitVec 32 := 128#32
  let v4144 : BitVec 32 := Scalar.muli arg21 c128_i32_2434
  let v4145 : BitVec 32 := Scalar.addi c2352_i32_2435 v4144
  let c96_i32_2436 : BitVec 32 := 96#32
  let v4146 : BitVec 32 := Scalar.addi v4145 c96_i32_2436
  let c24_i32_2437 : BitVec 32 := 24#32
  let v4147 : BitVec 32 := Scalar.addi v4146 c24_i32_2437
  v4147
def k0_mult206 (k0_t3 : Fin k0_t3_loop.trips) : BitVec 32 :=
  let c2352_i32_2441 : BitVec 32 := 2352#32
  let c0_i32_165 : BitVec 32 := 0#32
  let c1_i32_167 : BitVec 32 := 1#32
  let arg21 : BitVec 32 := Scf.iv c0_i32_165 c1_i32_167 k0_t3
  let c128_i32_2440 : BitVec 32 := 128#32
  let v4155 : BitVec 32 := Scalar.muli arg21 c128_i32_2440
  let v4156 : BitVec 32 := Scalar.addi c2352_i32_2441 v4155
  let c96_i32_2442 : BitVec 32 := 96#32
  let v4157 : BitVec 32 := Scalar.addi v4156 c96_i32_2442
  let c24_i32_2443 : BitVec 32 := 24#32
  let v4158 : BitVec 32 := Scalar.addi v4157 c24_i32_2443
  v4158
def k0_mult207 (k0_t3 : Fin k0_t3_loop.trips) : BitVec 32 :=
  let c2352_i32_2447 : BitVec 32 := 2352#32
  let c0_i32_165 : BitVec 32 := 0#32
  let c1_i32_167 : BitVec 32 := 1#32
  let arg21 : BitVec 32 := Scf.iv c0_i32_165 c1_i32_167 k0_t3
  let c128_i32_2446 : BitVec 32 := 128#32
  let v4166 : BitVec 32 := Scalar.muli arg21 c128_i32_2446
  let v4167 : BitVec 32 := Scalar.addi c2352_i32_2447 v4166
  let c96_i32_2448 : BitVec 32 := 96#32
  let v4168 : BitVec 32 := Scalar.addi v4167 c96_i32_2448
  let c24_i32_2449 : BitVec 32 := 24#32
  let v4169 : BitVec 32 := Scalar.addi v4168 c24_i32_2449
  v4169
@[reducible] def k0_t4_loop : Scf.Loop 32 :=
  let c0_i32_206 : BitVec 32 := 0#32
  let c9_i32_207 : BitVec 32 := 9#32
  let v455 : BitVec 32 := Scalar.addi c0_i32_206 c9_i32_207
  let c1_i32_208 : BitVec 32 := 1#32
  ⟨c0_i32_206, v455, c1_i32_208⟩
def k0_mult208 (k0_t4 : Fin k0_t4_loop.trips) : BitVec 32 :=
  let c0_i32_206 : BitVec 32 := 0#32
  let c1_i32_208 : BitVec 32 := 1#32
  let arg21 : BitVec 32 := Scf.iv c0_i32_206 c1_i32_208 k0_t4
  let c128_i32 : BitVec 32 := 128#32
  let v3276 : BitVec 32 := Scalar.muli arg21 c128_i32
  v3276
def k0_off19 (k0_t4 : Fin k0_t4_loop.trips) : Fin 3 → Nat :=
  let c3_2017 : Index := 3#32
  let c0_2018 : Index := 0#32
  let c0_i32_206 : BitVec 32 := 0#32
  let c1_i32_208 : BitVec 32 := 1#32
  let arg21 : BitVec 32 := Scf.iv c0_i32_206 c1_i32_208 k0_t4
  let c128_i32 : BitVec 32 := 128#32
  let v3276 : BitVec 32 := Scalar.muli arg21 c128_i32
  let v3277 : BitVec 32 := v3276
  let v3278 : Index := Scalar.indexCast v3277
  ![3, 0, v3278.toNat]
def k0_mult209 (k0_t4 : Fin k0_t4_loop.trips) : BitVec 32 :=
  let c0_i32_206 : BitVec 32 := 0#32
  let c1_i32_208 : BitVec 32 := 1#32
  let arg21 : BitVec 32 := Scf.iv c0_i32_206 c1_i32_208 k0_t4
  let c128_i32_2019 : BitVec 32 := 128#32
  let v3283 : BitVec 32 := Scalar.muli arg21 c128_i32_2019
  let c0_i32_2020 : BitVec 32 := 0#32
  let v3284 : BitVec 32 := Scalar.addi v3283 c0_i32_2020
  v3284
def k0_off20 (k0_t4 : Fin k0_t4_loop.trips) (c0_i32_2020 : BitVec 32) : Fin 3 → Nat :=
  let c3_2021 : Index := 3#32
  let c0_i32_206 : BitVec 32 := 0#32
  let c1_i32_208 : BitVec 32 := 1#32
  let arg21 : BitVec 32 := Scf.iv c0_i32_206 c1_i32_208 k0_t4
  let c128_i32_2019 : BitVec 32 := 128#32
  let v3283 : BitVec 32 := Scalar.muli arg21 c128_i32_2019
  let v3284 : BitVec 32 := Scalar.addi v3283 c0_i32_2020
  let v3285 : BitVec 32 := v3284
  let v3286 : Index := Scalar.indexCast v3285
  let c0_2022 : Index := 0#32
  ![3, v3286.toNat, 0]
def k0_mult210 (k0_t4 : Fin k0_t4_loop.trips) : BitVec 32 :=
  let c3520_i32 : BitVec 32 := 3520#32
  let c0_i32_206 : BitVec 32 := 0#32
  let c1_i32_208 : BitVec 32 := 1#32
  let arg21 : BitVec 32 := Scf.iv c0_i32_206 c1_i32_208 k0_t4
  let c128_i32_2026 : BitVec 32 := 128#32
  let v3302 : BitVec 32 := Scalar.muli arg21 c128_i32_2026
  let v3303 : BitVec 32 := Scalar.addi c3520_i32 v3302
  let c0_i32_2027 : BitVec 32 := 0#32
  let v3304 : BitVec 32 := Scalar.addi v3303 c0_i32_2027
  let c0_i32_2028 : BitVec 32 := 0#32
  let v3305 : BitVec 32 := Scalar.addi v3304 c0_i32_2028
  v3305
def k0_off21 (k0_t4 : Fin k0_t4_loop.trips) (c0_i32_2027 : BitVec 32) (c0_i32_2028 : BitVec 32) : Fin 3 → Nat :=
  let c0_2029 : Index := 0#32
  let c3520_i32 : BitVec 32 := 3520#32
  let c0_i32_206 : BitVec 32 := 0#32
  let c1_i32_208 : BitVec 32 := 1#32
  let arg21 : BitVec 32 := Scf.iv c0_i32_206 c1_i32_208 k0_t4
  let c128_i32_2026 : BitVec 32 := 128#32
  let v3302 : BitVec 32 := Scalar.muli arg21 c128_i32_2026
  let v3303 : BitVec 32 := Scalar.addi c3520_i32 v3302
  let v3304 : BitVec 32 := Scalar.addi v3303 c0_i32_2027
  let v3305 : BitVec 32 := Scalar.addi v3304 c0_i32_2028
  let v3306 : BitVec 32 := v3305
  let v3307 : Index := Scalar.indexCast v3306
  let c0_2030 : Index := 0#32
  ![0, v3307.toNat, 0]
def k0_mult211 (k0_t4 : Fin k0_t4_loop.trips) : BitVec 32 :=
  let c3520_i32_2032 : BitVec 32 := 3520#32
  let c0_i32_206 : BitVec 32 := 0#32
  let c1_i32_208 : BitVec 32 := 1#32
  let arg21 : BitVec 32 := Scf.iv c0_i32_206 c1_i32_208 k0_t4
  let c128_i32_2031 : BitVec 32 := 128#32
  let v3313 : BitVec 32 := Scalar.muli arg21 c128_i32_2031
  let v3314 : BitVec 32 := Scalar.addi c3520_i32_2032 v3313
  let c0_i32_2033 : BitVec 32 := 0#32
  let v3315 : BitVec 32 := Scalar.addi v3314 c0_i32_2033
  let c0_i32_2034 : BitVec 32 := 0#32
  let v3316 : BitVec 32 := Scalar.addi v3315 c0_i32_2034
  v3316
def k0_off22 (k0_t4 : Fin k0_t4_loop.trips) (c0_i32_2033 : BitVec 32) (c0_i32_2034 : BitVec 32) : Fin 3 → Nat :=
  let c1_2035 : Index := 1#32
  let c3520_i32_2032 : BitVec 32 := 3520#32
  let c0_i32_206 : BitVec 32 := 0#32
  let c1_i32_208 : BitVec 32 := 1#32
  let arg21 : BitVec 32 := Scf.iv c0_i32_206 c1_i32_208 k0_t4
  let c128_i32_2031 : BitVec 32 := 128#32
  let v3313 : BitVec 32 := Scalar.muli arg21 c128_i32_2031
  let v3314 : BitVec 32 := Scalar.addi c3520_i32_2032 v3313
  let v3315 : BitVec 32 := Scalar.addi v3314 c0_i32_2033
  let v3316 : BitVec 32 := Scalar.addi v3315 c0_i32_2034
  let v3317 : BitVec 32 := v3316
  let v3318 : Index := Scalar.indexCast v3317
  let c0_2036 : Index := 0#32
  ![1, v3318.toNat, 0]
def k0_mult212 (k0_t4 : Fin k0_t4_loop.trips) : BitVec 32 :=
  let c3520_i32_2038 : BitVec 32 := 3520#32
  let c0_i32_206 : BitVec 32 := 0#32
  let c1_i32_208 : BitVec 32 := 1#32
  let arg21 : BitVec 32 := Scf.iv c0_i32_206 c1_i32_208 k0_t4
  let c128_i32_2037 : BitVec 32 := 128#32
  let v3324 : BitVec 32 := Scalar.muli arg21 c128_i32_2037
  let v3325 : BitVec 32 := Scalar.addi c3520_i32_2038 v3324
  let c0_i32_2039 : BitVec 32 := 0#32
  let v3326 : BitVec 32 := Scalar.addi v3325 c0_i32_2039
  let c0_i32_2040 : BitVec 32 := 0#32
  let v3327 : BitVec 32 := Scalar.addi v3326 c0_i32_2040
  v3327
def k0_off23 (k0_t4 : Fin k0_t4_loop.trips) (c0_i32_2039 : BitVec 32) (c0_i32_2040 : BitVec 32) : Fin 3 → Nat :=
  let c2_2041 : Index := 2#32
  let c3520_i32_2038 : BitVec 32 := 3520#32
  let c0_i32_206 : BitVec 32 := 0#32
  let c1_i32_208 : BitVec 32 := 1#32
  let arg21 : BitVec 32 := Scf.iv c0_i32_206 c1_i32_208 k0_t4
  let c128_i32_2037 : BitVec 32 := 128#32
  let v3324 : BitVec 32 := Scalar.muli arg21 c128_i32_2037
  let v3325 : BitVec 32 := Scalar.addi c3520_i32_2038 v3324
  let v3326 : BitVec 32 := Scalar.addi v3325 c0_i32_2039
  let v3327 : BitVec 32 := Scalar.addi v3326 c0_i32_2040
  let v3328 : BitVec 32 := v3327
  let v3329 : Index := Scalar.indexCast v3328
  let c0_2042 : Index := 0#32
  ![2, v3329.toNat, 0]
def k0_mult213 (k0_t4 : Fin k0_t4_loop.trips) : BitVec 32 :=
  let c3520_i32_2044 : BitVec 32 := 3520#32
  let c0_i32_206 : BitVec 32 := 0#32
  let c1_i32_208 : BitVec 32 := 1#32
  let arg21 : BitVec 32 := Scf.iv c0_i32_206 c1_i32_208 k0_t4
  let c128_i32_2043 : BitVec 32 := 128#32
  let v3335 : BitVec 32 := Scalar.muli arg21 c128_i32_2043
  let v3336 : BitVec 32 := Scalar.addi c3520_i32_2044 v3335
  let c0_i32_2045 : BitVec 32 := 0#32
  let v3337 : BitVec 32 := Scalar.addi v3336 c0_i32_2045
  let c0_i32_2046 : BitVec 32 := 0#32
  let v3338 : BitVec 32 := Scalar.addi v3337 c0_i32_2046
  v3338
def k0_off24 (k0_t4 : Fin k0_t4_loop.trips) (c0_i32_2045 : BitVec 32) (c0_i32_2046 : BitVec 32) : Fin 3 → Nat :=
  let c3_2047 : Index := 3#32
  let c3520_i32_2044 : BitVec 32 := 3520#32
  let c0_i32_206 : BitVec 32 := 0#32
  let c1_i32_208 : BitVec 32 := 1#32
  let arg21 : BitVec 32 := Scf.iv c0_i32_206 c1_i32_208 k0_t4
  let c128_i32_2043 : BitVec 32 := 128#32
  let v3335 : BitVec 32 := Scalar.muli arg21 c128_i32_2043
  let v3336 : BitVec 32 := Scalar.addi c3520_i32_2044 v3335
  let v3337 : BitVec 32 := Scalar.addi v3336 c0_i32_2045
  let v3338 : BitVec 32 := Scalar.addi v3337 c0_i32_2046
  let v3339 : BitVec 32 := v3338
  let v3340 : Index := Scalar.indexCast v3339
  let c0_2048 : Index := 0#32
  ![3, v3340.toNat, 0]
def k0_mult214 (k0_t4 : Fin k0_t4_loop.trips) : BitVec 32 :=
  let c3520_i32_2053 : BitVec 32 := 3520#32
  let c0_i32_206 : BitVec 32 := 0#32
  let c1_i32_208 : BitVec 32 := 1#32
  let arg21 : BitVec 32 := Scf.iv c0_i32_206 c1_i32_208 k0_t4
  let c128_i32_2052 : BitVec 32 := 128#32
  let v3356 : BitVec 32 := Scalar.muli arg21 c128_i32_2052
  let v3357 : BitVec 32 := Scalar.addi c3520_i32_2053 v3356
  let c0_i32_2054 : BitVec 32 := 0#32
  let v3358 : BitVec 32 := Scalar.addi v3357 c0_i32_2054
  let c8_i32_2055 : BitVec 32 := 8#32
  let v3359 : BitVec 32 := Scalar.addi v3358 c8_i32_2055
  v3359
def k0_mult215 (k0_t4 : Fin k0_t4_loop.trips) : BitVec 32 :=
  let c3520_i32_2059 : BitVec 32 := 3520#32
  let c0_i32_206 : BitVec 32 := 0#32
  let c1_i32_208 : BitVec 32 := 1#32
  let arg21 : BitVec 32 := Scf.iv c0_i32_206 c1_i32_208 k0_t4
  let c128_i32_2058 : BitVec 32 := 128#32
  let v3367 : BitVec 32 := Scalar.muli arg21 c128_i32_2058
  let v3368 : BitVec 32 := Scalar.addi c3520_i32_2059 v3367
  let c0_i32_2060 : BitVec 32 := 0#32
  let v3369 : BitVec 32 := Scalar.addi v3368 c0_i32_2060
  let c8_i32_2061 : BitVec 32 := 8#32
  let v3370 : BitVec 32 := Scalar.addi v3369 c8_i32_2061
  v3370
def k0_mult216 (k0_t4 : Fin k0_t4_loop.trips) : BitVec 32 :=
  let c3520_i32_2065 : BitVec 32 := 3520#32
  let c0_i32_206 : BitVec 32 := 0#32
  let c1_i32_208 : BitVec 32 := 1#32
  let arg21 : BitVec 32 := Scf.iv c0_i32_206 c1_i32_208 k0_t4
  let c128_i32_2064 : BitVec 32 := 128#32
  let v3378 : BitVec 32 := Scalar.muli arg21 c128_i32_2064
  let v3379 : BitVec 32 := Scalar.addi c3520_i32_2065 v3378
  let c0_i32_2066 : BitVec 32 := 0#32
  let v3380 : BitVec 32 := Scalar.addi v3379 c0_i32_2066
  let c8_i32_2067 : BitVec 32 := 8#32
  let v3381 : BitVec 32 := Scalar.addi v3380 c8_i32_2067
  v3381
def k0_mult217 (k0_t4 : Fin k0_t4_loop.trips) : BitVec 32 :=
  let c3520_i32_2071 : BitVec 32 := 3520#32
  let c0_i32_206 : BitVec 32 := 0#32
  let c1_i32_208 : BitVec 32 := 1#32
  let arg21 : BitVec 32 := Scf.iv c0_i32_206 c1_i32_208 k0_t4
  let c128_i32_2070 : BitVec 32 := 128#32
  let v3389 : BitVec 32 := Scalar.muli arg21 c128_i32_2070
  let v3390 : BitVec 32 := Scalar.addi c3520_i32_2071 v3389
  let c0_i32_2072 : BitVec 32 := 0#32
  let v3391 : BitVec 32 := Scalar.addi v3390 c0_i32_2072
  let c8_i32_2073 : BitVec 32 := 8#32
  let v3392 : BitVec 32 := Scalar.addi v3391 c8_i32_2073
  v3392
def k0_mult218 (k0_t4 : Fin k0_t4_loop.trips) : BitVec 32 :=
  let c3520_i32_2079 : BitVec 32 := 3520#32
  let c0_i32_206 : BitVec 32 := 0#32
  let c1_i32_208 : BitVec 32 := 1#32
  let arg21 : BitVec 32 := Scf.iv c0_i32_206 c1_i32_208 k0_t4
  let c128_i32_2078 : BitVec 32 := 128#32
  let v3410 : BitVec 32 := Scalar.muli arg21 c128_i32_2078
  let v3411 : BitVec 32 := Scalar.addi c3520_i32_2079 v3410
  let c0_i32_2080 : BitVec 32 := 0#32
  let v3412 : BitVec 32 := Scalar.addi v3411 c0_i32_2080
  let c16_i32_2081 : BitVec 32 := 16#32
  let v3413 : BitVec 32 := Scalar.addi v3412 c16_i32_2081
  v3413
def k0_mult219 (k0_t4 : Fin k0_t4_loop.trips) : BitVec 32 :=
  let c3520_i32_2085 : BitVec 32 := 3520#32
  let c0_i32_206 : BitVec 32 := 0#32
  let c1_i32_208 : BitVec 32 := 1#32
  let arg21 : BitVec 32 := Scf.iv c0_i32_206 c1_i32_208 k0_t4
  let c128_i32_2084 : BitVec 32 := 128#32
  let v3421 : BitVec 32 := Scalar.muli arg21 c128_i32_2084
  let v3422 : BitVec 32 := Scalar.addi c3520_i32_2085 v3421
  let c0_i32_2086 : BitVec 32 := 0#32
  let v3423 : BitVec 32 := Scalar.addi v3422 c0_i32_2086
  let c16_i32_2087 : BitVec 32 := 16#32
  let v3424 : BitVec 32 := Scalar.addi v3423 c16_i32_2087
  v3424
def k0_mult220 (k0_t4 : Fin k0_t4_loop.trips) : BitVec 32 :=
  let c3520_i32_2091 : BitVec 32 := 3520#32
  let c0_i32_206 : BitVec 32 := 0#32
  let c1_i32_208 : BitVec 32 := 1#32
  let arg21 : BitVec 32 := Scf.iv c0_i32_206 c1_i32_208 k0_t4
  let c128_i32_2090 : BitVec 32 := 128#32
  let v3432 : BitVec 32 := Scalar.muli arg21 c128_i32_2090
  let v3433 : BitVec 32 := Scalar.addi c3520_i32_2091 v3432
  let c0_i32_2092 : BitVec 32 := 0#32
  let v3434 : BitVec 32 := Scalar.addi v3433 c0_i32_2092
  let c16_i32_2093 : BitVec 32 := 16#32
  let v3435 : BitVec 32 := Scalar.addi v3434 c16_i32_2093
  v3435
def k0_mult221 (k0_t4 : Fin k0_t4_loop.trips) : BitVec 32 :=
  let c3520_i32_2097 : BitVec 32 := 3520#32
  let c0_i32_206 : BitVec 32 := 0#32
  let c1_i32_208 : BitVec 32 := 1#32
  let arg21 : BitVec 32 := Scf.iv c0_i32_206 c1_i32_208 k0_t4
  let c128_i32_2096 : BitVec 32 := 128#32
  let v3443 : BitVec 32 := Scalar.muli arg21 c128_i32_2096
  let v3444 : BitVec 32 := Scalar.addi c3520_i32_2097 v3443
  let c0_i32_2098 : BitVec 32 := 0#32
  let v3445 : BitVec 32 := Scalar.addi v3444 c0_i32_2098
  let c16_i32_2099 : BitVec 32 := 16#32
  let v3446 : BitVec 32 := Scalar.addi v3445 c16_i32_2099
  v3446
def k0_mult222 (k0_t4 : Fin k0_t4_loop.trips) : BitVec 32 :=
  let c3520_i32_2105 : BitVec 32 := 3520#32
  let c0_i32_206 : BitVec 32 := 0#32
  let c1_i32_208 : BitVec 32 := 1#32
  let arg21 : BitVec 32 := Scf.iv c0_i32_206 c1_i32_208 k0_t4
  let c128_i32_2104 : BitVec 32 := 128#32
  let v3464 : BitVec 32 := Scalar.muli arg21 c128_i32_2104
  let v3465 : BitVec 32 := Scalar.addi c3520_i32_2105 v3464
  let c0_i32_2106 : BitVec 32 := 0#32
  let v3466 : BitVec 32 := Scalar.addi v3465 c0_i32_2106
  let c24_i32_2107 : BitVec 32 := 24#32
  let v3467 : BitVec 32 := Scalar.addi v3466 c24_i32_2107
  v3467
def k0_mult223 (k0_t4 : Fin k0_t4_loop.trips) : BitVec 32 :=
  let c3520_i32_2111 : BitVec 32 := 3520#32
  let c0_i32_206 : BitVec 32 := 0#32
  let c1_i32_208 : BitVec 32 := 1#32
  let arg21 : BitVec 32 := Scf.iv c0_i32_206 c1_i32_208 k0_t4
  let c128_i32_2110 : BitVec 32 := 128#32
  let v3475 : BitVec 32 := Scalar.muli arg21 c128_i32_2110
  let v3476 : BitVec 32 := Scalar.addi c3520_i32_2111 v3475
  let c0_i32_2112 : BitVec 32 := 0#32
  let v3477 : BitVec 32 := Scalar.addi v3476 c0_i32_2112
  let c24_i32_2113 : BitVec 32 := 24#32
  let v3478 : BitVec 32 := Scalar.addi v3477 c24_i32_2113
  v3478
def k0_mult224 (k0_t4 : Fin k0_t4_loop.trips) : BitVec 32 :=
  let c3520_i32_2117 : BitVec 32 := 3520#32
  let c0_i32_206 : BitVec 32 := 0#32
  let c1_i32_208 : BitVec 32 := 1#32
  let arg21 : BitVec 32 := Scf.iv c0_i32_206 c1_i32_208 k0_t4
  let c128_i32_2116 : BitVec 32 := 128#32
  let v3486 : BitVec 32 := Scalar.muli arg21 c128_i32_2116
  let v3487 : BitVec 32 := Scalar.addi c3520_i32_2117 v3486
  let c0_i32_2118 : BitVec 32 := 0#32
  let v3488 : BitVec 32 := Scalar.addi v3487 c0_i32_2118
  let c24_i32_2119 : BitVec 32 := 24#32
  let v3489 : BitVec 32 := Scalar.addi v3488 c24_i32_2119
  v3489
def k0_mult225 (k0_t4 : Fin k0_t4_loop.trips) : BitVec 32 :=
  let c3520_i32_2123 : BitVec 32 := 3520#32
  let c0_i32_206 : BitVec 32 := 0#32
  let c1_i32_208 : BitVec 32 := 1#32
  let arg21 : BitVec 32 := Scf.iv c0_i32_206 c1_i32_208 k0_t4
  let c128_i32_2122 : BitVec 32 := 128#32
  let v3497 : BitVec 32 := Scalar.muli arg21 c128_i32_2122
  let v3498 : BitVec 32 := Scalar.addi c3520_i32_2123 v3497
  let c0_i32_2124 : BitVec 32 := 0#32
  let v3499 : BitVec 32 := Scalar.addi v3498 c0_i32_2124
  let c24_i32_2125 : BitVec 32 := 24#32
  let v3500 : BitVec 32 := Scalar.addi v3499 c24_i32_2125
  v3500
def k0_mult226 (k0_t4 : Fin k0_t4_loop.trips) : BitVec 32 :=
  let c0_i32_206 : BitVec 32 := 0#32
  let c1_i32_208 : BitVec 32 := 1#32
  let arg21 : BitVec 32 := Scf.iv c0_i32_206 c1_i32_208 k0_t4
  let c128_i32_2128 : BitVec 32 := 128#32
  let v3506 : BitVec 32 := Scalar.muli arg21 c128_i32_2128
  let c32_i32 : BitVec 32 := 32#32
  let v3507 : BitVec 32 := Scalar.addi v3506 c32_i32
  v3507
def k0_mult227 (k0_t4 : Fin k0_t4_loop.trips) : BitVec 32 :=
  let c3520_i32_2135 : BitVec 32 := 3520#32
  let c0_i32_206 : BitVec 32 := 0#32
  let c1_i32_208 : BitVec 32 := 1#32
  let arg21 : BitVec 32 := Scf.iv c0_i32_206 c1_i32_208 k0_t4
  let c128_i32_2134 : BitVec 32 := 128#32
  let v3525 : BitVec 32 := Scalar.muli arg21 c128_i32_2134
  let v3526 : BitVec 32 := Scalar.addi c3520_i32_2135 v3525
  let c32_i32_2136 : BitVec 32 := 32#32
  let v3527 : BitVec 32 := Scalar.addi v3526 c32_i32_2136
  let c0_i32_2137 : BitVec 32 := 0#32
  let v3528 : BitVec 32 := Scalar.addi v3527 c0_i32_2137
  v3528
def k0_mult228 (k0_t4 : Fin k0_t4_loop.trips) : BitVec 32 :=
  let c3520_i32_2141 : BitVec 32 := 3520#32
  let c0_i32_206 : BitVec 32 := 0#32
  let c1_i32_208 : BitVec 32 := 1#32
  let arg21 : BitVec 32 := Scf.iv c0_i32_206 c1_i32_208 k0_t4
  let c128_i32_2140 : BitVec 32 := 128#32
  let v3536 : BitVec 32 := Scalar.muli arg21 c128_i32_2140
  let v3537 : BitVec 32 := Scalar.addi c3520_i32_2141 v3536
  let c32_i32_2142 : BitVec 32 := 32#32
  let v3538 : BitVec 32 := Scalar.addi v3537 c32_i32_2142
  let c0_i32_2143 : BitVec 32 := 0#32
  let v3539 : BitVec 32 := Scalar.addi v3538 c0_i32_2143
  v3539
def k0_mult229 (k0_t4 : Fin k0_t4_loop.trips) : BitVec 32 :=
  let c3520_i32_2147 : BitVec 32 := 3520#32
  let c0_i32_206 : BitVec 32 := 0#32
  let c1_i32_208 : BitVec 32 := 1#32
  let arg21 : BitVec 32 := Scf.iv c0_i32_206 c1_i32_208 k0_t4
  let c128_i32_2146 : BitVec 32 := 128#32
  let v3547 : BitVec 32 := Scalar.muli arg21 c128_i32_2146
  let v3548 : BitVec 32 := Scalar.addi c3520_i32_2147 v3547
  let c32_i32_2148 : BitVec 32 := 32#32
  let v3549 : BitVec 32 := Scalar.addi v3548 c32_i32_2148
  let c0_i32_2149 : BitVec 32 := 0#32
  let v3550 : BitVec 32 := Scalar.addi v3549 c0_i32_2149
  v3550
def k0_mult230 (k0_t4 : Fin k0_t4_loop.trips) : BitVec 32 :=
  let c3520_i32_2153 : BitVec 32 := 3520#32
  let c0_i32_206 : BitVec 32 := 0#32
  let c1_i32_208 : BitVec 32 := 1#32
  let arg21 : BitVec 32 := Scf.iv c0_i32_206 c1_i32_208 k0_t4
  let c128_i32_2152 : BitVec 32 := 128#32
  let v3558 : BitVec 32 := Scalar.muli arg21 c128_i32_2152
  let v3559 : BitVec 32 := Scalar.addi c3520_i32_2153 v3558
  let c32_i32_2154 : BitVec 32 := 32#32
  let v3560 : BitVec 32 := Scalar.addi v3559 c32_i32_2154
  let c0_i32_2155 : BitVec 32 := 0#32
  let v3561 : BitVec 32 := Scalar.addi v3560 c0_i32_2155
  v3561
def k0_mult231 (k0_t4 : Fin k0_t4_loop.trips) : BitVec 32 :=
  let c3520_i32_2161 : BitVec 32 := 3520#32
  let c0_i32_206 : BitVec 32 := 0#32
  let c1_i32_208 : BitVec 32 := 1#32
  let arg21 : BitVec 32 := Scf.iv c0_i32_206 c1_i32_208 k0_t4
  let c128_i32_2160 : BitVec 32 := 128#32
  let v3579 : BitVec 32 := Scalar.muli arg21 c128_i32_2160
  let v3580 : BitVec 32 := Scalar.addi c3520_i32_2161 v3579
  let c32_i32_2162 : BitVec 32 := 32#32
  let v3581 : BitVec 32 := Scalar.addi v3580 c32_i32_2162
  let c8_i32_2163 : BitVec 32 := 8#32
  let v3582 : BitVec 32 := Scalar.addi v3581 c8_i32_2163
  v3582
def k0_mult232 (k0_t4 : Fin k0_t4_loop.trips) : BitVec 32 :=
  let c3520_i32_2167 : BitVec 32 := 3520#32
  let c0_i32_206 : BitVec 32 := 0#32
  let c1_i32_208 : BitVec 32 := 1#32
  let arg21 : BitVec 32 := Scf.iv c0_i32_206 c1_i32_208 k0_t4
  let c128_i32_2166 : BitVec 32 := 128#32
  let v3590 : BitVec 32 := Scalar.muli arg21 c128_i32_2166
  let v3591 : BitVec 32 := Scalar.addi c3520_i32_2167 v3590
  let c32_i32_2168 : BitVec 32 := 32#32
  let v3592 : BitVec 32 := Scalar.addi v3591 c32_i32_2168
  let c8_i32_2169 : BitVec 32 := 8#32
  let v3593 : BitVec 32 := Scalar.addi v3592 c8_i32_2169
  v3593
def k0_mult233 (k0_t4 : Fin k0_t4_loop.trips) : BitVec 32 :=
  let c3520_i32_2173 : BitVec 32 := 3520#32
  let c0_i32_206 : BitVec 32 := 0#32
  let c1_i32_208 : BitVec 32 := 1#32
  let arg21 : BitVec 32 := Scf.iv c0_i32_206 c1_i32_208 k0_t4
  let c128_i32_2172 : BitVec 32 := 128#32
  let v3601 : BitVec 32 := Scalar.muli arg21 c128_i32_2172
  let v3602 : BitVec 32 := Scalar.addi c3520_i32_2173 v3601
  let c32_i32_2174 : BitVec 32 := 32#32
  let v3603 : BitVec 32 := Scalar.addi v3602 c32_i32_2174
  let c8_i32_2175 : BitVec 32 := 8#32
  let v3604 : BitVec 32 := Scalar.addi v3603 c8_i32_2175
  v3604
def k0_mult234 (k0_t4 : Fin k0_t4_loop.trips) : BitVec 32 :=
  let c3520_i32_2179 : BitVec 32 := 3520#32
  let c0_i32_206 : BitVec 32 := 0#32
  let c1_i32_208 : BitVec 32 := 1#32
  let arg21 : BitVec 32 := Scf.iv c0_i32_206 c1_i32_208 k0_t4
  let c128_i32_2178 : BitVec 32 := 128#32
  let v3612 : BitVec 32 := Scalar.muli arg21 c128_i32_2178
  let v3613 : BitVec 32 := Scalar.addi c3520_i32_2179 v3612
  let c32_i32_2180 : BitVec 32 := 32#32
  let v3614 : BitVec 32 := Scalar.addi v3613 c32_i32_2180
  let c8_i32_2181 : BitVec 32 := 8#32
  let v3615 : BitVec 32 := Scalar.addi v3614 c8_i32_2181
  v3615
def k0_mult235 (k0_t4 : Fin k0_t4_loop.trips) : BitVec 32 :=
  let c3520_i32_2187 : BitVec 32 := 3520#32
  let c0_i32_206 : BitVec 32 := 0#32
  let c1_i32_208 : BitVec 32 := 1#32
  let arg21 : BitVec 32 := Scf.iv c0_i32_206 c1_i32_208 k0_t4
  let c128_i32_2186 : BitVec 32 := 128#32
  let v3633 : BitVec 32 := Scalar.muli arg21 c128_i32_2186
  let v3634 : BitVec 32 := Scalar.addi c3520_i32_2187 v3633
  let c32_i32_2188 : BitVec 32 := 32#32
  let v3635 : BitVec 32 := Scalar.addi v3634 c32_i32_2188
  let c16_i32_2189 : BitVec 32 := 16#32
  let v3636 : BitVec 32 := Scalar.addi v3635 c16_i32_2189
  v3636
def k0_mult236 (k0_t4 : Fin k0_t4_loop.trips) : BitVec 32 :=
  let c3520_i32_2193 : BitVec 32 := 3520#32
  let c0_i32_206 : BitVec 32 := 0#32
  let c1_i32_208 : BitVec 32 := 1#32
  let arg21 : BitVec 32 := Scf.iv c0_i32_206 c1_i32_208 k0_t4
  let c128_i32_2192 : BitVec 32 := 128#32
  let v3644 : BitVec 32 := Scalar.muli arg21 c128_i32_2192
  let v3645 : BitVec 32 := Scalar.addi c3520_i32_2193 v3644
  let c32_i32_2194 : BitVec 32 := 32#32
  let v3646 : BitVec 32 := Scalar.addi v3645 c32_i32_2194
  let c16_i32_2195 : BitVec 32 := 16#32
  let v3647 : BitVec 32 := Scalar.addi v3646 c16_i32_2195
  v3647
def k0_mult237 (k0_t4 : Fin k0_t4_loop.trips) : BitVec 32 :=
  let c3520_i32_2199 : BitVec 32 := 3520#32
  let c0_i32_206 : BitVec 32 := 0#32
  let c1_i32_208 : BitVec 32 := 1#32
  let arg21 : BitVec 32 := Scf.iv c0_i32_206 c1_i32_208 k0_t4
  let c128_i32_2198 : BitVec 32 := 128#32
  let v3655 : BitVec 32 := Scalar.muli arg21 c128_i32_2198
  let v3656 : BitVec 32 := Scalar.addi c3520_i32_2199 v3655
  let c32_i32_2200 : BitVec 32 := 32#32
  let v3657 : BitVec 32 := Scalar.addi v3656 c32_i32_2200
  let c16_i32_2201 : BitVec 32 := 16#32
  let v3658 : BitVec 32 := Scalar.addi v3657 c16_i32_2201
  v3658
def k0_mult238 (k0_t4 : Fin k0_t4_loop.trips) : BitVec 32 :=
  let c3520_i32_2205 : BitVec 32 := 3520#32
  let c0_i32_206 : BitVec 32 := 0#32
  let c1_i32_208 : BitVec 32 := 1#32
  let arg21 : BitVec 32 := Scf.iv c0_i32_206 c1_i32_208 k0_t4
  let c128_i32_2204 : BitVec 32 := 128#32
  let v3666 : BitVec 32 := Scalar.muli arg21 c128_i32_2204
  let v3667 : BitVec 32 := Scalar.addi c3520_i32_2205 v3666
  let c32_i32_2206 : BitVec 32 := 32#32
  let v3668 : BitVec 32 := Scalar.addi v3667 c32_i32_2206
  let c16_i32_2207 : BitVec 32 := 16#32
  let v3669 : BitVec 32 := Scalar.addi v3668 c16_i32_2207
  v3669
def k0_mult239 (k0_t4 : Fin k0_t4_loop.trips) : BitVec 32 :=
  let c3520_i32_2213 : BitVec 32 := 3520#32
  let c0_i32_206 : BitVec 32 := 0#32
  let c1_i32_208 : BitVec 32 := 1#32
  let arg21 : BitVec 32 := Scf.iv c0_i32_206 c1_i32_208 k0_t4
  let c128_i32_2212 : BitVec 32 := 128#32
  let v3687 : BitVec 32 := Scalar.muli arg21 c128_i32_2212
  let v3688 : BitVec 32 := Scalar.addi c3520_i32_2213 v3687
  let c32_i32_2214 : BitVec 32 := 32#32
  let v3689 : BitVec 32 := Scalar.addi v3688 c32_i32_2214
  let c24_i32_2215 : BitVec 32 := 24#32
  let v3690 : BitVec 32 := Scalar.addi v3689 c24_i32_2215
  v3690
def k0_mult240 (k0_t4 : Fin k0_t4_loop.trips) : BitVec 32 :=
  let c3520_i32_2219 : BitVec 32 := 3520#32
  let c0_i32_206 : BitVec 32 := 0#32
  let c1_i32_208 : BitVec 32 := 1#32
  let arg21 : BitVec 32 := Scf.iv c0_i32_206 c1_i32_208 k0_t4
  let c128_i32_2218 : BitVec 32 := 128#32
  let v3698 : BitVec 32 := Scalar.muli arg21 c128_i32_2218
  let v3699 : BitVec 32 := Scalar.addi c3520_i32_2219 v3698
  let c32_i32_2220 : BitVec 32 := 32#32
  let v3700 : BitVec 32 := Scalar.addi v3699 c32_i32_2220
  let c24_i32_2221 : BitVec 32 := 24#32
  let v3701 : BitVec 32 := Scalar.addi v3700 c24_i32_2221
  v3701
def k0_mult241 (k0_t4 : Fin k0_t4_loop.trips) : BitVec 32 :=
  let c3520_i32_2225 : BitVec 32 := 3520#32
  let c0_i32_206 : BitVec 32 := 0#32
  let c1_i32_208 : BitVec 32 := 1#32
  let arg21 : BitVec 32 := Scf.iv c0_i32_206 c1_i32_208 k0_t4
  let c128_i32_2224 : BitVec 32 := 128#32
  let v3709 : BitVec 32 := Scalar.muli arg21 c128_i32_2224
  let v3710 : BitVec 32 := Scalar.addi c3520_i32_2225 v3709
  let c32_i32_2226 : BitVec 32 := 32#32
  let v3711 : BitVec 32 := Scalar.addi v3710 c32_i32_2226
  let c24_i32_2227 : BitVec 32 := 24#32
  let v3712 : BitVec 32 := Scalar.addi v3711 c24_i32_2227
  v3712
def k0_mult242 (k0_t4 : Fin k0_t4_loop.trips) : BitVec 32 :=
  let c3520_i32_2231 : BitVec 32 := 3520#32
  let c0_i32_206 : BitVec 32 := 0#32
  let c1_i32_208 : BitVec 32 := 1#32
  let arg21 : BitVec 32 := Scf.iv c0_i32_206 c1_i32_208 k0_t4
  let c128_i32_2230 : BitVec 32 := 128#32
  let v3720 : BitVec 32 := Scalar.muli arg21 c128_i32_2230
  let v3721 : BitVec 32 := Scalar.addi c3520_i32_2231 v3720
  let c32_i32_2232 : BitVec 32 := 32#32
  let v3722 : BitVec 32 := Scalar.addi v3721 c32_i32_2232
  let c24_i32_2233 : BitVec 32 := 24#32
  let v3723 : BitVec 32 := Scalar.addi v3722 c24_i32_2233
  v3723
def k0_mult243 (k0_t4 : Fin k0_t4_loop.trips) : BitVec 32 :=
  let c0_i32_206 : BitVec 32 := 0#32
  let c1_i32_208 : BitVec 32 := 1#32
  let arg21 : BitVec 32 := Scf.iv c0_i32_206 c1_i32_208 k0_t4
  let c128_i32_2236 : BitVec 32 := 128#32
  let v3729 : BitVec 32 := Scalar.muli arg21 c128_i32_2236
  let c64_i32 : BitVec 32 := 64#32
  let v3730 : BitVec 32 := Scalar.addi v3729 c64_i32
  v3730
def k0_mult244 (k0_t4 : Fin k0_t4_loop.trips) : BitVec 32 :=
  let c3520_i32_2243 : BitVec 32 := 3520#32
  let c0_i32_206 : BitVec 32 := 0#32
  let c1_i32_208 : BitVec 32 := 1#32
  let arg21 : BitVec 32 := Scf.iv c0_i32_206 c1_i32_208 k0_t4
  let c128_i32_2242 : BitVec 32 := 128#32
  let v3748 : BitVec 32 := Scalar.muli arg21 c128_i32_2242
  let v3749 : BitVec 32 := Scalar.addi c3520_i32_2243 v3748
  let c64_i32_2244 : BitVec 32 := 64#32
  let v3750 : BitVec 32 := Scalar.addi v3749 c64_i32_2244
  let c0_i32_2245 : BitVec 32 := 0#32
  let v3751 : BitVec 32 := Scalar.addi v3750 c0_i32_2245
  v3751
def k0_mult245 (k0_t4 : Fin k0_t4_loop.trips) : BitVec 32 :=
  let c3520_i32_2249 : BitVec 32 := 3520#32
  let c0_i32_206 : BitVec 32 := 0#32
  let c1_i32_208 : BitVec 32 := 1#32
  let arg21 : BitVec 32 := Scf.iv c0_i32_206 c1_i32_208 k0_t4
  let c128_i32_2248 : BitVec 32 := 128#32
  let v3759 : BitVec 32 := Scalar.muli arg21 c128_i32_2248
  let v3760 : BitVec 32 := Scalar.addi c3520_i32_2249 v3759
  let c64_i32_2250 : BitVec 32 := 64#32
  let v3761 : BitVec 32 := Scalar.addi v3760 c64_i32_2250
  let c0_i32_2251 : BitVec 32 := 0#32
  let v3762 : BitVec 32 := Scalar.addi v3761 c0_i32_2251
  v3762
def k0_mult246 (k0_t4 : Fin k0_t4_loop.trips) : BitVec 32 :=
  let c3520_i32_2255 : BitVec 32 := 3520#32
  let c0_i32_206 : BitVec 32 := 0#32
  let c1_i32_208 : BitVec 32 := 1#32
  let arg21 : BitVec 32 := Scf.iv c0_i32_206 c1_i32_208 k0_t4
  let c128_i32_2254 : BitVec 32 := 128#32
  let v3770 : BitVec 32 := Scalar.muli arg21 c128_i32_2254
  let v3771 : BitVec 32 := Scalar.addi c3520_i32_2255 v3770
  let c64_i32_2256 : BitVec 32 := 64#32
  let v3772 : BitVec 32 := Scalar.addi v3771 c64_i32_2256
  let c0_i32_2257 : BitVec 32 := 0#32
  let v3773 : BitVec 32 := Scalar.addi v3772 c0_i32_2257
  v3773
def k0_mult247 (k0_t4 : Fin k0_t4_loop.trips) : BitVec 32 :=
  let c3520_i32_2261 : BitVec 32 := 3520#32
  let c0_i32_206 : BitVec 32 := 0#32
  let c1_i32_208 : BitVec 32 := 1#32
  let arg21 : BitVec 32 := Scf.iv c0_i32_206 c1_i32_208 k0_t4
  let c128_i32_2260 : BitVec 32 := 128#32
  let v3781 : BitVec 32 := Scalar.muli arg21 c128_i32_2260
  let v3782 : BitVec 32 := Scalar.addi c3520_i32_2261 v3781
  let c64_i32_2262 : BitVec 32 := 64#32
  let v3783 : BitVec 32 := Scalar.addi v3782 c64_i32_2262
  let c0_i32_2263 : BitVec 32 := 0#32
  let v3784 : BitVec 32 := Scalar.addi v3783 c0_i32_2263
  v3784
def k0_mult248 (k0_t4 : Fin k0_t4_loop.trips) : BitVec 32 :=
  let c3520_i32_2269 : BitVec 32 := 3520#32
  let c0_i32_206 : BitVec 32 := 0#32
  let c1_i32_208 : BitVec 32 := 1#32
  let arg21 : BitVec 32 := Scf.iv c0_i32_206 c1_i32_208 k0_t4
  let c128_i32_2268 : BitVec 32 := 128#32
  let v3802 : BitVec 32 := Scalar.muli arg21 c128_i32_2268
  let v3803 : BitVec 32 := Scalar.addi c3520_i32_2269 v3802
  let c64_i32_2270 : BitVec 32 := 64#32
  let v3804 : BitVec 32 := Scalar.addi v3803 c64_i32_2270
  let c8_i32_2271 : BitVec 32 := 8#32
  let v3805 : BitVec 32 := Scalar.addi v3804 c8_i32_2271
  v3805
def k0_mult249 (k0_t4 : Fin k0_t4_loop.trips) : BitVec 32 :=
  let c3520_i32_2275 : BitVec 32 := 3520#32
  let c0_i32_206 : BitVec 32 := 0#32
  let c1_i32_208 : BitVec 32 := 1#32
  let arg21 : BitVec 32 := Scf.iv c0_i32_206 c1_i32_208 k0_t4
  let c128_i32_2274 : BitVec 32 := 128#32
  let v3813 : BitVec 32 := Scalar.muli arg21 c128_i32_2274
  let v3814 : BitVec 32 := Scalar.addi c3520_i32_2275 v3813
  let c64_i32_2276 : BitVec 32 := 64#32
  let v3815 : BitVec 32 := Scalar.addi v3814 c64_i32_2276
  let c8_i32_2277 : BitVec 32 := 8#32
  let v3816 : BitVec 32 := Scalar.addi v3815 c8_i32_2277
  v3816
def k0_mult250 (k0_t4 : Fin k0_t4_loop.trips) : BitVec 32 :=
  let c3520_i32_2281 : BitVec 32 := 3520#32
  let c0_i32_206 : BitVec 32 := 0#32
  let c1_i32_208 : BitVec 32 := 1#32
  let arg21 : BitVec 32 := Scf.iv c0_i32_206 c1_i32_208 k0_t4
  let c128_i32_2280 : BitVec 32 := 128#32
  let v3824 : BitVec 32 := Scalar.muli arg21 c128_i32_2280
  let v3825 : BitVec 32 := Scalar.addi c3520_i32_2281 v3824
  let c64_i32_2282 : BitVec 32 := 64#32
  let v3826 : BitVec 32 := Scalar.addi v3825 c64_i32_2282
  let c8_i32_2283 : BitVec 32 := 8#32
  let v3827 : BitVec 32 := Scalar.addi v3826 c8_i32_2283
  v3827
def k0_mult251 (k0_t4 : Fin k0_t4_loop.trips) : BitVec 32 :=
  let c3520_i32_2287 : BitVec 32 := 3520#32
  let c0_i32_206 : BitVec 32 := 0#32
  let c1_i32_208 : BitVec 32 := 1#32
  let arg21 : BitVec 32 := Scf.iv c0_i32_206 c1_i32_208 k0_t4
  let c128_i32_2286 : BitVec 32 := 128#32
  let v3835 : BitVec 32 := Scalar.muli arg21 c128_i32_2286
  let v3836 : BitVec 32 := Scalar.addi c3520_i32_2287 v3835
  let c64_i32_2288 : BitVec 32 := 64#32
  let v3837 : BitVec 32 := Scalar.addi v3836 c64_i32_2288
  let c8_i32_2289 : BitVec 32 := 8#32
  let v3838 : BitVec 32 := Scalar.addi v3837 c8_i32_2289
  v3838
def k0_mult252 (k0_t4 : Fin k0_t4_loop.trips) : BitVec 32 :=
  let c3520_i32_2295 : BitVec 32 := 3520#32
  let c0_i32_206 : BitVec 32 := 0#32
  let c1_i32_208 : BitVec 32 := 1#32
  let arg21 : BitVec 32 := Scf.iv c0_i32_206 c1_i32_208 k0_t4
  let c128_i32_2294 : BitVec 32 := 128#32
  let v3856 : BitVec 32 := Scalar.muli arg21 c128_i32_2294
  let v3857 : BitVec 32 := Scalar.addi c3520_i32_2295 v3856
  let c64_i32_2296 : BitVec 32 := 64#32
  let v3858 : BitVec 32 := Scalar.addi v3857 c64_i32_2296
  let c16_i32_2297 : BitVec 32 := 16#32
  let v3859 : BitVec 32 := Scalar.addi v3858 c16_i32_2297
  v3859
def k0_mult253 (k0_t4 : Fin k0_t4_loop.trips) : BitVec 32 :=
  let c3520_i32_2301 : BitVec 32 := 3520#32
  let c0_i32_206 : BitVec 32 := 0#32
  let c1_i32_208 : BitVec 32 := 1#32
  let arg21 : BitVec 32 := Scf.iv c0_i32_206 c1_i32_208 k0_t4
  let c128_i32_2300 : BitVec 32 := 128#32
  let v3867 : BitVec 32 := Scalar.muli arg21 c128_i32_2300
  let v3868 : BitVec 32 := Scalar.addi c3520_i32_2301 v3867
  let c64_i32_2302 : BitVec 32 := 64#32
  let v3869 : BitVec 32 := Scalar.addi v3868 c64_i32_2302
  let c16_i32_2303 : BitVec 32 := 16#32
  let v3870 : BitVec 32 := Scalar.addi v3869 c16_i32_2303
  v3870
def k0_mult254 (k0_t4 : Fin k0_t4_loop.trips) : BitVec 32 :=
  let c3520_i32_2307 : BitVec 32 := 3520#32
  let c0_i32_206 : BitVec 32 := 0#32
  let c1_i32_208 : BitVec 32 := 1#32
  let arg21 : BitVec 32 := Scf.iv c0_i32_206 c1_i32_208 k0_t4
  let c128_i32_2306 : BitVec 32 := 128#32
  let v3878 : BitVec 32 := Scalar.muli arg21 c128_i32_2306
  let v3879 : BitVec 32 := Scalar.addi c3520_i32_2307 v3878
  let c64_i32_2308 : BitVec 32 := 64#32
  let v3880 : BitVec 32 := Scalar.addi v3879 c64_i32_2308
  let c16_i32_2309 : BitVec 32 := 16#32
  let v3881 : BitVec 32 := Scalar.addi v3880 c16_i32_2309
  v3881
def k0_mult255 (k0_t4 : Fin k0_t4_loop.trips) : BitVec 32 :=
  let c3520_i32_2313 : BitVec 32 := 3520#32
  let c0_i32_206 : BitVec 32 := 0#32
  let c1_i32_208 : BitVec 32 := 1#32
  let arg21 : BitVec 32 := Scf.iv c0_i32_206 c1_i32_208 k0_t4
  let c128_i32_2312 : BitVec 32 := 128#32
  let v3889 : BitVec 32 := Scalar.muli arg21 c128_i32_2312
  let v3890 : BitVec 32 := Scalar.addi c3520_i32_2313 v3889
  let c64_i32_2314 : BitVec 32 := 64#32
  let v3891 : BitVec 32 := Scalar.addi v3890 c64_i32_2314
  let c16_i32_2315 : BitVec 32 := 16#32
  let v3892 : BitVec 32 := Scalar.addi v3891 c16_i32_2315
  v3892
def k0_mult256 (k0_t4 : Fin k0_t4_loop.trips) : BitVec 32 :=
  let c3520_i32_2321 : BitVec 32 := 3520#32
  let c0_i32_206 : BitVec 32 := 0#32
  let c1_i32_208 : BitVec 32 := 1#32
  let arg21 : BitVec 32 := Scf.iv c0_i32_206 c1_i32_208 k0_t4
  let c128_i32_2320 : BitVec 32 := 128#32
  let v3910 : BitVec 32 := Scalar.muli arg21 c128_i32_2320
  let v3911 : BitVec 32 := Scalar.addi c3520_i32_2321 v3910
  let c64_i32_2322 : BitVec 32 := 64#32
  let v3912 : BitVec 32 := Scalar.addi v3911 c64_i32_2322
  let c24_i32_2323 : BitVec 32 := 24#32
  let v3913 : BitVec 32 := Scalar.addi v3912 c24_i32_2323
  v3913
def k0_mult257 (k0_t4 : Fin k0_t4_loop.trips) : BitVec 32 :=
  let c3520_i32_2327 : BitVec 32 := 3520#32
  let c0_i32_206 : BitVec 32 := 0#32
  let c1_i32_208 : BitVec 32 := 1#32
  let arg21 : BitVec 32 := Scf.iv c0_i32_206 c1_i32_208 k0_t4
  let c128_i32_2326 : BitVec 32 := 128#32
  let v3921 : BitVec 32 := Scalar.muli arg21 c128_i32_2326
  let v3922 : BitVec 32 := Scalar.addi c3520_i32_2327 v3921
  let c64_i32_2328 : BitVec 32 := 64#32
  let v3923 : BitVec 32 := Scalar.addi v3922 c64_i32_2328
  let c24_i32_2329 : BitVec 32 := 24#32
  let v3924 : BitVec 32 := Scalar.addi v3923 c24_i32_2329
  v3924
def k0_mult258 (k0_t4 : Fin k0_t4_loop.trips) : BitVec 32 :=
  let c3520_i32_2333 : BitVec 32 := 3520#32
  let c0_i32_206 : BitVec 32 := 0#32
  let c1_i32_208 : BitVec 32 := 1#32
  let arg21 : BitVec 32 := Scf.iv c0_i32_206 c1_i32_208 k0_t4
  let c128_i32_2332 : BitVec 32 := 128#32
  let v3932 : BitVec 32 := Scalar.muli arg21 c128_i32_2332
  let v3933 : BitVec 32 := Scalar.addi c3520_i32_2333 v3932
  let c64_i32_2334 : BitVec 32 := 64#32
  let v3934 : BitVec 32 := Scalar.addi v3933 c64_i32_2334
  let c24_i32_2335 : BitVec 32 := 24#32
  let v3935 : BitVec 32 := Scalar.addi v3934 c24_i32_2335
  v3935
def k0_mult259 (k0_t4 : Fin k0_t4_loop.trips) : BitVec 32 :=
  let c3520_i32_2339 : BitVec 32 := 3520#32
  let c0_i32_206 : BitVec 32 := 0#32
  let c1_i32_208 : BitVec 32 := 1#32
  let arg21 : BitVec 32 := Scf.iv c0_i32_206 c1_i32_208 k0_t4
  let c128_i32_2338 : BitVec 32 := 128#32
  let v3943 : BitVec 32 := Scalar.muli arg21 c128_i32_2338
  let v3944 : BitVec 32 := Scalar.addi c3520_i32_2339 v3943
  let c64_i32_2340 : BitVec 32 := 64#32
  let v3945 : BitVec 32 := Scalar.addi v3944 c64_i32_2340
  let c24_i32_2341 : BitVec 32 := 24#32
  let v3946 : BitVec 32 := Scalar.addi v3945 c24_i32_2341
  v3946
def k0_mult260 (k0_t4 : Fin k0_t4_loop.trips) : BitVec 32 :=
  let c0_i32_206 : BitVec 32 := 0#32
  let c1_i32_208 : BitVec 32 := 1#32
  let arg21 : BitVec 32 := Scf.iv c0_i32_206 c1_i32_208 k0_t4
  let c128_i32_2344 : BitVec 32 := 128#32
  let v3952 : BitVec 32 := Scalar.muli arg21 c128_i32_2344
  let c96_i32 : BitVec 32 := 96#32
  let v3953 : BitVec 32 := Scalar.addi v3952 c96_i32
  v3953
def k0_mult261 (k0_t4 : Fin k0_t4_loop.trips) : BitVec 32 :=
  let c3520_i32_2351 : BitVec 32 := 3520#32
  let c0_i32_206 : BitVec 32 := 0#32
  let c1_i32_208 : BitVec 32 := 1#32
  let arg21 : BitVec 32 := Scf.iv c0_i32_206 c1_i32_208 k0_t4
  let c128_i32_2350 : BitVec 32 := 128#32
  let v3971 : BitVec 32 := Scalar.muli arg21 c128_i32_2350
  let v3972 : BitVec 32 := Scalar.addi c3520_i32_2351 v3971
  let c96_i32_2352 : BitVec 32 := 96#32
  let v3973 : BitVec 32 := Scalar.addi v3972 c96_i32_2352
  let c0_i32_2353 : BitVec 32 := 0#32
  let v3974 : BitVec 32 := Scalar.addi v3973 c0_i32_2353
  v3974
def k0_mult262 (k0_t4 : Fin k0_t4_loop.trips) : BitVec 32 :=
  let c3520_i32_2357 : BitVec 32 := 3520#32
  let c0_i32_206 : BitVec 32 := 0#32
  let c1_i32_208 : BitVec 32 := 1#32
  let arg21 : BitVec 32 := Scf.iv c0_i32_206 c1_i32_208 k0_t4
  let c128_i32_2356 : BitVec 32 := 128#32
  let v3982 : BitVec 32 := Scalar.muli arg21 c128_i32_2356
  let v3983 : BitVec 32 := Scalar.addi c3520_i32_2357 v3982
  let c96_i32_2358 : BitVec 32 := 96#32
  let v3984 : BitVec 32 := Scalar.addi v3983 c96_i32_2358
  let c0_i32_2359 : BitVec 32 := 0#32
  let v3985 : BitVec 32 := Scalar.addi v3984 c0_i32_2359
  v3985
def k0_mult263 (k0_t4 : Fin k0_t4_loop.trips) : BitVec 32 :=
  let c3520_i32_2363 : BitVec 32 := 3520#32
  let c0_i32_206 : BitVec 32 := 0#32
  let c1_i32_208 : BitVec 32 := 1#32
  let arg21 : BitVec 32 := Scf.iv c0_i32_206 c1_i32_208 k0_t4
  let c128_i32_2362 : BitVec 32 := 128#32
  let v3993 : BitVec 32 := Scalar.muli arg21 c128_i32_2362
  let v3994 : BitVec 32 := Scalar.addi c3520_i32_2363 v3993
  let c96_i32_2364 : BitVec 32 := 96#32
  let v3995 : BitVec 32 := Scalar.addi v3994 c96_i32_2364
  let c0_i32_2365 : BitVec 32 := 0#32
  let v3996 : BitVec 32 := Scalar.addi v3995 c0_i32_2365
  v3996
def k0_mult264 (k0_t4 : Fin k0_t4_loop.trips) : BitVec 32 :=
  let c3520_i32_2369 : BitVec 32 := 3520#32
  let c0_i32_206 : BitVec 32 := 0#32
  let c1_i32_208 : BitVec 32 := 1#32
  let arg21 : BitVec 32 := Scf.iv c0_i32_206 c1_i32_208 k0_t4
  let c128_i32_2368 : BitVec 32 := 128#32
  let v4004 : BitVec 32 := Scalar.muli arg21 c128_i32_2368
  let v4005 : BitVec 32 := Scalar.addi c3520_i32_2369 v4004
  let c96_i32_2370 : BitVec 32 := 96#32
  let v4006 : BitVec 32 := Scalar.addi v4005 c96_i32_2370
  let c0_i32_2371 : BitVec 32 := 0#32
  let v4007 : BitVec 32 := Scalar.addi v4006 c0_i32_2371
  v4007
def k0_mult265 (k0_t4 : Fin k0_t4_loop.trips) : BitVec 32 :=
  let c3520_i32_2377 : BitVec 32 := 3520#32
  let c0_i32_206 : BitVec 32 := 0#32
  let c1_i32_208 : BitVec 32 := 1#32
  let arg21 : BitVec 32 := Scf.iv c0_i32_206 c1_i32_208 k0_t4
  let c128_i32_2376 : BitVec 32 := 128#32
  let v4025 : BitVec 32 := Scalar.muli arg21 c128_i32_2376
  let v4026 : BitVec 32 := Scalar.addi c3520_i32_2377 v4025
  let c96_i32_2378 : BitVec 32 := 96#32
  let v4027 : BitVec 32 := Scalar.addi v4026 c96_i32_2378
  let c8_i32_2379 : BitVec 32 := 8#32
  let v4028 : BitVec 32 := Scalar.addi v4027 c8_i32_2379
  v4028
def k0_mult266 (k0_t4 : Fin k0_t4_loop.trips) : BitVec 32 :=
  let c3520_i32_2383 : BitVec 32 := 3520#32
  let c0_i32_206 : BitVec 32 := 0#32
  let c1_i32_208 : BitVec 32 := 1#32
  let arg21 : BitVec 32 := Scf.iv c0_i32_206 c1_i32_208 k0_t4
  let c128_i32_2382 : BitVec 32 := 128#32
  let v4036 : BitVec 32 := Scalar.muli arg21 c128_i32_2382
  let v4037 : BitVec 32 := Scalar.addi c3520_i32_2383 v4036
  let c96_i32_2384 : BitVec 32 := 96#32
  let v4038 : BitVec 32 := Scalar.addi v4037 c96_i32_2384
  let c8_i32_2385 : BitVec 32 := 8#32
  let v4039 : BitVec 32 := Scalar.addi v4038 c8_i32_2385
  v4039
def k0_mult267 (k0_t4 : Fin k0_t4_loop.trips) : BitVec 32 :=
  let c3520_i32_2389 : BitVec 32 := 3520#32
  let c0_i32_206 : BitVec 32 := 0#32
  let c1_i32_208 : BitVec 32 := 1#32
  let arg21 : BitVec 32 := Scf.iv c0_i32_206 c1_i32_208 k0_t4
  let c128_i32_2388 : BitVec 32 := 128#32
  let v4047 : BitVec 32 := Scalar.muli arg21 c128_i32_2388
  let v4048 : BitVec 32 := Scalar.addi c3520_i32_2389 v4047
  let c96_i32_2390 : BitVec 32 := 96#32
  let v4049 : BitVec 32 := Scalar.addi v4048 c96_i32_2390
  let c8_i32_2391 : BitVec 32 := 8#32
  let v4050 : BitVec 32 := Scalar.addi v4049 c8_i32_2391
  v4050
def k0_mult268 (k0_t4 : Fin k0_t4_loop.trips) : BitVec 32 :=
  let c3520_i32_2395 : BitVec 32 := 3520#32
  let c0_i32_206 : BitVec 32 := 0#32
  let c1_i32_208 : BitVec 32 := 1#32
  let arg21 : BitVec 32 := Scf.iv c0_i32_206 c1_i32_208 k0_t4
  let c128_i32_2394 : BitVec 32 := 128#32
  let v4058 : BitVec 32 := Scalar.muli arg21 c128_i32_2394
  let v4059 : BitVec 32 := Scalar.addi c3520_i32_2395 v4058
  let c96_i32_2396 : BitVec 32 := 96#32
  let v4060 : BitVec 32 := Scalar.addi v4059 c96_i32_2396
  let c8_i32_2397 : BitVec 32 := 8#32
  let v4061 : BitVec 32 := Scalar.addi v4060 c8_i32_2397
  v4061
def k0_mult269 (k0_t4 : Fin k0_t4_loop.trips) : BitVec 32 :=
  let c3520_i32_2403 : BitVec 32 := 3520#32
  let c0_i32_206 : BitVec 32 := 0#32
  let c1_i32_208 : BitVec 32 := 1#32
  let arg21 : BitVec 32 := Scf.iv c0_i32_206 c1_i32_208 k0_t4
  let c128_i32_2402 : BitVec 32 := 128#32
  let v4079 : BitVec 32 := Scalar.muli arg21 c128_i32_2402
  let v4080 : BitVec 32 := Scalar.addi c3520_i32_2403 v4079
  let c96_i32_2404 : BitVec 32 := 96#32
  let v4081 : BitVec 32 := Scalar.addi v4080 c96_i32_2404
  let c16_i32_2405 : BitVec 32 := 16#32
  let v4082 : BitVec 32 := Scalar.addi v4081 c16_i32_2405
  v4082
def k0_mult270 (k0_t4 : Fin k0_t4_loop.trips) : BitVec 32 :=
  let c3520_i32_2409 : BitVec 32 := 3520#32
  let c0_i32_206 : BitVec 32 := 0#32
  let c1_i32_208 : BitVec 32 := 1#32
  let arg21 : BitVec 32 := Scf.iv c0_i32_206 c1_i32_208 k0_t4
  let c128_i32_2408 : BitVec 32 := 128#32
  let v4090 : BitVec 32 := Scalar.muli arg21 c128_i32_2408
  let v4091 : BitVec 32 := Scalar.addi c3520_i32_2409 v4090
  let c96_i32_2410 : BitVec 32 := 96#32
  let v4092 : BitVec 32 := Scalar.addi v4091 c96_i32_2410
  let c16_i32_2411 : BitVec 32 := 16#32
  let v4093 : BitVec 32 := Scalar.addi v4092 c16_i32_2411
  v4093
def k0_mult271 (k0_t4 : Fin k0_t4_loop.trips) : BitVec 32 :=
  let c3520_i32_2415 : BitVec 32 := 3520#32
  let c0_i32_206 : BitVec 32 := 0#32
  let c1_i32_208 : BitVec 32 := 1#32
  let arg21 : BitVec 32 := Scf.iv c0_i32_206 c1_i32_208 k0_t4
  let c128_i32_2414 : BitVec 32 := 128#32
  let v4101 : BitVec 32 := Scalar.muli arg21 c128_i32_2414
  let v4102 : BitVec 32 := Scalar.addi c3520_i32_2415 v4101
  let c96_i32_2416 : BitVec 32 := 96#32
  let v4103 : BitVec 32 := Scalar.addi v4102 c96_i32_2416
  let c16_i32_2417 : BitVec 32 := 16#32
  let v4104 : BitVec 32 := Scalar.addi v4103 c16_i32_2417
  v4104
def k0_mult272 (k0_t4 : Fin k0_t4_loop.trips) : BitVec 32 :=
  let c3520_i32_2421 : BitVec 32 := 3520#32
  let c0_i32_206 : BitVec 32 := 0#32
  let c1_i32_208 : BitVec 32 := 1#32
  let arg21 : BitVec 32 := Scf.iv c0_i32_206 c1_i32_208 k0_t4
  let c128_i32_2420 : BitVec 32 := 128#32
  let v4112 : BitVec 32 := Scalar.muli arg21 c128_i32_2420
  let v4113 : BitVec 32 := Scalar.addi c3520_i32_2421 v4112
  let c96_i32_2422 : BitVec 32 := 96#32
  let v4114 : BitVec 32 := Scalar.addi v4113 c96_i32_2422
  let c16_i32_2423 : BitVec 32 := 16#32
  let v4115 : BitVec 32 := Scalar.addi v4114 c16_i32_2423
  v4115
def k0_mult273 (k0_t4 : Fin k0_t4_loop.trips) : BitVec 32 :=
  let c3520_i32_2429 : BitVec 32 := 3520#32
  let c0_i32_206 : BitVec 32 := 0#32
  let c1_i32_208 : BitVec 32 := 1#32
  let arg21 : BitVec 32 := Scf.iv c0_i32_206 c1_i32_208 k0_t4
  let c128_i32_2428 : BitVec 32 := 128#32
  let v4133 : BitVec 32 := Scalar.muli arg21 c128_i32_2428
  let v4134 : BitVec 32 := Scalar.addi c3520_i32_2429 v4133
  let c96_i32_2430 : BitVec 32 := 96#32
  let v4135 : BitVec 32 := Scalar.addi v4134 c96_i32_2430
  let c24_i32_2431 : BitVec 32 := 24#32
  let v4136 : BitVec 32 := Scalar.addi v4135 c24_i32_2431
  v4136
def k0_mult274 (k0_t4 : Fin k0_t4_loop.trips) : BitVec 32 :=
  let c3520_i32_2435 : BitVec 32 := 3520#32
  let c0_i32_206 : BitVec 32 := 0#32
  let c1_i32_208 : BitVec 32 := 1#32
  let arg21 : BitVec 32 := Scf.iv c0_i32_206 c1_i32_208 k0_t4
  let c128_i32_2434 : BitVec 32 := 128#32
  let v4144 : BitVec 32 := Scalar.muli arg21 c128_i32_2434
  let v4145 : BitVec 32 := Scalar.addi c3520_i32_2435 v4144
  let c96_i32_2436 : BitVec 32 := 96#32
  let v4146 : BitVec 32 := Scalar.addi v4145 c96_i32_2436
  let c24_i32_2437 : BitVec 32 := 24#32
  let v4147 : BitVec 32 := Scalar.addi v4146 c24_i32_2437
  v4147
def k0_mult275 (k0_t4 : Fin k0_t4_loop.trips) : BitVec 32 :=
  let c3520_i32_2441 : BitVec 32 := 3520#32
  let c0_i32_206 : BitVec 32 := 0#32
  let c1_i32_208 : BitVec 32 := 1#32
  let arg21 : BitVec 32 := Scf.iv c0_i32_206 c1_i32_208 k0_t4
  let c128_i32_2440 : BitVec 32 := 128#32
  let v4155 : BitVec 32 := Scalar.muli arg21 c128_i32_2440
  let v4156 : BitVec 32 := Scalar.addi c3520_i32_2441 v4155
  let c96_i32_2442 : BitVec 32 := 96#32
  let v4157 : BitVec 32 := Scalar.addi v4156 c96_i32_2442
  let c24_i32_2443 : BitVec 32 := 24#32
  let v4158 : BitVec 32 := Scalar.addi v4157 c24_i32_2443
  v4158
def k0_mult276 (k0_t4 : Fin k0_t4_loop.trips) : BitVec 32 :=
  let c3520_i32_2447 : BitVec 32 := 3520#32
  let c0_i32_206 : BitVec 32 := 0#32
  let c1_i32_208 : BitVec 32 := 1#32
  let arg21 : BitVec 32 := Scf.iv c0_i32_206 c1_i32_208 k0_t4
  let c128_i32_2446 : BitVec 32 := 128#32
  let v4166 : BitVec 32 := Scalar.muli arg21 c128_i32_2446
  let v4167 : BitVec 32 := Scalar.addi c3520_i32_2447 v4166
  let c96_i32_2448 : BitVec 32 := 96#32
  let v4168 : BitVec 32 := Scalar.addi v4167 c96_i32_2448
  let c24_i32_2449 : BitVec 32 := 24#32
  let v4169 : BitVec 32 := Scalar.addi v4168 c24_i32_2449
  v4169
def k0_off25 (i : grid0.Coords) : Fin 3 → Nat :=
  let arg0 : BitVec 32 := BitVec.ofNat 32 (i 0).val
  let v116 : Index := Scalar.indexCast arg0
  let c0_44 : Index := 0#32
  let c0_45 : Index := 0#32
  ![v116.toNat, 0, 0]
def k0_cond2 (i : grid0.Coords) : BitVec 1 :=
  let arg0 : BitVec 32 := BitVec.ofNat 32 (i 0).val
  let c13_i32 : BitVec 32 := 13#32
  let v136 : BitVec 1 := Scalar.cmpi .eq arg0 c13_i32
  let v137 : BitVec 32 := Scalar.extui v136
  let c0_i32_50 : BitVec 32 := 0#32
  let v138 : BitVec 1 := Scalar.cmpi .ne v137 c0_i32_50
  v138

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x1152x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S7168x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x72x512 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1x72 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x72x7168 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1x72 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4x1152x1x512 : Shape := ⟨4, ![4, 1152, 1, 512]⟩
abbrev S4x1152x1 : Shape := ⟨3, ![4, 1152, 1]⟩
abbrev S4x16x1x512 : Shape := ⟨4, ![4, 16, 1, 512]⟩
abbrev S4x16x1 : Shape := ⟨3, ![4, 16, 1]⟩
abbrev S32x512 : Shape := ⟨2, ![32, 512]⟩
abbrev S32x512x7168 : Shape := ⟨3, ![32, 512, 7168]⟩
abbrev S7168 : Shape := ⟨1, ![7168]⟩
abbrev S7168x512 : Shape := ⟨2, ![7168, 512]⟩
abbrev S512 : Shape := ⟨1, ![512]⟩
abbrev S4x1152x512 : Shape := ⟨3, ![4, 1152, 512]⟩
abbrev S4x16x512 : Shape := ⟨3, ![4, 16, 512]⟩
abbrev S16384x7168 : Shape := ⟨2, ![16384, 7168]⟩
abbrev S1x7168 : Shape := ⟨2, ![1, 7168]⟩
abbrev S1x512 : Shape := ⟨2, ![1, 512]⟩
abbrev S4x72x512 : Shape := ⟨3, ![4, 72, 512]⟩
abbrev S4x1x72 : Shape := ⟨3, ![4, 1, 72]⟩
abbrev S4x72x7168 : Shape := ⟨3, ![4, 72, 7168]⟩
abbrev S4x1168x512 : Shape := ⟨3, ![4, 1168, 512]⟩
abbrev S4x73x16x512 : Shape := ⟨4, ![4, 73, 16, 512]⟩
abbrev S4x72x16x512 : Shape := ⟨4, ![4, 72, 16, 512]⟩
abbrev S4x72x32x512 : Shape := ⟨4, ![4, 72, 32, 512]⟩
abbrev S1x1x32x512 : Shape := ⟨4, ![1, 1, 32, 512]⟩
abbrev S288x16384 : Shape := ⟨2, ![288, 16384]⟩
abbrev S288x7168 : Shape := ⟨2, ![288, 7168]⟩
abbrev S288 : Shape := ⟨1, ![288]⟩
abbrev S288x1 : Shape := ⟨2, ![288, 1]⟩
abbrev S288x252 : Shape := ⟨2, ![288, 252]⟩
abbrev S288x512 : Shape := ⟨2, ![288, 512]⟩

abbrev nBuf : Space → Nat
  | .hbm => 22
  | .vmem => 15
  | .smem => 0
  | _ => 0

abbrev bufTy : (tb : Table) → Fin (tcTables nBuf tb) → BufTy
  | .hbm, ⟨0, _⟩ => ⟨S4x1152x1x512, .fp8e4m3⟩
  | .hbm, ⟨1, _⟩ => ⟨S4x1152x1, .f32⟩
  | .hbm, ⟨2, _⟩ => ⟨S4x16x1x512, .fp8e4m3⟩
  | .hbm, ⟨3, _⟩ => ⟨S4x16x1, .f32⟩
  | .hbm, ⟨4, _⟩ => ⟨S32x512, .f32⟩
  | .hbm, ⟨5, _⟩ => ⟨S32x512x7168, .fp8e4m3⟩
  | .hbm, ⟨6, _⟩ => ⟨S7168, .f32⟩
  | .hbm, ⟨7, _⟩ => ⟨S7168, .f32⟩
  | .hbm, ⟨8, _⟩ => ⟨S7168x512, .fp8e4m3⟩
  | .hbm, ⟨9, _⟩ => ⟨S512, .f32⟩
  | .hbm, ⟨10, _⟩ => ⟨S512, .f32⟩
  | .hbm, ⟨11, _⟩ => ⟨S4x1152x512, .fp8e4m3⟩
  | .hbm, ⟨12, _⟩ => ⟨S4x16x512, .fp8e4m3⟩
  | .hbm, ⟨13, _⟩ => ⟨S16384x7168, .fp8e4m3⟩
  | .hbm, ⟨14, _⟩ => ⟨S1x7168, .f32⟩
  | .hbm, ⟨15, _⟩ => ⟨S1x7168, .f32⟩
  | .hbm, ⟨16, _⟩ => ⟨S1x512, .f32⟩
  | .hbm, ⟨17, _⟩ => ⟨S1x512, .f32⟩
  | .hbm, ⟨18, _⟩ => ⟨S4x72x512, .fp8e4m3⟩
  | .hbm, ⟨19, _⟩ => ⟨S4x1x72, .f32⟩
  | .hbm, ⟨20, _⟩ => ⟨S4x72x7168, .fp8e4m3⟩
  | .hbm, ⟨21, _⟩ => ⟨S4x1x72, .f32⟩
  | .local _ .vmem, ⟨0, _⟩ => ⟨S4x1152x512, .fp8e4m3⟩
  | .local _ .vmem, ⟨1, _⟩ => ⟨S4x1152x1, .f32⟩
  | .local _ .vmem, ⟨2, _⟩ => ⟨S4x16x512, .fp8e4m3⟩
  | .local _ .vmem, ⟨3, _⟩ => ⟨S4x16x1, .f32⟩
  | .local _ .vmem, ⟨4, _⟩ => ⟨S32x512, .f32⟩
  | .local _ .vmem, ⟨5, _⟩ => ⟨S16384x7168, .fp8e4m3⟩
  | .local _ .vmem, ⟨6, _⟩ => ⟨S1x7168, .f32⟩
  | .local _ .vmem, ⟨7, _⟩ => ⟨S1x7168, .f32⟩
  | .local _ .vmem, ⟨8, _⟩ => ⟨S7168x512, .fp8e4m3⟩
  | .local _ .vmem, ⟨9, _⟩ => ⟨S1x512, .f32⟩
  | .local _ .vmem, ⟨10, _⟩ => ⟨S1x512, .f32⟩
  | .local _ .vmem, ⟨11, _⟩ => ⟨S4x72x512, .fp8e4m3⟩
  | .local _ .vmem, ⟨12, _⟩ => ⟨S4x1x72, .f32⟩
  | .local _ .vmem, ⟨13, _⟩ => ⟨S4x72x7168, .fp8e4m3⟩
  | .local _ .vmem, ⟨14, _⟩ => ⟨S4x1x72, .f32⟩
  | _, _ => ⟨S4x1152x1x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S4x1152x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x72x512 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1x72 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x72x7168 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x1x72 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelFirst.lean ====
module

public import proofs.«01_k».proof.Proof.Gen.Kernel.Frame
public import proofs.«01_k».proof.Proof.Gen.Kernel.Loops
public import proofs.«01_k».proof.Proof.Gen.Kernel.Points

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- The first point, run once. -/
def runFirst (h1 : k0_cond1 i = 1#1) (h2 : ¬ k0_cond2 i = 1#1)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f16 : BufTy.Contents (Elt F) arg16.view.ty) (f17 : BufTy.Contents (Elt F) arg17.view.ty) (f18 : BufTy.Contents (Elt F) arg18.view.ty) (f20 : BufTy.Contents (Elt F) arg20.view.ty) :
    Σ' (L17 : List (View.Piece (Elt F) S288x16384 .bf16)) (L18 : List (View.Piece (Elt F) S14x288x512 .f32)) (L20 : List (View.Piece (Elt F) S288x128 .f32)),
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg20.view.loc (c : Thread nD τ) ↦[arg20.view.set]{fullShare} f20)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, arg16.view.loc (c : Thread nD τ) ↦[arg16.view.set]{fullShare} f) ∗ (∃ f, arg17.view.loc (c : Thread nD τ) ↦[arg17.view.set]{fullShare} arg17.view.writes (Elt F) f L17) ∗ (arg18.view.loc (c : Thread nD τ) ↦[arg18.view.set]{fullShare} arg18.view.writes (Elt F) f18 L18) ∗ (∃ f, arg20.view.loc (c : Thread nD τ) ↦[arg20.view.set]{fullShare} arg20.view.writes (Elt F) f L20)) -∗ K ⟨⟩))
        ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨?_, ?_, ?_, fun E K => ?run⟩
  case run =>
    simp only [cc0__body_eq_skeleton]; unfold cc0__body_skel
    iintro ⟨H1, H2, H3, H4, H5, H6, H7, H8, H16, H17, H18, H20, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexists _; iexact H16
    isplitl [H17]; · iexists _; iexact H17
    isplitl [H18]; · iexact H18
    iexists _; iexact H20

end Cert.Kernel.Hand

end
-- ==== Proof.KernelMid.lean ====
module

public import proofs.«01_k».proof.Proof.Gen.Kernel.Frame
public import proofs.«01_k».proof.Proof.Gen.Kernel.Loops
public import proofs.«01_k».proof.Proof.Gen.Kernel.Points

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- A point strictly between the first and the last, run once: it reads the tiles and the rows laid out, stores one slab of
    the hidden layer and renews the running maximum. -/
def runMid (h1 : ¬ k0_cond1 i = 1#1) (h2 : ¬ k0_cond2 i = 1#1)
    (f6 : BufTy.Contents (Elt F) arg6.view.ty) (f7 : BufTy.Contents (Elt F) arg7.view.ty) (f8 : BufTy.Contents (Elt F) arg8.view.ty) (f17 : BufTy.Contents (Elt F) arg17.view.ty) (f18 : BufTy.Contents (Elt F) arg18.view.ty) (f20 : BufTy.Contents (Elt F) arg20.view.ty) :
    Σ' (L18 : List (View.Piece (Elt F) S14x288x512 .f32)) (L20 : List (View.Piece (Elt F) S288x128 .f32)),
      ∀ (E : Set ℕ) (K : PUnit → sProp 𝕄),
        iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} f17) ∗ (arg18.view.loc (c : Thread nD τ) ↦[arg18.view.set]{fullShare} f18) ∗ (arg20.view.loc (c : Thread nD τ) ↦[arg20.view.set]{fullShare} f20)
          ∗ (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} f17) ∗ (arg18.view.loc (c : Thread nD τ) ↦[arg18.view.set]{fullShare} arg18.view.writes (Elt F) f18 L18) ∗ (arg20.view.loc (c : Thread nD τ) ↦[arg20.view.set]{fullShare} arg20.view.writes (Elt F) arg20.view.junk L20)) -∗ K ⟨⟩))
        ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨?_, ?_, fun E K => ?run⟩
  case run =>
    simp only [cc0__body_eq_skeleton]; unfold cc0__body_skel
    iintro ⟨H6, H7, H8, H17, H18, H20, Hk⟩
    sl_exec_parts!
    sl_step
    iapply Hk
    isplitl [H6]; · iexact H6
    isplitl [H7]; · iexact H7
    isplitl [H8]; · iexact H8
    isplitl [H17]; · iexact H17
    isplitl [H18]; · iexact H18
    iexact H20

end Cert.Kernel.Hand

end
-- ==== Proof.KernelLast.lean ====
module

public import proofs.«01_k».proof.Proof.Gen.Kernel.Frame
public import proofs.«01_k».proof.Proof.Gen.Kernel.Loops
public import proofs.«01_k».proof.Proof.Gen.Kernel.Points

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- The last point, run once. -/
def runLast (h1 : ¬ k0_cond1 i = 1#1) (h2 : k0_cond2 i = 1#1)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f17 : BufTy.Contents (Elt F) arg17.view.ty) (f18 : BufTy.Contents (Elt F) arg18.view.ty) (f19 : BufTy.Contents (Elt F) arg19.view.ty) (f20 : BufTy.Contents (Elt F) arg20.view.ty) :
    Σ' (L12 : List (View.Piece (Elt F) S4x72x512 .fp8e4m3)) (L13 : List (View.Piece (Elt F) S4x1x72 .f32)) (L14 : List (View.Piece (Elt F) S4x72x7168 .fp8e4m3)) (L15 : List (View.Piece (Elt F) S4x1x72 .f32)) (L18 : List (View.Piece (Elt F) S14x288x512 .f32)),
      ∀ (E : Set ℕ) (K : PUnit → sProp 𝕄),
        iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
          ∗ (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg17.view.loc (c : Thread nD τ) ↦[arg17.view.set]{fullShare} f17) ∗ (arg18.view.loc (c : Thread nD τ) ↦[arg18.view.set]{fullShare} arg18.view.writes (Elt F) f18 L18) ∗ (∃ f, arg19.view.loc (c : Thread nD τ) ↦[arg19.view.set]{fullShare} f) ∗ (∃ f, arg20.view.loc (c : Thread nD τ) ↦[arg20.view.set]{fullShare} f)) -∗ K ⟨⟩))
        ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨?_, ?_, ?_, ?_, ?_, fun E K => ?run⟩
  case run =>
    simp only [cc0__body_eq_skeleton]; unfold cc0__body_skel
    iintro ⟨H6, H7, H8, H9, H10, H11, H12, H13, H14, H15, H17, H18, H19, H20, Hk⟩
    sl_exec_parts!
    sl_step
    iapply Hk
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H17]; · iexact H17
    isplitl [H18]; · iexact H18
    isplitl [H19]; · iexists _; iexact H19
    iexists _; iexact H20

end Cert.Kernel.Hand

end
-- ==== Proof.KernelFrame.lean ====
module

public import proofs.«01_k».proof.Proof.Gen.Kernel.Frame
public import proofs.«01_k».proof.Proof.Gen.Kernel.Loops
public import proofs.«01_k».proof.Proof.KernelFirst
public import proofs.«01_k».proof.Proof.KernelMid
public import proofs.«01_k».proof.Proof.KernelLast
public import proofs.«01_k».proof.Proof.Gen.Kernel.Points

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

omit [FloatOps F] in
/-- A buffer held at some contents is held whole. -/
theorem keep {S : Shape} {e : EltTy} (a : Memref sig .tc .vmem S e) (f : BufTy.Contents (Elt F) a.view.ty) :
    iprop(a.view.loc (c : Thread nD τ) ↦[a.view.set]{fullShare} f) ⊢ (iprop(∃ d f', ⌜a.view.read (Elt F) f' = d⌝ ∗ (a.view.loc (c : Thread nD τ) ↦[a.view.set]{fullShare} f')) : sProp 𝕄) := by
  iintro H
  iexists _; iexists f
  isplitr
  · ipureintro; exact rfl
  · iexact H

/-- Every buffer of the body, each whole at some contents. -/
def held : sProp 𝕄 :=
  iprop((∃ d, owns (c : Thread nD τ) arg1 fullShare d)
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d))

/-- The first point keeps every buffer. -/
theorem held_first (h1 : k0_cond1 i = 1#1) (h2 : ¬ k0_cond2 i = 1#1) (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  iapply ((runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.2.2 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H16]; · iexact H16
  isplitl [H17]; · iexact H17
  isplitl [H18]; · iexact H18
  isplitl [H20]; · iexact H20
  iintro ⟨H1, H2, H3, H4, H5, H6, H7, H8, ⟨%g16, H16⟩, ⟨%g17, H17⟩, H18, ⟨%g20, H20⟩⟩
  iapply Hk
  isplitl [H1]; · iapply (keep c _ _); iexact H1
  isplitl [H2]; · iapply (keep c _ _); iexact H2
  isplitl [H3]; · iapply (keep c _ _); iexact H3
  isplitl [H4]; · iapply (keep c _ _); iexact H4
  isplitl [H5]; · iapply (keep c _ _); iexact H5
  isplitl [H6]; · iapply (keep c _ _); iexact H6
  isplitl [H7]; · iapply (keep c _ _); iexact H7
  isplitl [H8]; · iapply (keep c _ _); iexact H8
  isplitl [H9]; · iapply (keep c _ _); iexact H9
  isplitl [H10]; · iapply (keep c _ _); iexact H10
  isplitl [H11]; · iapply (keep c _ _); iexact H11
  isplitl [H12]; · iapply (keep c _ _); iexact H12
  isplitl [H13]; · iapply (keep c _ _); iexact H13
  isplitl [H14]; · iapply (keep c _ _); iexact H14
  isplitl [H15]; · iapply (keep c _ _); iexact H15
  isplitl [H16]; · iapply (keep c _ _); iexact H16
  isplitl [H17]; · iapply (keep c _ _); iexact H17
  isplitl [H18]; · iapply (keep c _ _); iexact H18
  isplitl [H19]; · iapply (keep c _ _); iexact H19
  iapply (keep c _ _); iexact H20

/-- A point between keeps every buffer. -/
theorem held_mid (h1 : ¬ k0_cond1 i = 1#1) (h2 : ¬ k0_cond2 i = 1#1) (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  iapply ((runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).2.2 Set.univ K)
  isplitl [H6]; · iexact H6
  isplitl [H7]; · iexact H7
  isplitl [H8]; · iexact H8
  isplitl [H17]; · iexact H17
  isplitl [H18]; · iexact H18
  isplitl [H20]; · iexact H20
  iintro ⟨H6, H7, H8, H17, H18, H20⟩
  iapply Hk
  isplitl [H1]; · iapply (keep c _ _); iexact H1
  isplitl [H2]; · iapply (keep c _ _); iexact H2
  isplitl [H3]; · iapply (keep c _ _); iexact H3
  isplitl [H4]; · iapply (keep c _ _); iexact H4
  isplitl [H5]; · iapply (keep c _ _); iexact H5
  isplitl [H6]; · iapply (keep c _ _); iexact H6
  isplitl [H7]; · iapply (keep c _ _); iexact H7
  isplitl [H8]; · iapply (keep c _ _); iexact H8
  isplitl [H9]; · iapply (keep c _ _); iexact H9
  isplitl [H10]; · iapply (keep c _ _); iexact H10
  isplitl [H11]; · iapply (keep c _ _); iexact H11
  isplitl [H12]; · iapply (keep c _ _); iexact H12
  isplitl [H13]; · iapply (keep c _ _); iexact H13
  isplitl [H14]; · iapply (keep c _ _); iexact H14
  isplitl [H15]; · iapply (keep c _ _); iexact H15
  isplitl [H16]; · iapply (keep c _ _); iexact H16
  isplitl [H17]; · iapply (keep c _ _); iexact H17
  isplitl [H18]; · iapply (keep c _ _); iexact H18
  isplitl [H19]; · iapply (keep c _ _); iexact H19
  iapply (keep c _ _); iexact H20

/-- The last point keeps every buffer. -/
theorem held_last (h1 : ¬ k0_cond1 i = 1#1) (h2 : k0_cond2 i = 1#1) (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  iapply ((runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.2 Set.univ K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [H20]; · iexact H20
  iintro ⟨H6, H7, H8, H9, H10, H11, ⟨%g12, H12⟩, ⟨%g13, H13⟩, ⟨%g14, H14⟩, ⟨%g15, H15⟩, H17, H18, ⟨%g19, H19⟩, ⟨%g20, H20⟩⟩
  iapply Hk
  isplitl [H1]; · iapply (keep c _ _); iexact H1
  isplitl [H2]; · iapply (keep c _ _); iexact H2
  isplitl [H3]; · iapply (keep c _ _); iexact H3
  isplitl [H4]; · iapply (keep c _ _); iexact H4
  isplitl [H5]; · iapply (keep c _ _); iexact H5
  isplitl [H6]; · iapply (keep c _ _); iexact H6
  isplitl [H7]; · iapply (keep c _ _); iexact H7
  isplitl [H8]; · iapply (keep c _ _); iexact H8
  isplitl [H9]; · iapply (keep c _ _); iexact H9
  isplitl [H10]; · iapply (keep c _ _); iexact H10
  isplitl [H11]; · iapply (keep c _ _); iexact H11
  isplitl [H12]; · iapply (keep c _ _); iexact H12
  isplitl [H13]; · iapply (keep c _ _); iexact H13
  isplitl [H14]; · iapply (keep c _ _); iexact H14
  isplitl [H15]; · iapply (keep c _ _); iexact H15
  isplitl [H16]; · iapply (keep c _ _); iexact H16
  isplitl [H17]; · iapply (keep c _ _); iexact H17
  isplitl [H18]; · iapply (keep c _ _); iexact H18
  isplitl [H19]; · iapply (keep c _ _); iexact H19
  iapply (keep c _ _); iexact H20

omit [FloatOps F] in
/-- The first point is not the last. -/
theorem cond2_of_cond1 (i : grid0.Coords) (h1 : k0_cond1 i = 1#1) : ¬ k0_cond2 i = 1#1 := by
  revert h1; unfold k0_cond1 k0_cond2; generalize (i 0) = n; revert n; decide

/-- Every point keeps every buffer. -/
theorem held_body (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases h1 : k0_cond1 i = 1#1
  · exact held_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (cond2_of_cond1 i h1) K
  · by_cases h2 : k0_cond2 i = 1#1
    · exact held_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 K
    · exact held_mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 K

variable (m : (ℓ : Loc nD τ sig) → Buf (Elt F) ℓ) (ρ : Dev nD → PrngReg)

/-- Data of the pipeline that say nothing of a window's contents: the invariant owns the scratch buffers and the generator. -/
def anyDats (_ : Fin 1) (c : Dev nD) : Dat τ (Elt F) Unit ℕ (UR sig nD τ) ℕ cfg0 c where
  A w := V m c (Pipeline.arrRef spec0 w)
  after w t := ((cfg0.win w).stage (cfg0.slots t w)).view.read (Elt F) ((cfg0.win w).stage (cfg0.slots t w)).view.junk
  Φ _ := Pipeline.ΦA spec0 c
  q _ := fullShare
  owed _ := 0

/-- The arrays the windows start from are those in memory. -/
theorem anyDats_A (c : Dev nD) (w : Fin cfg0.W) : (anyDats m 0 c).A w = V m c (Pipeline.arrRef spec0 w) := by
  dsimp only [anyDats]

/-- The scratch buffers and the generator, one by one. -/
theorem phiA_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d))
      ∗ (∃ r, prngReg c r)) := by
  unfold Pipeline.ΦA; rw [scopedRest0_eq]; simp only [owns_whole]; try rfl

/-- A point, from every window at some contents to every window at some contents. -/
def anyRow (c : Dev nD) (t : Fin cfg0.N) : sProp 𝕄 :=
  iprop((anyDats m 0 c).Φ t.castSucc ∗ (anyDats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d))

/-- A point's body keeps every window and scratch buffer held, at some contents. -/
theorem any_body (c : Dev nD) (t : Fin cfg0.N) :
    anyRow m c t ⊢ wp frame (wpE (defs₀ (F := F)) Variants.none c none) Set.univ (bodyAt0 t) (fun _ => anyRow m c t) := by
  unfold anyRow bodyAt0
  rw [show (anyDats m 0 c).Φ t.castSucc = Pipeline.ΦA spec0 c from rfl, phiA_eq]
  iintro ⟨⟨⟨H16, H17, H18, H19, H20⟩, Hg⟩, Ho, H1, H2, H3, H4, H5, H6, H7, H8, H9, H10, H11, H12, H13, H14, H15⟩
  iapply (held_body c _ _ _ _ _ _ _ _ _ _ _ _ _ _ _ _ _ _ _ _ _ _ _ _ _ _ _ _ _ _ _ _ _ _ _ _ _ _ _ _ _ _)
  unfold held
  isplitl [H1 H2 H3 H4 H5 H6 H7 H8 H9 H10 H11 H12 H13 H14 H15 H16 H17 H18 H19 H20]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro ⟨H1, H2, H3, H4, H5, H6, H7, H8, H9, H10, H11, H12, H13, H14, H15, H16, H17, H18, H19, H20⟩
  isplitl [H16 H17 H18 H19 H20 Hg]
  · isplitl [H16 H17 H18 H19 H20]
    · isplitl [H16]; · iexact H16
      isplitl [H17]; · iexact H17
      isplitl [H18]; · iexact H18
      isplitl [H19]; · iexact H19
      iexact H20
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The call of the body at a point is the body at that point's buffers. -/
theorem body_row (t : Fin cfg0.N) :
    defs₀ (F := F) .tc cfg0.body (cfg0.bodyArgs t (cfg0.slots t)) = bodyAt0 t := by
  unfold defs₀; rw [Defs.onTc_tc]

/-- So the body meets what the pipeline asks of it at every point. -/
theorem any_obligation (c : Dev nD) :
    BodyObligation (anyDats (F := F) m 0 c) (defs₀ (F := F)) Variants.none () Set.univ (fun _ => true) := fun t => by
  refine triple_restated (any_body m c t) (congrArg (wp frame (wpE (defs₀ (F := F)) Variants.none c none) Set.univ) (body_row t).symm) ?_ fun _ => ?_
  · rw [bigSep_W0]; exact .rfl
  · rw [bigSep_W0]; exact .rfl

set_option backward.isDefEq.respectTransparency.types false in
/-- The program runs to its end with its results' arrays at some contents, and every semaphore ends at zero. -/
theorem any_run : θ_run defs (onTc (τ := τ) (main (F := F))) (s₀ m ρ) (fun r =>
    Pipeline.RDat.FramePost cfg0 (fun c => (anyDats m 0 c).toRForget (fun _ => true)) (V m) r ∧ r.2.sem = fun _ => 0) :=
  Pipeline.θ_run_frame_track_forget (Q' := _) cfgs (anyDats m) (0 : Fin 1) launch0 defs₀ Variants.none (fun _ => true) m ρ main
    (hbody := fun c => (any_obligation m c).loose) (hshare := fun c => (anyDats m 0 c).share_full fun _ => rfl)
    (howed := fun _ _ => rfl) (V := V m) (hmain := hmain m Variants.none) (hA := anyDats_A m)
    (hin := fun _ => .rfl) (hout := fun _ => .rfl)

/-- The frame: every argument ends as it began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (h.1.arr_in c 8 rfl).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (any_run m ρ)

end Cert.Kernel.Hand

end
-- ==== Proof.IdealFirst.lean ====
module

public import proofs.«01_k».proof.Proof.Gen.KernelIdeal.Frame
public import proofs.«01_k».proof.Proof.Gen.KernelIdeal.Loops
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- The first point, run once. -/
def runFirst (h1 : k0_cond1 i = 1#1) (h2 : ¬ k0_cond2 i = 1#1)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f16 : BufTy.Contents (Elt F) arg16.view.ty) (f17 : BufTy.Contents (Elt F) arg17.view.ty) (f18 : BufTy.Contents (Elt F) arg18.view.ty) (f20 : BufTy.Contents (Elt F) arg20.view.ty) :
    Σ' (L17 : List (View.Piece (Elt F) S288x16384 .bf16)) (L18 : List (View.Piece (Elt F) S14x288x512 .f32)) (L20 : List (View.Piece (Elt F) S288x128 .f32)),
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg20.view.loc (c : Thread nD τ) ↦[arg20.view.set]{fullShare} f20)
          ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, arg16.view.loc (c : Thread nD τ) ↦[arg16.view.set]{fullShare} f) ∗ (∃ f, arg17.view.loc (c : Thread nD τ) ↦[arg17.view.set]{fullShare} arg17.view.writes (Elt F) f L17) ∗ (arg18.view.loc (c : Thread nD τ) ↦[arg18.view.set]{fullShare} arg18.view.writes (Elt F) f18 L18) ∗ (∃ f, arg20.view.loc (c : Thread nD τ) ↦[arg20.view.set]{fullShare} arg20.view.writes (Elt F) f L20)) -∗ K ⟨⟩))
        ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨?_, ?_, ?_, fun E K => ?run⟩
  case run =>
    simp only [cc0__body_eq_skeleton]; unfold cc0__body_skel
    iintro ⟨H1, H2, H3, H4, H5, H6, H7, H8, H16, H17, H18, H20, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexists _; iexact H16
    isplitl [H17]; · iexists _; iexact H17
    isplitl [H18]; · iexact H18
    iexists _; iexact H20

end Cert.KernelIdeal.Hand

end
-- ==== Proof.IdealMid.lean ====
module

public import proofs.«01_k».proof.Proof.Gen.KernelIdeal.Frame
public import proofs.«01_k».proof.Proof.Gen.KernelIdeal.Loops
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- A point strictly between the first and the last, run once: it reads the tiles and the rows laid out, stores one slab of
    the hidden layer and renews the running maximum. -/
def runMid (h1 : ¬ k0_cond1 i = 1#1) (h2 : ¬ k0_cond2 i = 1#1)
    (f6 : BufTy.Contents (Elt F) arg6.view.ty) (f7 : BufTy.Contents (Elt F) arg7.view.ty) (f8 : BufTy.Contents (Elt F) arg8.view.ty) (f17 : BufTy.Contents (Elt F) arg17.view.ty) (f18 : BufTy.Contents (Elt F) arg18.view.ty) (f20 : BufTy.Contents (Elt F) arg20.view.ty) :
    Σ' (L18 : List (View.Piece (Elt F) S14x288x512 .f32)) (L20 : List (View.Piece (Elt F) S288x128 .f32)),
      ∀ (E : Set ℕ) (K : PUnit → sProp 𝕄),
        iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} f17) ∗ (arg18.view.loc (c : Thread nD τ) ↦[arg18.view.set]{fullShare} f18) ∗ (arg20.view.loc (c : Thread nD τ) ↦[arg20.view.set]{fullShare} f20)
          ∗ (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg17.view.loc (c : Thread nD τ) ↦[arg17.view.set]{fullShare} f17) ∗ (arg18.view.loc (c : Thread nD τ) ↦[arg18.view.set]{fullShare} arg18.view.writes (Elt F) f18 L18) ∗ (arg20.view.loc (c : Thread nD τ) ↦[arg20.view.set]{fullShare} arg20.view.writes (Elt F) arg20.view.junk L20)) -∗ K ⟨⟩))
        ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨?_, ?_, fun E K => ?run⟩
  case run =>
    simp only [cc0__body_eq_skeleton]; unfold cc0__body_skel
    iintro ⟨H6, H7, H8, H17, H18, H20, Hk⟩
    sl_exec_parts!
    sl_step
    iapply Hk
    isplitl [H6]; · iexact H6
    isplitl [H7]; · iexact H7
    isplitl [H8]; · iexact H8
    isplitl [H17]; · iexact H17
    isplitl [H18]; · iexact H18
    iexact H20

end Cert.KernelIdeal.Hand

end
-- ==== Proof.IdealLast.lean ====
module

public import proofs.«01_k».proof.Proof.Gen.KernelIdeal.Frame
public import proofs.«01_k».proof.Proof.Gen.KernelIdeal.Loops
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- The last point, run once. -/
def runLast (h1 : ¬ k0_cond1 i = 1#1) (h2 : k0_cond2 i = 1#1)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f17 : BufTy.Contents (Elt F) arg17.view.ty) (f18 : BufTy.Contents (Elt F) arg18.view.ty) (f19 : BufTy.Contents (Elt F) arg19.view.ty) (f20 : BufTy.Contents (Elt F) arg20.view.ty) :
    Σ' (L12 : List (View.Piece (Elt F) S4x72x512 .fp8e4m3)) (L13 : List (View.Piece (Elt F) S4x1x72 .f32)) (L14 : List (View.Piece (Elt F) S4x72x7168 .fp8e4m3)) (L15 : List (View.Piece (Elt F) S4x1x72 .f32)) (L18 : List (View.Piece (Elt F) S14x288x512 .f32)),
      ∀ (E : Set ℕ) (K : PUnit → sProp 𝕄),
        iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
          ∗ (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg17.view.loc (c : Thread nD τ) ↦[arg17.view.set]{fullShare} f17) ∗ (arg18.view.loc (c : Thread nD τ) ↦[arg18.view.set]{fullShare} arg18.view.writes (Elt F) f18 L18) ∗ (∃ f, arg19.view.loc (c : Thread nD τ) ↦[arg19.view.set]{fullShare} f) ∗ (∃ f, arg20.view.loc (c : Thread nD τ) ↦[arg20.view.set]{fullShare} f)) -∗ K ⟨⟩))
        ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨?_, ?_, ?_, ?_, ?_, fun E K => ?run⟩
  case run =>
    simp only [cc0__body_eq_skeleton]; unfold cc0__body_skel
    iintro ⟨H6, H7, H8, H9, H10, H11, H12, H13, H14, H15, H17, H18, H19, H20, Hk⟩
    sl_exec_parts!
    sl_step
    iapply Hk
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H17]; · iexact H17
    isplitl [H18]; · iexact H18
    isplitl [H19]; · iexists _; iexact H19
    iexists _; iexact H20

end Cert.KernelIdeal.Hand

end
-- ==== Proof.IdealFrame.lean ====
module

public import proofs.«01_k».proof.Proof.Gen.KernelIdeal.Frame
public import proofs.«01_k».proof.Proof.Gen.KernelIdeal.Loops
public import proofs.«01_k».proof.Proof.IdealFirst
public import proofs.«01_k».proof.Proof.IdealMid
public import proofs.«01_k».proof.Proof.IdealLast
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UR sig nD τ) ℕ

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

omit [FloatOps F] in
/-- A buffer held at some contents is held whole. -/
theorem keep {S : Shape} {e : EltTy} (a : Memref sig .tc .vmem S e) (f : BufTy.Contents (Elt F) a.view.ty) :
    iprop(a.view.loc (c : Thread nD τ) ↦[a.view.set]{fullShare} f) ⊢ (iprop(∃ d f', ⌜a.view.read (Elt F) f' = d⌝ ∗ (a.view.loc (c : Thread nD τ) ↦[a.view.set]{fullShare} f')) : sProp 𝕄) := by
  iintro H
  iexists _; iexists f
  isplitr
  · ipureintro; exact rfl
  · iexact H

/-- Every buffer of the body, each whole at some contents. -/
def held : sProp 𝕄 :=
  iprop((∃ d, owns (c : Thread nD τ) arg1 fullShare d)
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d))

/-- The first point keeps every buffer. -/
theorem held_first (h1 : k0_cond1 i = 1#1) (h2 : ¬ k0_cond2 i = 1#1) (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  iapply ((runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.2.2 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H16]; · iexact H16
  isplitl [H17]; · iexact H17
  isplitl [H18]; · iexact H18
  isplitl [H20]; · iexact H20
  iintro ⟨H1, H2, H3, H4, H5, H6, H7, H8, ⟨%g16, H16⟩, ⟨%g17, H17⟩, H18, ⟨%g20, H20⟩⟩
  iapply Hk
  isplitl [H1]; · iapply (keep c _ _); iexact H1
  isplitl [H2]; · iapply (keep c _ _); iexact H2
  isplitl [H3]; · iapply (keep c _ _); iexact H3
  isplitl [H4]; · iapply (keep c _ _); iexact H4
  isplitl [H5]; · iapply (keep c _ _); iexact H5
  isplitl [H6]; · iapply (keep c _ _); iexact H6
  isplitl [H7]; · iapply (keep c _ _); iexact H7
  isplitl [H8]; · iapply (keep c _ _); iexact H8
  isplitl [H9]; · iapply (keep c _ _); iexact H9
  isplitl [H10]; · iapply (keep c _ _); iexact H10
  isplitl [H11]; · iapply (keep c _ _); iexact H11
  isplitl [H12]; · iapply (keep c _ _); iexact H12
  isplitl [H13]; · iapply (keep c _ _); iexact H13
  isplitl [H14]; · iapply (keep c _ _); iexact H14
  isplitl [H15]; · iapply (keep c _ _); iexact H15
  isplitl [H16]; · iapply (keep c _ _); iexact H16
  isplitl [H17]; · iapply (keep c _ _); iexact H17
  isplitl [H18]; · iapply (keep c _ _); iexact H18
  isplitl [H19]; · iapply (keep c _ _); iexact H19
  iapply (keep c _ _); iexact H20

/-- A point between keeps every buffer. -/
theorem held_mid (h1 : ¬ k0_cond1 i = 1#1) (h2 : ¬ k0_cond2 i = 1#1) (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  iapply ((runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).2.2 Set.univ K)
  isplitl [H6]; · iexact H6
  isplitl [H7]; · iexact H7
  isplitl [H8]; · iexact H8
  isplitl [H17]; · iexact H17
  isplitl [H18]; · iexact H18
  isplitl [H20]; · iexact H20
  iintro ⟨H6, H7, H8, H17, H18, H20⟩
  iapply Hk
  isplitl [H1]; · iapply (keep c _ _); iexact H1
  isplitl [H2]; · iapply (keep c _ _); iexact H2
  isplitl [H3]; · iapply (keep c _ _); iexact H3
  isplitl [H4]; · iapply (keep c _ _); iexact H4
  isplitl [H5]; · iapply (keep c _ _); iexact H5
  isplitl [H6]; · iapply (keep c _ _); iexact H6
  isplitl [H7]; · iapply (keep c _ _); iexact H7
  isplitl [H8]; · iapply (keep c _ _); iexact H8
  isplitl [H9]; · iapply (keep c _ _); iexact H9
  isplitl [H10]; · iapply (keep c _ _); iexact H10
  isplitl [H11]; · iapply (keep c _ _); iexact H11
  isplitl [H12]; · iapply (keep c _ _); iexact H12
  isplitl [H13]; · iapply (keep c _ _); iexact H13
  isplitl [H14]; · iapply (keep c _ _); iexact H14
  isplitl [H15]; · iapply (keep c _ _); iexact H15
  isplitl [H16]; · iapply (keep c _ _); iexact H16
  isplitl [H17]; · iapply (keep c _ _); iexact H17
  isplitl [H18]; · iapply (keep c _ _); iexact H18
  isplitl [H19]; · iapply (keep c _ _); iexact H19
  iapply (keep c _ _); iexact H20

/-- The last point keeps every buffer. -/
theorem held_last (h1 : ¬ k0_cond1 i = 1#1) (h2 : k0_cond2 i = 1#1) (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold held owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  iapply ((runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.2 Set.univ K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [H20]; · iexact H20
  iintro ⟨H6, H7, H8, H9, H10, H11, ⟨%g12, H12⟩, ⟨%g13, H13⟩, ⟨%g14, H14⟩, ⟨%g15, H15⟩, H17, H18, ⟨%g19, H19⟩, ⟨%g20, H20⟩⟩
  iapply Hk
  isplitl [H1]; · iapply (keep c _ _); iexact H1
  isplitl [H2]; · iapply (keep c _ _); iexact H2
  isplitl [H3]; · iapply (keep c _ _); iexact H3
  isplitl [H4]; · iapply (keep c _ _); iexact H4
  isplitl [H5]; · iapply (keep c _ _); iexact H5
  isplitl [H6]; · iapply (keep c _ _); iexact H6
  isplitl [H7]; · iapply (keep c _ _); iexact H7
  isplitl [H8]; · iapply (keep c _ _); iexact H8
  isplitl [H9]; · iapply (keep c _ _); iexact H9
  isplitl [H10]; · iapply (keep c _ _); iexact H10
  isplitl [H11]; · iapply (keep c _ _); iexact H11
  isplitl [H12]; · iapply (keep c _ _); iexact H12
  isplitl [H13]; · iapply (keep c _ _); iexact H13
  isplitl [H14]; · iapply (keep c _ _); iexact H14
  isplitl [H15]; · iapply (keep c _ _); iexact H15
  isplitl [H16]; · iapply (keep c _ _); iexact H16
  isplitl [H17]; · iapply (keep c _ _); iexact H17
  isplitl [H18]; · iapply (keep c _ _); iexact H18
  isplitl [H19]; · iapply (keep c _ _); iexact H19
  iapply (keep c _ _); iexact H20

omit [FloatOps F] in
/-- The first point is not the last. -/
theorem cond2_of_cond1 (i : grid0.Coords) (h1 : k0_cond1 i = 1#1) : ¬ k0_cond2 i = 1#1 := by
  revert h1; unfold k0_cond1 k0_cond2; generalize (i 0) = n; revert n; decide

/-- Every point keeps every buffer. -/
theorem held_body (K : PUnit → sProp 𝕄) :
    iprop(held (F := F) c arg1 arg2 arg3 arg4 arg5 arg6 arg7 arg8 arg9 arg10 arg11 arg12 arg13 arg14 arg15 arg16 arg17 arg18 arg19 arg20 ∗ (held (F := F) c arg1 arg2 arg3 arg4 arg5 arg6 arg7 arg8 arg9 arg10 arg11 arg12 arg13 arg14 arg15 arg16 arg17 arg18 arg19 arg20 -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases h1 : k0_cond1 i = 1#1
  · exact held_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (cond2_of_cond1 i h1) K
  · by_cases h2 : k0_cond2 i = 1#1
    · exact held_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 K
    · exact held_mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 K

variable (m : (ℓ : Loc nD τ sig) → Buf (Elt F) ℓ) (ρ : Dev nD → PrngReg)

/-- Data of the pipeline that say nothing of a window's contents: the invariant owns the scratch buffers and the generator. -/
def anyDats (_ : Fin 1) (c : Dev nD) : Dat τ (Elt F) Unit ℕ (UR sig nD τ) ℕ cfg0 c where
  A w := V m c (Pipeline.arrRef spec0 w)
  after w t := ((cfg0.win w).stage (cfg0.slots t w)).view.read (Elt F) ((cfg0.win w).stage (cfg0.slots t w)).view.junk
  Φ _ := Pipeline.ΦA spec0 c
  q _ := fullShare
  owed _ := 0

/-- The arrays the windows start from are those in memory. -/
theorem anyDats_A (c : Dev nD) (w : Fin cfg0.W) : (anyDats m 0 c).A w = V m c (Pipeline.arrRef spec0 w) := by
  dsimp only [anyDats]

/-- The scratch buffers and the generator, one by one. -/
theorem phiA_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d))
      ∗ (∃ r, prngReg c r)) := by
  unfold Pipeline.ΦA; rw [scopedRest0_eq]; simp only [owns_whole]; try rfl

/-- A point, from every window at some contents to every window at some contents. -/
def anyRow (c : Dev nD) (t : Fin cfg0.N) : sProp 𝕄 :=
  iprop((anyDats m 0 c).Φ t.castSucc ∗ (anyDats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d))

/-- A point's body keeps every window and scratch buffer held, at some contents. -/
theorem any_body (c : Dev nD) (t : Fin cfg0.N) :
    anyRow m c t ⊢ wp frame (wpE (defs₀ (F := F)) Variants.none c none) Set.univ (bodyAt0 t) (fun _ => anyRow m c t) := by
  unfold anyRow bodyAt0
  rw [show (anyDats m 0 c).Φ t.castSucc = Pipeline.ΦA spec0 c from rfl, phiA_eq]
  iintro ⟨⟨⟨H16, H17, H18, H19, H20⟩, Hg⟩, Ho, H1, H2, H3, H4, H5, H6, H7, H8, H9, H10, H11, H12, H13, H14, H15⟩
  iapply (held_body c _ _ _ _ _ _ _ _ _ _ _ _ _ _ _ _ _ _ _ _ _ _ _ _ _ _ _ _ _ _ _ _ _ _ _ _ _ _ _ _ _ _)
  unfold held
  isplitl [H1 H2 H3 H4 H5 H6 H7 H8 H9 H10 H11 H12 H13 H14 H15 H16 H17 H18 H19 H20]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro ⟨H1, H2, H3, H4, H5, H6, H7, H8, H9, H10, H11, H12, H13, H14, H15, H16, H17, H18, H19, H20⟩
  isplitl [H16 H17 H18 H19 H20 Hg]
  · isplitl [H16 H17 H18 H19 H20]
    · isplitl [H16]; · iexact H16
      isplitl [H17]; · iexact H17
      isplitl [H18]; · iexact H18
      isplitl [H19]; · iexact H19
      iexact H20
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The call of the body at a point is the body at that point's buffers. -/
theorem body_row (t : Fin cfg0.N) :
    defs₀ (F := F) .tc cfg0.body (cfg0.bodyArgs t (cfg0.slots t)) = bodyAt0 t := by
  unfold defs₀; rw [Defs.onTc_tc]

/-- So the body meets what the pipeline asks of it at every point. -/
theorem any_obligation (c : Dev nD) :
    BodyObligation (anyDats (F := F) m 0 c) (defs₀ (F := F)) Variants.none () Set.univ (fun _ => true) := fun t => by
  refine triple_restated (any_body m c t) (congrArg (wp frame (wpE (defs₀ (F := F)) Variants.none c none) Set.univ) (body_row t).symm) ?_ fun _ => ?_
  · rw [bigSep_W0]; exact .rfl
  · rw [bigSep_W0]; exact .rfl

set_option backward.isDefEq.respectTransparency.types false in
/-- The program runs to its end with its results' arrays at some contents, and every semaphore ends at zero. -/
theorem any_run : θ_run defs (onTc (τ := τ) (main (F := F))) (s₀ m ρ) (fun r =>
    Pipeline.RDat.FramePost cfg0 (fun c => (anyDats m 0 c).toRForget (fun _ => true)) (V m) r ∧ r.2.sem = fun _ => 0) :=
  Pipeline.θ_run_frame_track_forget (Q' := _) cfgs (anyDats m) (0 : Fin 1) launch0 defs₀ Variants.none (fun _ => true) m ρ main
    (hbody := fun c => (any_obligation m c).loose) (hshare := fun c => (anyDats m 0 c).share_full fun _ => rfl)
    (howed := fun _ _ => rfl) (V := V m) (hmain := hmain m Variants.none) (hA := anyDats_A m)
    (hin := fun _ => .rfl) (hout := fun _ => .rfl)

/-- The frame: every argument ends as it began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (h.1.arr_in c 8 rfl).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (any_run m ρ)

end Cert.KernelIdeal.Hand

end
-- ==== Proof.Tok.lean ====
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pointwise
public import Idealize.ShloMosaic.Lib.Writes

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UR sig nD τ) ℕ

/-- One `[8, 128]` slab of rescaled tokens: rows `8g ..` and lanes `128c ..` of a `[32, 512]` group of codes, each row times
    the scale its row number `32r + 8g + row` picks among 128 scales. -/
def tokPay (v139 : IVec S8x128 32) (A : Vec F S1x1x128 .f32) (B : Vec F S1x32x512 .fp8e4m3) (r g q : Fin 4) : FVec F S1x8x128 .f32 :=
  let w : IVec S8x128 32 := addi v139 (broadcast S8x128 (BitVec.ofNat 32 (32 * r.val + 8 * g.val)))
  shapeCast S1x8x128 (mulf
    (extractStridedSlice S8x128 ![8 * g.val, 128 * q.val] (extf .f32 (shapeCast S32x512 B shapeCasts_S1x32x512_S32x512) bitsLt_fp8e4m3_f32 : FVec F S32x512 .f32)
      (by revert g q; decide))
    (dynamicGather 1 (broadcastTo S8x128 (shapeCast S1x128 (shapeCast S1x128 A shapeCasts_S1x1x128_S1x128) shapeCasts_S1x128_S1x128) broadcasts_S1x128_S8x128)
      (shapeCast S8x128 (shapeCast S8x128x1 (select (cmpi .slt w (broadcast S8x128 0#32)) (addi w (broadcast S8x128 128#32)) w) shapeCasts_S8x128_S8x128x1) shapeCasts_S8x128x1_S8x128)))
    shapeCasts_S8x128_S1x8x128

/-- The 64 slabs of one trip, last stored first. -/
def tokList (off : Fin 4 → Fin 4 → Fin 4 → Fin 3 → ℕ) (inb : ∀ q r g a, off q r g a + S1x8x128.size a ≤ S4x4672x128.size a)
    (v139 : IVec S8x128 32) (A : Vec F S1x1x128 .f32) (B : Fin 4 → Vec F S1x32x512 .fp8e4m3) : List (View.Piece (Elt F) S4x4672x128 .f32) :=
  [3, 2, 1, 0].flatMap fun r => [3, 2, 1, 0].flatMap fun g => [3, 2, 1, 0].map fun q =>
    ⟨Rect.unit (off q r g) S1x8x128.size (inb q r g), tokPay v139 A (B r) r g q⟩

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- Where trip `k` of the loop of sample 0 stores slab `(q, r, g)`. -/
def tokOff1 (k : Fin k0_t1_loop.trips) (q r g : Fin 4) : Fin 3 → ℕ :=
  match q with
  | 0 => k0_off3 k (BitVec.ofNat 32 (32 * r.val)) (BitVec.ofNat 32 (8 * g.val))
  | 1 => k0_off4 k (BitVec.ofNat 32 (32 * r.val)) (BitVec.ofNat 32 (8 * g.val))
  | 2 => k0_off5 k (BitVec.ofNat 32 (32 * r.val)) (BitVec.ofNat 32 (8 * g.val))
  | 3 => k0_off6 k (BitVec.ofNat 32 (32 * r.val)) (BitVec.ofNat 32 (8 * g.val))

/-- Where a trip of the loop of sample 0 stores, as numbers. -/
theorem tokOff1_eq (k : Fin k0_t1_loop.trips) (q r g : Fin 4) :
    tokOff1 k q r g = ![q.val, 128 * k.val + 32 * r.val + 8 * g.val + 16, 0] := by
  fin_cases q
  · exact k0_off3_eq k r g
  · exact k0_off4_eq k r g
  · exact k0_off5_eq k r g
  · exact k0_off6_eq k r g

/-- The stores of the loop of sample 0 lie in the token buffer. -/
theorem tokOff1_inb (h1 : k0_cond1 i = 1#1) (k : Fin k0_t1_loop.trips) (q r g : Fin 4) (a : Fin 3) :
    tokOff1 k q r g a + S1x8x128.size a ≤ S4x4672x128.size a := by
  fin_cases q
  · exact k0_off3_inb i k h1 r g a
  · exact k0_off4_inb i k h1 r g a
  · exact k0_off5_inb i k h1 r g a
  · exact k0_off6_inb i k h1 r g a

/-- The pieces one trip of sample 0 writes are the 64 slabs. -/
theorem tripL1_eq (𝒱 : Variants) (bd : Option 𝒱.V) (h1 : k0_cond1 i = 1#1) (v139 : IVec S8x128 32) (v214 : FVec F S8x128 .f32)
    (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 v139 v214 X1 X2 k
      = tokList (tokOff1 k) (tokOff1_inb i h1 k) v139
          (View.readAt (Elt F) arg2.view (Rect.unit (s := S4x1x1152) (k0_off1 k) S1x1x128.size (k0_off1_inb i k h1)).toLoadRect X2)
          (fun r => View.readAt (Elt F) arg1.view (Rect.unit (s := S4x1152x512) (k0_off2 k (BitVec.ofNat 32 (32 * r.val))) S1x32x512.size (k0_off2_inb i k h1 r)).toLoadRect X1) := by
  unfold tripL_k0_t1 trip_k0_t1
  rfl

/-- Where trip `k` of the loop of sample 1 stores slab `(q, r, g)`. -/
def tokOff2 (k : Fin k0_t2_loop.trips) (q r g : Fin 4) : Fin 3 → ℕ :=
  match q with
  | 0 => k0_off9 k (BitVec.ofNat 32 (32 * r.val)) (BitVec.ofNat 32 (8 * g.val))
  | 1 => k0_off10 k (BitVec.ofNat 32 (32 * r.val)) (BitVec.ofNat 32 (8 * g.val))
  | 2 => k0_off11 k (BitVec.ofNat 32 (32 * r.val)) (BitVec.ofNat 32 (8 * g.val))
  | 3 => k0_off12 k (BitVec.ofNat 32 (32 * r.val)) (BitVec.ofNat 32 (8 * g.val))

/-- Where a trip of the loop of sample 1 stores, as numbers. -/
theorem tokOff2_eq (k : Fin k0_t2_loop.trips) (q r g : Fin 4) :
    tokOff2 k q r g = ![q.val, 128 * k.val + 32 * r.val + 8 * g.val + 1184, 0] := by
  fin_cases q
  · exact k0_off9_eq k r g
  · exact k0_off10_eq k r g
  · exact k0_off11_eq k r g
  · exact k0_off12_eq k r g

/-- The stores of the loop of sample 1 lie in the token buffer. -/
theorem tokOff2_inb (h1 : k0_cond1 i = 1#1) (k : Fin k0_t2_loop.trips) (q r g : Fin 4) (a : Fin 3) :
    tokOff2 k q r g a + S1x8x128.size a ≤ S4x4672x128.size a := by
  fin_cases q
  · exact k0_off9_inb i k h1 r g a
  · exact k0_off10_inb i k h1 r g a
  · exact k0_off11_inb i k h1 r g a
  · exact k0_off12_inb i k h1 r g a

/-- The pieces one trip of sample 1 writes are the 64 slabs. -/
theorem tripL2_eq (𝒱 : Variants) (bd : Option 𝒱.V) (h1 : k0_cond1 i = 1#1) (v139 : IVec S8x128 32) (v268 : FVec F S8x1 .f32) (v272 : FVec F S8x512 .f32) (v287 : FVec F S8x128 .f32)
    (X1 : BufTy.Contents (Elt F) arg1.view.ty) (X2 : BufTy.Contents (Elt F) arg2.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 v139 v268 v272 v287 X1 X2 k
      = tokList (tokOff2 k) (tokOff2_inb i h1 k) v139
          (View.readAt (Elt F) arg2.view (Rect.unit (s := S4x1x1152) (k0_off7 k) S1x1x128.size (k0_off7_inb i k h1)).toLoadRect X2)
          (fun r => View.readAt (Elt F) arg1.view (Rect.unit (s := S4x1152x512) (k0_off8 k (BitVec.ofNat 32 (32 * r.val))) S1x32x512.size (k0_off8_inb i k h1 r)).toLoadRect X1) := by
  unfold tripL_k0_t2 trip_k0_t2
  rfl

/-- Where trip `k` of the loop of sample 2 stores slab `(q, r, g)`. -/
def tokOff3 (k : Fin k0_t3_loop.trips) (q r g : Fin 4) : Fin 3 → ℕ :=
  match q with
  | 0 => k0_off15 k (BitVec.ofNat 32 (32 * r.val)) (BitVec.ofNat 32 (8 * g.val))
  | 1 => k0_off16 k (BitVec.ofNat 32 (32 * r.val)) (BitVec.ofNat 32 (8 * g.val))
  | 2 => k0_off17 k (BitVec.ofNat 32 (32 * r.val)) (BitVec.ofNat 32 (8 * g.val))
  | 3 => k0_off18 k (BitVec.ofNat 32 (32 * r.val)) (BitVec.ofNat 32 (8 * g.val))

/-- Where a trip of the loop of sample 2 stores, as numbers. -/
theorem tokOff3_eq (k : Fin k0_t3_loop.trips) (q r g : Fin 4) :
    tokOff3 k q r g = ![q.val, 128 * k.val + 32 * r.val + 8 * g.val + 2352, 0] := by
  fin_cases q
  · exact k0_off15_eq k r g
  · exact k0_off16_eq k r g
  · exact k0_off17_eq k r g
  · exact k0_off18_eq k r g

/-- The stores of the loop of sample 2 lie in the token buffer. -/
theorem tokOff3_inb (h1 : k0_cond1 i = 1#1) (k : Fin k0_t3_loop.trips) (q r g : Fin 4) (a : Fin 3) :
    tokOff3 k q r g a + S1x8x128.size a ≤ S4x4672x128.size a := by
  fin_cases q
  · exact k0_off15_inb i k h1 r g a
  · exact k0_off16_inb i k h1 r g a
  · exact k0_off17_inb i k h1 r g a
  · exact k0_off18_inb i k h1 r g a

/-- The pieces one trip of sample 2 writes are the 64 slabs. -/
theorem tripL3_eq (𝒱 : Variants) (bd : Option 𝒱.V) (h1 : k0_cond1 i = 1#1) (v139 : IVec S8x128 32) (v347 : FVec F S8x1 .f32) (v351 : FVec F S8x512 .f32) (v358 : FVec F S8x128 .f32) (v359 : FVec F S8x128 .f32)
    (X1 : BufTy.Contents (Elt F) arg1.view.ty) (X2 : BufTy.Contents (Elt F) arg2.view.ty) (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 v139 v347 v351 v358 v359 X1 X2 k
      = tokList (tokOff3 k) (tokOff3_inb i h1 k) v139
          (View.readAt (Elt F) arg2.view (Rect.unit (s := S4x1x1152) (k0_off13 k) S1x1x128.size (k0_off13_inb i k h1)).toLoadRect X2)
          (fun r => View.readAt (Elt F) arg1.view (Rect.unit (s := S4x1152x512) (k0_off14 k (BitVec.ofNat 32 (32 * r.val))) S1x32x512.size (k0_off14_inb i k h1 r)).toLoadRect X1) := by
  unfold tripL_k0_t3 trip_k0_t3
  rfl

/-- Where trip `k` of the loop of sample 3 stores slab `(q, r, g)`. -/
def tokOff4 (k : Fin k0_t4_loop.trips) (q r g : Fin 4) : Fin 3 → ℕ :=
  match q with
  | 0 => k0_off21 k (BitVec.ofNat 32 (32 * r.val)) (BitVec.ofNat 32 (8 * g.val))
  | 1 => k0_off22 k (BitVec.ofNat 32 (32 * r.val)) (BitVec.ofNat 32 (8 * g.val))
  | 2 => k0_off23 k (BitVec.ofNat 32 (32 * r.val)) (BitVec.ofNat 32 (8 * g.val))
  | 3 => k0_off24 k (BitVec.ofNat 32 (32 * r.val)) (BitVec.ofNat 32 (8 * g.val))

/-- Where a trip of the loop of sample 3 stores, as numbers. -/
theorem tokOff4_eq (k : Fin k0_t4_loop.trips) (q r g : Fin 4) :
    tokOff4 k q r g = ![q.val, 128 * k.val + 32 * r.val + 8 * g.val + 3520, 0] := by
  fin_cases q
  · exact k0_off21_eq k r g
  · exact k0_off22_eq k r g
  · exact k0_off23_eq k r g
  · exact k0_off24_eq k r g

/-- The stores of the loop of sample 3 lie in the token buffer. -/
theorem tokOff4_inb (h1 : k0_cond1 i = 1#1) (k : Fin k0_t4_loop.trips) (q r g : Fin 4) (a : Fin 3) :
    tokOff4 k q r g a + S1x8x128.size a ≤ S4x4672x128.size a := by
  fin_cases q
  · exact k0_off21_inb i k h1 r g a
  · exact k0_off22_inb i k h1 r g a
  · exact k0_off23_inb i k h1 r g a
  · exact k0_off24_inb i k h1 r g a

/-- The pieces one trip of sample 3 writes are the 64 slabs. -/
theorem tripL4_eq (𝒱 : Variants) (bd : Option 𝒱.V) (h1 : k0_cond1 i = 1#1) (v139 : IVec S8x128 32) (v426 : FVec F S8x1 .f32) (v430 : FVec F S8x512 .f32) (v431 : FVec F S8x128 .f32)
    (X1 : BufTy.Contents (Elt F) arg1.view.ty) (X2 : BufTy.Contents (Elt F) arg2.view.ty) (k : Fin k0_t4_loop.trips) :
    tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 v139 v426 v430 v431 X1 X2 k
      = tokList (tokOff4 k) (tokOff4_inb i h1 k) v139
          (View.readAt (Elt F) arg2.view (Rect.unit (s := S4x1x1152) (k0_off19 k) S1x1x128.size (k0_off19_inb i k h1)).toLoadRect X2)
          (fun r => View.readAt (Elt F) arg1.view (Rect.unit (s := S4x1152x512) (k0_off20 k (BitVec.ofNat 32 (32 * r.val))) S1x32x512.size (k0_off20_inb i k h1 r)).toLoadRect X1) := by
  unfold tripL_k0_t4 trip_k0_t4
  rfl

end Cert.KernelIdeal.Hand
-- ==== Proof.KF.lean ====
module

public import proofs.«01_k».proof.Proof.Tok

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The row number a slab's index word picks among the 128 scales. -/
theorem gather_word : ∀ (x1 : Fin 8) (r g : Fin 4),
    (Scalar.select
      (IntOp.cmpi CmpIPredicate.slt (IntOp.addi (BitVec.ofNat 32 x1.val) (BitVec.ofNat 32 (32 * r.val + 8 * g.val))) 0#32)
      (IntOp.addi (IntOp.addi (BitVec.ofNat 32 x1.val) (BitVec.ofNat 32 (32 * r.val + 8 * g.val))) 128#32)
      (IntOp.addi (BitVec.ofNat 32 x1.val) (BitVec.ofNat 32 (32 * r.val + 8 * g.val)))).toNat % 128 = 32 * r.val + 8 * g.val + x1.val := by
  decide +kernel

/-- A slab at an index: the code times its row's scale. -/
theorem tokPay_apply (A : Vec Ideal S1x1x128 .f32) (B : Vec Ideal S1x32x512 .fp8e4m3) (r g q : Fin 4) (x0 : Fin 1) (x1 : Fin 8) (x2 : Fin 128) :
    tokPay (F := Ideal) (iota .tc S8x128 32 [0] iota_S8x128_d0_w32) A B r g q (ix3 x0 x1 x2)
      = (B (ix3 (0 : Fin 1) (⟨8 * g.val + x1.val, by omega⟩ : Fin 32) (⟨128 * q.val + x2.val, by omega⟩ : Fin 512)) : EReal)
        * A (ix3 (0 : Fin 1) (0 : Fin 1) (⟨32 * r.val + 8 * g.val + x1.val, by omega⟩ : Fin 128)) := by
  pointwise [tokPay]
  congr 3
  exact Fin.ext (gather_word x1 r g)

/-- The rescaled tokens laid out as four lane blocks: row `1168 b + u` of block `q` is token `u` of sample `b` (its 16
    previous tokens first), lanes `128 q ..`, times the token's scale. -/
def KF (K : Vec Ideal S4x1152x512 .fp8e4m3) (KS : Vec Ideal S4x1x1152 .f32) (KP : Vec Ideal S4x16x512 .fp8e4m3) (KPS : Vec Ideal S4x1x16 .f32)
    (y : S4x4672x128.Idx) : EReal :=
  let b : ℕ := (y 1).val / 1168
  let u : ℕ := (y 1).val % 1168
  let e : Fin 512 := Fin.ofNat 512 (128 * (y 0).val + (y 2).val)
  if u < 16 then KP (ix3 (Fin.ofNat 4 b) (Fin.ofNat 16 u) e) * KPS (ix3 (Fin.ofNat 4 b) (0 : Fin 1) (Fin.ofNat 16 u))
  else K (ix3 (Fin.ofNat 4 b) (Fin.ofNat 1152 (u - 16)) e) * KS (ix3 (Fin.ofNat 4 b) (0 : Fin 1) (Fin.ofNat 1152 (u - 16)))

variable (K : Vec Ideal S4x1152x512 .fp8e4m3) (KS : Vec Ideal S4x1x1152 .f32) (KP : Vec Ideal S4x16x512 .fp8e4m3) (KPS : Vec Ideal S4x1x16 .f32)

/-- Every slab of a trip holds `KF` where it lies. -/
theorem tokList_agree (b k : ℕ) (hb : b < 4) (hk : k < 9) (off : Fin 4 → Fin 4 → Fin 4 → Fin 3 → ℕ)
    (inb : ∀ q r g a, off q r g a + S1x8x128.size a ≤ S4x4672x128.size a)
    (hoff : ∀ q r g, off q r g = ![q.val, 128 * k + 32 * r.val + 8 * g.val + (16 + 1168 * b), 0])
    (A : Vec Ideal S1x1x128 .f32) (B : Fin 4 → Vec Ideal S1x32x512 .fp8e4m3)
    (hA : ∀ j : Fin 128, A (ix3 (0 : Fin 1) (0 : Fin 1) j) = KS (ix3 (Fin.ofNat 4 b) (0 : Fin 1) (Fin.ofNat 1152 (128 * k + j.val))))
    (hB : ∀ (r : Fin 4) (j : Fin 32) (l : Fin 512), B r (ix3 (0 : Fin 1) j l) = K (ix3 (Fin.ofNat 4 b) (Fin.ofNat 1152 (128 * k + 32 * r.val + j.val)) l)) :
    ∀ p ∈ tokList (F := Ideal) off inb (iota .tc S8x128 32 [0] iota_S8x128_d0_w32) A B, ∀ x, p.2 x = KF K KS KP KPS (p.1.emb x) := by
  intro p hp x
  simp only [tokList, List.mem_flatMap, List.mem_map] at hp
  obtain ⟨r, -, g, -, q, -, rfl⟩ := hp
  obtain ⟨x0, x1, x2, rfl⟩ : ∃ (x0 : Fin 1) (x1 : Fin 8) (x2 : Fin 128), x = ix3 x0 x1 x2 := ⟨_, _, _, eq_ix3 (n0 := 1) (n1 := 8) (n2 := 128) x⟩
  refine (tokPay_apply A (B r) r g q x0 x1 x2).trans ?_
  have e0 : ((Rect.unit (s := S4x4672x128) (off q r g) S1x8x128.size (inb q r g)).emb (ix3 x0 x1 x2) 0).val = q.val := by
    change off q r g 0 + 1 * x0.val = _; rw [hoff]; change q.val + 1 * x0.val = _; omega
  have e1 : ((Rect.unit (s := S4x4672x128) (off q r g) S1x8x128.size (inb q r g)).emb (ix3 x0 x1 x2) 1).val = 1168 * b + (128 * k + 32 * r.val + 8 * g.val + x1.val + 16) := by
    change off q r g 1 + 1 * x1.val = _; rw [hoff]; change 128 * k + 32 * r.val + 8 * g.val + (16 + 1168 * b) + 1 * x1.val = _; omega
  have e2 : ((Rect.unit (s := S4x4672x128) (off q r g) S1x8x128.size (inb q r g)).emb (ix3 x0 x1 x2) 2).val = x2.val := by
    change off q r g 2 + 1 * x2.val = _; rw [hoff]; change 0 + 1 * x2.val = _; omega
  have hd : (1168 * b + (128 * k + 32 * r.val + 8 * g.val + x1.val + 16)) / 1168 = b := by omega
  have hm : (1168 * b + (128 * k + 32 * r.val + 8 * g.val + x1.val + 16)) % 1168 = 128 * k + 32 * r.val + 8 * g.val + x1.val + 16 := by omega
  unfold KF
  simp only [e0, e1, e2, hd, hm]
  rw [if_neg (by omega), hA, hB]
  have i1 : Fin.ofNat 1152 (128 * k + 32 * r.val + (8 * g.val + x1.val)) = Fin.ofNat 1152 (128 * k + 32 * r.val + 8 * g.val + x1.val + 16 - 16) :=
    congrArg _ (by omega)
  have i2 : Fin.ofNat 1152 (128 * k + (32 * r.val + 8 * g.val + x1.val)) = Fin.ofNat 1152 (128 * k + 32 * r.val + 8 * g.val + x1.val + 16 - 16) :=
    congrArg _ (by omega)
  have i3 : (⟨128 * q.val + x2.val, by omega⟩ : Fin 512) = Fin.ofNat 512 (128 * q.val + x2.val) :=
    Fin.ext (Nat.mod_eq_of_lt (by omega)).symm
  exact congrArg₂ (fun u v : EReal => u * v) (congrArg K (congrArg₂ (ix3 (Fin.ofNat 4 b)) i1 i3)) (congrArg KS (congrArg (ix3 (Fin.ofNat 4 b) (0 : Fin 1)) i2))

/-- The slabs of trip `k` of sample `b` cover its 128 tokens. -/
theorem tokList_cover (b k : ℕ) (off : Fin 4 → Fin 4 → Fin 4 → Fin 3 → ℕ)
    (inb : ∀ q r g a, off q r g a + S1x8x128.size a ≤ S4x4672x128.size a)
    (hoff : ∀ q r g, off q r g = ![q.val, 128 * k + 32 * r.val + 8 * g.val + (16 + 1168 * b), 0])
    (v : IVec S8x128 32) (A : Vec Ideal S1x1x128 .f32) (B : Fin 4 → Vec Ideal S1x32x512 .fp8e4m3) (y : S4x4672x128.Idx)
    (h : 128 * k + (16 + 1168 * b) ≤ (y 1).val) (h' : (y 1).val < 128 * (k + 1) + (16 + 1168 * b)) :
    ∃ p ∈ tokList (F := Ideal) off inb v A B, y ∈ p.1.set := by
  have hz : (y 1).val - (128 * k + (16 + 1168 * b)) < 128 := by omega
  generalize hzd : (y 1).val - (128 * k + (16 + 1168 * b)) = z at hz
  have h0 : (y 0).val < 4 := (y 0).isLt
  have h2 : (y 2).val < 128 := (y 2).isLt
  have all4 : ∀ r : Fin 4, r ∈ ([3, 2, 1, 0] : List (Fin 4)) := by decide
  refine ⟨_, List.mem_flatMap.mpr ⟨⟨z / 32, by omega⟩, all4 _, List.mem_flatMap.mpr ⟨⟨z % 32 / 8, by omega⟩, all4 _,
    List.mem_map_of_mem (all4 ⟨(y 0).val, h0⟩)⟩⟩, ?_⟩
  show y ∈ (Rect.unit (s := S4x4672x128) (off _ _ _) S1x8x128.size (inb _ _ _)).set
  apply (LoadRect.mem_set _).mpr
  intro a
  match a with
  | ⟨0, _⟩ => exact ⟨0, (by decide : 0 < 1), by change (y 0).val = off _ _ _ 0 + 1 * 0; rw [hoff]; exact (Nat.add_zero _).symm⟩
  | ⟨1, _⟩ =>
    refine ⟨z % 8, (by omega : z % 8 < 8), ?_⟩
    change (y 1).val = off _ _ _ 1 + 1 * (z % 8); rw [hoff]
    change (y 1).val = 128 * k + 32 * (z / 32) + 8 * (z % 32 / 8) + (16 + 1168 * b) + 1 * (z % 8); omega
  | ⟨2, _⟩ => exact ⟨(y 2).val, h2, by change (y 2).val = off _ _ _ 2 + 1 * (y 2).val; rw [hoff]; change _ = 0 + 1 * (y 2).val; omega⟩

end Cert.KernelIdeal.Hand
-- ==== Proof.Full.lean ====
module

public import proofs.«01_k».proof.Proof.KF
public import proofs.«01_k».proof.Proof.IdealFirst

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- One `[8, 128]` slab of rescaled previous tokens: rows `8g ..`, lanes `128q ..` of a sample's 16 previous tokens, each row
    times its scale. -/
def prevPay (A : Vec F S1x1x16 .f32) (B : Vec F S1x16x512 .fp8e4m3) (g : Fin 2) (q : Fin 4) : FVec F S1x8x128 .f32 :=
  shapeCast S1x8x128 (mulf
    (extractStridedSlice S8x128 ![0, 128 * q.val] (extractStridedSlice S8x512 ![8 * g.val, 0]
      (extf .f32 (shapeCast S16x512 B shapeCasts_S1x16x512_S16x512) bitsLt_fp8e4m3_f32 : FVec F S16x512 .f32)
      (by revert g; decide)) (by revert q; decide))
    (broadcastTo S8x128 (shapeCast S8x1 (multiReduction .add [1] S8
      (select (cmpi .eq (iota .tc S8x16 32 [1] iota_S8x16_d1_w32) (addi (iota .tc S8x16 32 [0] iota_S8x16_d0_w32) (broadcast S8x16 (BitVec.ofNat 32 (8 * g.val)))))
        (broadcastTo S8x16 (shapeCast S1x16 (shapeCast S1x16 A shapeCasts_S1x1x16_S1x16) shapeCasts_S1x16_S1x16) broadcasts_S1x16_S8x16)
        (broadcast S8x16 (Scalar.ofBits .f32 0x00000000#32))) 0x00000000#32 reduces_S8x16_S8 (.inl rfl) rfl) shapeCasts_S8_S8x1) broadcasts_S8x1_S8x128))
    shapeCasts_S8x128_S1x8x128

/-- The stores of the rows of `prev` lie in the token buffer. -/
theorem prev_inb : ∀ (b q : Fin 4) (g : Fin 2) (a : Fin 3), (![q.val, 1168 * b.val + 8 * g.val, 0] : Fin 3 → ℕ) a + S1x8x128.size a ≤ S4x4672x128.size a := by
  decide +kernel

/-- The scales of each sample's rows of `prev` lie in their block. -/
theorem prevA_inb : ∀ (b : Fin 4) (a : Fin 3), (![b.val, 0, 0] : Fin 3 → ℕ) a + S1x1x16.size a ≤ S4x1x16.size a := by decide +kernel

/-- The codes of each sample's rows of `prev` lie in their block. -/
theorem prevB_inb : ∀ (b : Fin 4) (a : Fin 3), (![b.val, 0, 0] : Fin 3 → ℕ) a + S1x16x512.size a ≤ S4x16x512.size a := by decide +kernel

/-- The eight slabs of sample `b`'s previous tokens, last stored first. -/
def prevList (b : Fin 4) (A : Vec F S1x1x16 .f32) (B : Vec F S1x16x512 .fp8e4m3) : List (View.Piece (Elt F) S4x4672x128 .f32) :=
  [1, 0].flatMap fun g => [3, 2, 1, 0].map fun q =>
    ⟨Rect.unit (s := S4x4672x128) ![q.val, 1168 * b.val + 8 * g.val, 0] S1x8x128.size (prev_inb b q g), prevPay A B g q⟩

/-- What the first point adds up for one 128-lane block of its matrix: four samples' 72 strided tokens, each row plus the
    position row, rounded to bf16. -/
def xPay (p : Vec F S1x128 .f32) (v : Fin 4 → Vec F S1x72x128 .f32) : FVec F S288x128 .bf16 :=
  shapeCast S288x128 (truncf .bf16 (concatenate S288x128 0
    [⟨S72x128, addf (shapeCast S72x128 (v 0) shapeCasts_S1x72x128_S72x128) (broadcastTo S72x128 p broadcasts_S1x128_S72x128)⟩,
     ⟨S72x128, addf (shapeCast S72x128 (v 1) shapeCasts_S1x72x128_S72x128) (broadcastTo S72x128 p broadcasts_S1x128_S72x128)⟩,
     ⟨S72x128, addf (shapeCast S72x128 (v 2) shapeCasts_S1x72x128_S72x128) (broadcastTo S72x128 p broadcasts_S1x128_S72x128)⟩,
     ⟨S72x128, addf (shapeCast S72x128 (v 3) shapeCasts_S1x72x128_S72x128) (broadcastTo S72x128 p broadcasts_S1x128_S72x128)⟩]
    concatenates_S72x128_S72x128_S72x128_S72x128_S288x128_d0 : FVec F S288x128 .f32) bitsLt_bf16_f32 : FVec F S288x128 .bf16) shapeCasts_S288x128_S288x128

/-- The stores of the window matrix's column groups lie in its buffer. -/
theorem x_inb : ∀ (j : Fin 32) (q : Fin 4) (a : Fin 2), (![0, 512 * j.val + 128 * q.val] : Fin 2 → ℕ) a + S288x128.size a ≤ S288x16384.size a := by
  decide +kernel

/-- The loads of the position rows lie in their block. -/
theorem xpos_inb : ∀ (j : Fin 32) (q : Fin 4) (a : Fin 2), (![j.val, 128 * q.val] : Fin 2 → ℕ) a + S1x128.size a ≤ S32x512.size a := by
  decide +kernel

/-- The strided loads of the tokens lie in the token buffer. -/
theorem xtok_inb : ∀ (j : Fin 32) (q b : Fin 4) (a : Fin 3), S1x72x128.size a = 0 ∨
    (![q.val, 1168 * b.val + j.val, 0] : Fin 3 → ℕ) a + (![1, 16, 1] : Fin 3 → ℕ) a * (S1x72x128.size a - 1) < S4x4672x128.size a := by
  decide +kernel

/-- The 128 lane blocks of the first point's matrix, last stored first, over what its token buffer holds. -/
def xList (P : (j : Fin 32) → (q : Fin 4) → Vec F S1x128 .f32) (T : Fin 32 → Fin 4 → Fin 4 → Vec F S1x72x128 .f32) : List (View.Piece (Elt F) S288x16384 .bf16) :=
  [31, 30, 29, 28, 27, 26, 25, 24, 23, 22, 21, 20, 19, 18, 17, 16, 15, 14, 13, 12, 11, 10, 9, 8, 7, 6, 5, 4, 3, 2, 1, 0].flatMap fun j =>
    [3, 2, 1, 0].map fun q => ⟨Rect.unit (s := S288x16384) ![0, 512 * j.val + 128 * q.val] S288x128.size (x_inb j q), xPay (P j q) (T j q)⟩

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- Everything the first point writes into its token buffer, last stored first. -/
def kfAll (h1 : k0_cond1 i = 1#1)
    (f1 : BufTy.Contents (Elt F) arg1.view.ty) (f2 : BufTy.Contents (Elt F) arg2.view.ty) (f3 : BufTy.Contents (Elt F) arg3.view.ty) (f4 : BufTy.Contents (Elt F) arg4.view.ty) :
    List (View.Piece (Elt F) S4x4672x128 .f32) :=
  let A (b : Fin 4) : Vec F S1x1x16 .f32 := View.readAt (Elt F) arg4.view (Rect.unit (s := S4x1x16) ![b.val, 0, 0] S1x1x16.size (prevA_inb b)).toLoadRect f4
  let B (b : Fin 4) : Vec F S1x16x512 .fp8e4m3 := View.readAt (Elt F) arg3.view (Rect.unit (s := S4x16x512) ![b.val, 0, 0] S1x16x512.size (prevB_inb b)).toLoadRect f3
  pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 runFirst.sl.v139 (runFirst.sl.r_22 arg4 f4) (runFirst.sl.r_23 arg3 f3) (runFirst.sl.r_24 arg3 f3) f1 f2 (Scf.trips k0_t4_loop.lb k0_t4_loop.ub k0_t4_loop.st) ++ (prevList 3 (A 3) (B 3) ++
  (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 runFirst.sl.v139 (runFirst.sl.r_15 arg4 f4) (runFirst.sl.r_16 arg3 f3) (runFirst.sl.r_17 arg3 f3) (runFirst.sl.r_18 arg4 f4) f1 f2 (Scf.trips k0_t3_loop.lb k0_t3_loop.ub k0_t3_loop.st) ++ (prevList 2 (A 2) (B 2) ++
  (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 runFirst.sl.v139 (runFirst.sl.r_8 arg4 f4) (runFirst.sl.r_9 arg3 f3) (runFirst.sl.r_10 arg3 arg4 f3 f4) f1 f2 (Scf.trips k0_t2_loop.lb k0_t2_loop.ub k0_t2_loop.st) ++ (prevList 1 (A 1) (B 1) ++
  (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 runFirst.sl.v139 (runFirst.sl.r_2 arg3 arg4 f3 f4) f1 f2 (Scf.trips k0_t1_loop.lb k0_t1_loop.ub k0_t1_loop.st) ++ prevList 0 (A 0) (B 0)))))))

/-- The first point's matrix is the 128 lane blocks over its token buffer. -/
theorem runFirst_x (h1 : k0_cond1 i = 1#1) (h2 : ¬ k0_cond2 i = 1#1)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f16 : BufTy.Contents (Elt F) arg16.view.ty) (f17 : BufTy.Contents (Elt F) arg17.view.ty) (f18 : BufTy.Contents (Elt F) arg18.view.ty) (f20 : BufTy.Contents (Elt F) arg20.view.ty) :
    (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1
      = xList (fun j q => View.readAt (Elt F) arg5.view (Rect.unit (s := S32x512) ![j.val, 128 * q.val] S1x128.size (xpos_inb j q)).toLoadRect f5)
          (fun j q b => View.readAt (Elt F) arg16.view { off := ![q.val, 1168 * b.val + j.val, 0], size := S1x72x128.size, stride := ![1, 16, 1], inb := xtok_inb j q b }
            (arg16.view.writes (Elt F) f16 (kfAll c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 f1 f2 f3 f4))) := by
  unfold runFirst
  rfl

end Cert.KernelIdeal.Hand
-- ==== Proof.XVal.lean ====
module

public import proofs.«01_k».proof.Proof.Full

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- A load of a box at a unit step, read at an index. -/
theorem readAt3 {n0 n1 n2 m0 m1 m2 : ℕ} [NeZero n0] [NeZero n1] [NeZero n2] {e : EltTy} (v : View sig .tc .vmem ⟨3, ![n0, n1, n2]⟩ e)
    (off : Fin 3 → ℕ) (inb) (o0 o1 o2 : ℕ) (hoff : off = ![o0, o1, o2]) (X : BufTy.Contents (Elt Ideal) v.ty) (x0 : Fin m0) (x1 : Fin m1) (x2 : Fin m2) :
    v.readAt (Elt Ideal) (Rect.unit (s := ⟨3, ![n0, n1, n2]⟩) off ![m0, m1, m2] inb).toLoadRect X (ix3 x0 x1 x2)
      = v.read (Elt Ideal) X (ix3 (Fin.ofNat n0 (o0 + x0.val)) (Fin.ofNat n1 (o1 + x1.val)) (Fin.ofNat n2 (o2 + x2.val))) := by
  subst hoff
  refine congrArg (v.read (Elt Ideal) X) (funext fun a => Fin.ext ?_)
  have key : ∀ (o n m : ℕ) (x : Fin m), o + m ≤ n → o + 1 * x.val = (o + x.val) % n := fun o n m x h => by
    rw [Nat.mod_eq_of_lt (by omega)]; omega
  match a with
  | ⟨0, _⟩ => exact key o0 n0 m0 x0 (inb 0)
  | ⟨1, _⟩ => exact key o1 n1 m1 x1 (inb 1)
  | ⟨2, _⟩ => exact key o2 n2 m2 x2 (inb 2)

/-- A load of a `[m0, m1]` box at a unit step, read at an index. -/
theorem readAt2 {n0 n1 m0 m1 : ℕ} [NeZero n0] [NeZero n1] {e : EltTy} (v : View sig .tc .vmem ⟨2, ![n0, n1]⟩ e)
    (off : Fin 2 → ℕ) (inb) (o0 o1 : ℕ) (hoff : off = ![o0, o1]) (X : BufTy.Contents (Elt Ideal) v.ty) (x0 : Fin m0) (x1 : Fin m1) :
    v.readAt (Elt Ideal) (Rect.unit (s := ⟨2, ![n0, n1]⟩) off ![m0, m1] inb).toLoadRect X (ix2 x0 x1)
      = v.read (Elt Ideal) X (ix2 (Fin.ofNat n0 (o0 + x0.val)) (Fin.ofNat n1 (o1 + x1.val))) := by
  subst hoff
  refine congrArg (v.read (Elt Ideal) X) (funext fun a => Fin.ext ?_)
  have key : ∀ (o n m : ℕ) (x : Fin m), o + m ≤ n → o + 1 * x.val = (o + x.val) % n := fun o n m x h => by
    rw [Nat.mod_eq_of_lt (by omega)]; omega
  match a with
  | ⟨0, _⟩ => exact key o0 n0 m0 x0 (inb 0)
  | ⟨1, _⟩ => exact key o1 n1 m1 x1 (inb 1)

/-- Lists stacked trip by trip: what is in them after `m` trips is what one of those trips put there. -/
theorem mem_stack {α : Type} {n : ℕ} (L : Fin n → List α) (pb : ℕ → List α) (h0 : pb 0 = []) (hs : ∀ k : Fin n, pb (k.val + 1) = L k ++ pb k.val) :
    ∀ m ≤ n, ∀ p, p ∈ pb m ↔ ∃ k : Fin n, k.val < m ∧ p ∈ L k := by
  intro m
  induction m with
  | zero => intro _ p; rw [h0]; simp
  | succ m ih =>
    intro hm p
    rw [hs ⟨m, hm⟩, List.mem_append, ih (by omega)]
    constructor
    · rintro (h | ⟨k, hk, h⟩)
      · exact ⟨⟨m, hm⟩, Nat.lt_succ_self m, h⟩
      · exact ⟨k, by omega, h⟩
    · rintro ⟨k, hk, h⟩
      rcases Nat.lt_or_ge k.val m with h' | h'
      · exact Or.inr ⟨k, h', h⟩
      · have : k = ⟨m, hm⟩ := Fin.ext (Nat.le_antisymm (Nat.lt_succ_iff.mp hk) h')
        subst this; exact Or.inl h

/-- Exactly one lane of the selection is the row's own. -/
theorem prev_word : ∀ (x : Fin 16) (x1 : Fin 8) (g : Fin 2),
    IntOp.cmpi CmpIPredicate.eq (BitVec.ofNat 32 x.val) (IntOp.addi (BitVec.ofNat 32 x1.val) (BitVec.ofNat 32 (8 * g.val)))
      = if x = ⟨8 * g.val + x1.val, by omega⟩ then 1#1 else 0#1 := by
  decide +kernel

/-- A slab of previous tokens at an index: the code times its row's scale. -/
theorem prevPay_apply (A : Vec Ideal S1x1x16 .f32) (B : Vec Ideal S1x16x512 .fp8e4m3) (g : Fin 2) (q : Fin 4) (x0 : Fin 1) (x1 : Fin 8) (x2 : Fin 128) :
    prevPay (F := Ideal) A B g q (ix3 x0 x1 x2)
      = (B (ix3 (0 : Fin 1) (⟨8 * g.val + x1.val, by omega⟩ : Fin 16) (⟨128 * q.val + x2.val, by omega⟩ : Fin 512)) : EReal)
        * A (ix3 (0 : Fin 1) (0 : Fin 1) (⟨8 * g.val + x1.val, by omega⟩ : Fin 16)) := by
  pointwise [prevPay]
  congr 1
  rw [Finset.sum_eq_single (⟨8 * g.val + x1.val, by omega⟩ : Fin 16)]
  · rw [prev_word, if_pos rfl]; rfl
  · intro x _ hx; rw [prev_word, if_neg hx]; rfl
  · intro h; exact absurd (Finset.mem_univ _) h

variable (K : Vec Ideal S4x1152x512 .fp8e4m3) (KS : Vec Ideal S4x1x1152 .f32) (KP : Vec Ideal S4x16x512 .fp8e4m3) (KPS : Vec Ideal S4x1x16 .f32)

/-- Every slab of sample `b`'s previous tokens holds `KF` where it lies. -/
theorem prevList_agree (b : Fin 4) (A : Vec Ideal S1x1x16 .f32) (B : Vec Ideal S1x16x512 .fp8e4m3)
    (hA : ∀ j : Fin 16, A (ix3 (0 : Fin 1) (0 : Fin 1) j) = KPS (ix3 b (0 : Fin 1) j))
    (hB : ∀ (j : Fin 16) (l : Fin 512), B (ix3 (0 : Fin 1) j l) = KP (ix3 b j l)) :
    ∀ p ∈ prevList (F := Ideal) b A B, ∀ x, p.2 x = KF K KS KP KPS (p.1.emb x) := by
  intro p hp x
  simp only [prevList, List.mem_flatMap, List.mem_map] at hp
  obtain ⟨g, -, q, -, rfl⟩ := hp
  obtain ⟨x0, x1, x2, rfl⟩ : ∃ (x0 : Fin 1) (x1 : Fin 8) (x2 : Fin 128), x = ix3 x0 x1 x2 := ⟨_, _, _, eq_ix3 (n0 := 1) (n1 := 8) (n2 := 128) x⟩
  refine (prevPay_apply A B g q x0 x1 x2).trans ?_
  have e0 : ((Rect.unit (s := S4x4672x128) ![q.val, 1168 * b.val + 8 * g.val, 0] S1x8x128.size (prev_inb b q g)).emb (ix3 x0 x1 x2) 0).val = q.val := by
    change q.val + 1 * x0.val = _; omega
  have e1 : ((Rect.unit (s := S4x4672x128) ![q.val, 1168 * b.val + 8 * g.val, 0] S1x8x128.size (prev_inb b q g)).emb (ix3 x0 x1 x2) 1).val = 1168 * b.val + (8 * g.val + x1.val) := by
    change 1168 * b.val + 8 * g.val + 1 * x1.val = _; omega
  have e2 : ((Rect.unit (s := S4x4672x128) ![q.val, 1168 * b.val + 8 * g.val, 0] S1x8x128.size (prev_inb b q g)).emb (ix3 x0 x1 x2) 2).val = x2.val := by
    change 0 + 1 * x2.val = _; omega
  have hd : (1168 * b.val + (8 * g.val + x1.val)) / 1168 = b.val := by omega
  have hm : (1168 * b.val + (8 * g.val + x1.val)) % 1168 = 8 * g.val + x1.val := by omega
  unfold KF
  simp only [e0, e1, e2, hd, hm]
  rw [if_pos (by omega), hA, hB]
  have i0 : b = Fin.ofNat 4 b.val := Fin.ext (Nat.mod_eq_of_lt b.isLt).symm
  have i1 : (⟨8 * g.val + x1.val, by omega⟩ : Fin 16) = Fin.ofNat 16 (8 * g.val + x1.val) := Fin.ext (Nat.mod_eq_of_lt (by omega)).symm
  have i3 : (⟨128 * q.val + x2.val, by omega⟩ : Fin 512) = Fin.ofNat 512 (128 * q.val + x2.val) := Fin.ext (Nat.mod_eq_of_lt (by omega)).symm
  rw [i1, i3, ← i0]

/-- The slabs of sample `b`'s previous tokens cover its 16 rows. -/
theorem prevList_cover (b : Fin 4) (A : Vec Ideal S1x1x16 .f32) (B : Vec Ideal S1x16x512 .fp8e4m3) (y : S4x4672x128.Idx)
    (h : 1168 * b.val ≤ (y 1).val) (h' : (y 1).val < 1168 * b.val + 16) : ∃ p ∈ prevList (F := Ideal) b A B, y ∈ p.1.set := by
  generalize hzd : (y 1).val - 1168 * b.val = z
  have h0 : (y 0).val < 4 := (y 0).isLt
  have h2 : (y 2).val < 128 := (y 2).isLt
  have all2 : ∀ r : Fin 2, r ∈ ([1, 0] : List (Fin 2)) := by decide
  have all4 : ∀ r : Fin 4, r ∈ ([3, 2, 1, 0] : List (Fin 4)) := by decide
  refine ⟨_, List.mem_flatMap.mpr ⟨⟨z / 8, by omega⟩, all2 _, List.mem_map_of_mem (all4 ⟨(y 0).val, h0⟩)⟩, ?_⟩
  apply (LoadRect.mem_set _).mpr
  intro a
  match a with
  | ⟨0, _⟩ => exact ⟨0, (by decide : 0 < 1), (Nat.add_zero _).symm⟩
  | ⟨1, _⟩ =>
    refine ⟨z % 8, (by omega : z % 8 < 8), ?_⟩
    change (y 1).val = 1168 * b.val + 8 * (z / 8) + 1 * (z % 8); omega
  | ⟨2, _⟩ => exact ⟨(y 2).val, h2, by change (y 2).val = 0 + 1 * (y 2).val; omega⟩

/-- What a loop over sample `b`'s tokens leaves: every piece holds `KF` where it lies, and the pieces cover the tokens. -/
def LoopSpec (b : ℕ) (L : List (View.Piece (Elt Ideal) S4x4672x128 .f32)) : Prop :=
  (∀ p ∈ L, ∀ x, p.2 x = KF K KS KP KPS (p.1.emb x))
    ∧ ∀ y : S4x4672x128.Idx, 1168 * b + 16 ≤ (y 1).val → (y 1).val < 1168 * b + 1168 → ∃ p ∈ L, y ∈ p.1.set

/-- A loop of nine trips, each the 64 slabs of its 128 tokens, leaves `KF` over the sample's tokens. -/
theorem loopSpec_of (b : ℕ) (hb : b < 4) (v1 : View sig .tc .vmem S4x1152x512 .fp8e4m3) (v2 : View sig .tc .vmem S4x1x1152 .f32)
    (f1 : BufTy.Contents (Elt Ideal) v1.ty) (f2 : BufTy.Contents (Elt Ideal) v2.ty) {n : ℕ} (hn : n = 9)
    (off : Fin n → Fin 4 → Fin 4 → Fin 4 → Fin 3 → ℕ) {inb : ∀ k q r g a, off k q r g a + S1x8x128.size a ≤ S4x4672x128.size a}
    {o1 : Fin n → Fin 3 → ℕ} {o2 : Fin n → Fin 4 → Fin 3 → ℕ}
    {inb1 : ∀ k a, o1 k a + S1x1x128.size a ≤ S4x1x1152.size a} {inb2 : ∀ k r a, o2 k r a + S1x32x512.size a ≤ S4x1152x512.size a}
    (pb : ℕ → List (View.Piece (Elt Ideal) S4x4672x128 .f32)) (h0 : pb 0 = [])
    (hs : ∀ k : Fin n, pb (k.val + 1) = tokList (F := Ideal) (off k) (inb k) (iota .tc S8x128 32 [0] iota_S8x128_d0_w32)
      (v2.readAt (Elt Ideal) (Rect.unit (s := S4x1x1152) (o1 k) S1x1x128.size (inb1 k)).toLoadRect f2)
      (fun r => v1.readAt (Elt Ideal) (Rect.unit (s := S4x1152x512) (o2 k r) S1x32x512.size (inb2 k r)).toLoadRect f1) ++ pb k.val)
    (hoff : ∀ k q r g, off k q r g = ![q.val, 128 * k.val + 32 * r.val + 8 * g.val + (16 + 1168 * b), 0])
    (ho1 : ∀ k, o1 k = ![b, 0, 128 * k.val]) (ho2 : ∀ k (r : Fin 4), o2 k r = ![b, 128 * k.val + 32 * r.val, 0]) :
    LoopSpec (v1.read (Elt Ideal) f1) (v2.read (Elt Ideal) f2) KP KPS b (pb n) := by
  subst hn
  have mem := mem_stack _ pb h0 hs 9 (Nat.le_refl 9)
  refine ⟨fun p hp => ?_, fun y h h' => ?_⟩
  · obtain ⟨k, -, hp⟩ := (mem p).mp hp
    refine tokList_agree _ _ KP KPS b k.val hb k.isLt (off k) (inb k) (hoff k) _ _ (fun j => ?_) (fun r j l => ?_) p hp
    · refine (readAt3 (m0 := 1) (m1 := 1) (m2 := 128) v2 (o1 k) (inb1 k) _ _ _ (ho1 k) f2 0 0 j).trans ?_
      exact congrArg _ (by rfl)
    · refine (readAt3 (m0 := 1) (m1 := 32) (m2 := 512) v1 (o2 k r) (inb2 k r) _ _ _ (ho2 k r) f1 0 j l).trans ?_
      refine congrArg _ (congrArg₂ (ix3 _) rfl (Fin.ext ?_))
      change (0 + l.val) % 512 = l.val; omega
  · have hz : ((y 1).val - (1168 * b + 16)) / 128 < 9 := by omega
    obtain ⟨p, hp, hy⟩ := tokList_cover b (((y 1).val - (1168 * b + 16)) / 128) (off ⟨_, hz⟩) (inb ⟨_, hz⟩) (hoff ⟨_, hz⟩) _ _ _ y (by omega) (by omega)
    exact ⟨p, (mem p).mpr ⟨⟨_, hz⟩, hz, hp⟩, hy⟩

/-- An index plus zero is itself. -/
theorem ofNat_val_zero {n : ℕ} [NeZero n] (b : Fin n) : Fin.ofNat n (b.val + (0 : Fin 1).val) = b := Fin.ext (Nat.mod_eq_of_lt b.isLt)

/-- Zero plus an index is itself. -/
theorem ofNat_zero_val {n : ℕ} [NeZero n] (b : Fin n) : Fin.ofNat n (0 + b.val) = b :=
  Fin.ext ((Nat.mod_eq_of_lt (by omega)).trans (Nat.zero_add _))

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- What the loop of sample 0 writes: `KF`, over the sample's 1152 tokens. -/
theorem loop1_spec (h1 : k0_cond1 i = 1#1) (v214 : FVec Ideal S8x128 .f32)
    (f1 : BufTy.Contents (Elt Ideal) arg1.view.ty) (f2 : BufTy.Contents (Elt Ideal) arg2.view.ty) :
    LoopSpec (arg1.view.read (Elt Ideal) f1) (arg2.view.read (Elt Ideal) f2) KP KPS 0
      (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v214 f1 f2 (Scf.trips k0_t1_loop.lb k0_t1_loop.ub k0_t1_loop.st)) :=
  loopSpec_of KP KPS 0 (by decide) arg1.view arg2.view f1 f2 (by decide : k0_t1_loop.trips = 9) _
    (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v214 f1 f2) rfl (fun k => (pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 _ v214 f1 f2 k).trans
      (congrArg (· ++ _) (tripL1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Variants.none none h1 _ v214 f1 f2 k)))
    (fun k => tokOff1_eq k) (fun k => k0_off1_eq k) (fun k r => k0_off2_eq k r)

/-- What the loop of sample 1 writes: `KF`, over the sample's 1152 tokens. -/
theorem loop2_spec (h1 : k0_cond1 i = 1#1) (v268 : FVec Ideal S8x1 .f32) (v272 : FVec Ideal S8x512 .f32) (v287 : FVec Ideal S8x128 .f32)
    (f1 : BufTy.Contents (Elt Ideal) arg1.view.ty) (f2 : BufTy.Contents (Elt Ideal) arg2.view.ty) :
    LoopSpec (arg1.view.read (Elt Ideal) f1) (arg2.view.read (Elt Ideal) f2) KP KPS 1
      (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v268 v272 v287 f1 f2 (Scf.trips k0_t2_loop.lb k0_t2_loop.ub k0_t2_loop.st)) :=
  loopSpec_of KP KPS 1 (by decide) arg1.view arg2.view f1 f2 (by decide : k0_t2_loop.trips = 9) _
    (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v268 v272 v287 f1 f2) rfl (fun k => (pb_k0_t2_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 _ v268 v272 v287 f1 f2 k).trans
      (congrArg (· ++ _) (tripL2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Variants.none none h1 _ v268 v272 v287 f1 f2 k)))
    (fun k => tokOff2_eq k) (fun k => k0_off7_eq k) (fun k r => k0_off8_eq k r)

/-- What the loop of sample 2 writes: `KF`, over the sample's 1152 tokens. -/
theorem loop3_spec (h1 : k0_cond1 i = 1#1) (v347 : FVec Ideal S8x1 .f32) (v351 : FVec Ideal S8x512 .f32) (v358 : FVec Ideal S8x128 .f32) (v359 : FVec Ideal S8x128 .f32)
    (f1 : BufTy.Contents (Elt Ideal) arg1.view.ty) (f2 : BufTy.Contents (Elt Ideal) arg2.view.ty) :
    LoopSpec (arg1.view.read (Elt Ideal) f1) (arg2.view.read (Elt Ideal) f2) KP KPS 2
      (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v347 v351 v358 v359 f1 f2 (Scf.trips k0_t3_loop.lb k0_t3_loop.ub k0_t3_loop.st)) :=
  loopSpec_of KP KPS 2 (by decide) arg1.view arg2.view f1 f2 (by decide : k0_t3_loop.trips = 9) _
    (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v347 v351 v358 v359 f1 f2) rfl (fun k => (pb_k0_t3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 _ v347 v351 v358 v359 f1 f2 k).trans
      (congrArg (· ++ _) (tripL3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Variants.none none h1 _ v347 v351 v358 v359 f1 f2 k)))
    (fun k => tokOff3_eq k) (fun k => k0_off13_eq k) (fun k r => k0_off14_eq k r)

/-- What the loop of sample 3 writes: `KF`, over the sample's 1152 tokens. -/
theorem loop4_spec (h1 : k0_cond1 i = 1#1) (v426 : FVec Ideal S8x1 .f32) (v430 : FVec Ideal S8x512 .f32) (v431 : FVec Ideal S8x128 .f32)
    (f1 : BufTy.Contents (Elt Ideal) arg1.view.ty) (f2 : BufTy.Contents (Elt Ideal) arg2.view.ty) :
    LoopSpec (arg1.view.read (Elt Ideal) f1) (arg2.view.read (Elt Ideal) f2) KP KPS 3
      (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v426 v430 v431 f1 f2 (Scf.trips k0_t4_loop.lb k0_t4_loop.ub k0_t4_loop.st)) :=
  loopSpec_of KP KPS 3 (by decide) arg1.view arg2.view f1 f2 (by decide : k0_t4_loop.trips = 9) _
    (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (iota .tc S8x128 32 [0] iota_S8x128_d0_w32) v426 v430 v431 f1 f2) rfl (fun k => (pb_k0_t4_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 _ v426 v430 v431 f1 f2 k).trans
      (congrArg (· ++ _) (tripL4_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Variants.none none h1 _ v426 v430 v431 f1 f2 k)))
    (fun k => tokOff4_eq k) (fun k => k0_off19_eq k) (fun k r => k0_off20_eq k r)

/-- What the first point's token buffer holds once it is filled. -/
theorem kf_read (h1 : k0_cond1 i = 1#1) (f1 : BufTy.Contents (Elt Ideal) arg1.view.ty) (f2 : BufTy.Contents (Elt Ideal) arg2.view.ty)
    (f3 : BufTy.Contents (Elt Ideal) arg3.view.ty) (f4 : BufTy.Contents (Elt Ideal) arg4.view.ty) (f16 : BufTy.Contents (Elt Ideal) arg16.view.ty) (y : S4x4672x128.Idx) :
    arg16.view.read (Elt Ideal) (arg16.view.writes (Elt Ideal) f16 (kfAll (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 f1 f2 f3 f4)) y
      = KF (arg1.view.read (Elt Ideal) f1) (arg2.view.read (Elt Ideal) f2) (arg3.view.read (Elt Ideal) f3) (arg4.view.read (Elt Ideal) f4) y := by
  have l1 := loop1_spec (KP := arg3.view.read (Elt Ideal) f3) (KPS := arg4.view.read (Elt Ideal) f4) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (runFirst.sl.r_2 arg3 arg4 f3 f4) f1 f2
  have l2 := loop2_spec (KP := arg3.view.read (Elt Ideal) f3) (KPS := arg4.view.read (Elt Ideal) f4) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (runFirst.sl.r_8 arg4 f4) (runFirst.sl.r_9 arg3 f3) (runFirst.sl.r_10 arg3 arg4 f3 f4) f1 f2
  have l3 := loop3_spec (KP := arg3.view.read (Elt Ideal) f3) (KPS := arg4.view.read (Elt Ideal) f4) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (runFirst.sl.r_15 arg4 f4) (runFirst.sl.r_16 arg3 f3) (runFirst.sl.r_17 arg3 f3) (runFirst.sl.r_18 arg4 f4) f1 f2
  have l4 := loop4_spec (KP := arg3.view.read (Elt Ideal) f3) (KPS := arg4.view.read (Elt Ideal) f4) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 (runFirst.sl.r_22 arg4 f4) (runFirst.sl.r_23 arg3 f3) (runFirst.sl.r_24 arg3 f3) f1 f2
  have pv : ∀ b : Fin 4, (∀ p ∈ prevList (F := Ideal) b (arg4.view.readAt (Elt Ideal) (Rect.unit (s := S4x1x16) ![b.val, 0, 0] S1x1x16.size (prevA_inb b)).toLoadRect f4)
      (arg3.view.readAt (Elt Ideal) (Rect.unit (s := S4x16x512) ![b.val, 0, 0] S1x16x512.size (prevB_inb b)).toLoadRect f3),
      ∀ x, p.2 x = KF (arg1.view.read (Elt Ideal) f1) (arg2.view.read (Elt Ideal) f2) (arg3.view.read (Elt Ideal) f3) (arg4.view.read (Elt Ideal) f4) (p.1.emb x)) := fun b =>
    prevList_agree _ _ _ _ b _ _
      (fun j => (readAt3 (m0 := 1) (m1 := 1) (m2 := 16) arg4.view _ (prevA_inb b) b.val 0 0 rfl f4 0 0 j).trans
        (congrArg _ (by rw [ofNat_val_zero b, ofNat_zero_val j]; rfl)))
      (fun j l => (readAt3 (m0 := 1) (m1 := 16) (m2 := 512) arg3.view _ (prevB_inb b) b.val 0 0 rfl f3 0 j l).trans
        (congrArg _ (by rw [ofNat_val_zero b, ofNat_zero_val j, ofNat_zero_val l])))
  have memA : ∀ {P : View.Piece (Elt Ideal) S4x4672x128 .f32 → Prop} {L M : List (View.Piece (Elt Ideal) S4x4672x128 .f32)}, (∀ p ∈ L, P p) → (∀ p ∈ M, P p) → ∀ p ∈ L ++ M, P p :=
    fun h h' p hp => (List.mem_append.mp hp).elim (h p) (h' p)
  have hl : ∀ {L : List (View.Piece (Elt Ideal) S4x4672x128 .f32)} (M), (∃ p ∈ L, y ∈ p.1.set) → ∃ p ∈ L ++ M, y ∈ p.1.set :=
    fun M ⟨p, hp, hy⟩ => ⟨p, List.mem_append_left M hp, hy⟩
  have hr : ∀ (L) {M : List (View.Piece (Elt Ideal) S4x4672x128 .f32)}, (∃ p ∈ M, y ∈ p.1.set) → ∃ p ∈ L ++ M, y ∈ p.1.set :=
    fun L _ ⟨p, hp, hy⟩ => ⟨p, List.mem_append_right L hp, hy⟩
  refine View.read_writes_apply_of_pieces _ _ _ _ ?_ y ?_
  · exact memA l4.1 (memA (pv 3) (memA l3.1 (memA (pv 2) (memA l2.1 (memA (pv 1) (memA l1.1 (pv 0)))))))
  · have hy : (y 1).val < 4672 := (y 1).isLt
    unfold kfAll
    rcases Nat.lt_or_ge (y 1).val 16 with h | h
    · exact hr _ (hr _ (hr _ (hr _ (hr _ (hr _ (hr _ (prevList_cover 0 _ _ y (Nat.zero_le _) h)))))))
    rcases Nat.lt_or_ge (y 1).val 1168 with h | h
    · exact hr _ (hr _ (hr _ (hr _ (hr _ (hr _ (hl _ (l1.2 y (by omega) (by omega))))))))
    rcases Nat.lt_or_ge (y 1).val 1184 with h | h
    · exact hr _ (hr _ (hr _ (hr _ (hr _ (hl _ (prevList_cover 1 _ _ y (by omega : 1168 * 1 ≤ _) (by omega : _ < 1168 * 1 + 16)))))))
    rcases Nat.lt_or_ge (y 1).val 2336 with h | h
    · exact hr _ (hr _ (hr _ (hr _ (hl _ (l2.2 y (by omega) (by omega))))))
    rcases Nat.lt_or_ge (y 1).val 2352 with h | h
    · exact hr _ (hr _ (hr _ (hl _ (prevList_cover 2 _ _ y (by omega : 1168 * 2 ≤ _) (by omega : _ < 1168 * 2 + 16)))))
    rcases Nat.lt_or_ge (y 1).val 3504 with h | h
    · exact hr _ (hr _ (hl _ (l3.2 y (by omega) (by omega))))
    rcases Nat.lt_or_ge (y 1).val 3520 with h | h
    · exact hr _ (hl _ (prevList_cover 3 _ _ y (by omega : 1168 * 3 ≤ _) (by omega : _ < 1168 * 3 + 16)))
    · exact hl _ (l4.2 y (by omega) (by omega))

end Cert.KernelIdeal.Hand
-- ==== Proof.XMat.lean ====
module

public import proofs.«01_k».proof.Proof.XVal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- Token `u` of sample `b`, lane `d`, rescaled: the 16 previous tokens first, then the 1152 of this call. -/
def TOK (K : Vec Ideal S4x1152x512 .fp8e4m3) (KS : Vec Ideal S4x1x1152 .f32) (KP : Vec Ideal S4x16x512 .fp8e4m3) (KPS : Vec Ideal S4x1x16 .f32) (b u d : ℕ) : EReal :=
  if u < 16 then KP (ix3 (Fin.ofNat 4 b) (Fin.ofNat 16 u) (Fin.ofNat 512 d)) * KPS (ix3 (Fin.ofNat 4 b) (0 : Fin 1) (Fin.ofNat 16 u))
  else K (ix3 (Fin.ofNat 4 b) (Fin.ofNat 1152 (u - 16)) (Fin.ofNat 512 d)) * KS (ix3 (Fin.ofNat 4 b) (0 : Fin 1) (Fin.ofNat 1152 (u - 16)))

/-- The window matrix: row `72 b + n` is the 32 tokens `16 n ..` of sample `b` side by side, plus the position rows. -/
def XF (K : Vec Ideal S4x1152x512 .fp8e4m3) (KS : Vec Ideal S4x1x1152 .f32) (KP : Vec Ideal S4x16x512 .fp8e4m3) (KPS : Vec Ideal S4x1x16 .f32)
    (POS : Vec Ideal S32x512 .f32) (y : S288x16384.Idx) : EReal :=
  TOK K KS KP KPS ((y 0).val / 72) ((y 1).val / 512 + 16 * ((y 0).val % 72)) ((y 1).val % 512)
    + POS (ix2 (Fin.ofNat 32 ((y 1).val / 512)) (Fin.ofNat 512 ((y 1).val % 512)))

/-- A lane block of the first point's matrix at an index. -/
theorem xPay_apply (P : Vec Ideal S1x128 .f32) (v : Fin 4 → Vec Ideal S1x72x128 .f32) (x1 : Fin 288) (x2 : Fin 128) :
    xPay (F := Ideal) P v (ix2 x1 x2)
      = ((v ⟨x1.val / 72, by omega⟩ (ix3 (0 : Fin 1) (⟨x1.val % 72, by omega⟩ : Fin 72) x2) : EReal) + P (ix2 (0 : Fin 1) x2) : EReal) := by
  pointwise [xPay]
  have key : ∀ (b : Fin 4) (n m : Fin 72) (h : x1.val / 72 = b.val) (h' : x1.val % 72 = n.val),
      (v b (ix3 (0 : Fin 1) n x2) : EReal) + P (ix2 (0 : Fin 1) x2)
        = (v ⟨x1.val / 72, by omega⟩ (ix3 (0 : Fin 1) (⟨x1.val % 72, by omega⟩ : Fin 72) x2) : EReal) + P (ix2 (0 : Fin 1) x2) := by
    intro b n _ h h'
    have hb : b = ⟨x1.val / 72, by omega⟩ := Fin.ext h.symm
    have hn : n = ⟨x1.val % 72, by omega⟩ := Fin.ext h'.symm
    exact congrArg₂ (fun (b : Fin 4) (n : Fin 72) => (v b (ix3 (0 : Fin 1) n x2) : EReal) + P (ix2 (0 : Fin 1) x2)) hb hn
  split
  · exact key 0 ⟨x1.val, by omega⟩ 0 (by change _ = 0; omega) (by change _ = x1.val; omega)
  split
  · exact key 1 ⟨x1.val - 72, by omega⟩ 0 (by change _ = 1; omega) (by change _ = x1.val - 72; omega)
  split
  · exact key 2 ⟨x1.val - 72 - 72, by omega⟩ 0 (by change _ = 2; omega) (by change _ = x1.val - 72 - 72; omega)
  · exact key 3 ⟨x1.val - 72 - 72 - 72, by omega⟩ 0 (by change _ = 3; omega) (by change _ = x1.val - 72 - 72 - 72; omega)

/-- The 128 lane blocks hold the window matrix and cover it. -/
theorem xList_read (K : Vec Ideal S4x1152x512 .fp8e4m3) (KS : Vec Ideal S4x1x1152 .f32) (KP : Vec Ideal S4x16x512 .fp8e4m3) (KPS : Vec Ideal S4x1x16 .f32)
    (POS : Vec Ideal S32x512 .f32) (P : (j : Fin 32) → (q : Fin 4) → Vec Ideal S1x128 .f32) (T : Fin 32 → Fin 4 → Fin 4 → Vec Ideal S1x72x128 .f32)
    (hP : ∀ j q (l : Fin 128), P j q (ix2 (0 : Fin 1) l) = POS (ix2 j (Fin.ofNat 512 (128 * q.val + l.val))))
    (hT : ∀ j q b (n : Fin 72) (l : Fin 128), T j q b (ix3 (0 : Fin 1) n l) = TOK K KS KP KPS b.val (j.val + 16 * n.val) (128 * q.val + l.val)) :
    (∀ p ∈ xList (F := Ideal) P T, ∀ x, p.2 x = XF K KS KP KPS POS (p.1.emb x)) ∧ ∀ y : S288x16384.Idx, ∃ p ∈ xList (F := Ideal) P T, y ∈ p.1.set := by
  constructor
  · intro p hp x
    simp only [xList, List.mem_flatMap, List.mem_map] at hp
    obtain ⟨j, -, q, -, rfl⟩ := hp
    obtain ⟨x1, x2, rfl⟩ : ∃ (x1 : Fin 288) (x2 : Fin 128), x = ix2 x1 x2 := ⟨_, _, eq_ix2 (n0 := 288) (n1 := 128) x⟩
    refine (xPay_apply (P j q) (T j q) x1 x2).trans ?_
    have e0 : ((Rect.unit (s := S288x16384) ![0, 512 * j.val + 128 * q.val] S288x128.size (x_inb j q)).emb (ix2 x1 x2) 0).val = x1.val := by
      change 0 + 1 * x1.val = _; omega
    have e1 : ((Rect.unit (s := S288x16384) ![0, 512 * j.val + 128 * q.val] S288x128.size (x_inb j q)).emb (ix2 x1 x2) 1).val = 512 * j.val + (128 * q.val + x2.val) := by
      change 512 * j.val + 128 * q.val + 1 * x2.val = _; omega
    have hd : (512 * j.val + (128 * q.val + x2.val)) / 512 = j.val := by omega
    have hm : (512 * j.val + (128 * q.val + x2.val)) % 512 = 128 * q.val + x2.val := by omega
    unfold XF
    simp only [e0, e1, hd, hm]
    rw [hT, hP]
    have i0 : Fin.ofNat 32 j.val = j := Fin.ext (Nat.mod_eq_of_lt j.isLt)
    rw [i0]
  · intro y
    have h0 : (y 0).val < 288 := (y 0).isLt
    have h1 : (y 1).val < 16384 := (y 1).isLt
    have all32 : ∀ r : Fin 32, r ∈ ([31, 30, 29, 28, 27, 26, 25, 24, 23, 22, 21, 20, 19, 18, 17, 16, 15, 14, 13, 12, 11, 10, 9, 8, 7, 6, 5, 4, 3, 2, 1, 0] : List (Fin 32)) := by decide
    have all4 : ∀ r : Fin 4, r ∈ ([3, 2, 1, 0] : List (Fin 4)) := by decide
    refine ⟨_, List.mem_flatMap.mpr ⟨⟨(y 1).val / 512, by omega⟩, all32 _, List.mem_map_of_mem (all4 ⟨(y 1).val % 512 / 128, by omega⟩)⟩, ?_⟩
    apply (LoadRect.mem_set _).mpr
    intro a
    match a with
    | ⟨0, _⟩ => exact ⟨(y 0).val, h0, by change (y 0).val = 0 + 1 * (y 0).val; omega⟩
    | ⟨1, _⟩ =>
      refine ⟨(y 1).val % 128, (by omega : _ < 128), ?_⟩
      change (y 1).val = 512 * ((y 1).val / 512) + 128 * ((y 1).val % 512 / 128) + 1 * ((y 1).val % 128); omega

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- What the first point writes into its matrix buffer: the window matrix, whatever the buffer held. -/
theorem x_spec (h1 : k0_cond1 i = 1#1) (h2 : ¬ k0_cond2 i = 1#1)
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f16 : BufTy.Contents (Elt Ideal) arg16.view.ty) (f17 : BufTy.Contents (Elt Ideal) arg17.view.ty) (f18 : BufTy.Contents (Elt Ideal) arg18.view.ty) (f20 : BufTy.Contents (Elt Ideal) arg20.view.ty) :
    (∀ p ∈ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1, ∀ x, p.2 x = XF (arg1.view.read (Elt Ideal) f1) (arg2.view.read (Elt Ideal) f2) (arg3.view.read (Elt Ideal) f3)
      (arg4.view.read (Elt Ideal) f4) (arg5.view.read (Elt Ideal) f5) (p.1.emb x))
      ∧ ∀ y : S288x16384.Idx, ∃ p ∈ (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1, y ∈ p.1.set := by
  rw [runFirst_x]
  refine xList_read _ _ _ _ _ _ _ (fun j q l => ?_) (fun j q b n l => ?_)
  · refine (readAt2 (m0 := 1) (m1 := 128) arg5.view _ (xpos_inb j q) j.val (128 * q.val) rfl f5 0 l).trans ?_
    rw [ofNat_val_zero]
  · refine (kf_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 f1 f2 f3 f4 f16 _).trans ?_
    have e0 : (LoadRect.idx (s := S4x4672x128) { off := ![q.val, 1168 * b.val + j.val, 0], size := S1x72x128.size, stride := ![1, 16, 1], inb := xtok_inb j q b } (ix3 (0 : Fin 1) n l) 0).val = q.val := by
      change q.val + 1 * 0 = _; omega
    have e1 : (LoadRect.idx (s := S4x4672x128) { off := ![q.val, 1168 * b.val + j.val, 0], size := S1x72x128.size, stride := ![1, 16, 1], inb := xtok_inb j q b } (ix3 (0 : Fin 1) n l) 1).val = 1168 * b.val + (j.val + 16 * n.val) := by
      change 1168 * b.val + j.val + 16 * n.val = _; omega
    have e2 : (LoadRect.idx (s := S4x4672x128) { off := ![q.val, 1168 * b.val + j.val, 0], size := S1x72x128.size, stride := ![1, 16, 1], inb := xtok_inb j q b } (ix3 (0 : Fin 1) n l) 2).val = l.val := by
      change 0 + 1 * l.val = _; omega
    have hd : (1168 * b.val + (j.val + 16 * n.val)) / 1168 = b.val := by omega
    have hm : (1168 * b.val + (j.val + 16 * n.val)) % 1168 = j.val + 16 * n.val := by omega
    unfold KF TOK
    simp only [e0, e1, e2, hd, hm]

end Cert.KernelIdeal.Hand
-- ==== Proof.Gelu.lean ====
module

public import proofs.«01_k».proof.Proof.Gen.KernelIdeal.Skeleton
public import proofs.«01_k».proof.Proof.Gen.ReferenceIdeal.Skeleton
public import Idealize.ShloMosaic.Lib.Pointwise

@[expose] public section

set_option maxRecDepth 16384

noncomputable section

namespace Cert.Val

open Idealize.ShloMosaic

/-- The float with the given bits, as a number. -/
abbrev f32 (b : BitVec 32) : EReal := Ideal.ofBits .f32 b

/-- A polynomial by nested multiplication from a start value, the leading coefficient first. -/
def hornerFrom (y r : EReal) : List (BitVec 32) → EReal
  | [] => y
  | b :: bs => hornerFrom (y * r + f32 b) r bs

/-- The pieces of the complementary error function put together: at `x`, with `p` its absolute value, `q` its square, `r` the
    inverse of `p`, `one` the value used where `p < 1`, and `tail` the polynomial used elsewhere. -/
def erfcJoin (x p q r one tail : EReal) : EReal :=
  let y := Scalar.select (Ideal.cmp .olt (f32 0#32 - q) (f32 0xC2B17218#32)) (f32 0#32) (Ideal.exp (f32 0#32 - q) * r * tail)
  Scalar.select (Ideal.cmp .olt p (f32 0x3F800000#32)) one (Scalar.select (Ideal.cmp .olt x (f32 0#32)) (f32 0x40000000#32 - y) y)

/-- The complementary error function as both programs approximate it. -/
def erfc (x : EReal) : EReal :=
  let p : EReal := max x (-x)
  let r : EReal := Ideal.div (f32 0x3F800000#32) p
  erfcJoin x p (x * x) r (f32 0x3F800000#32 - x * hornerFrom (f32 0x38A4B519#32) (x * x) [0xBA51FB80#32, 0x3BAA02D9#32, 0xBCDBFC87#32, 0x3DE7167C#32, 0xBEC0939F#32, 0x3F906EBA#32])
    (Scalar.select (Ideal.cmp .olt p (f32 0x40000000#32)) (hornerFrom (f32 0x3CBE9CF4#32) (r * r) [0xBE0E0868#32, 0x3EBCCBD0#32, 0xBF151CF8#32, 0x3F1EF9E3#32, 0xBEFD28C0#32, 0x3EAE5471#32, 0xBE8C5880#32, 0x3F1056E6#32]) (hornerFrom (f32 0xC127A483#32) (r * r) [0x414FA29C#32, 0xC0EFDB4A#32, 0x403AF1FA#32, 0xBF81F436#32, 0x3ED7FC3E#32, 0xBE906C5D#32, 0x3F106EB9#32]))

/-- The activation of one number. -/
def gelu (s : EReal) : EReal := f32 0x3F000000#32 * s * erfc (-(s * f32 0x3F3504F3#32))

/-- The float of bits zero is the number zero. -/
theorem f32_zero : f32 0#32 = 0 := by
  change Ideal.ieee 8 23 (0#32 : BitVec 32) = 0
  unfold Ideal.ieee
  have e1 : ((0#32 : BitVec 32).extractLsb' 23 8).toNat = 0 := by decide
  have f1 : ((0#32 : BitVec 32).extractLsb' 0 23).toNat = 0 := by decide
  simp only [e1, f1]
  norm_num

/-- Starting a polynomial at zero is starting it at its leading coefficient. -/
theorem hornerFrom_zero (r : EReal) (b : BitVec 32) (bs : List (BitVec 32)) : hornerFrom (f32 0#32) r (b :: bs) = hornerFrom (f32 b) r bs := by
  change hornerFrom (f32 0#32 * r + f32 b) r bs = _
  rw [f32_zero, zero_mul, zero_add]

/-- The activation the reference applies, on a whole array. -/
def rGelu (v : FVec Ideal ReferenceIdeal.S288x7168 .f32) : FVec Ideal ReferenceIdeal.S288x7168 .f32 :=
  let z : Ideal .f32 := Scalar.ofBits .f32 0x00000000#32
  ReferenceIdeal.Gen.k0_pay16 (F := Ideal) (mulf (broadcast ReferenceIdeal.S288x7168 (Scalar.ofBits .f32 0x3F000000#32)) v)
    (ReferenceIdeal.Gen.k0_pay8 v z) (ReferenceIdeal.Gen.k0_pay9 v z) (ReferenceIdeal.Gen.k0_pay10 v z)
    (ReferenceIdeal.Gen.k0_pay13 (ReferenceIdeal.Gen.k0_pay11 v z) (ReferenceIdeal.Gen.k0_pay12 v z))
    (ReferenceIdeal.Gen.k0_pay14 (ReferenceIdeal.Gen.k0_pay10 v z)) (ReferenceIdeal.Gen.k0_pay15 (ReferenceIdeal.Gen.k0_pay8 v z))

section
variable (v w : FVec Ideal ReferenceIdeal.S288x7168 .f32) (z : Ideal .f32) (j : ReferenceIdeal.S288x7168.Idx)

/-- The reference's value of the function near zero, as the argument times a polynomial in its square. -/
theorem pay9_apply : ReferenceIdeal.Gen.k0_pay9 v z j = ReferenceIdeal.Gen.k0_pay8 v z j * hornerFrom (f32 0#32) (ReferenceIdeal.Gen.k0_pay8 v z j * ReferenceIdeal.Gen.k0_pay8 v z j) (0x38A4B519#32 :: [0xBA51FB80#32, 0x3BAA02D9#32, 0xBCDBFC87#32, 0x3DE7167C#32, 0xBEC0939F#32, 0x3F906EBA#32]) := rfl

/-- The rest of the reference's first tail polynomial, from where it was left off. -/
theorem pay13_apply : ReferenceIdeal.Gen.k0_pay13 v w j = hornerFrom (w j) (v j) [0x3F1EF9E3#32, 0xBEFD28C0#32, 0x3EAE5471#32, 0xBE8C5880#32, 0x3F1056E6#32] := rfl

/-- The start of the reference's first tail polynomial. -/
theorem pay12_apply : ReferenceIdeal.Gen.k0_pay12 v z j = hornerFrom (f32 0#32) (ReferenceIdeal.Gen.k0_pay11 v z j) [0x3CBE9CF4#32, 0xBE0E0868#32, 0x3EBCCBD0#32, 0xBF151CF8#32] := rfl

/-- The reference's second tail polynomial. -/
theorem pay14_apply : ReferenceIdeal.Gen.k0_pay14 v j = hornerFrom (f32 0#32) (v j * v j) (0xC127A483#32 :: [0x414FA29C#32, 0xC0EFDB4A#32, 0x403AF1FA#32, 0xBF81F436#32, 0x3ED7FC3E#32, 0xBE906C5D#32, 0x3F106EB9#32]) := rfl

/-- The reference's last step puts the pieces of the complementary error function together. -/
theorem pay16_apply (v36 v40 v64 v67 v96 v122 v126 : FVec Ideal ReferenceIdeal.S288x7168 .f32) (h : v126 j = Ideal.exp (f32 0#32 - v40 j * v40 j)) :
    ReferenceIdeal.Gen.k0_pay16 v36 v40 v64 v67 v96 v122 v126 j = v36 j * erfcJoin (v40 j) (max (v40 j) (-(v40 j))) (v40 j * v40 j) (v67 j) (f32 0x3F800000#32 - v64 j)
      (Scalar.select (Ideal.cmp .olt (max (v40 j) (-(v40 j))) (f32 0x40000000#32)) (v96 j) (v122 j)) := by
  unfold erfcJoin
  rw [← h]
  rfl

end

/-- The reference's activation acts element by element. -/
theorem rGelu_apply (v : FVec Ideal ReferenceIdeal.S288x7168 .f32) (j : ReferenceIdeal.S288x7168.Idx) : rGelu v j = gelu (v j) := by
  have e8 : ReferenceIdeal.Gen.k0_pay8 v (Scalar.ofBits .f32 0x00000000#32 : Ideal .f32) j = -(v j * f32 0x3F3504F3#32) := by
    change (f32 0#32 - v j) * f32 0x3F3504F3#32 = _
    rw [f32_zero, zero_sub, neg_mul]
  have e10 : ReferenceIdeal.Gen.k0_pay10 v (Scalar.ofBits .f32 0x00000000#32 : Ideal .f32) j
      = Ideal.div (f32 0x3F800000#32) (max (-(v j * f32 0x3F3504F3#32)) (-(-(v j * f32 0x3F3504F3#32)))) := by
    rw [← e8]; rfl
  have e11 : ReferenceIdeal.Gen.k0_pay11 v (Scalar.ofBits .f32 0x00000000#32 : Ideal .f32) j
      = ReferenceIdeal.Gen.k0_pay10 v (Scalar.ofBits .f32 0x00000000#32 : Ideal .f32) j * ReferenceIdeal.Gen.k0_pay10 v (Scalar.ofBits .f32 0x00000000#32 : Ideal .f32) j := rfl
  unfold rGelu
  refine (pay16_apply _ _ _ _ _ _ _ _ rfl).trans ?_
  rw [pay9_apply, pay13_apply, pay12_apply, pay14_apply, e11, e10, e8, hornerFrom_zero, hornerFrom_zero, hornerFrom_zero]
  rfl

/-- The kernel's activation of a `[288, 512]` block, from the four arrays its pre-activation is computed from. -/
def kHid (v3 : Vec Ideal KernelIdeal.S288x16384 .bf16) (v4 : Vec Ideal KernelIdeal.S16384x512 .fp8e4m3) (v7 v11 : Vec Ideal KernelIdeal.S1x512 .f32) :
    FVec Ideal KernelIdeal.S288x512 .f32 :=
  let p := KernelIdeal.Gen.k0_pay868 (F := Ideal) v3 v4 v7 v11
  KernelIdeal.Gen.k0_pay877 (F := Ideal) (KernelIdeal.Gen.k0_pay866 v3 v4 v7 v11) (KernelIdeal.Gen.k0_pay867 v3 v4 v7 v11) p
    (KernelIdeal.Gen.k0_pay869 v3 v4 v7 v11) (KernelIdeal.Gen.k0_pay871 (KernelIdeal.Gen.k0_pay870 v3 v4 v7 v11)) (KernelIdeal.Gen.k0_pay872 p)
    (KernelIdeal.Gen.k0_pay873 p) (KernelIdeal.Gen.k0_pay874 p) (KernelIdeal.Gen.k0_pay875 p) (KernelIdeal.Gen.k0_pay876 p) (FloatOps.ofBits .f32 3212964918#32)

/-- The constant `-sqrt(1/2)` is minus the constant `sqrt(1/2)`. -/
theorem neg_rsqrt2 : (Ideal.ofBits .f32 0xBF3504F3#32 : EReal) = -(Ideal.ofBits .f32 0x3F3504F3#32 : EReal) := by
  have e1 : ((0xBF3504F3#32 : BitVec 32).extractLsb' 23 8).toNat = 126 := by decide
  have e2 : ((0x3F3504F3#32 : BitVec 32).extractLsb' 23 8).toNat = 126 := by decide
  have f1 : ((0xBF3504F3#32 : BitVec 32).extractLsb' 0 23).toNat = 3474675 := by decide
  have f2 : ((0x3F3504F3#32 : BitVec 32).extractLsb' 0 23).toNat = 3474675 := by decide
  have n1 : ((0xBF3504F3#32 : BitVec 32).extractLsb' (8 + 23) 1 == 1#1) = true := by decide
  have n2 : ((0x3F3504F3#32 : BitVec 32).extractLsb' (8 + 23) 1 == 1#1) = false := by decide
  change Ideal.ieee 8 23 (0xBF3504F3#32 : BitVec 32) = -(Ideal.ieee 8 23 (0x3F3504F3#32 : BitVec 32))
  unfold Ideal.ieee
  simp only [e1, e2, f1, f2, n1, n2]
  norm_num

section
variable (p : FVec Ideal KernelIdeal.S288x512 .f32) (j : KernelIdeal.S288x512.Idx)

/-- The kernel's value of the function near zero, as the argument times a polynomial in its square. -/
theorem pay870_apply (v3 : Vec Ideal KernelIdeal.S288x16384 .bf16) (v4 : Vec Ideal KernelIdeal.S16384x512 .fp8e4m3) (v7 v11 : Vec Ideal KernelIdeal.S1x512 .f32) :
    KernelIdeal.Gen.k0_pay870 v3 v4 v7 v11 j = KernelIdeal.Gen.k0_pay867 v3 v4 v7 v11 j * hornerFrom (f32 0x38A4B519#32) (KernelIdeal.Gen.k0_pay869 v3 v4 v7 v11 j) [0xBA51FB80#32, 0x3BAA02D9#32, 0xBCDBFC87#32, 0x3DE7167C#32, 0xBEC0939F#32, 0x3F906EBA#32] := by
  unfold KernelIdeal.Gen.k0_pay870
  generalize KernelIdeal.Gen.k0_pay869 v3 v4 v7 v11 = q
  generalize KernelIdeal.Gen.k0_pay867 v3 v4 v7 v11 = x
  rfl

/-- The kernel's first tail polynomial. -/
theorem pay875_apply : KernelIdeal.Gen.k0_pay875 p j = hornerFrom (f32 0x3CBE9CF4#32) (KernelIdeal.Gen.k0_pay873 p j) [0xBE0E0868#32, 0x3EBCCBD0#32, 0xBF151CF8#32, 0x3F1EF9E3#32, 0xBEFD28C0#32, 0x3EAE5471#32, 0xBE8C5880#32, 0x3F1056E6#32] := by
  unfold KernelIdeal.Gen.k0_pay875
  generalize KernelIdeal.Gen.k0_pay873 p = r
  rfl

/-- The start of the kernel's second tail polynomial. -/
theorem pay876_apply : KernelIdeal.Gen.k0_pay876 p j = hornerFrom (f32 0xC127A483#32) (KernelIdeal.Gen.k0_pay873 p j) [0x414FA29C#32, 0xC0EFDB4A#32, 0x403AF1FA#32] * KernelIdeal.Gen.k0_pay873 p j := by
  unfold KernelIdeal.Gen.k0_pay876
  generalize KernelIdeal.Gen.k0_pay873 p = r
  rfl

/-- The kernel's last step ends the second tail polynomial and puts the pieces of the complementary error function together. -/
theorem pay877_apply (v14 v16 v17 v18 v40 v42 v43 : FVec Ideal KernelIdeal.S288x512 .f32) (v45 : IVec KernelIdeal.S288x512 1) (v70 v81 : FVec Ideal KernelIdeal.S288x512 .f32)
    (y : EReal) (h : v81 j = y * v43 j) :
    KernelIdeal.Gen.k0_pay877 v14 v16 v17 v18 v40 v42 v43 v45 v70 v81 (FloatOps.ofBits .f32 3212964918#32) j
      = f32 0x3F000000#32 * v14 j * erfcJoin (v16 j) (v17 j) (v18 j) (v42 j) (v40 j)
        (Scalar.select (v45 j) (v70 j) (hornerFrom y (v43 j) [0xBF81F436#32, 0x3ED7FC3E#32, 0xBE906C5D#32, 0x3F106EB9#32])) := by
  have e : hornerFrom y (v43 j) [0xBF81F436#32, 0x3ED7FC3E#32, 0xBE906C5D#32, 0x3F106EB9#32]
      = hornerFrom (v81 j + f32 0xBF81F436#32) (v43 j) [0x3ED7FC3E#32, 0xBE906C5D#32, 0x3F106EB9#32] := by rw [h]; rfl
  rw [e]
  have hb : (FloatOps.ofBits .f32 3212964918#32 : Ideal .f32) = f32 0xBF81F436#32 := rfl
  rw [hb]
  generalize f32 0xBF81F436#32 = k
  unfold KernelIdeal.Gen.k0_pay877 erfcJoin
  simp only [hornerFrom]
  rfl

end

/-- The kernel's activation is the reference's, element by element: it scales by minus the constant where the reference
    negates first, and starts its polynomials at the leading coefficient where the reference starts at zero. -/
theorem kHid_apply (v3 : Vec Ideal KernelIdeal.S288x16384 .bf16) (v4 : Vec Ideal KernelIdeal.S16384x512 .fp8e4m3) (v7 v11 : Vec Ideal KernelIdeal.S1x512 .f32)
    (j : KernelIdeal.S288x512.Idx) : kHid v3 v4 v7 v11 j = gelu (KernelIdeal.Gen.k0_pay866 v3 v4 v7 v11 j) := by
  have e7 : KernelIdeal.Gen.k0_pay867 v3 v4 v7 v11 j = -(KernelIdeal.Gen.k0_pay866 v3 v4 v7 v11 j * f32 0x3F3504F3#32) := by
    change KernelIdeal.Gen.k0_pay866 v3 v4 v7 v11 j * f32 0xBF3504F3#32 = _
    rw [f32, neg_rsqrt2, mul_neg]
  unfold kHid
  refine (pay877_apply _ _ _ _ _ _ _ _ _ _ _ _ (pay876_apply _ j)).trans ?_
  have e1 : KernelIdeal.Gen.k0_pay871 (KernelIdeal.Gen.k0_pay870 v3 v4 v7 v11) j = f32 0x3F800000#32 - KernelIdeal.Gen.k0_pay870 v3 v4 v7 v11 j := rfl
  have e2 : KernelIdeal.Gen.k0_pay869 v3 v4 v7 v11 j = KernelIdeal.Gen.k0_pay867 v3 v4 v7 v11 j * KernelIdeal.Gen.k0_pay867 v3 v4 v7 v11 j := rfl
  have e3 : KernelIdeal.Gen.k0_pay868 v3 v4 v7 v11 j = max (KernelIdeal.Gen.k0_pay867 v3 v4 v7 v11 j) (-(KernelIdeal.Gen.k0_pay867 v3 v4 v7 v11 j)) := rfl
  have e4 (p : FVec Ideal KernelIdeal.S288x512 .f32) : KernelIdeal.Gen.k0_pay873 p j = KernelIdeal.Gen.k0_pay872 p j * KernelIdeal.Gen.k0_pay872 p j := rfl
  have e5 (p : FVec Ideal KernelIdeal.S288x512 .f32) : KernelIdeal.Gen.k0_pay872 p j = Ideal.div (f32 0x3F800000#32) (p j) := rfl
  have e6 (p : FVec Ideal KernelIdeal.S288x512 .f32) : KernelIdeal.Gen.k0_pay874 p j = Ideal.cmp .olt (p j) (f32 0x40000000#32) := rfl
  have eF (y r : EReal) : hornerFrom (hornerFrom y r [0x414FA29C#32, 0xC0EFDB4A#32, 0x403AF1FA#32]) r [0xBF81F436#32, 0x3ED7FC3E#32, 0xBE906C5D#32, 0x3F106EB9#32]
      = hornerFrom y r [0x414FA29C#32, 0xC0EFDB4A#32, 0x403AF1FA#32, 0xBF81F436#32, 0x3ED7FC3E#32, 0xBE906C5D#32, 0x3F106EB9#32] := by
    simp only [hornerFrom]
  rw [eF, pay875_apply, e1, pay870_apply, e2, e4, e5, e6, e3, e7]
  unfold gelu erfc
  rfl

end Cert.Val
-- ==== Proof.Hid.lean ====
module

public import proofs.«01_k».proof.Proof.XMat
public import proofs.«01_k».proof.Proof.IdealMid
public import proofs.«01_k».proof.Proof.IdealLast
public import proofs.«01_k».proof.Proof.Gelu
public import Idealize.ShloMosaic.Lib.Pipeline.ValueKit.Basic

/-! What the points leave of the hidden layer: the slab each stores, and the running maximum each renews. -/

@[expose] public section

set_option maxRecDepth 16384

noncomputable section

namespace Cert.KernelIdeal.Hand

open Idealize.ShloMosaic Idealize.ShloMosaic.TcCoe Idealize.ShloMosaic.Tactic
open Cert.KernelIdeal.Gen
open Cert.Val

/-- One slab of the hidden layer as stored, with its leading unit axis. -/
def slab (h : FVec Ideal S288x512 .f32) : FVec Ideal S1x288x512 .f32 := shapeCast S1x288x512 h shapeCasts_S288x512_S1x288x512

/-- The running maximum after one slab: the four lane blocks' absolute values joined to it. -/
def mxS (h : FVec Ideal S288x512 .f32) (p : FVec Ideal S288x128 .f32) : FVec Ideal S288x128 .f32 :=
  k0_pay1 h (maximumf p (absf (extractStridedSlice S288x128 ![0, 0] h slices_S288x512_o0_0_S288x128)))
    (absf (extractStridedSlice S288x128 ![0, 128] h slices_S288x512_o0_128_S288x128))

/-- A whole buffer loaded is what the buffer reads. -/
theorem readAt_whole {S : Shape} {e : EltTy} (v : View sig .tc .vmem S e) {off : Fin S.rank → Nat} (inb : ∀ a, off a + S.size a ≤ S.size a)
    (h : ∀ a, off a = 0) (X : BufTy.Contents (Elt Ideal) v.ty) :
    v.readAt (Elt Ideal) (Rect.unit off S.size inb).toLoadRect X = v.read (Elt Ideal) X :=
  View.ld_unit_lit inb (v.read (Elt Ideal) X) h

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- The slab the point stores. -/
theorem runMid_slab (h1 : ¬ k0_cond1 i = 1#1) (h2 : ¬ k0_cond2 i = 1#1) (f6 : BufTy.Contents (Elt Ideal) arg6.view.ty) (f7 : BufTy.Contents (Elt Ideal) arg7.view.ty) (f8 : BufTy.Contents (Elt Ideal) arg8.view.ty) (f17 : BufTy.Contents (Elt Ideal) arg17.view.ty) (f18 : BufTy.Contents (Elt Ideal) arg18.view.ty) (f20 : BufTy.Contents (Elt Ideal) arg20.view.ty) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).1 = [⟨Rect.unit (s := S14x288x512) (k0_off25 i) S1x288x512.size (k0_off25_inb i), slab (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8))⟩] := by
  unfold runMid; rfl

/-- The running maximum the point stores. -/
theorem runMid_max (h1 : ¬ k0_cond1 i = 1#1) (h2 : ¬ k0_cond2 i = 1#1) (f6 : BufTy.Contents (Elt Ideal) arg6.view.ty) (f7 : BufTy.Contents (Elt Ideal) arg7.view.ty) (f8 : BufTy.Contents (Elt Ideal) arg8.view.ty) (f17 : BufTy.Contents (Elt Ideal) arg17.view.ty) (f18 : BufTy.Contents (Elt Ideal) arg18.view.ty) (f20 : BufTy.Contents (Elt Ideal) arg20.view.ty) :
    (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).2.1 = [⟨Rect.unit (s := S288x128) ![0, 0] S288x128.size inb_S288x128_S288x128_0_0, mxS (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8)) (arg20.view.readAt (Elt Ideal) (Rect.unit ![0, 0] S288x128.size inb_S288x128_S288x128_0_0).toLoadRect f20)⟩] := by
  unfold runMid; rfl

/-- The slab the point stores. -/
theorem runLast_slab (h1 : ¬ k0_cond1 i = 1#1) (h2 : k0_cond2 i = 1#1) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.1 = [⟨Rect.unit (s := S14x288x512) (k0_off25 i) S1x288x512.size (k0_off25_inb i), slab (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8))⟩] := by
  unfold runLast; rfl

/-- The slab the point stores. -/
theorem runFirst_slab (h1 : k0_cond1 i = 1#1) (h2 : ¬ k0_cond2 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f16 : BufTy.Contents (Elt Ideal) arg16.view.ty) (f17 : BufTy.Contents (Elt Ideal) arg17.view.ty) (f18 : BufTy.Contents (Elt Ideal) arg18.view.ty) (f20 : BufTy.Contents (Elt Ideal) arg20.view.ty) :
    (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.1 = [⟨Rect.unit (s := S14x288x512) (k0_off25 i) S1x288x512.size (k0_off25_inb i), slab (kHid (arg17.view.readCov (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1 (Rect.unit ![0, 0] S288x16384.size inb_S288x16384_S288x16384_0_0).toLoadRect) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8))⟩] := by
  unfold runFirst; rfl

/-- The running maximum the point stores. -/
theorem runFirst_max (h1 : k0_cond1 i = 1#1) (h2 : ¬ k0_cond2 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f16 : BufTy.Contents (Elt Ideal) arg16.view.ty) (f17 : BufTy.Contents (Elt Ideal) arg17.view.ty) (f18 : BufTy.Contents (Elt Ideal) arg18.view.ty) (f20 : BufTy.Contents (Elt Ideal) arg20.view.ty) :
    (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.2.1 = [⟨Rect.unit (s := S288x128) ![0, 0] S288x128.size inb_S288x128_S288x128_0_0, mxS (kHid (arg17.view.readCov (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1 (Rect.unit ![0, 0] S288x16384.size inb_S288x16384_S288x16384_0_0).toLoadRect) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8)) (arg20.view.readCov [(⟨Rect.unit ![0, 0] S288x128.size inb_S288x128_S288x128_0_0, k0_pay865 (F := Ideal) k0_pay751⟩ : View.Piece (Elt Ideal) S288x128 .f32)] (Rect.unit ![0, 0] S288x128.size inb_S288x128_S288x128_0_0).toLoadRect)⟩, ⟨Rect.unit ![0, 0] S288x128.size inb_S288x128_S288x128_0_0, k0_pay865 (F := Ideal) k0_pay751⟩] := by
  unfold runFirst; rfl

end Cert.KernelIdeal.Hand

end
-- ==== Proof.LastArr.lean ====
module

public import proofs.«01_k».proof.Proof.Hid

/-! The last point's array functions, and the four output windows' pieces as lists indexed by slab and batch row. -/

@[expose] public section

set_option maxRecDepth 16384

noncomputable section

namespace Cert.KernelIdeal.Hand

open Idealize.ShloMosaic Idealize.ShloMosaic.TcCoe Idealize.ShloMosaic.Tactic
open Cert.KernelIdeal.Gen
open Cert.Val

/-- A sample's 72 rows may be cut from the 288 rows of 512 columns. -/
theorem cut512 : ∀ b : Fin 4, S288x512.Slices ![72 * b.val, 0] S72x512 := by decide
/-- A sample's 72 rows may be cut from the 288 rows of 128 columns. -/
theorem cut128 : ∀ b : Fin 4, S288x128.Slices ![72 * b.val, 0] S72x128 := by decide
/-- Each slab of a sample's codes lies in the third result. -/
theorem hc_inb : ∀ (k : Fin 14) (b : Fin 4) (a : Fin 3), (![b.val, 0, 512 * k.val] : Fin 3 → Nat) a + S1x72x512.size a ≤ S4x72x7168.size a := by decide
/-- Each sample's rows of a slab lie in the buffer of hidden slabs. -/
theorem hcSrc_inb : ∀ (k : Fin 14) (b : Fin 4) (a : Fin 3), (![k.val, 72 * b.val, 0] : Fin 3 → Nat) a + S1x72x512.size a ≤ S14x288x512.size a := by decide
/-- Each slab of codes lies in the code buffer of the second layer. -/
theorem hw_inb : ∀ (k : Fin 14) (a : Fin 2), (![0, 512 * k.val] : Fin 2 → Nat) a + S288x512.size a ≤ S288x7168.size a := by decide
/-- Each slab lies in the buffer of hidden slabs. -/
theorem hwSrc_inb : ∀ (k : Fin 14) (a : Fin 3), (![k.val, 0, 0] : Fin 3 → Nat) a + S1x288x512.size a ≤ S14x288x512.size a := by decide
/-- Each sample's row of scales lies in the array of scales. -/
theorem sc_inb : ∀ (b : Fin 4) (a : Fin 3), (![b.val, 0, 0] : Fin 3 → Nat) a + S1x1x72.size a ≤ S4x1x72.size a := by decide
/-- Each sample's codes of the second layer lie in the first result. -/
theorem ec_inb : ∀ (b : Fin 4) (a : Fin 3), (![b.val, 0, 0] : Fin 3 → Nat) a + S1x72x512.size a ≤ S4x72x512.size a := by decide

/-- One batch row of the scales, read off the diagonal of the row block. -/
def diagS (b : Fin 4) (s : FVec Ideal S288x128 .f32) : FVec Ideal S1x1x72 .f32 :=
  shapeCast S1x1x72 (extractStridedSlice S1x72 ![0, 0] (shapeCast S1x128 (multiReduction .add [0] S128
    (select (cmpi .eq (iota .tc S72x128 32 [0] iota_S72x128_d0_w32) (iota .tc S72x128 32 [1] iota_S72x128_d1_w32))
      (extractStridedSlice S72x128 ![72 * b.val, 0] s (cut128 b)) (broadcast S72x128 (Scalar.ofBits .f32 0x00000000#32)))
    0x00000000#32 reduces_S72x128_S128 (.inl rfl) rfl) shapeCasts_S128_S1x128) slices_S1x128_o0_0_S1x72) shapeCasts_S1x72_S1x1x72

/-- One batch row of finished codes, cut out of the whole matrix. -/
def cutS (b : Fin 4) (v : FVec Ideal S288x512 .f32) : FVec Ideal S1x72x512 .fp8e4m3 :=
  shapeCast S1x72x512 (truncf .fp8e4m3 (extractStridedSlice S72x512 ![72 * b.val, 0] v (cut512 b)) bitsLt_fp8e4m3_f32) shapeCasts_S72x512_S1x72x512

/-- One batch row of a slab, coded by the inverse scales. -/
def codeS (b : Fin 4) (I : FVec Ideal S288x512 .f32) (x : FVec Ideal S1x72x512 .f32) : FVec Ideal S1x72x512 .fp8e4m3 :=
  shapeCast S1x72x512 (truncf .fp8e4m3 (minimumf (broadcast S72x512 (Scalar.ofBits .f32 0x43E00000#32))
    (maximumf (broadcast S72x512 (Scalar.ofBits .f32 0xC3E00000#32))
      (mulf (shapeCast S72x512 x shapeCasts_S1x72x512_S72x512) (extractStridedSlice S72x512 ![72 * b.val, 0] I (cut512 b)))))
    bitsLt_fp8e4m3_f32) shapeCasts_S72x512_S1x72x512

/-- The hidden codes' pieces: for each slab the four batch rows. -/
def hcList (I : FVec Ideal S288x512 .f32) (T : Fin 14 → Fin 4 → FVec Ideal S1x72x512 .f32) : List (View.Piece (Elt Ideal) S4x72x7168 .fp8e4m3) :=
  [13, 12, 11, 10, 9, 8, 7, 6, 5, 4, 3, 2, 1, 0].flatMap fun k => [3, 2, 1, 0].map fun b =>
    ⟨Rect.unit (s := S4x72x7168) ![b.val, 0, 512 * k.val] S1x72x512.size (hc_inb k b), codeS b I (T k b)⟩

/-- The hidden codes' pieces as the second product reads them: a slab each. -/
def hwList (s : FVec Ideal S288x128 .f32) (T : Fin 14 → FVec Ideal S1x288x512 .f32) : List (View.Piece (Elt Ideal) S288x7168 .fp8e4m3) :=
  [13, 12, 11, 10, 9, 8, 7, 6, 5, 4, 3, 2, 1, 0].map fun k =>
    ⟨Rect.unit (s := S288x7168) ![0, 512 * k.val] S288x512.size (hw_inb k), k0_pay761 s (T k)⟩

/-- The scales' pieces: a batch row each. -/
def scList (s : FVec Ideal S288x128 .f32) : List (View.Piece (Elt Ideal) S4x1x72 .f32) :=
  [3, 2, 1, 0].map fun b => ⟨Rect.unit (s := S4x1x72) ![b.val, 0, 0] S1x1x72.size (sc_inb b), diagS b s⟩

/-- The second layer's codes' pieces: a batch row each. -/
def ecList (v : FVec Ideal S288x512 .f32) : List (View.Piece (Elt Ideal) S4x72x512 .fp8e4m3) :=
  [3, 2, 1, 0].map fun b => ⟨Rect.unit (s := S4x72x512) ![b.val, 0, 0] S1x72x512.size (ec_inb b), cutS b v⟩

/-- The second layer's values: the coded hidden rows times the weights, scaled and shifted. -/
def lay2 (M : FVec Ideal S288x128 .f32) (hw : FVec Ideal S288x7168 .fp8e4m3) (w : FVec Ideal S7168x512 .fp8e4m3) (s b : FVec Ideal S1x512 .f32) :
    FVec Ideal S288x512 .f32 := k0_pay850 (k0_pay753 M) hw w s b

/-- The second layer's scales. -/
def lay2S (M : FVec Ideal S288x128 .f32) (hw : FVec Ideal S288x7168 .fp8e4m3) (w : FVec Ideal S7168x512 .fp8e4m3) (s b : FVec Ideal S1x512 .f32) :
    FVec Ideal S288x128 .f32 := k0_pay855 (k0_pay852 (F := Ideal) (k0_pay753 M) hw w s b) (k0_pay853 (F := Ideal) (k0_pay753 M) hw w s b) 127#32

/-- The second layer's codes before they are cut apart. -/
def lay2C (M : FVec Ideal S288x128 .f32) (hw : FVec Ideal S288x7168 .fp8e4m3) (w : FVec Ideal S7168x512 .fp8e4m3) (s b : FVec Ideal S1x512 .f32) :
    FVec Ideal S288x512 .f32 :=
  k0_pay856 (lay2 M hw w s b) (k0_pay852 (F := Ideal) (k0_pay753 M) hw w s b) (k0_pay853 (F := Ideal) (k0_pay753 M) hw w s b) 127#32

end Cert.KernelIdeal.Hand

end
-- ==== Proof.RefVal.lean ====
module

public import proofs.«01_k».proof.Proof.Gelu
public import proofs.«01_k».proof.Proof.Gen.ReferenceIdeal.Value
public import Idealize.ShloMosaic.Lib.Pipeline.ValueKit.Basic

@[expose] public section

set_option maxRecDepth 16384

noncomputable section

namespace Cert.Val

open Idealize.ShloMosaic

/-- The greatest absolute value of a row. -/
def amax {n : ℕ} (h : Fin n → EReal) : EReal := Finset.univ.fold max (f32 0xFF800000#32) fun x => max (h x) (-(h x))

/-- How many of the powers of two `2 ^ -126 .. 2 ^ 125` the value `m` reaches. -/
def reached (m : EReal) : EReal :=
  ∑ k : Fin 252, if Ideal.exp2 ((((BitVec.ofNat 32 k.val).toInt : ℝ) : EReal) - f32 0x42FC0000#32) ≤ m then (1 : EReal) else 0

/-- The exponent of the scale of a row of greatest absolute value `a`. -/
def qexp (a : EReal) : EReal := if a = 0 then 0 else reached (a * f32 0x3B124925#32) - f32 0x42FC0000#32

/-- The scale of a row of greatest absolute value `a`. -/
def qscale (a : EReal) : EReal := Ideal.exp2 (qexp a)

/-- The inverse of the scale of a row. -/
def qinv (a : EReal) : EReal := Ideal.exp2 (0 - qexp a)

/-- The code of a value under an inverse scale, clipped to the format's range. -/
def code (x inv : EReal) : EReal := min (f32 0x43E00000#32) (max (f32 0xC3E00000#32) (x * inv))

/-- The pre-activation of a row of the window matrix, one column. -/
def pre {n : ℕ} (X : Fin 16384 → EReal) (W : Fin 16384 → Fin n → EReal) (S B : Fin n → EReal) (l : Fin n) : EReal :=
  (∑ k, X k * W k l) * S l + B l

/-- One column of the second layer, from a row's codes and its scale. -/
def proj (C : Fin 7168 → EReal) (s : EReal) (W : Fin 7168 → Fin 512 → EReal) (S B : Fin 512 → EReal) (l : Fin 512) : EReal :=
  (∑ k, C k * W k l) * s * S l + B l

section
open Cert.ReferenceIdeal Cert.ReferenceIdeal.Gen

/-- The reference's rescaled tokens: the previous ones first. -/
def refA (v0 : Vec Ideal S4x16x512 .fp8e4m3) (v3 : Vec Ideal S4x16x1 .f32) (v6 : Vec Ideal S4x1152x512 .fp8e4m3) (v9 : Vec Ideal S4x1152x1 .f32) : FVec Ideal S4x1168x512 .f32 :=
  concatenate S4x1168x512 1 [⟨S4x16x512, mulf (extf .f32 (shapeCast S4x16x512 v0 shapeCasts_S4x16x512_S4x16x512 : FVec Ideal S4x16x512 .fp8e4m3) bitsLt_fp8e4m3_f32) (broadcastTo S4x16x512 v3 broadcasts_S4x16x1_S4x16x512)⟩,
    ⟨S4x1152x512, mulf (extf .f32 (shapeCast S4x1152x512 v6 shapeCasts_S4x1152x512_S4x1152x512 : FVec Ideal S4x1152x512 .fp8e4m3) bitsLt_fp8e4m3_f32) (broadcastTo S4x1152x512 v9 broadcasts_S4x1152x1_S4x1152x512)⟩] concatenates_S4x16x512_S4x1152x512_S4x1168x512_d1

/-- The reference's windows of two chunks. -/
def refW (a : FVec Ideal S4x1168x512 .f32) : FVec Ideal S4x72x32x512 .f32 :=
  concatenate S4x72x32x512 2 [⟨S4x72x16x512, extractStridedSlice S4x72x16x512 ![0, 0, 0, 0] (shapeCast S4x73x16x512 a shapeCasts_S4x1168x512_S4x73x16x512) slices_S4x73x16x512_o0_0_0_0_S4x72x16x512⟩,
    ⟨S4x72x16x512, extractStridedSlice S4x72x16x512 ![0, 1, 0, 0] (shapeCast S4x73x16x512 a shapeCasts_S4x1168x512_S4x73x16x512) slices_S4x73x16x512_o0_1_0_0_S4x72x16x512⟩] concatenates_S4x72x16x512_S4x72x16x512_S4x72x32x512_d2

/-- The reference's window matrix. -/
def refX (w : FVec Ideal S4x72x32x512 .f32) (v17 : Vec Ideal S32x512 .f32) : FVec Ideal S288x16384 .bf16 :=
  shapeCast S288x16384 (truncf .bf16 (addf w (broadcastTo S4x72x32x512 (shapeCast S1x1x32x512 v17 shapeCasts_S32x512_S1x1x32x512) broadcasts_S1x1x32x512_S4x72x32x512)) bitsLt_bf16_f32 : FVec Ideal S4x72x32x512 .bf16) shapeCasts_S4x72x32x512_S288x16384

/-- One value of the tokens of a sample: the 16 of `prev` first, then the new ones, each times its scale. -/
theorem refA_apply (a : Vec Ideal S4x16x512 .fp8e4m3) (b : Vec Ideal S4x16x1 .f32) (c : Vec Ideal S4x1152x512 .fp8e4m3) (d : Vec Ideal S4x1152x1 .f32)
    (x : Fin 4) (y : Fin 1168) (e : Fin 512) : refA a b c d (ix3 x y e)
      = if h : y.val < 16 then a (ix3 x ⟨y, h⟩ e) * b (ix3 x ⟨y, h⟩ 0) else c (ix3 x ⟨y - 16, by omega⟩ e) * d (ix3 x ⟨y - 16, by omega⟩ 0) := by
  pointwise [refA]

/-- One value of a window: window `j` starts at token `16 * j`. -/
theorem refW_apply (a : FVec Ideal S4x1168x512 .f32) (b : Fin 4) (j : Fin 72) (r : Fin 32) (d : Fin 512) :
    refW a (ix4 b j r d) = a (ix3 b ⟨j * 16 + r, by omega⟩ d) := by
  have e : refW a (ix4 b j r d) = if h : r.val < 16 then a (ix3 b ⟨j * 16 + r, by omega⟩ d) else a (ix3 b ⟨(1 + j) * 16 + (r - 16), by omega⟩ d) := by
    pointwise [refW]
  rw [e]
  split
  · rfl
  · congr 2
    apply Fin.ext
    change (1 + j.val) * 16 + (r.val - 16) = j.val * 16 + r.val
    omega

/-- One value of the window matrix: a token's value plus its position row. -/
theorem refX_apply (w : FVec Ideal S4x72x32x512 .f32) (p : Vec Ideal S32x512 .f32) (r : Fin 288) (l : Fin 16384) : refX w p (ix2 r l)
    = w (ix4 ⟨r / 72, by omega⟩ ⟨r % 72, by omega⟩ ⟨l / 512, by omega⟩ ⟨l % 512, by omega⟩) + p (ix2 ⟨l / 512, by omega⟩ ⟨l % 512, by omega⟩) := by
  pointwise [refX]

/-- The first layer over any window matrix. -/
def refV (X : FVec Ideal S288x16384 .bf16) (v23 : Vec Ideal S16384x7168 .fp8e4m3) (v27 v31 : Vec Ideal S1x7168 .f32) : FVec Ideal S288x7168 .f32 :=
  addf (mulf (matmul dot_S288x16384_S16384x7168_S288x7168_1_0_0_1_n_n none X (extf .bf16 (shapeCast S16384x7168 v23 shapeCasts_S16384x7168_S16384x7168 : FVec Ideal S16384x7168 .fp8e4m3) bitsLt_fp8e4m3_bf16)
    (constant S288x7168 .f32 0x00000000#32)) (broadcastTo S288x7168 (shapeCast S1x7168 v27 shapeCasts_S1x7168_S1x7168) broadcasts_S1x7168_S288x7168))
    (broadcastTo S288x7168 (shapeCast S1x7168 v31 shapeCasts_S1x7168_S1x7168) broadcasts_S1x7168_S288x7168)

/-- The payload of the first layer, in its named parts. -/
theorem pay6_eq (v0 : Vec Ideal S4x16x512 .fp8e4m3) (v3 : Vec Ideal S4x16x1 .f32) (v6 : Vec Ideal S4x1152x512 .fp8e4m3) (v9 : Vec Ideal S4x1152x1 .f32)
    (v17 : Vec Ideal S32x512 .f32) (v23 : Vec Ideal S16384x7168 .fp8e4m3) (v27 v31 : Vec Ideal S1x7168 .f32) :
    k0_pay6 v0 v3 v6 v9 v17 v23 v27 v31 = refV (refX (refW (refA v0 v3 v6 v9)) v17) v23 v27 v31 := rfl

/-- One pre-activation, from the window matrix. -/
theorem refV_apply (X : FVec Ideal S288x16384 .bf16) (v23 : Vec Ideal S16384x7168 .fp8e4m3) (v27 v31 : Vec Ideal S1x7168 .f32) (r : Fin 288) (l : Fin 7168) :
    refV X v23 v27 v31 (ix2 r l) = pre (fun k => X (ix2 r k)) (fun k l => v23 (ix2 k l)) (fun l => v27 (ix2 0 l)) (fun l => v31 (ix2 0 l)) l := by
  unfold pre
  pointwise [refV]

/-- The greatest absolute value of each row of an array. -/
def refM (h : FVec Ideal S288x7168 .f32) : FVec Ideal S288x1 .f32 :=
  shapeCast S288x1 (multiReduction .maximumf [1] S288 (absf h) 0xFF800000#32 reduces_S288x7168_S288 (.inl rfl) rfl) shapeCasts_S288_S288x1

/-- The greatest absolute value of a row of the hidden array. -/
theorem refM_apply (h : FVec Ideal S288x7168 .f32) (r : Fin 288) : refM h (ix2 r 0) = amax fun x => h (ix2 r x) := by
  unfold amax
  pointwise [refM]
  rfl

/-- The reference's test of each power of two. -/
def refT (m : FVec Ideal S288x1 .f32) : FVec Ideal S288x252 .f32 :=
  select (cmpf .oge (broadcastTo S288x252 m broadcasts_S288x1_S288x252)
    (exp2 (subf (sitofp .f32 (iota .tc S288x252 32 [1] iota_S288x252_d1_w32)) (broadcast S288x252 (Scalar.ofBits .f32 0x42FC0000#32)))))
    (broadcast S288x252 (Scalar.ofBits .f32 0x3F800000#32)) (broadcast S288x252 (Scalar.ofBits .f32 0x00000000#32))

/-- The test of one power of two: one if the row's value reaches it, zero if not. -/
theorem refT_apply (m : FVec Ideal S288x1 .f32) (r : Fin 288) (k : Fin 252) :
    refT m (ix2 r k) = if Ideal.exp2 ((((BitVec.ofNat 32 k.val).toInt : ℝ) : EReal) - f32 0x42FC0000#32) ≤ m (ix2 r 0) then (1 : EReal) else 0 := by
  pointwise [refT]
  rfl

/-- How many powers each row reaches. -/
def refN (t : FVec Ideal S288x252 .f32) : FVec Ideal S288 .f32 := multiReduction .add [1] S288 t 0x00000000#32 reduces_S288x252_S288 (.inl rfl) rfl

/-- The count of a row is the sum of its tests. -/
theorem refN_apply (t : FVec Ideal S288x252 .f32) (r : Fin 288) : refN t (ix1 r) = ∑ k : Fin 252, t (ix2 r k) := by
  pointwise [refN]

/-- The sum of the tests is the number of powers reached. -/
theorem refN_refT (m : FVec Ideal S288x1 .f32) (r : Fin 288) : refN (refT m) (ix1 r) = reached (m (ix2 r 0)) := by
  rw [refN_apply]
  exact Finset.sum_congr rfl fun k _ => refT_apply m r k

/-- The rows' greatest values scaled by `1 / 448`. -/
def refS (a : FVec Ideal S288x1 .f32) : FVec Ideal S288x1 .f32 := mulf a (broadcast S288x1 (Scalar.ofBits .f32 0x3B124925#32))

/-- A row's greatest value, scaled by `1 / 448`. -/
theorem refS_apply (a : FVec Ideal S288x1 .f32) (r : Fin 288) : refS a (ix2 r 0) = a (ix2 r 0) * f32 0x3B124925#32 := rfl

/-- The exponent of each row, from its greatest value and the count. -/
theorem pay1_apply (a : FVec Ideal S288x1 .f32) (n : FVec Ideal S288 .f32) (r : Fin 288) :
    k0_pay1 a n (ix2 r 0) = if a (ix2 r 0) = 0 then 0 else n (ix1 r) - f32 0x42FC0000#32 := by
  pointwise [k0_pay1]

/-- The payload of the second quantiser's exponents. -/
theorem pay1_qexp (a : FVec Ideal S288x1 .f32) (r : Fin 288) : k0_pay1 a (refN (refT (refS a))) (ix2 r 0) = qexp (a (ix2 r 0)) := by
  rw [pay1_apply, refN_refT, refS_apply, qexp]

/-- One code of the second layer, laid out by sample. -/
theorem pay2_apply (v : FVec Ideal S288x512 .f32) (a : FVec Ideal S288x1 .f32) (n : FVec Ideal S288 .f32) (b : Fin 4) (j : Fin 72) (l : Fin 512) :
    k0_pay2 v a n (ix3 b j l) = code (v (ix2 ⟨b * 72 + j, by omega⟩ l)) (Ideal.exp2 (0 - k0_pay1 a n (ix2 ⟨b * 72 + j, by omega⟩ 0))) := by
  unfold code k0_pay2
  generalize k0_pay1 a n = e
  pointwise
  rfl

/-- One scale of the second layer, laid out by sample. -/
theorem pay3_apply (a : FVec Ideal S288x1 .f32) (n : FVec Ideal S288 .f32) (b : Fin 4) (z : Fin 1) (j : Fin 72) :
    k0_pay3 a n (ix3 b z j) = Ideal.exp2 (k0_pay1 a n (ix2 ⟨b * 72 + j, by omega⟩ 0)) := by
  unfold k0_pay3
  generalize k0_pay1 a n = e
  pointwise
  rfl

/-- One code of the hidden rows, laid out by sample. -/
theorem pay4_apply (v : FVec Ideal S288x7168 .fp8e4m3) (b : Fin 4) (j : Fin 72) (l : Fin 7168) :
    k0_pay4 v (ix3 b j l) = v (ix2 ⟨b * 72 + j, by omega⟩ l) := by
  pointwise [k0_pay4]

/-- One scale of the hidden rows, laid out by sample. -/
theorem pay5_apply (a : FVec Ideal S288x1 .f32) (b : Fin 4) (z : Fin 1) (j : Fin 72) :
    k0_pay5 a (ix3 b z j) = a (ix2 ⟨b * 72 + j, by omega⟩ 0) := by
  pointwise [k0_pay5]

/-- The first quantiser's exponents. -/
def refE (a : FVec Ideal S288x1 .f32) : FVec Ideal S288x1 .f32 :=
  k0_pay19 a (subf (shapeCast S288x1 (refN (refT (refS a))) shapeCasts_S288_S288x1) (broadcast S288x1 (Scalar.ofBits .f32 0x42FC0000#32))) (Scalar.ofBits .f32 0x00000000#32)

/-- The exponent of a row. -/
theorem refE_apply (a : FVec Ideal S288x1 .f32) (r : Fin 288) : refE a (ix2 r 0) = qexp (a (ix2 r 0)) := by
  unfold refE
  have e : ∀ n : FVec Ideal S288 .f32, k0_pay19 a (subf (shapeCast S288x1 n shapeCasts_S288_S288x1) (broadcast S288x1 (Scalar.ofBits .f32 0x42FC0000#32))) (Scalar.ofBits .f32 0x00000000#32) (ix2 r 0)
      = if a (ix2 r 0) = 0 then 0 else n (ix1 r) - f32 0x42FC0000#32 := fun n => by
    pointwise [k0_pay19]
  rw [e, refN_refT, refS_apply, qexp]

/-- The first quantiser's codes from the exponents. -/
def refC (h : FVec Ideal S288x7168 .f32) (e : FVec Ideal S288x1 .f32) : FVec Ideal S288x7168 .fp8e4m3 :=
  truncf .fp8e4m3 (minimumf (broadcast S288x7168 (Scalar.ofBits .f32 0x43E00000#32)) (maximumf (broadcast S288x7168 (Scalar.ofBits .f32 0xC3E00000#32))
    (mulf h (broadcastTo S288x7168 (exp2 (subf (broadcast S288x1 (Scalar.ofBits .f32 0x00000000#32)) e)) broadcasts_S288x1_S288x7168)))) bitsLt_fp8e4m3_f32

/-- One code of the hidden rows, from the exponent of its row. -/
theorem refC_apply (h : FVec Ideal S288x7168 .f32) (e : FVec Ideal S288x1 .f32) (r : Fin 288) (l : Fin 7168) :
    refC h e (ix2 r l) = code (h (ix2 r l)) (Ideal.exp2 (0 - e (ix2 r 0))) := by
  unfold code
  pointwise [refC]
  rfl

/-- The second layer from the codes and the scales. -/
def refP (q : FVec Ideal S288x7168 .fp8e4m3) (s : FVec Ideal S288x1 .f32) (w : Vec Ideal S7168x512 .fp8e4m3) (v190 v194 : Vec Ideal S1x512 .f32) : FVec Ideal S288x512 .f32 :=
  addf (mulf (mulf (matmul (φ₂ := .fp8e4m3) dot_S288x7168_S7168x512_S288x512_1_0_0_1_n_n none q w (constant S288x512 .f32 0x00000000#32)) (broadcastTo S288x512 s broadcasts_S288x1_S288x512))
    (broadcastTo S288x512 (shapeCast S1x512 v190 shapeCasts_S1x512_S1x512) broadcasts_S1x512_S288x512))
    (broadcastTo S288x512 (shapeCast S1x512 v194 shapeCasts_S1x512_S1x512) broadcasts_S1x512_S288x512)

/-- One value of the second layer, from the codes and the scale of its row. -/
theorem refP_apply (q : FVec Ideal S288x7168 .fp8e4m3) (s : FVec Ideal S288x1 .f32) (w : Vec Ideal S7168x512 .fp8e4m3) (v190 v194 : Vec Ideal S1x512 .f32) (r : Fin 288) (l : Fin 512) :
    refP q s w v190 v194 (ix2 r l) = proj (fun k => q (ix2 r k)) (s (ix2 r 0)) (fun k l => w (ix2 k l)) (fun l => v190 (ix2 0 l)) (fun l => v194 (ix2 0 l)) l := by
  unfold proj
  pointwise [refP]

/-- The greatest absolute value of each row of the second layer. -/
def refM2 (h : FVec Ideal S288x512 .f32) : FVec Ideal S288x1 .f32 :=
  shapeCast S288x1 (multiReduction .maximumf [1] S288 (absf h) 0xFF800000#32 reduces_S288x512_S288 (.inl rfl) rfl) shapeCasts_S288_S288x1

/-- The second layer from the hidden rows. -/
def refL2 (h : FVec Ideal S288x7168 .f32) (w : Vec Ideal S7168x512 .fp8e4m3) (v190 v194 : Vec Ideal S1x512 .f32) : FVec Ideal S288x512 .f32 :=
  refP (refC h (refE (refM h))) (exp2 (refE (refM h))) w v190 v194

/-- The greatest absolute value of a row of the second layer. -/
theorem refM2_apply (h : FVec Ideal S288x512 .f32) (r : Fin 288) : refM2 h (ix2 r 0) = amax fun x => h (ix2 r x) := by
  unfold amax
  pointwise [refM2]
  rfl

section
variable (h : FVec Ideal S288x7168 .f32) (w : Vec Ideal S7168x512 .fp8e4m3) (v190 v194 : Vec Ideal S1x512 .f32) (a v170 : FVec Ideal S288x1 .f32)

omit h w v190 v194 v170 in
/-- Two to the power of each row's value, row by row. -/
theorem exp2_at (r : Fin 288) : (exp2 a : FVec Ideal S288x1 .f32) (ix2 r 0) = Ideal.exp2 (a (ix2 r 0)) := rfl

/-- What the first count's payload is. -/
def refR (a : FVec Ideal S288x1 .f32) : FVec Ideal S288x1 .f32 :=
  subf (shapeCast S288x1 (refN (refT (refS a))) shapeCasts_S288_S288x1) (broadcast S288x1 (Scalar.ofBits .f32 0x42FC0000#32))

/-- The payload of the first quantiser's codes. -/
theorem pay21_eq : k0_pay21 h a (refR a) (Scalar.ofBits .f32 0x00000000#32) = refC h (refE a) := rfl

/-- The payload of the first quantiser's scales. -/
theorem pay20_eq : k0_pay20 a (refR a) (Scalar.ofBits .f32 0x00000000#32) = exp2 (refE a) := rfl

/-- The payload of the second layer, from the codes and the scales. -/
theorem pay22_eq : k0_pay22 h a (refR a) (Scalar.ofBits .f32 0x00000000#32) w v190 v194 = refP (refC h (refE a)) (exp2 (refE a)) w v190 v194 := rfl

/-- The payload of the second layer's greatest absolute values. -/
theorem pay23_eq : k0_pay23 h a v170 (Scalar.ofBits .f32 0x00000000#32) w v190 v194 = refM2 (k0_pay22 h a v170 (Scalar.ofBits .f32 0x00000000#32) w v190 v194) := rfl

/-- The payload of the second quantiser's counts. -/
theorem pay24_eq : k0_pay24 h a v170 (Scalar.ofBits .f32 0x00000000#32) w v190 v194
    = refN (refT (refS (k0_pay23 h a v170 (Scalar.ofBits .f32 0x00000000#32) w v190 v194))) := rfl

/-- One value of the second layer, from the hidden rows. -/
theorem refL2_apply (r : Fin 288) (l : Fin 512) :
    refL2 h w v190 v194 (ix2 r l) = proj (fun k => code (h (ix2 r k)) (qinv (amax fun x => h (ix2 r x)))) (qscale (amax fun x => h (ix2 r x)))
      (fun k l => w (ix2 k l)) (fun l => v190 (ix2 0 l)) (fun l => v194 (ix2 0 l)) l := by
  have e1 : ∀ k, refC h (refE (refM h)) (ix2 r k) = code (h (ix2 r k)) (qinv (amax fun x => h (ix2 r x))) := fun k => by
    rw [refC_apply, refE_apply, refM_apply, qinv]
  have e2 : (exp2 (refE (refM h)) : FVec Ideal S288x1 .f32) (ix2 r 0) = qscale (amax fun x => h (ix2 r x)) := by
    rw [exp2_at, refE_apply, refM_apply, qscale]
  unfold refL2
  rw [refP_apply, e2]
  simp only [e1]

end

section
variable (x0 : Vec Ideal S4x1152x512 .fp8e4m3) (x1 : Vec Ideal S4x1152x1 .f32) (x2 : Vec Ideal S4x16x512 .fp8e4m3) (x3 : Vec Ideal S4x16x1 .f32) (x4 : Vec Ideal S32x512 .f32) (x5 : Vec Ideal S16384x7168 .fp8e4m3) (x6 : Vec Ideal S1x7168 .f32) (x7 : Vec Ideal S1x7168 .f32) (x8 : Vec Ideal S7168x512 .fp8e4m3) (x9 : Vec Ideal S1x512 .f32) (x10 : Vec Ideal S1x512 .f32)

/-- The hidden rows are the activation of the first layer. -/
theorem pay33_eq : k0_pay33 x0 x1 x2 x3 x4 x5 x6 x7 x8 x9 x10 = rGelu (k0_pay25 x0 x1 x2 x3 x4 x5 x6 x7 x8 x9 x10) := rfl

/-- The payload of the hidden rows' greatest absolute values. -/
theorem pay34_eq : k0_pay34 x0 x1 x2 x3 x4 x5 x6 x7 x8 x9 x10 = refM (k0_pay33 x0 x1 x2 x3 x4 x5 x6 x7 x8 x9 x10) := rfl

/-- The payload of the first quantiser's counts, less 126. -/
theorem pay35_eq : k0_pay35 x0 x1 x2 x3 x4 x5 x6 x7 x8 x9 x10 = refR (k0_pay34 x0 x1 x2 x3 x4 x5 x6 x7 x8 x9 x10) := rfl

/-- The reference's hidden rows. -/
def refH : FVec Ideal S288x7168 .f32 := rGelu (refV (refX (refW (refA x2 x3 x0 x1)) x4) x5 x6 x7)

/-- The first layer, from the contents of the windows. -/
theorem pay25_eq : k0_pay25 x0 x1 x2 x3 x4 x5 x6 x7 x8 x9 x10 = refV (refX (refW (refA x2 x3 x0 x1)) x4) x5 x6 x7 := by
  unfold k0_pay25
  rw [View.ld_unit_lit inb_S4x16x512_S4x16x512_0_0_0 x2 (by decide), View.ld_unit_lit inb_S4x16x1_S4x16x1_0_0_0 x3 (by decide),
    View.ld_unit_lit inb_S4x1152x512_S4x1152x512_0_0_0 x0 (by decide), View.ld_unit_lit inb_S4x1152x1_S4x1152x1_0_0_0 x1 (by decide),
    View.ld_unit_lit inb_S32x512_S32x512_0_0 x4 (by decide), View.ld_unit_lit inb_S16384x7168_S16384x7168_0_0 x5 (by decide),
    View.ld_unit_lit inb_S1x7168_S1x7168_0_0 x6 (by decide), View.ld_unit_lit inb_S1x7168_S1x7168_0_0 x7 (by decide)]
  rw [pay6_eq]

/-- The hidden rows, from the contents of the windows. -/
theorem hid_eq : k0_pay33 x0 x1 x2 x3 x4 x5 x6 x7 x8 x9 x10 = refH x0 x1 x2 x3 x4 x5 x6 x7 := by
  rw [pay33_eq, pay25_eq, refH]

/-- One hidden value: the activation of the pre-activation of the row of windows. -/
theorem refH_apply (r : Fin 288) (l : Fin 7168) : refH x0 x1 x2 x3 x4 x5 x6 x7 (ix2 r l)
    = gelu (pre (fun k => refX (refW (refA x2 x3 x0 x1)) x4 (ix2 r k)) (fun k l => x5 (ix2 k l)) (fun l => x6 (ix2 0 l)) (fun l => x7 (ix2 0 l)) l) := by
  rw [refH, rGelu_apply, refV_apply]

/-- The reference's hidden codes. -/
theorem out13_apply (b : Fin 4) (j : Fin 72) (l : Fin 7168) : out0_13 x0 x1 x2 x3 x4 x5 x6 x7 x8 x9 x10 (ix3 b j l)
    = code (refH x0 x1 x2 x3 x4 x5 x6 x7 (ix2 ⟨b * 72 + j, by omega⟩ l)) (qinv (amax fun x => refH x0 x1 x2 x3 x4 x5 x6 x7 (ix2 ⟨b * 72 + j, by omega⟩ x))) := by
  unfold out0_13
  rw [View.canon_cons_unit_lit inb_S4x72x7168_S4x72x7168_0_0_0 _ _ (by decide), pay4_apply, pay35_eq, pay21_eq, pay34_eq, hid_eq, refC_apply, refE_apply, refM_apply, qinv]

/-- The reference's hidden scales. -/
theorem out14_apply (b : Fin 4) (z : Fin 1) (j : Fin 72) : out0_14 x0 x1 x2 x3 x4 x5 x6 x7 x8 x9 x10 (ix3 b z j)
    = qscale (amax fun x => refH x0 x1 x2 x3 x4 x5 x6 x7 (ix2 ⟨b * 72 + j, by omega⟩ x)) := by
  unfold out0_14
  rw [View.canon_cons_unit_lit inb_S4x1x72_S4x1x72_0_0_0 _ _ (by decide), pay5_apply, pay35_eq, pay20_eq, pay34_eq, hid_eq, exp2_at, refE_apply, refM_apply, qscale]

/-- The second layer, from the contents of the windows. -/
theorem l2_eq : k0_pay22 (k0_pay33 x0 x1 x2 x3 x4 x5 x6 x7 x8 x9 x10) (k0_pay34 x0 x1 x2 x3 x4 x5 x6 x7 x8 x9 x10) (k0_pay35 x0 x1 x2 x3 x4 x5 x6 x7 x8 x9 x10)
    (Scalar.ofBits .f32 0x00000000#32) (View.ld x8 r0_7) (View.ld x9 r0_8) (View.ld x10 r0_8) = refL2 (refH x0 x1 x2 x3 x4 x5 x6 x7) x8 x9 x10 := by
  rw [View.ld_unit_lit inb_S7168x512_S7168x512_0_0 x8 (by decide), View.ld_unit_lit inb_S1x512_S1x512_0_0 x9 (by decide), View.ld_unit_lit inb_S1x512_S1x512_0_0 x10 (by decide),
    pay35_eq, pay22_eq, pay34_eq, hid_eq, refL2]

/-- The second layer's greatest absolute values, from the contents of the windows. -/
theorem m2_eq : k0_pay36 x0 x1 x2 x3 x4 x5 x6 x7 x8 x9 x10 = refM2 (refL2 (refH x0 x1 x2 x3 x4 x5 x6 x7) x8 x9 x10) := by
  unfold k0_pay36
  rw [pay23_eq, l2_eq]

/-- The second quantiser's counts, from the contents of the windows. -/
theorem n2_eq : k0_pay37 x0 x1 x2 x3 x4 x5 x6 x7 x8 x9 x10 = refN (refT (refS (refM2 (refL2 (refH x0 x1 x2 x3 x4 x5 x6 x7) x8 x9 x10)))) := by
  unfold k0_pay37
  rw [pay24_eq, pay23_eq, l2_eq]

/-- The reference's latent codes. -/
theorem out11_apply (b : Fin 4) (j : Fin 72) (l : Fin 512) : out0_11 x0 x1 x2 x3 x4 x5 x6 x7 x8 x9 x10 (ix3 b j l)
    = code (refL2 (refH x0 x1 x2 x3 x4 x5 x6 x7) x8 x9 x10 (ix2 ⟨b * 72 + j, by omega⟩ l))
      (qinv (amax fun x => refL2 (refH x0 x1 x2 x3 x4 x5 x6 x7) x8 x9 x10 (ix2 ⟨b * 72 + j, by omega⟩ x))) := by
  unfold out0_11
  rw [View.canon_cons_unit_lit inb_S4x72x512_S4x72x512_0_0_0 _ _ (by decide), pay2_apply, l2_eq, m2_eq, n2_eq, pay1_qexp, refM2_apply, qinv]

/-- The reference's latent scales. -/
theorem out12_apply (b : Fin 4) (z : Fin 1) (j : Fin 72) : out0_12 x0 x1 x2 x3 x4 x5 x6 x7 x8 x9 x10 (ix3 b z j)
    = qscale (amax fun x => refL2 (refH x0 x1 x2 x3 x4 x5 x6 x7) x8 x9 x10 (ix2 ⟨b * 72 + j, by omega⟩ x)) := by
  unfold out0_12
  rw [View.canon_cons_unit_lit inb_S4x1x72_S4x1x72_0_0_0 _ _ (by decide), pay3_apply, m2_eq, n2_eq, pay1_qexp, refM2_apply, qscale]

end

end

end Cert.Val
-- ==== Proof.Quant.lean ====
module

public import proofs.«01_k».proof.Proof.RefVal
public import proofs.«01_k».proof.Proof.Hid
public import Idealize.ShloMosaic.Lib.IndicatorCount

/-! The power-of-two quantiser: the kernel counts the powers reached in integers and assembles the exponent from bits, the
reference counts them in reals. The two agree on every amplitude that is not negative. -/

@[expose] public section

set_option maxRecDepth 16384

noncomputable section

namespace Cert.Val

open Idealize.ShloMosaic

/-- How many of the 252 powers `2^-126 .. 2^125` an amplitude reaches. -/
def cnt (m : EReal) : ℕ := (Finset.univ.filter fun k : Fin 252 => (((2 : ℝ) ^ ((k.val : ℤ) - 126) : ℝ) : EReal) ≤ m).card

/-- At most all 252 powers are reached. -/
theorem cnt_le (m : EReal) : cnt m ≤ 252 := (Finset.card_filter_le _ _).trans (by simp)

/-- The reading of 32 bits as a float, with 8 of exponent and 23 of fraction. -/
theorem f32_ieee (b : BitVec 32) : f32 b = Ideal.ieee 8 23 b := rfl

/-- The fields of such a pattern. -/
theorem exp_fields : ∀ n : Fin 255, ((IntOp.shli .vector (BitVec.ofNat 32 n.val) 23#32).extractLsb' 23 8).toNat = n.val
      ∧ ((IntOp.shli .vector (BitVec.ofNat 32 n.val) 23#32).extractLsb' 0 23).toNat = 0
      ∧ ((IntOp.shli .vector (BitVec.ofNat 32 n.val) 23#32).extractLsb' (8 + 23) 1 == 1#1) = false := by decide

/-- A 32-bit pattern that is an exponent field alone is a power of two. -/
theorem f32_exp (n : ℕ) (h1 : 1 ≤ n) (h2 : n ≤ 254) :
    f32 (IntOp.shli .vector (BitVec.ofNat 32 n) 23#32) = (((2 : ℝ) ^ ((n : ℤ) - 127) : ℝ) : EReal) := by
  obtain ⟨e, f, g⟩ := exp_fields ⟨n, by omega⟩
  dsimp only at e f g
  rw [f32_ieee]
  unfold Ideal.ieee
  simp only [e, f, g]
  rw [if_neg (by omega), if_neg (by omega)]
  refine congrArg (fun x : ℝ => (x : EReal)) ?_
  have : (2 : ℝ) ^ ((n : ℤ) - 127) = 2 ^ (23 : ℕ) * (2 : ℝ) ^ ((n : ℤ) - 127 - 23) := by
    rw [← zpow_natCast, ← zpow_add₀ (by norm_num)]; exact congrArg (fun z : ℤ => (2 : ℝ) ^ z) (by push_cast; ring)
  rw [this]; norm_num

/-- The float of exponent field zero and no fraction is zero. -/
theorem f32_exp_zero : f32 (IntOp.shli .vector (BitVec.ofNat 32 0) 23#32) = 0 := by
  have : IntOp.shli .vector (BitVec.ofNat 32 0) 23#32 = (0#32 : BitVec 32) := by decide
  rw [this]; exact f32_zero

/-- The constant the exponents are shifted by is 126. -/
theorem f32_126 : f32 0x42FC0000#32 = ((126 : ℝ) : EReal) := by
  have e : ((0x42FC0000#32 : BitVec 32).extractLsb' 23 8).toNat = 133 := by decide
  have f : ((0x42FC0000#32 : BitVec 32).extractLsb' 0 23).toNat = 8126464 := by decide
  have g : ((0x42FC0000#32 : BitVec 32).extractLsb' (8 + 23) 1 == 1#1) = false := by decide
  rw [f32_ieee]
  unfold Ideal.ieee
  simp only [e, f, g]
  norm_num

/-- The reciprocal of 448 that scales an amplitude is positive and finite. -/
theorem f32_c : ∃ q : ℝ, 0 < q ∧ f32 0x3B124925#32 = (q : EReal) := by
  have e : ((0x3B124925#32 : BitVec 32).extractLsb' 23 8).toNat = 118 := by decide
  have f : ((0x3B124925#32 : BitVec 32).extractLsb' 0 23).toNat = 1198373 := by decide
  have g : ((0x3B124925#32 : BitVec 32).extractLsb' (8 + 23) 1 == 1#1) = false := by decide
  rw [f32_ieee]
  unfold Ideal.ieee
  simp only [e, f, g]
  rw [if_neg (by norm_num), if_neg (by norm_num)]
  refine ⟨_, ?_, rfl⟩
  norm_num

/-- Two to the power of an integer. -/
theorem exp2_int (z : ℤ) : Ideal.exp2 (((z : ℝ) : EReal)) = (((2 : ℝ) ^ z : ℝ) : EReal) := by
  rw [Ideal.exp2_coe]; congr 1; exact Real.rpow_intCast 2 z

/-- A number below 256 read back from a word is itself. -/
theorem toInt_small (k : ℕ) (h : k < 256) : (BitVec.ofNat 32 k).toInt = (k : ℤ) := by
  rw [BitVec.toInt_eq_toNat_of_lt] <;> rw [BitVec.toNat_ofNat, Nat.mod_eq_of_lt (by omega)] <;> omega

/-- The reference's count. -/
theorem reached_eq (m : EReal) : reached m = ((cnt m : ℝ) : EReal) := by
  unfold reached cnt
  have h : ∀ k : Fin 252, Ideal.exp2 ((((BitVec.ofNat 32 k.val).toInt : ℝ) : EReal) - f32 0x42FC0000#32) = (((2 : ℝ) ^ ((k.val : ℤ) - 126) : ℝ) : EReal) := fun k => by
    rw [toInt_small k.val (by omega), f32_126, ← EReal.coe_sub, ← exp2_int]; push_cast; rfl
  simp only [h]
  rw [Finset.sum_boole]; push_cast; rfl

/-- The kernel's count of one amplitude, in integers. -/
def kcount (m : EReal) : BitVec 32 :=
  Finset.univ.fold IntOp.addi 0#32 fun k : Fin 256 => Scalar.select (IntOp.andi (BitVec.ofBool (decide (f32 (IntOp.shli .vector (BitVec.ofNat 32 k.val) 23#32) ≤ m)))
    (IntOp.cmpi .slt (BitVec.ofNat 32 k.val) 253#32)) 1#32 0#32

/-- The kernel's count at a value not negative is one more than the number of powers it reaches. -/
theorem kcount_eq (m : EReal) (hm : 0 ≤ m) : kcount m = BitVec.ofNat 32 (1 + cnt m) := by
  have hs : ∀ p : BitVec 1, Scalar.select p 1#32 0#32 = p.setWidth 32 := by decide
  unfold kcount
  simp only [hs]
  rw [IndicatorCount.fold_addi_setWidth_eq_card]
  congr 1
  have hp : ∀ k : Fin 256, (IntOp.andi (BitVec.ofBool (decide (f32 (IntOp.shli .vector (BitVec.ofNat 32 k.val) 23#32) ≤ m)))
    (IntOp.cmpi .slt (BitVec.ofNat 32 k.val) 253#32) = 1#1) ↔ (f32 (IntOp.shli .vector (BitVec.ofNat 32 k.val) 23#32) ≤ m ∧ k.val < 253) := fun k => by
    have h2 : ∀ k : Fin 256, IntOp.cmpi .slt (BitVec.ofNat 32 k.val) 253#32 = BitVec.ofBool (decide (k.val < 253)) := by decide
    rw [h2 k]
    have h3 : ∀ a b : Bool, IntOp.andi (BitVec.ofBool a) (BitVec.ofBool b) = 1#1 ↔ (a = true ∧ b = true) := by decide
    rw [h3, decide_eq_true_iff, decide_eq_true_iff]
  simp only [hp]
  rw [Finset.card_filter, cnt, Finset.card_filter,
    Fin.sum_univ_eq_sum_range (fun k => if f32 (IntOp.shli .vector (BitVec.ofNat 32 k) 23#32) ≤ m ∧ k < 253 then 1 else 0) 256,
    Fin.sum_univ_eq_sum_range (fun k => if (((2 : ℝ) ^ ((k : ℤ) - 126) : ℝ) : EReal) ≤ m then 1 else 0) 252,
    show (256 : ℕ) = 1 + (252 + 3) from rfl, Finset.sum_range_add, Finset.sum_range_add, Finset.sum_range_one, f32_exp_zero]
  rw [if_pos ⟨hm, by omega⟩]
  refine congrArg (1 + ·) ?_
  have z : ∑ x ∈ Finset.range 3, (if f32 (IntOp.shli .vector (BitVec.ofNat 32 (1 + (252 + x))) 23#32) ≤ m ∧ 1 + (252 + x) < 253 then 1 else 0) = 0 :=
    Finset.sum_eq_zero fun x _ => if_neg fun h => by omega
  rw [z, Nat.add_zero]
  refine Finset.sum_congr rfl fun k hk => ?_
  have hk := Finset.mem_range.mp hk
  rw [f32_exp (1 + k) (by omega) (by omega)]
  have e : (((1 + k : ℕ) : ℤ) - 127) = (k : ℤ) - 126 := by push_cast; ring
  rw [e]
  by_cases h : (((2 : ℝ) ^ ((k : ℤ) - 126) : ℝ) : EReal) ≤ m
  · rw [if_pos h, if_pos ⟨h, by omega⟩]
  · rw [if_neg h, if_neg fun h' => h h'.1]

/-- The kernel's biased exponent of one amplitude. -/
def kbits (m : EReal) : BitVec 32 := if m = 0 then 127#32 else kcount m

/-- Scaling by `1 / 448` keeps a value from being negative. -/
theorem scale_nonneg {a : EReal} (ha : 0 ≤ a) : 0 ≤ a * f32 0x3B124925#32 := by
  obtain ⟨q, hq, e⟩ := f32_c
  rw [e]; exact mul_nonneg ha (EReal.coe_nonneg.mpr hq.le)

/-- Scaling by `1 / 448` gives zero at zero only. -/
theorem scale_zero (a : EReal) : a * f32 0x3B124925#32 = 0 ↔ a = 0 := by
  obtain ⟨q, hq, e⟩ := f32_c
  rw [e, mul_eq_zero]
  exact ⟨fun h => h.resolve_right fun h => hq.ne' (EReal.coe_eq_zero.mp h), .inl⟩

/-- The exponent is an integer between -126 and 126, and the kernel's exponent bits are that integer plus 127. -/
theorem qexp_coe {a : EReal} : ∃ z : ℤ, -126 ≤ z ∧ z ≤ 126 ∧ qexp a = ((z : ℝ) : EReal) ∧
    (0 ≤ a → kbits (a * f32 0x3B124925#32) = BitVec.ofNat 32 (z + 127).toNat) := by
  unfold qexp kbits
  by_cases h : a = 0
  · refine ⟨0, by omega, by omega, by rw [if_pos h]; norm_num, fun _ => ?_⟩
    rw [if_pos ((scale_zero a).mpr h)]; rfl
  · have hc := cnt_le (a * f32 0x3B124925#32)
    refine ⟨(cnt (a * f32 0x3B124925#32) : ℤ) - 126, by omega, by omega, ?_, fun ha => ?_⟩
    · rw [if_neg h, reached_eq, f32_126, ← EReal.coe_sub]; push_cast; rfl
    · rw [if_neg fun h' => h ((scale_zero a).mp h'), kcount_eq _ (scale_nonneg ha)]
      congr 1; omega

/-- The kernel's scale, put together from bits, is the reference's. -/
theorem kscale_eq {a : EReal} (ha : 0 ≤ a) : f32 (IntOp.shli .vector (kbits (a * f32 0x3B124925#32)) 23#32) = qscale a := by
  obtain ⟨z, h1, h2, he, hk⟩ := qexp_coe (a := a)
  rw [hk ha, qscale, he, exp2_int, f32_exp _ (by omega) (by omega)]
  congr 2; omega

/-- The kernel's reciprocal scale likewise. -/
theorem kinv_eq {a : EReal} (ha : 0 ≤ a) : f32 (IntOp.shli .vector (IntOp.subi 254#32 (kbits (a * f32 0x3B124925#32))) 23#32) = qinv a := by
  obtain ⟨z, h1, h2, he, hk⟩ := qexp_coe (a := a)
  have hs : IntOp.subi 254#32 (BitVec.ofNat 32 (z + 127).toNat) = BitVec.ofNat 32 (127 - z).toNat := by
    apply BitVec.eq_of_toNat_eq
    change (254#32 - BitVec.ofNat 32 (z + 127).toNat).toNat = _
    rw [BitVec.toNat_sub, BitVec.toNat_ofNat, BitVec.toNat_ofNat, BitVec.toNat_ofNat]
    omega
  have e0 : (0 : EReal) - ((z : ℝ) : EReal) = (((-z : ℤ) : ℝ) : EReal) := by
    rw [← EReal.coe_zero, ← EReal.coe_sub]; push_cast; rw [zero_sub]
  rw [hk ha, hs, qinv, he, e0, exp2_int, f32_exp _ (by omega) (by omega)]
  congr 2; omega

/-- An absolute value is not negative. -/
theorem abs_nonneg' (x : EReal) : 0 ≤ max x (-x) := by
  rcases le_total 0 x with h | h
  · exact le_max_of_le_left h
  · exact le_max_of_le_right (EReal.neg_nonneg.mpr h)

/-- The greatest absolute value of a row is not negative. -/
theorem amax_nonneg {n : ℕ} (hn : 0 < n) (h : Fin n → EReal) : 0 ≤ amax h := by
  unfold amax
  rw [Finset.le_fold_max]
  exact .inr ⟨⟨0, hn⟩, Finset.mem_univ _, abs_nonneg' _⟩

end Cert.Val

end
-- ==== Proof.LastVal.lean ====
module

public import proofs.«01_k».proof.Proof.LastArr
public import proofs.«01_k».proof.Proof.Quant

/-! The last point's array functions read an element at a time. -/

@[expose] public section

set_option maxRecDepth 16384

noncomputable section

namespace Cert.KernelIdeal.Hand

open Idealize.ShloMosaic Idealize.ShloMosaic.TcCoe Idealize.ShloMosaic.Tactic
open Cert.KernelIdeal.Gen
open Cert.Val

/-- The greatest of a row's running maxima over the lanes. -/
def kM (M : FVec Ideal S288x128 .f32) (r : Fin 288) : EReal := Finset.univ.fold max (f32 0xFF800000#32) fun x : Fin 128 => M (ix2 r x)

/-- The exponent bits of a row's scale, the same in every column. -/
theorem pay752_apply (M : FVec Ideal S288x128 .f32) (r : Fin 288) (l : Fin 128) :
    k0_pay752 (F := Ideal) M (ix2 r l) = kbits (kM M r * f32 0x3B124925#32) := by
  unfold kbits kcount kM
  pointwise [k0_pay752]
  simp only [dite_eq_ite, ite_self]

/-- The scale of a row, the same in every column. -/
theorem pay753_apply (M : FVec Ideal S288x128 .f32) (r : Fin 288) (h : 0 ≤ kM M r) (l : Fin 128) :
    k0_pay753 (F := Ideal) M (ix2 r l) = qscale (kM M r) := by
  rw [← kscale_eq h, ← pay752_apply M r l]
  unfold k0_pay753
  generalize k0_pay752 (F := Ideal) M = q
  pointwise

/-- The inverse scale of a row, the same in every column. -/
theorem pay754_apply (M : FVec Ideal S288x128 .f32) (r : Fin 288) (h : 0 ≤ kM M r) (l : Fin 128) :
    k0_pay754 (F := Ideal) M (ix2 r l) = qinv (kM M r) := by
  rw [← kinv_eq h, ← pay752_apply M r l]
  unfold k0_pay754
  generalize k0_pay752 (F := Ideal) M = q
  pointwise

/-- Four copies side by side of an array constant along its rows. -/
theorem pay760_apply (v : FVec Ideal S288x128 .f32) (r : Fin 288) (q : EReal) (h : ∀ l, v (ix2 r l) = q) (l : Fin 512) :
    k0_pay760 v (ix2 r l) = q := by
  have : ∃ l', k0_pay760 v (ix2 r l) = v (ix2 r l') := by
    pointwise [k0_pay760]
    split_ifs <;> exact ⟨_, rfl⟩
  obtain ⟨l', e⟩ := this
  rw [e, h]

/-- One code of a sample's rows of a slab. -/
theorem codeS_apply (b : Fin 4) (I : FVec Ideal S288x512 .f32) (x : FVec Ideal S1x72x512 .f32) (z : Fin 1) (j : Fin 72) (l : Fin 512) :
    codeS b I x (ix3 z j l) = code (x (ix3 0 j l)) (I (ix2 ⟨72 * b + j, by omega⟩ l)) := by
  unfold code
  pointwise [codeS]

/-- One value of a sample's rows. -/
theorem cutS_apply (b : Fin 4) (v : FVec Ideal S288x512 .f32) (z : Fin 1) (j : Fin 72) (l : Fin 512) :
    cutS b v (ix3 z j l) = v (ix2 ⟨72 * b + j, by omega⟩ l) := by
  pointwise [cutS]

/-- One code of a whole slab. -/
theorem pay761_apply (v : FVec Ideal S288x128 .f32) (x : FVec Ideal S1x288x512 .f32) (r : Fin 288) (l : Fin 512) :
    k0_pay761 v x (ix2 r l) = code (x (ix3 0 r l)) (k0_pay760 v (ix2 r l)) := by
  unfold code k0_pay761
  generalize k0_pay760 v = q
  pointwise

/-- Comparing two small numbers as words is comparing them. -/
theorem eqbit (x l : ℕ) (hx : x < 2 ^ 32) (hl : l < 2 ^ 32) : IntOp.cmpi .eq (BitVec.ofNat 32 x) (BitVec.ofNat 32 l) = BitVec.ofBool (decide (x = l)) := by
  have : (BitVec.ofNat 32 x = BitVec.ofNat 32 l) ↔ x = l :=
    ⟨fun h => by have := congrArg BitVec.toNat h; rwa [BitVec.toNat_ofNat, BitVec.toNat_ofNat, Nat.mod_eq_of_lt hx, Nat.mod_eq_of_lt hl] at this, fun h => by rw [h]⟩
  change BitVec.ofBool (BitVec.ofNat 32 x == BitVec.ofNat 32 l) = _
  congr 1
  rw [Bool.eq_iff_iff]; simp [this]

/-- Summing a diagonal block over its rows gives the diagonal. -/
theorem diag_sum (f : Fin 72 → EReal) (l : Fin 72) :
    (∑ x : Fin 72, Scalar.select (IntOp.cmpi .eq (BitVec.ofNat 32 x.val) (BitVec.ofNat 32 l.val)) (f x) (0 : EReal)) = f l := by
  rw [Finset.sum_eq_single l]
  · rw [eqbit _ _ (by omega) (by omega)]; simp [Scalar.select]
  · intro x _ hx
    rw [eqbit _ _ (by omega) (by omega)]
    have : ¬ x.val = l.val := fun h => hx (Fin.ext h)
    simp [Scalar.select, this]
  · intro h; exact absurd (Finset.mem_univ l) h

/-- The diagonal of a sample's rows, laid out along the columns, is one value of each row. -/
theorem diagS_apply (b : Fin 4) (s : FVec Ideal S288x128 .f32) (z y : Fin 1) (l : Fin 72) :
    diagS b s (ix3 z y l) = s (ix2 ⟨72 * b + l, by omega⟩ ⟨l, by omega⟩) := by
  rw [← diag_sum (fun x => s (ix2 ⟨72 * b + x, by omega⟩ ⟨l, by omega⟩)) l]
  pointwise [diagS]

/-- One value of the second layer, where the row's scale is the same in every column. -/
theorem pay850_apply (s : FVec Ideal S288x128 .f32) (hw : FVec Ideal S288x7168 .fp8e4m3) (w : FVec Ideal S7168x512 .fp8e4m3) (a b : FVec Ideal S1x512 .f32)
    (r : Fin 288) (q : EReal) (h : ∀ l, s (ix2 r l) = q) (l : Fin 512) :
    k0_pay850 s hw w a b (ix2 r l) = proj (fun k => hw (ix2 r k)) q (fun k l => w (ix2 k l)) (fun l => a (ix2 0 l)) (fun l => b (ix2 0 l)) l := by
  have e : k0_pay850 s hw w a b (ix2 r l) = (∑ k, hw (ix2 r k) * w (ix2 k l)) * k0_pay760 s (ix2 r l) * a (ix2 0 l) + b (ix2 0 l) := by
    pointwise [k0_pay850, k0_pay760]
  rw [e, pay760_apply s r q h, proj]

/-- A row's greatest absolute value in the second layer, scaled by `1 / 448`, in every column. -/
theorem pay851_apply (s : FVec Ideal S288x128 .f32) (hw : FVec Ideal S288x7168 .fp8e4m3) (w : FVec Ideal S7168x512 .fp8e4m3) (a b : FVec Ideal S1x512 .f32) (r : Fin 288) (l : Fin 128) :
    k0_pay851 s hw w a b (ix2 r l) = (amax fun x => k0_pay850 s hw w a b (ix2 r x)) * f32 0x3B124925#32 := by
  unfold k0_pay851 amax
  generalize k0_pay850 s hw w a b = q
  pointwise
  rfl

/-- The exponent bits of the scale of a row of the second layer. -/
theorem pay854_apply (s : FVec Ideal S288x128 .f32) (hw : FVec Ideal S288x7168 .fp8e4m3) (w : FVec Ideal S7168x512 .fp8e4m3) (a b : FVec Ideal S1x512 .f32) (r : Fin 288) (l : Fin 128) :
    k0_pay854 (k0_pay852 (F := Ideal) s hw w a b) (k0_pay853 (F := Ideal) s hw w a b) 127#32 (ix2 r l) = kbits ((amax fun x => k0_pay850 s hw w a b (ix2 r x)) * f32 0x3B124925#32) := by
  have e1 : ∀ l, k0_pay851 s hw w a b (ix2 r l) = (amax fun x => k0_pay850 s hw w a b (ix2 r x)) * f32 0x3B124925#32 := pay851_apply s hw w a b r
  unfold k0_pay852 k0_pay853
  generalize k0_pay851 s hw w a b = q at e1 ⊢
  generalize (amax fun x => k0_pay850 s hw w a b (ix2 r x)) * f32 0x3B124925#32 = t at e1 ⊢
  unfold kbits kcount
  pointwise [k0_pay854]
  simp only [e1, dite_eq_ite, ite_self]

/-- The scale of a row of the second layer. -/
theorem pay855_apply (s : FVec Ideal S288x128 .f32) (hw : FVec Ideal S288x7168 .fp8e4m3) (w : FVec Ideal S7168x512 .fp8e4m3) (a b : FVec Ideal S1x512 .f32) (r : Fin 288) (l : Fin 128) :
    k0_pay855 (F := Ideal) (k0_pay852 (F := Ideal) s hw w a b) (k0_pay853 (F := Ideal) s hw w a b) 127#32 (ix2 r l) = qscale (amax fun x => k0_pay850 s hw w a b (ix2 r x)) := by
  rw [← kscale_eq (amax_nonneg (by omega) _), ← pay854_apply s hw w a b r l]
  unfold k0_pay855
  generalize k0_pay854 _ _ _ = q
  pointwise

/-- One code under the inverse scale of a row of the second layer. -/
theorem pay856_apply (s : FVec Ideal S288x128 .f32) (hw : FVec Ideal S288x7168 .fp8e4m3) (w : FVec Ideal S7168x512 .fp8e4m3) (a b : FVec Ideal S1x512 .f32) (v : FVec Ideal S288x512 .f32) (r : Fin 288) (l : Fin 512) :
    k0_pay856 v (k0_pay852 (F := Ideal) s hw w a b) (k0_pay853 (F := Ideal) s hw w a b) 127#32 (ix2 r l) = code (v (ix2 r l)) (qinv (amax fun x => k0_pay850 s hw w a b (ix2 r x))) := by
  have e : ∃ l', k0_pay856 v (k0_pay852 (F := Ideal) s hw w a b) (k0_pay853 (F := Ideal) s hw w a b) 127#32 (ix2 r l)
      = code (v (ix2 r l)) (f32 (IntOp.shli .vector (IntOp.subi 254#32 (k0_pay854 (k0_pay852 (F := Ideal) s hw w a b) (k0_pay853 (F := Ideal) s hw w a b) 127#32 (ix2 r l'))) 23#32)) := by
    unfold k0_pay856
    generalize k0_pay854 _ _ _ = q
    unfold code
    pointwise
    split_ifs <;> exact ⟨_, rfl⟩
  obtain ⟨l', e⟩ := e
  rw [e, pay854_apply, kinv_eq (amax_nonneg (by omega) _)]

end Cert.KernelIdeal.Hand

end
-- ==== Proof.LastRead.lean ====
module

public import proofs.«01_k».proof.Proof.LastVal

/-! What the last point's windows read after its stores, as functions of the hidden slabs and the rows' maxima. -/

@[expose] public section

set_option maxRecDepth 16384

noncomputable section

namespace Cert.KernelIdeal.Hand

open Idealize.ShloMosaic Idealize.ShloMosaic.TcCoe Idealize.ShloMosaic.Tactic
open Cert.KernelIdeal.Gen
open Cert.Val

/-- The hidden codes as returned. -/
def vC (H : Fin 14 → FVec Ideal S288x512 .f32) (M : FVec Ideal S288x128 .f32) (y : S4x72x7168.Idx) : EReal :=
  code (H (Fin.ofNat 14 ((y 2).val / 512)) (ix2 (Fin.ofNat 288 (72 * (y 0).val + (y 1).val)) (Fin.ofNat 512 ((y 2).val % 512))))
    (qinv (kM M (Fin.ofNat 288 (72 * (y 0).val + (y 1).val))))

/-- The hidden codes as the second product reads them. -/
def vW (H : Fin 14 → FVec Ideal S288x512 .f32) (M : FVec Ideal S288x128 .f32) (y : S288x7168.Idx) : EReal :=
  code (H (Fin.ofNat 14 ((y 1).val / 512)) (ix2 (Fin.ofNat 288 (y 0).val) (Fin.ofNat 512 ((y 1).val % 512))))
    (qinv (kM M (Fin.ofNat 288 (y 0).val)))

/-- Scales as returned, from each row's greatest absolute value. -/
def vS (f : Fin 288 → EReal) (y : S4x1x72.Idx) : EReal := qscale (f (Fin.ofNat 288 (72 * (y 0).val + (y 2).val)))

/-- The second layer's rows. -/
def vE (H : Fin 14 → FVec Ideal S288x512 .f32) (M : FVec Ideal S288x128 .f32) (W : FVec Ideal S7168x512 .fp8e4m3) (S B : FVec Ideal S1x512 .f32)
    (r : Fin 288) (l : Fin 512) : EReal :=
  proj (fun k => vW H M (ix2 r k)) (qscale (kM M r)) (fun k l => W (ix2 k l)) (fun l => S (ix2 0 l)) (fun l => B (ix2 0 l)) l

/-- The second layer's codes as returned. -/
def vD (E : Fin 288 → Fin 512 → EReal) (y : S4x72x512.Idx) : EReal :=
  code (E (Fin.ofNat 288 (72 * (y 0).val + (y 1).val)) (Fin.ofNat 512 (y 2).val)) (qinv (amax (E (Fin.ofNat 288 (72 * (y 0).val + (y 1).val)))))

/-- A number below the bound is its own residue. -/
theorem ofNat_mk {n k : ℕ} [NeZero n] (h : k < n) : Fin.ofNat n k = ⟨k, h⟩ := Fin.ext (Nat.mod_eq_of_lt h)

/-- Every slab is among the fourteen, listed from the last to the first. -/
theorem all14 : ∀ r : Fin 14, r ∈ ([13, 12, 11, 10, 9, 8, 7, 6, 5, 4, 3, 2, 1, 0] : List (Fin 14)) := by decide
/-- Every sample is among the four, listed from the last to the first. -/
theorem all4 : ∀ r : Fin 4, r ∈ ([3, 2, 1, 0] : List (Fin 4)) := by decide

/-- After its stores the third result holds the codes of the hidden rows, whatever it held before. -/
theorem hc_read (v : View sig .tc .vmem S4x72x7168 .fp8e4m3) (f : BufTy.Contents (Elt Ideal) v.ty) (H : Fin 14 → FVec Ideal S288x512 .f32)
    (M : FVec Ideal S288x128 .f32) (I : FVec Ideal S288x512 .f32) (T : Fin 14 → Fin 4 → FVec Ideal S1x72x512 .f32)
    (hI : ∀ r l, I (ix2 r l) = qinv (kM M r)) (hT : ∀ (k : Fin 14) (b : Fin 4) (j : Fin 72) (l : Fin 512), T k b (ix3 (0 : Fin 1) j l) = H k (ix2 (Fin.ofNat 288 (72 * b.val + j.val)) l)) :
    v.read (Elt Ideal) (v.writes (Elt Ideal) f (hcList I T)) = vC H M := by
  funext y
  refine View.read_writes_apply_of_pieces _ _ _ _ ?_ y ?_
  · intro p hp x
    simp only [hcList, List.mem_flatMap, List.mem_map] at hp
    obtain ⟨k, -, b, -, rfl⟩ := hp
    obtain ⟨z, j, l, rfl⟩ : ∃ (z : Fin 1) (j : Fin 72) (l : Fin 512), x = ix3 z j l := ⟨_, _, _, eq_ix3 (n0 := 1) (n1 := 72) (n2 := 512) x⟩
    refine (codeS_apply b I (T k b) z j l).trans ?_
    have hz : z.val = 0 := by omega
    have e0 : ((Rect.unit (s := S4x72x7168) ![b.val, 0, 512 * k.val] S1x72x512.size (hc_inb k b)).emb (ix3 z j l) 0).val = b.val := by
      change b.val + 1 * z.val = _; omega
    have e1 : ((Rect.unit (s := S4x72x7168) ![b.val, 0, 512 * k.val] S1x72x512.size (hc_inb k b)).emb (ix3 z j l) 1).val = j.val := by
      change 0 + 1 * j.val = _; omega
    have e2 : ((Rect.unit (s := S4x72x7168) ![b.val, 0, 512 * k.val] S1x72x512.size (hc_inb k b)).emb (ix3 z j l) 2).val = 512 * k.val + l.val := by
      change 512 * k.val + 1 * l.val = _; omega
    have hd : (512 * k.val + l.val) / 512 = k.val := by omega
    have hm : (512 * k.val + l.val) % 512 = l.val := by omega
    unfold vC
    simp only [e0, e1, e2, hd, hm]
    rw [hT, hI, ofNat_mk k.isLt, ofNat_mk l.isLt, ofNat_mk (show 72 * b.val + j.val < 288 by omega)]
  · have h0 : (y 0).val < 4 := (y 0).isLt
    have h1 : (y 1).val < 72 := (y 1).isLt
    have h2 : (y 2).val < 7168 := (y 2).isLt
    refine ⟨_, List.mem_flatMap.mpr ⟨⟨(y 2).val / 512, by omega⟩, all14 _, List.mem_map_of_mem (all4 ⟨(y 0).val, h0⟩)⟩, ?_⟩
    apply (LoadRect.mem_set _).mpr
    intro a
    match a with
    | ⟨0, _⟩ => exact ⟨0, (by omega : 0 < 1), by change (y 0).val = (y 0).val + 1 * 0; omega⟩
    | ⟨1, _⟩ => exact ⟨(y 1).val, h1, by change (y 1).val = 0 + 1 * (y 1).val; omega⟩
    | ⟨2, _⟩ =>
      refine ⟨(y 2).val % 512, (by omega : _ < 512), ?_⟩
      change (y 2).val = 512 * ((y 2).val / 512) + 1 * ((y 2).val % 512); omega

/-- After its stores the code buffer holds the codes of the hidden rows, whatever it held before. -/
theorem hw_read (v : View sig .tc .vmem S288x7168 .fp8e4m3) (f : BufTy.Contents (Elt Ideal) v.ty) (H : Fin 14 → FVec Ideal S288x512 .f32)
    (M : FVec Ideal S288x128 .f32) (s : FVec Ideal S288x128 .f32) (T : Fin 14 → FVec Ideal S1x288x512 .f32)
    (hs : ∀ r l, s (ix2 r l) = qinv (kM M r)) (hT : ∀ (k : Fin 14) (r : Fin 288) (l : Fin 512), T k (ix3 (0 : Fin 1) r l) = H k (ix2 r l)) :
    v.read (Elt Ideal) (v.writes (Elt Ideal) f (hwList s T)) = vW H M := by
  funext y
  refine View.read_writes_apply_of_pieces _ _ _ _ ?_ y ?_
  · intro p hp x
    simp only [hwList, List.mem_map] at hp
    obtain ⟨k, -, rfl⟩ := hp
    obtain ⟨r, l, rfl⟩ : ∃ (r : Fin 288) (l : Fin 512), x = ix2 r l := ⟨_, _, eq_ix2 (n0 := 288) (n1 := 512) x⟩
    refine (pay761_apply s (T k) r l).trans ?_
    rw [pay760_apply s r _ (hs r)]
    have e0 : ((Rect.unit (s := S288x7168) ![0, 512 * k.val] S288x512.size (hw_inb k)).emb (ix2 r l) 0).val = r.val := by
      change 0 + 1 * r.val = _; omega
    have e1 : ((Rect.unit (s := S288x7168) ![0, 512 * k.val] S288x512.size (hw_inb k)).emb (ix2 r l) 1).val = 512 * k.val + l.val := by
      change 512 * k.val + 1 * l.val = _; omega
    have hd : (512 * k.val + l.val) / 512 = k.val := by omega
    have hm : (512 * k.val + l.val) % 512 = l.val := by omega
    unfold vW
    simp only [e0, e1, hd, hm]
    rw [hT, ofNat_mk k.isLt, ofNat_mk l.isLt, ofNat_mk r.isLt]
  · have h0 : (y 0).val < 288 := (y 0).isLt
    have h1 : (y 1).val < 7168 := (y 1).isLt
    refine ⟨_, List.mem_map_of_mem (all14 ⟨(y 1).val / 512, by omega⟩), ?_⟩
    apply (LoadRect.mem_set _).mpr
    intro a
    match a with
    | ⟨0, _⟩ => exact ⟨(y 0).val, h0, by change (y 0).val = 0 + 1 * (y 0).val; omega⟩
    | ⟨1, _⟩ =>
      refine ⟨(y 1).val % 512, (by omega : _ < 512), ?_⟩
      change (y 1).val = 512 * ((y 1).val / 512) + 1 * ((y 1).val % 512); omega

/-- After its stores an array of scales holds each row's scale, whatever it held before. -/
theorem sc_read (v : View sig .tc .vmem S4x1x72 .f32) (f : BufTy.Contents (Elt Ideal) v.ty) (g : Fin 288 → EReal) (s : FVec Ideal S288x128 .f32)
    (hs : ∀ r l, s (ix2 r l) = qscale (g r)) : v.read (Elt Ideal) (v.writes (Elt Ideal) f (scList s)) = vS g := by
  funext y
  refine View.read_writes_apply_of_pieces _ _ _ _ ?_ y ?_
  · intro p hp x
    simp only [scList, List.mem_map] at hp
    obtain ⟨b, -, rfl⟩ := hp
    obtain ⟨z, j, l, rfl⟩ : ∃ (z : Fin 1) (j : Fin 1) (l : Fin 72), x = ix3 z j l := ⟨_, _, _, eq_ix3 (n0 := 1) (n1 := 1) (n2 := 72) x⟩
    refine (diagS_apply b s z j l).trans ?_
    have hz : z.val = 0 := by omega
    have e0 : ((Rect.unit (s := S4x1x72) ![b.val, 0, 0] S1x1x72.size (sc_inb b)).emb (ix3 z j l) 0).val = b.val := by
      change b.val + 1 * z.val = _; omega
    have e2 : ((Rect.unit (s := S4x1x72) ![b.val, 0, 0] S1x1x72.size (sc_inb b)).emb (ix3 z j l) 2).val = l.val := by
      change 0 + 1 * l.val = _; omega
    unfold vS
    simp only [e0, e2]
    rw [hs, ofNat_mk (show 72 * b.val + l.val < 288 by omega)]
  · have h0 : (y 0).val < 4 := (y 0).isLt
    have h1 : (y 1).val < 1 := (y 1).isLt
    have h2 : (y 2).val < 72 := (y 2).isLt
    refine ⟨_, List.mem_map_of_mem (all4 ⟨(y 0).val, h0⟩), ?_⟩
    apply (LoadRect.mem_set _).mpr
    intro a
    match a with
    | ⟨0, _⟩ => exact ⟨0, (by omega : 0 < 1), by change (y 0).val = (y 0).val + 1 * 0; omega⟩
    | ⟨1, _⟩ => exact ⟨(y 1).val, h1, by change (y 1).val = 0 + 1 * (y 1).val; omega⟩
    | ⟨2, _⟩ => exact ⟨(y 2).val, h2, by change (y 2).val = 0 + 1 * (y 2).val; omega⟩

/-- After its stores the first result holds the codes of the second layer, whatever it held before. -/
theorem ec_read (v : View sig .tc .vmem S4x72x512 .fp8e4m3) (f : BufTy.Contents (Elt Ideal) v.ty) (E : Fin 288 → Fin 512 → EReal) (w : FVec Ideal S288x512 .f32)
    (hw : ∀ r l, w (ix2 r l) = code (E r l) (qinv (amax (E r)))) : v.read (Elt Ideal) (v.writes (Elt Ideal) f (ecList w)) = vD E := by
  funext y
  refine View.read_writes_apply_of_pieces _ _ _ _ ?_ y ?_
  · intro p hp x
    simp only [ecList, List.mem_map] at hp
    obtain ⟨b, -, rfl⟩ := hp
    obtain ⟨z, j, l, rfl⟩ : ∃ (z : Fin 1) (j : Fin 72) (l : Fin 512), x = ix3 z j l := ⟨_, _, _, eq_ix3 (n0 := 1) (n1 := 72) (n2 := 512) x⟩
    refine (cutS_apply b w z j l).trans ?_
    have hz : z.val = 0 := by omega
    have e0 : ((Rect.unit (s := S4x72x512) ![b.val, 0, 0] S1x72x512.size (ec_inb b)).emb (ix3 z j l) 0).val = b.val := by
      change b.val + 1 * z.val = _; omega
    have e1 : ((Rect.unit (s := S4x72x512) ![b.val, 0, 0] S1x72x512.size (ec_inb b)).emb (ix3 z j l) 1).val = j.val := by
      change 0 + 1 * j.val = _; omega
    have e2 : ((Rect.unit (s := S4x72x512) ![b.val, 0, 0] S1x72x512.size (ec_inb b)).emb (ix3 z j l) 2).val = l.val := by
      change 0 + 1 * l.val = _; omega
    unfold vD
    simp only [e0, e1, e2]
    rw [hw, ofNat_mk (show 72 * b.val + j.val < 288 by omega), ofNat_mk l.isLt]
  · have h0 : (y 0).val < 4 := (y 0).isLt
    have h1 : (y 1).val < 72 := (y 1).isLt
    have h2 : (y 2).val < 512 := (y 2).isLt
    refine ⟨_, List.mem_map_of_mem (all4 ⟨(y 0).val, h0⟩), ?_⟩
    apply (LoadRect.mem_set _).mpr
    intro a
    match a with
    | ⟨0, _⟩ => exact ⟨0, (by omega : 0 < 1), by change (y 0).val = (y 0).val + 1 * 0; omega⟩
    | ⟨1, _⟩ => exact ⟨(y 1).val, h1, by change (y 1).val = 0 + 1 * (y 1).val; omega⟩
    | ⟨2, _⟩ => exact ⟨(y 2).val, h2, by change (y 2).val = 0 + 1 * (y 2).val; omega⟩

/-- What the slab's buffer reads after the slab's store: the slab where it was stored, and what was there elsewhere. -/
theorem slab_read (v : View sig .tc .vmem S14x288x512 .f32) (i : grid0.Coords) (h : FVec Ideal S288x512 .f32) (f : BufTy.Contents (Elt Ideal) v.ty)
    (k : Fin 14) (r : Fin 288) (l : Fin 512) :
    v.read (Elt Ideal) (v.writes (Elt Ideal) f [⟨Rect.unit (s := S14x288x512) (k0_off25 i) S1x288x512.size (k0_off25_inb i), slab h⟩]) (ix3 k r l)
      = if k.val = (i 0).val then h (ix2 r l) else v.read (Elt Ideal) f (ix3 k r l) := by
  have ho : ∀ a, k0_off25 i a = (![(i 0).val, 0, 0] : Fin 3 → ℕ) a := fun a => congrFun (k0_off25_eq i) a
  by_cases hk : k.val = (i 0).val
  · rw [if_pos hk]
    have he : (Rect.unit (s := S14x288x512) (k0_off25 i) S1x288x512.size (k0_off25_inb i)).emb (ix3 (0 : Fin 1) r l) = ix3 k r l := by
      funext a
      apply Fin.ext
      match a with
      | ⟨0, _⟩ => change k0_off25 i 0 + 1 * 0 = k.val; rw [ho]; change (i 0).val + 1 * 0 = _; omega
      | ⟨1, _⟩ => change k0_off25 i 1 + 1 * r.val = r.val; rw [ho]; change 0 + 1 * r.val = _; omega
      | ⟨2, _⟩ => change k0_off25 i 2 + 1 * l.val = l.val; rw [ho]; change 0 + 1 * l.val = _; omega
    rw [← he, View.read_writes_cons_emb]
    pointwise [slab]
  · rw [if_neg hk, View.writes_cons, View.read_slice_write_of_not_mem _ _ _ _ _, View.writes_nil]
    rw [Rect.map_emb_univ, LoadRect.mem_set]
    intro hm
    obtain ⟨x, hx, e⟩ := hm 0
    have : k.val = k0_off25 i 0 + 1 * x := e
    rw [ho] at this
    have hx : x < 1 := hx
    apply hk
    change k.val = (i 0).val + 1 * x at this
    omega

end Cert.KernelIdeal.Hand

end
-- ==== Proof.ValueEq.lean ====
module

public import proofs.«01_k».proof.Proof.LastRead

/-! The two programs' values are equal: the kernel's, slab by slab and lane by lane, and the reference's, whole. -/

@[expose] public section

set_option maxRecDepth 16384

noncomputable section

namespace Cert.Val

open Idealize.ShloMosaic

section
open Cert.KernelIdeal Cert.KernelIdeal.Gen Cert.KernelIdeal.Hand

/-- One pre-activation of the kernel's slab. -/
theorem pay866_apply (v3 : Vec Ideal S288x16384 .bf16) (v4 : Vec Ideal S16384x512 .fp8e4m3) (v7 v11 : Vec Ideal S1x512 .f32) (r : Fin 288) (l : Fin 512) :
    k0_pay866 (F := Ideal) v3 v4 v7 v11 (ix2 r l) = pre (fun k => v3 (ix2 r k)) (fun k l => v4 (ix2 k l)) (fun l => v7 (ix2 0 l)) (fun l => v11 (ix2 0 l)) l := by
  unfold pre
  pointwise [k0_pay866]

/-- One lane of the running maximum after one more slab. -/
theorem mxS_apply (h : FVec Ideal S288x512 .f32) (p : FVec Ideal S288x128 .f32) (r : Fin 288) (j : Fin 128) :
    mxS h p (ix2 r j) = max (max (max (max (p (ix2 r j)) (max (h (ix2 r ⟨j.val, by omega⟩)) (-(h (ix2 r ⟨j.val, by omega⟩)))))
      (max (h (ix2 r ⟨128 + j.val, by omega⟩)) (-(h (ix2 r ⟨128 + j.val, by omega⟩)))))
      (max (h (ix2 r ⟨256 + j.val, by omega⟩)) (-(h (ix2 r ⟨256 + j.val, by omega⟩)))))
      (max (h (ix2 r ⟨384 + j.val, by omega⟩)) (-(h (ix2 r ⟨384 + j.val, by omega⟩)))) := by
  pointwise [mxS, k0_pay1]
  rfl

/-- The running maxima start at zero. -/
theorem mx0_apply (r : Fin 288) (j : Fin 128) : k0_pay865 (F := Ideal) k0_pay751 (ix2 r j) = 0 := by
  have e : k0_pay865 (F := Ideal) k0_pay751 (ix2 r j) = f32 0x00000000#32 := by
    unfold k0_pay865 k0_pay751
    pointwise
  rw [e]
  exact Ideal.ofBits_zero_f32

/-- A bound on a lane of the running maximum is a bound on every absolute value joined to it. -/
theorem mx_le (H : Fin 14 → FVec Ideal S288x512 .f32) (MX : ℕ → FVec Ideal S288x128 .f32) (h0 : MX 0 = k0_pay865 (F := Ideal) k0_pay751)
    (hs : ∀ k : Fin 14, MX (k.val + 1) = mxS (H k) (MX k.val)) (r : Fin 288) (j : Fin 128) (B : EReal) (n : ℕ) (hn : n ≤ 14) :
    MX n (ix2 r j) ≤ B ↔ 0 ≤ B ∧ ∀ k : Fin 14, k.val < n → ∀ l : Fin 512, l.val % 128 = j.val → max (H k (ix2 r l)) (-(H k (ix2 r l))) ≤ B := by
  induction n with
  | zero =>
    rw [h0, mx0_apply]
    exact ⟨fun h => ⟨h, fun k hk => absurd hk (by omega)⟩, fun h => h.1⟩
  | succ n ih =>
    have hk : n < 14 := by omega
    rw [hs ⟨n, hk⟩, mxS_apply, max_le_iff, max_le_iff, max_le_iff, max_le_iff, ih (by omega)]
    constructor
    · rintro ⟨⟨⟨⟨⟨hB, hp⟩, a0⟩, a1⟩, a2⟩, a3⟩
      refine ⟨hB, fun k hkn l hl => ?_⟩
      by_cases e : k.val = n
      · obtain rfl : k = ⟨n, hk⟩ := Fin.ext e
        have hl2 := l.isLt
        have hc : l.val = j.val ∨ l.val = 128 + j.val ∨ l.val = 256 + j.val ∨ l.val = 384 + j.val := by omega
        rcases hc with h | h | h | h
        · rw [show l = ⟨j.val, by omega⟩ from Fin.ext h]
          exact a0
        · rw [show l = ⟨128 + j.val, by omega⟩ from Fin.ext h]
          exact a1
        · rw [show l = ⟨256 + j.val, by omega⟩ from Fin.ext h]
          exact a2
        · rw [show l = ⟨384 + j.val, by omega⟩ from Fin.ext h]
          exact a3
      · exact hp k (by omega) l hl
    · rintro ⟨hB, hp⟩
      have q := hp ⟨n, hk⟩ (Nat.lt_succ_self n)
      have hj := j.isLt
      exact ⟨⟨⟨⟨⟨hB, fun k hkn => hp k (by omega)⟩, q _ (by change j.val % 128 = _; omega)⟩, q _ (by change (128 + j.val) % 128 = _; omega)⟩,
        q _ (by change (256 + j.val) % 128 = _; omega)⟩, q _ (by change (384 + j.val) % 128 = _; omega)⟩

/-- The lanes' greatest is the row's greatest absolute value. -/
theorem kM_eq (H : Fin 14 → FVec Ideal S288x512 .f32) (MX : ℕ → FVec Ideal S288x128 .f32) (h0 : MX 0 = k0_pay865 (F := Ideal) k0_pay751)
    (hs : ∀ k : Fin 14, MX (k.val + 1) = mxS (H k) (MX k.val)) (r : Fin 288) (R : Fin 7168 → EReal)
    (hR : ∀ (k : Fin 14) (l : Fin 512), H k (ix2 r l) = R ⟨512 * k.val + l.val, by omega⟩) : kM (MX 14) r = amax R := by
  refine eq_of_forall_ge_iff fun B => ?_
  unfold kM amax
  rw [Finset.fold_max_le, Finset.fold_max_le]
  refine and_congr_right fun _ => ?_
  constructor
  · intro h x _
    have hx := x.isLt
    have q := ((mx_le H MX h0 hs r ⟨x.val % 128, by omega⟩ B 14 (le_refl _)).mp (h _ (Finset.mem_univ _))).2
      ⟨x.val / 512, by omega⟩ (by change x.val / 512 < 14; omega) ⟨x.val % 512, by omega⟩ (by change x.val % 512 % 128 = x.val % 128; omega)
    rw [hR] at q
    have e : (⟨512 * (x.val / 512) + x.val % 512, by omega⟩ : Fin 7168) = x := Fin.ext (by change 512 * (x.val / 512) + x.val % 512 = x.val; omega)
    exact e ▸ q
  · intro h j _
    refine (mx_le H MX h0 hs r j B 14 (le_refl _)).mpr ⟨(abs_nonneg' _).trans (h 0 (Finset.mem_univ _)), fun k _ l _ => ?_⟩
    rw [hR]
    exact h _ (Finset.mem_univ _)

end

section
open Cert.KernelIdeal Cert.KernelIdeal.Hand

variable (k0 : Vec Ideal S4x1152x512 .fp8e4m3) (k1 : Vec Ideal S4x1x1152 .f32) (k2 : Vec Ideal S4x16x512 .fp8e4m3) (k3 : Vec Ideal S4x1x16 .f32) (k4 : Vec Ideal S32x512 .f32)
  (k5 : Fin 14 → Vec Ideal S16384x512 .fp8e4m3) (k6 k7 : Fin 14 → Vec Ideal S1x512 .f32)
  (k8 : Vec Ideal S7168x512 .fp8e4m3) (k9 k10 : Vec Ideal S1x512 .f32)
  (x0 : Vec Ideal ReferenceIdeal.S4x1152x512 .fp8e4m3) (x1 : Vec Ideal ReferenceIdeal.S4x1152x1 .f32) (x2 : Vec Ideal ReferenceIdeal.S4x16x512 .fp8e4m3) (x3 : Vec Ideal ReferenceIdeal.S4x16x1 .f32)
  (x4 : Vec Ideal ReferenceIdeal.S32x512 .f32) (x5 : Vec Ideal ReferenceIdeal.S16384x7168 .fp8e4m3) (x6 x7 : Vec Ideal ReferenceIdeal.S1x7168 .f32)
  (x8 : Vec Ideal ReferenceIdeal.S7168x512 .fp8e4m3) (x9 x10 : Vec Ideal ReferenceIdeal.S1x512 .f32)

/-- The kernel's blocks and the reference's are the same arrays: the kernel's scales lie across, its first weight in slabs. -/
structure Same : Prop where
  h0 : ∀ (a : Fin 4) (b : Fin 1152) (d : Fin 512), k0 (ix3 a b d) = x0 (ix3 a b d)
  h1 : ∀ (a : Fin 4) (b : Fin 1152), k1 (ix3 a (0 : Fin 1) b) = x1 (ix3 a b (0 : Fin 1))
  h2 : ∀ (a : Fin 4) (b : Fin 16) (d : Fin 512), k2 (ix3 a b d) = x2 (ix3 a b d)
  h3 : ∀ (a : Fin 4) (b : Fin 16), k3 (ix3 a (0 : Fin 1) b) = x3 (ix3 a b (0 : Fin 1))
  h4 : ∀ (a : Fin 32) (d : Fin 512), k4 (ix2 a d) = x4 (ix2 a d)
  h5 : ∀ (k : Fin 14) (s : Fin 16384) (l : Fin 512), k5 k (ix2 s l) = x5 (ix2 s (⟨512 * k.val + l.val, by omega⟩ : Fin 7168))
  h6 : ∀ (k : Fin 14) (l : Fin 512), k6 k (ix2 (0 : Fin 1) l) = x6 (ix2 (0 : Fin 1) (⟨512 * k.val + l.val, by omega⟩ : Fin 7168))
  h7 : ∀ (k : Fin 14) (l : Fin 512), k7 k (ix2 (0 : Fin 1) l) = x7 (ix2 (0 : Fin 1) (⟨512 * k.val + l.val, by omega⟩ : Fin 7168))
  h8 : ∀ (k : Fin 7168) (l : Fin 512), k8 (ix2 k l) = x8 (ix2 k l)
  h9 : ∀ l : Fin 512, k9 (ix2 (0 : Fin 1) l) = x9 (ix2 (0 : Fin 1) l)
  h10 : ∀ l : Fin 512, k10 (ix2 (0 : Fin 1) l) = x10 (ix2 (0 : Fin 1) l)

variable {k0 k1 k2 k3 k4 k5 k6 k7 k8 k9 k10 x0 x1 x2 x3 x4 x5 x6 x7 x8 x9 x10}
variable (S : Same k0 k1 k2 k3 k4 k5 k6 k7 k8 k9 k10 x0 x1 x2 x3 x4 x5 x6 x7 x8 x9 x10)
include S

/-- The window matrices are equal. -/
theorem win_eq (r : Fin 288) (s : Fin 16384) : XF k0 k1 k2 k3 k4 (ix2 r s) = refX (refW (refA x2 x3 x0 x1)) x4 (ix2 r s) := by
  have hr := r.isLt
  have hs := s.isLt
  rw [refX_apply, refW_apply, refA_apply]
  change TOK k0 k1 k2 k3 (r.val / 72) (s.val / 512 + 16 * (r.val % 72)) (s.val % 512) + k4 (ix2 (Fin.ofNat 32 (s.val / 512)) (Fin.ofNat 512 (s.val % 512))) = _
  rw [ofNat_mk (show s.val / 512 < 32 by omega), ofNat_mk (show s.val % 512 < 512 by omega), S.h4]
  congr 1
  unfold TOK
  have hc : s.val / 512 + 16 * (r.val % 72) = r.val % 72 * 16 + s.val / 512 := by omega
  simp only [hc]
  by_cases h : r.val % 72 * 16 + s.val / 512 < 16
  · rw [if_pos h, dif_pos h, ofNat_mk (show r.val / 72 < 4 by omega), ofNat_mk h, ofNat_mk (show s.val % 512 < 512 by omega), S.h2, S.h3]
  · rw [if_neg h, dif_neg h, ofNat_mk (show r.val / 72 < 4 by omega), ofNat_mk (show r.val % 72 * 16 + s.val / 512 - 16 < 1152 by omega), ofNat_mk (show s.val % 512 < 512 by omega), S.h0, S.h1]

/-- The hidden layers are equal, slab by slab. -/
theorem slab_eq (k : Fin 14) (r : Fin 288) (l : Fin 512) : kHid (XF k0 k1 k2 k3 k4) (k5 k) (k6 k) (k7 k) (ix2 r l)
    = refH x0 x1 x2 x3 x4 x5 x6 x7 (ix2 r ⟨512 * k.val + l.val, by omega⟩) := by
  rw [kHid_apply, pay866_apply, refH_apply]
  unfold pre
  simp only [win_eq S, S.h5, S.h6, S.h7]

variable (H : Fin 14 → FVec Ideal S288x512 .f32) (MX : ℕ → FVec Ideal S288x128 .f32) (hH : ∀ k, H k = kHid (XF k0 k1 k2 k3 k4) (k5 k) (k6 k) (k7 k))
  (h0 : MX 0 = Gen.k0_pay865 (F := Ideal) Gen.k0_pay751) (hs : ∀ k : Fin 14, MX (k.val + 1) = mxS (H k) (MX k.val))
include hH h0 hs

/-- The greatest absolute values of the rows are equal. -/
theorem rowmax_eq (r : Fin 288) : kM (MX 14) r = amax fun x => refH x0 x1 x2 x3 x4 x5 x6 x7 (ix2 r x) :=
  kM_eq H MX h0 hs r _ fun k l => by rw [hH]; exact slab_eq S k r l

/-- So they are not negative. -/
theorem rowmax_nonneg (r : Fin 288) : 0 ≤ kM (MX 14) r := by
  rw [rowmax_eq S H MX hH h0 hs]
  exact amax_nonneg (by omega) _

/-- Each column of the reference's hidden rows is a column of one of the kernel's slabs. -/
theorem hid_at (r : Fin 288) (x : Fin 7168) : H (Fin.ofNat 14 (x.val / 512)) (ix2 r (Fin.ofNat 512 (x.val % 512))) = refH x0 x1 x2 x3 x4 x5 x6 x7 (ix2 r x) := by
  have hx := x.isLt
  rw [ofNat_mk (show x.val / 512 < 14 by omega), ofNat_mk (show x.val % 512 < 512 by omega), hH, slab_eq S]
  congr 2
  exact Fin.ext (by change 512 * (x.val / 512) + x.val % 512 = x.val; omega)

/-- The second layers are equal. -/
theorem l2_at (r : Fin 288) (l : Fin 512) : vE H (MX 14) k8 k9 k10 r l = refL2 (refH x0 x1 x2 x3 x4 x5 x6 x7) x8 x9 x10 (ix2 r l) := by
  rw [refL2_apply]
  unfold vE proj
  have e : ∀ x : Fin 7168, vW H (MX 14) (ix2 r x) = code (refH x0 x1 x2 x3 x4 x5 x6 x7 (ix2 r x)) (qinv (amax fun x => refH x0 x1 x2 x3 x4 x5 x6 x7 (ix2 r x))) := by
    intro x
    change code (H (Fin.ofNat 14 (x.val / 512)) (ix2 (Fin.ofNat 288 r.val) (Fin.ofNat 512 (x.val % 512)))) (qinv (kM (MX 14) (Fin.ofNat 288 r.val))) = _
    rw [ofNat_mk r.isLt, hid_at S H MX hH h0 hs, rowmax_eq S H MX hH h0 hs]
  simp only [e, rowmax_eq S H MX hH h0 hs, S.h8, S.h9, S.h10]

omit S hH h0 hs in
/-- Row `j` of sample `b`, as the two programs number it. -/
theorem row_mk (b : Fin 4) (j : Fin 72) : Fin.ofNat 288 (72 * b.val + j.val) = ⟨b.val * 72 + j.val, by omega⟩ :=
  Fin.ext (by change (72 * b.val + j.val) % 288 = b.val * 72 + j.val; omega)

/-- The first result: the second layer's codes. -/
theorem res0 : vD (vE H (MX 14) k8 k9 k10) = ReferenceIdeal.Gen.out0_11 x0 x1 x2 x3 x4 x5 x6 x7 x8 x9 x10 := by
  funext y
  obtain ⟨b, j, l, rfl⟩ : ∃ (b : Fin 4) (j : Fin 72) (l : Fin 512), y = ix3 b j l := ⟨_, _, _, eq_ix3 (n0 := 4) (n1 := 72) (n2 := 512) y⟩
  rw [out11_apply]
  change code (vE H (MX 14) k8 k9 k10 (Fin.ofNat 288 (72 * b.val + j.val)) (Fin.ofNat 512 l.val)) (qinv (amax (vE H (MX 14) k8 k9 k10 (Fin.ofNat 288 (72 * b.val + j.val))))) = _
  have ea : (vE H (MX 14) k8 k9 k10 (Fin.ofNat 288 (72 * b.val + j.val))) = fun x => refL2 (refH x0 x1 x2 x3 x4 x5 x6 x7) x8 x9 x10 (ix2 ⟨b.val * 72 + j.val, by omega⟩ x) := by
    funext x
    rw [row_mk, l2_at S H MX hH h0 hs]
  rw [ea, ofNat_mk l.isLt]

/-- The second result: the second layer's scales. -/
theorem res1 : (vS fun r => amax (vE H (MX 14) k8 k9 k10 r)) = ReferenceIdeal.Gen.out0_12 x0 x1 x2 x3 x4 x5 x6 x7 x8 x9 x10 := by
  funext y
  obtain ⟨b, z, j, rfl⟩ : ∃ (b : Fin 4) (z : Fin 1) (j : Fin 72), y = ix3 b z j := ⟨_, _, _, eq_ix3 (n0 := 4) (n1 := 1) (n2 := 72) y⟩
  rw [out12_apply]
  change qscale (amax (vE H (MX 14) k8 k9 k10 (Fin.ofNat 288 (72 * b.val + j.val)))) = _
  have ea : (vE H (MX 14) k8 k9 k10 (Fin.ofNat 288 (72 * b.val + j.val))) = fun x => refL2 (refH x0 x1 x2 x3 x4 x5 x6 x7) x8 x9 x10 (ix2 ⟨b.val * 72 + j.val, by omega⟩ x) := by
    funext x
    rw [row_mk, l2_at S H MX hH h0 hs]
  rw [ea]

/-- The third result: the hidden codes. -/
theorem res2 : vC H (MX 14) = ReferenceIdeal.Gen.out0_13 x0 x1 x2 x3 x4 x5 x6 x7 x8 x9 x10 := by
  funext y
  obtain ⟨b, j, l, rfl⟩ : ∃ (b : Fin 4) (j : Fin 72) (l : Fin 7168), y = ix3 b j l := ⟨_, _, _, eq_ix3 (n0 := 4) (n1 := 72) (n2 := 7168) y⟩
  rw [out13_apply]
  change code (H (Fin.ofNat 14 (l.val / 512)) (ix2 (Fin.ofNat 288 (72 * b.val + j.val)) (Fin.ofNat 512 (l.val % 512)))) (qinv (kM (MX 14) (Fin.ofNat 288 (72 * b.val + j.val)))) = _
  rw [hid_at S H MX hH h0 hs, row_mk, rowmax_eq S H MX hH h0 hs]

/-- The fourth result: the hidden scales. -/
theorem res3 : vS (kM (MX 14)) = ReferenceIdeal.Gen.out0_14 x0 x1 x2 x3 x4 x5 x6 x7 x8 x9 x10 := by
  funext y
  obtain ⟨b, z, j, rfl⟩ : ∃ (b : Fin 4) (z : Fin 1) (j : Fin 72), y = ix3 b z j := ⟨_, _, _, eq_ix3 (n0 := 4) (n1 := 1) (n2 := 72) y⟩
  rw [out14_apply]
  change qscale (kM (MX 14) (Fin.ofNat 288 (72 * b.val + j.val))) = _
  rw [row_mk, rowmax_eq S H MX hH h0 hs]

end

end Cert.Val

end
-- ==== Proof.LastLists.lean ====
module

public import proofs.«01_k».proof.Proof.LastArr

/-! What the last point writes to the four output windows, as the lists of pieces of `LastArr`. -/

@[expose] public section

set_option maxRecDepth 16384

noncomputable section

namespace Cert.KernelIdeal.Hand

open Idealize.ShloMosaic Idealize.ShloMosaic.TcCoe Idealize.ShloMosaic.Tactic
open Cert.KernelIdeal.Gen
open Cert.Val

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)

/-- The hidden scales' window. -/
theorem runLast_scales (h1 : ¬ k0_cond1 i = 1#1) (h2 : k0_cond2 i = 1#1) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (m : FVec Ideal S288x128 .f32) (hm : m = (arg20.view.readCov [(⟨Rect.unit (s := S288x128) ![0, 0] S288x128.size inb_S288x128_S288x128_0_0, mxS (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8)) (arg20.view.readAt (Elt Ideal) (Rect.unit ![0, 0] S288x128.size inb_S288x128_S288x128_0_0).toLoadRect f20)⟩ : View.Piece (Elt Ideal) S288x128 .f32)] (Rect.unit ![0, 0] S288x128.size inb_S288x128_S288x128_0_0).toLoadRect)) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.1 = scList (k0_pay753 m) := by
  subst hm; unfold runLast; rfl

/-- The hidden codes' window. -/
theorem runLast_codes (h1 : ¬ k0_cond1 i = 1#1) (h2 : k0_cond2 i = 1#1) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (m : FVec Ideal S288x128 .f32) (hm : m = (arg20.view.readCov [(⟨Rect.unit (s := S288x128) ![0, 0] S288x128.size inb_S288x128_S288x128_0_0, mxS (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8)) (arg20.view.readAt (Elt Ideal) (Rect.unit ![0, 0] S288x128.size inb_S288x128_S288x128_0_0).toLoadRect f20)⟩ : View.Piece (Elt Ideal) S288x128 .f32)] (Rect.unit ![0, 0] S288x128.size inb_S288x128_S288x128_0_0).toLoadRect)) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.1 = hcList (k0_pay760 (k0_pay754 m)) (fun k b => arg18.view.readAt (Elt Ideal) (Rect.unit (s := S14x288x512) ![k.val, 72 * b.val, 0] S1x72x512.size (hcSrc_inb k b)).toLoadRect (arg18.view.writes (Elt Ideal) f18 (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.1)) := by
  subst hm; unfold runLast; rfl

/-- The second layer's scales' window. -/
theorem runLast_scales2 (h1 : ¬ k0_cond1 i = 1#1) (h2 : k0_cond2 i = 1#1) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (m : FVec Ideal S288x128 .f32) (hm : m = (arg20.view.readCov [(⟨Rect.unit (s := S288x128) ![0, 0] S288x128.size inb_S288x128_S288x128_0_0, mxS (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8)) (arg20.view.readAt (Elt Ideal) (Rect.unit ![0, 0] S288x128.size inb_S288x128_S288x128_0_0).toLoadRect f20)⟩ : View.Piece (Elt Ideal) S288x128 .f32)] (Rect.unit ![0, 0] S288x128.size inb_S288x128_S288x128_0_0).toLoadRect)) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.1 = scList (lay2S m (arg19.view.readCov (hwList (k0_pay754 m) (fun k => arg18.view.readAt (Elt Ideal) (Rect.unit (s := S14x288x512) ![k.val, 0, 0] S1x288x512.size (hwSrc_inb k)).toLoadRect (arg18.view.writes (Elt Ideal) f18 (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.1))) (Rect.unit ![0, 0] S288x7168.size inb_S288x7168_S288x7168_0_0).toLoadRect) (arg9.view.readAt (Elt Ideal) (Rect.unit ![0, 0] S7168x512.size inb_S7168x512_S7168x512_0_0).toLoadRect f9) (arg10.view.readAt (Elt Ideal) (Rect.unit ![0, 0] S1x512.size inb_S1x512_S1x512_0_0).toLoadRect f10) (arg11.view.readAt (Elt Ideal) (Rect.unit ![0, 0] S1x512.size inb_S1x512_S1x512_0_0).toLoadRect f11)) := by
  subst hm; unfold runLast; rfl

/-- The second layer's codes' window. -/
theorem runLast_codes2 (h1 : ¬ k0_cond1 i = 1#1) (h2 : k0_cond2 i = 1#1) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (m : FVec Ideal S288x128 .f32) (hm : m = (arg20.view.readCov [(⟨Rect.unit (s := S288x128) ![0, 0] S288x128.size inb_S288x128_S288x128_0_0, mxS (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8)) (arg20.view.readAt (Elt Ideal) (Rect.unit ![0, 0] S288x128.size inb_S288x128_S288x128_0_0).toLoadRect f20)⟩ : View.Piece (Elt Ideal) S288x128 .f32)] (Rect.unit ![0, 0] S288x128.size inb_S288x128_S288x128_0_0).toLoadRect)) :
    (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).1 = ecList (lay2C m (arg19.view.readCov (hwList (k0_pay754 m) (fun k => arg18.view.readAt (Elt Ideal) (Rect.unit (s := S14x288x512) ![k.val, 0, 0] S1x288x512.size (hwSrc_inb k)).toLoadRect (arg18.view.writes (Elt Ideal) f18 (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.1))) (Rect.unit ![0, 0] S288x7168.size inb_S288x7168_S288x7168_0_0).toLoadRect) (arg9.view.readAt (Elt Ideal) (Rect.unit ![0, 0] S7168x512.size inb_S7168x512_S7168x512_0_0).toLoadRect f9) (arg10.view.readAt (Elt Ideal) (Rect.unit ![0, 0] S1x512.size inb_S1x512_S1x512_0_0).toLoadRect f10) (arg11.view.readAt (Elt Ideal) (Rect.unit ![0, 0] S1x512.size inb_S1x512_S1x512_0_0).toLoadRect f11)) := by
  subst hm; unfold runLast; rfl

end Cert.KernelIdeal.Hand

end
-- ==== Proof.ValueStep.lean ====
module

public import proofs.«01_k».proof.Proof.LastLists
public import proofs.«01_k».proof.Proof.LastRead
public import proofs.«01_k».proof.Proof.Gen.KernelIdeal.Frame
public import proofs.«01_k».proof.Proof.Gen.KernelIdeal.Loops
public import proofs.«01_k».proof.Proof.Gen.KernelIdeal.Points

/-! One point of the kernel, from the scratch contents the points before it leave to those it leaves itself. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Val

local notation "𝕄" => MT nD τ sig Unit (Elt Ideal) ℕ (UR sig nD τ) ℕ

/-- What a buffer reads after a store of the whole of it. -/
theorem whole_read (v : View sig .tc .vmem S288x128 .f32) (f : BufTy.Contents (Elt Ideal) v.ty) (w : FVec Ideal S288x128 .f32) (L : List (View.Piece (Elt Ideal) S288x128 .f32)) :
    v.read (Elt Ideal) (v.writes (Elt Ideal) f (⟨Rect.unit ![0, 0] S288x128.size inb_S288x128_S288x128_0_0, w⟩ :: L)) = w := by
  funext y
  obtain ⟨r, l, rfl⟩ : ∃ (r : Fin 288) (l : Fin 128), y = ix2 r l := ⟨_, _, eq_ix2 (n0 := 288) (n1 := 128) y⟩
  have he : (Rect.unit (s := S288x128) ![0, 0] S288x128.size inb_S288x128_S288x128_0_0).emb (ix2 r l) = ix2 r l := by
    funext a
    apply Fin.ext
    match a with
    | ⟨0, _⟩ => change 0 + 1 * r.val = r.val; omega
    | ⟨1, _⟩ => change 0 + 1 * l.val = l.val; omega
  exact (congrArg _ he.symm).trans (View.read_writes_cons_emb _ _ _ _ _ _)

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)
  (D1 : Vec Ideal S4x1152x512 .fp8e4m3) (D2 : Vec Ideal S4x1x1152 .f32) (D3 : Vec Ideal S4x16x512 .fp8e4m3) (D4 : Vec Ideal S4x1x16 .f32) (D5 : Vec Ideal S32x512 .f32) (D6 : Vec Ideal S16384x512 .fp8e4m3) (D7 : Vec Ideal S1x512 .f32) (D8 : Vec Ideal S1x512 .f32) (D9 : Vec Ideal S7168x512 .fp8e4m3) (D10 : Vec Ideal S1x512 .f32) (D11 : Vec Ideal S1x512 .f32)
  (X : FVec Ideal S288x16384 .bf16) (H : Fin 14 → FVec Ideal S288x512 .f32) (MX : ℕ → FVec Ideal S288x128 .f32)
  (O12 : Vec Ideal S4x72x512 .fp8e4m3) (O13 : Vec Ideal S4x1x72 .f32) (O14 : Vec Ideal S4x72x7168 .fp8e4m3) (O15 : Vec Ideal S4x1x72 .f32)

/-- A buffer held at contents of which something is known is held whole at what it reads. -/
theorem keepP {S : Shape} {e : EltTy} (a : Memref sig .tc .vmem S e) (f : BufTy.Contents (Elt Ideal) a.view.ty) (P : (S.Idx → Elt Ideal e) → Prop) (h : P (a.view.read (Elt Ideal) f)) :
    iprop(a.view.loc (c : Thread nD τ) ↦[a.view.set]{fullShare} f) ⊢ (iprop(∃ d, ⌜P d⌝ ∗ ∃ f', ⌜a.view.read (Elt Ideal) f' = d⌝ ∗ (a.view.loc (c : Thread nD τ) ↦[a.view.set]{fullShare} f')) : sProp 𝕄) := by
  iintro H
  iexists _
  isplitr
  · ipureintro; exact h
  iexists f
  isplitr
  · ipureintro; exact rfl
  · iexact H

/-- A buffer held at contents that read a given array. -/
theorem keepD {S : Shape} {e : EltTy} (a : Memref sig .tc .vmem S e) (f : BufTy.Contents (Elt Ideal) a.view.ty) (D : S.Idx → Elt Ideal e) (h : a.view.read (Elt Ideal) f = D) :
    iprop(a.view.loc (c : Thread nD τ) ↦[a.view.set]{fullShare} f) ⊢ (iprop(∃ f', ⌜a.view.read (Elt Ideal) f' = D⌝ ∗ (a.view.loc (c : Thread nD τ) ↦[a.view.set]{fullShare} f')) : sProp 𝕄) := by
  iintro H
  iexists f
  isplitr
  · ipureintro; exact h
  · iexact H

/-- A buffer held at any contents. -/
theorem keepA {S : Shape} {e : EltTy} (a : Memref sig .tc .vmem S e) (f : BufTy.Contents (Elt Ideal) a.view.ty) :
    iprop(a.view.loc (c : Thread nD τ) ↦[a.view.set]{fullShare} f) ⊢ (iprop(∃ d f', ⌜a.view.read (Elt Ideal) f' = d⌝ ∗ (a.view.loc (c : Thread nD τ) ↦[a.view.set]{fullShare} f')) : sProp 𝕄) := by
  iintro H
  iexists _; iexists f
  isplitr
  · ipureintro; exact rfl
  · iexact H

/-- Every buffer of the body before point `n`: the inputs at their blocks, the slabs before `n`, the maxima of those slabs, and after the last point the outputs. -/
def vheld (n : ℕ) : sProp 𝕄 :=
  iprop(owns (c : Thread nD τ) arg1 fullShare D1
    ∗ owns (c : Thread nD τ) arg2 fullShare D2
    ∗ owns (c : Thread nD τ) arg3 fullShare D3
    ∗ owns (c : Thread nD τ) arg4 fullShare D4
    ∗ owns (c : Thread nD τ) arg5 fullShare D5
    ∗ owns (c : Thread nD τ) arg6 fullShare D6
    ∗ owns (c : Thread nD τ) arg7 fullShare D7
    ∗ owns (c : Thread nD τ) arg8 fullShare D8
    ∗ owns (c : Thread nD τ) arg9 fullShare D9
    ∗ owns (c : Thread nD τ) arg10 fullShare D10
    ∗ owns (c : Thread nD τ) arg11 fullShare D11
    ∗ (∃ d, ⌜n = 14 → d = O12⌝ ∗ owns (c : Thread nD τ) arg12 fullShare d)
    ∗ (∃ d, ⌜n = 14 → d = O13⌝ ∗ owns (c : Thread nD τ) arg13 fullShare d)
    ∗ (∃ d, ⌜n = 14 → d = O14⌝ ∗ owns (c : Thread nD τ) arg14 fullShare d)
    ∗ (∃ d, ⌜n = 14 → d = O15⌝ ∗ owns (c : Thread nD τ) arg15 fullShare d)
    ∗ (∃ d, owns (c : Thread nD τ) arg16 fullShare d)
    ∗ (∃ d, ⌜0 < n → d = X⌝ ∗ owns (c : Thread nD τ) arg17 fullShare d)
    ∗ (∃ d, ⌜∀ (k : Fin 14) (r : Fin 288) (l : Fin 512), k.val < n → d (ix3 k r l) = H k (ix2 r l)⌝ ∗ owns (c : Thread nD τ) arg18 fullShare d)
    ∗ (∃ d, owns (c : Thread nD τ) arg19 fullShare d)
    ∗ (∃ d, ⌜0 < n → n < 14 → d = MX n⌝ ∗ owns (c : Thread nD τ) arg20 fullShare d))

/-- The first condition holds at the first point only. -/
theorem cond1_iff : k0_cond1 i = 1#1 ↔ (i 0).val = 0 := by
  unfold k0_cond1; generalize (i 0) = n; revert n; decide

/-- The second condition holds at the last point only. -/
theorem cond2_iff : k0_cond2 i = 1#1 ↔ (i 0).val = 13 := by
  unfold k0_cond2; generalize (i 0) = n; revert n; decide

set_option maxHeartbeats 4000000 in
/-- The first point builds the window matrix, stores the first slab and starts the maxima. -/
theorem step_first (h1 : k0_cond1 i = 1#1) (h2 : ¬ k0_cond2 i = 1#1) (hX : XF D1 D2 D3 D4 D5 = X) (hM0 : MX 0 = k0_pay865 (F := Ideal) k0_pay751) (hH : ∀ k : Fin 14, k.val = (i 0).val → kHid X D6 D7 D8 = H k) (hM : ∀ k : Fin 14, k.val = (i 0).val → MX (k.val + 1) = mxS (H k) (MX k.val)) (K : PUnit → sProp 𝕄) :
    iprop(vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 (i 0).val ∗ (vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 ((i 0).val + 1) -∗ K ⟨⟩))
      ⊢ wp frame (wpE (defs₀ (F := Ideal)) Variants.none c none) Set.univ (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold vheld owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %p12, %f12, %e12, H12⟩, ⟨%d13, %p13, %f13, %e13, H13⟩, ⟨%d14, %p14, %f14, %e14, H14⟩, ⟨%d15, %p15, %f15, %e15, H15⟩, ⟨%d16, %f16, -, H16⟩, ⟨%d17, %p17, %f17, %e17, H17⟩, ⟨%d18, %p18, %f18, %e18, H18⟩, ⟨%d19, %f19, -, H19⟩, ⟨%d20, %p20, %f20, %e20, H20⟩⟩, Hk⟩
  have hlt : (i 0).val < 14 := (i 0).isLt
  have hn0 : (i 0).val = 0 := (cond1_iff i).mp h1
  have hn13 : ¬ (i 0).val = 13 := by omega
  have hk := hH ⟨(i 0).val, hlt⟩ rfl
  have hmx := hM ⟨(i 0).val, hlt⟩ rfl
  have xs := x_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20
  have x17 : ∀ g17, arg17.view.read (Elt Ideal) (arg17.view.writes (Elt Ideal) g17 (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1) = X := by
    intro g17
    rw [← hX, ← e1, ← e2, ← e3, ← e4, ← e5]
    funext y
    exact View.read_writes_apply_of_pieces _ _ _ _ xs.1 y (xs.2 y)
  have c17 : arg17.view.readCov (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1 (Rect.unit ![0, 0] S288x16384.size inb_S288x16384_S288x16384_0_0).toLoadRect = X :=
    (readAt_whole arg17.view inb_S288x16384_S288x16384_0_0 (by decide) _).trans (x17 _)
  have q18 : ∀ (k : Fin 14) (r : Fin 288) (l : Fin 512), k.val < (i 0).val + 1 → arg18.view.read (Elt Ideal) (arg18.view.writes (Elt Ideal) f18 (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.1) (ix3 k r l) = H k (ix2 r l) := by
    intro k r l hkl
    rw [runFirst_slab, slab_read, c17, readAt_whole arg6.view inb_S16384x512_S16384x512_0_0 (by decide) f6, readAt_whole arg7.view inb_S1x512_S1x512_0_0 (by decide) f7, readAt_whole arg8.view inb_S1x512_S1x512_0_0 (by decide) f8, e6, e7, e8, if_pos (by omega), hH k (by omega)]
  have q20 : ∀ g20, arg20.view.read (Elt Ideal) (arg20.view.writes (Elt Ideal) g20 (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.2.1) = MX ((i 0).val + 1) := by
    intro g20
    rw [runFirst_max, c17, readAt_whole arg6.view inb_S16384x512_S16384x512_0_0 (by decide) f6, readAt_whole arg7.view inb_S1x512_S1x512_0_0 (by decide) f7, readAt_whole arg8.view inb_S1x512_S1x512_0_0 (by decide) f8, e6, e7, e8, hk, hmx, whole_read, View.readCov_unit_lit _ _ _ (by decide)]
    dsimp only
    exact congrArg (mxS _) (hM0.symm.trans (congrArg MX hn0.symm))
  iapply ((runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.2.2 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H16]; · iexact H16
  isplitl [H17]; · iexact H17
  isplitl [H18]; · iexact H18
  isplitl [H20]; · iexact H20
  iintro ⟨H1, H2, H3, H4, H5, H6, H7, H8, ⟨%g16, H16⟩, ⟨%g17, H17⟩, H18, ⟨%g20, H20⟩⟩
  iapply Hk
  isplitl [H1]; · iapply (keepD c arg1 f1 D1 e1); iexact H1
  isplitl [H2]; · iapply (keepD c arg2 f2 D2 e2); iexact H2
  isplitl [H3]; · iapply (keepD c arg3 f3 D3 e3); iexact H3
  isplitl [H4]; · iapply (keepD c arg4 f4 D4 e4); iexact H4
  isplitl [H5]; · iapply (keepD c arg5 f5 D5 e5); iexact H5
  isplitl [H6]; · iapply (keepD c arg6 f6 D6 e6); iexact H6
  isplitl [H7]; · iapply (keepD c arg7 f7 D7 e7); iexact H7
  isplitl [H8]; · iapply (keepD c arg8 f8 D8 e8); iexact H8
  isplitl [H9]; · iapply (keepD c arg9 f9 D9 e9); iexact H9
  isplitl [H10]; · iapply (keepD c arg10 f10 D10 e10); iexact H10
  isplitl [H11]; · iapply (keepD c arg11 f11 D11 e11); iexact H11
  isplitl [H12]; · iapply (keepP c arg12 (_) (fun d => (i 0).val + 1 = 14 → d = O12) (fun h => absurd h (by omega))); iexact H12
  isplitl [H13]; · iapply (keepP c arg13 (_) (fun d => (i 0).val + 1 = 14 → d = O13) (fun h => absurd h (by omega))); iexact H13
  isplitl [H14]; · iapply (keepP c arg14 (_) (fun d => (i 0).val + 1 = 14 → d = O14) (fun h => absurd h (by omega))); iexact H14
  isplitl [H15]; · iapply (keepP c arg15 (_) (fun d => (i 0).val + 1 = 14 → d = O15) (fun h => absurd h (by omega))); iexact H15
  isplitl [H16]; · iapply (keepA c arg16 _); iexact H16
  isplitl [H17]; · iapply (keepP c arg17 (arg17.view.writes (Elt Ideal) g17 (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).1) (fun d => 0 < (i 0).val + 1 → d = X) (fun _ => x17 _)); iexact H17
  isplitl [H18]; · iapply (keepP c arg18 (_) (fun d => ∀ (k : Fin 14) (r : Fin 288) (l : Fin 512), k.val < (i 0).val + 1 → d (ix3 k r l) = H k (ix2 r l)) (q18)); iexact H18
  isplitl [H19]; · iapply (keepA c arg19 _); iexact H19
  iapply (keepP c arg20 (arg20.view.writes (Elt Ideal) g20 (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f1 f2 f3 f4 f5 f6 f7 f8 f16 f17 f18 f20).2.2.1) (fun d => 0 < (i 0).val + 1 → (i 0).val + 1 < 14 → d = MX ((i 0).val + 1)) (fun _ _ => q20 _)); iexact H20

set_option maxHeartbeats 4000000 in
/-- A point between stores its slab and renews the maxima. -/
theorem step_mid (h1 : ¬ k0_cond1 i = 1#1) (h2 : ¬ k0_cond2 i = 1#1) (hH : ∀ k : Fin 14, k.val = (i 0).val → kHid X D6 D7 D8 = H k) (hM : ∀ k : Fin 14, k.val = (i 0).val → MX (k.val + 1) = mxS (H k) (MX k.val)) (K : PUnit → sProp 𝕄) :
    iprop(vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 (i 0).val ∗ (vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 ((i 0).val + 1) -∗ K ⟨⟩))
      ⊢ wp frame (wpE (defs₀ (F := Ideal)) Variants.none c none) Set.univ (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold vheld owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %p12, %f12, %e12, H12⟩, ⟨%d13, %p13, %f13, %e13, H13⟩, ⟨%d14, %p14, %f14, %e14, H14⟩, ⟨%d15, %p15, %f15, %e15, H15⟩, ⟨%d16, %f16, -, H16⟩, ⟨%d17, %p17, %f17, %e17, H17⟩, ⟨%d18, %p18, %f18, %e18, H18⟩, ⟨%d19, %f19, -, H19⟩, ⟨%d20, %p20, %f20, %e20, H20⟩⟩, Hk⟩
  have hlt : (i 0).val < 14 := (i 0).isLt
  have hn0 : ¬ (i 0).val = 0 := fun h => h1 ((cond1_iff i).mpr h)
  have hn13 : ¬ (i 0).val = 13 := fun h => h2 ((cond2_iff i).mpr h)
  have x17 : arg17.view.read (Elt Ideal) f17 = X := e17.trans (p17 (by omega))
  have x20 : arg20.view.read (Elt Ideal) f20 = MX (i 0).val := e20.trans (p20 (by omega) (by omega))
  have hk := hH ⟨(i 0).val, hlt⟩ rfl
  have hmx := hM ⟨(i 0).val, hlt⟩ rfl
  have q18 : ∀ (k : Fin 14) (r : Fin 288) (l : Fin 512), k.val < (i 0).val + 1 → arg18.view.read (Elt Ideal) (arg18.view.writes (Elt Ideal) f18 (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).1) (ix3 k r l) = H k (ix2 r l) := by
    intro k r l hkl
    rw [runMid_slab, slab_read, readAt_whole arg17.view inb_S288x16384_S288x16384_0_0 (by decide) f17, readAt_whole arg6.view inb_S16384x512_S16384x512_0_0 (by decide) f6, readAt_whole arg7.view inb_S1x512_S1x512_0_0 (by decide) f7, readAt_whole arg8.view inb_S1x512_S1x512_0_0 (by decide) f8, x17, e6, e7, e8]
    split
    · next h => rw [hH k h]
    · next h => rw [e18]; exact p18 k r l (by omega)
  have q20 : arg20.view.read (Elt Ideal) (arg20.view.writes (Elt Ideal) arg20.view.junk (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).2.1) = MX ((i 0).val + 1) := by
    rw [runMid_max, readAt_whole arg17.view inb_S288x16384_S288x16384_0_0 (by decide) f17, readAt_whole arg6.view inb_S16384x512_S16384x512_0_0 (by decide) f6, readAt_whole arg7.view inb_S1x512_S1x512_0_0 (by decide) f7, readAt_whole arg8.view inb_S1x512_S1x512_0_0 (by decide) f8, readAt_whole arg20.view inb_S288x128_S288x128_0_0 (by decide) f20, x17, x20, e6, e7, e8, hk, hmx, whole_read]
  iapply ((runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).2.2 Set.univ K)
  isplitl [H6]; · iexact H6
  isplitl [H7]; · iexact H7
  isplitl [H8]; · iexact H8
  isplitl [H17]; · iexact H17
  isplitl [H18]; · iexact H18
  isplitl [H20]; · iexact H20
  iintro ⟨H6, H7, H8, H17, H18, H20⟩
  iapply Hk
  isplitl [H1]; · iapply (keepD c arg1 f1 D1 e1); iexact H1
  isplitl [H2]; · iapply (keepD c arg2 f2 D2 e2); iexact H2
  isplitl [H3]; · iapply (keepD c arg3 f3 D3 e3); iexact H3
  isplitl [H4]; · iapply (keepD c arg4 f4 D4 e4); iexact H4
  isplitl [H5]; · iapply (keepD c arg5 f5 D5 e5); iexact H5
  isplitl [H6]; · iapply (keepD c arg6 f6 D6 e6); iexact H6
  isplitl [H7]; · iapply (keepD c arg7 f7 D7 e7); iexact H7
  isplitl [H8]; · iapply (keepD c arg8 f8 D8 e8); iexact H8
  isplitl [H9]; · iapply (keepD c arg9 f9 D9 e9); iexact H9
  isplitl [H10]; · iapply (keepD c arg10 f10 D10 e10); iexact H10
  isplitl [H11]; · iapply (keepD c arg11 f11 D11 e11); iexact H11
  isplitl [H12]; · iapply (keepP c arg12 (_) (fun d => (i 0).val + 1 = 14 → d = O12) (fun h => absurd h (by omega))); iexact H12
  isplitl [H13]; · iapply (keepP c arg13 (_) (fun d => (i 0).val + 1 = 14 → d = O13) (fun h => absurd h (by omega))); iexact H13
  isplitl [H14]; · iapply (keepP c arg14 (_) (fun d => (i 0).val + 1 = 14 → d = O14) (fun h => absurd h (by omega))); iexact H14
  isplitl [H15]; · iapply (keepP c arg15 (_) (fun d => (i 0).val + 1 = 14 → d = O15) (fun h => absurd h (by omega))); iexact H15
  isplitl [H16]; · iapply (keepA c arg16 _); iexact H16
  isplitl [H17]; · iapply (keepP c arg17 (_) (fun d => 0 < (i 0).val + 1 → d = X) (fun _ => x17)); iexact H17
  isplitl [H18]; · iapply (keepP c arg18 (_) (fun d => ∀ (k : Fin 14) (r : Fin 288) (l : Fin 512), k.val < (i 0).val + 1 → d (ix3 k r l) = H k (ix2 r l)) (q18)); iexact H18
  isplitl [H19]; · iapply (keepA c arg19 _); iexact H19
  iapply (keepP c arg20 (arg20.view.writes (Elt Ideal) arg20.view.junk (runMid (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f17 f18 f20).2.1) (fun d => 0 < (i 0).val + 1 → (i 0).val + 1 < 14 → d = MX ((i 0).val + 1)) (fun _ _ => q20)); iexact H20

set_option maxHeartbeats 4000000 in
/-- The last point stores the last slab and the four outputs. -/
theorem step_last (h1 : ¬ k0_cond1 i = 1#1) (h2 : k0_cond2 i = 1#1) (hH : ∀ k : Fin 14, k.val = (i 0).val → kHid X D6 D7 D8 = H k) (hM : ∀ k : Fin 14, k.val = (i 0).val → MX (k.val + 1) = mxS (H k) (MX k.val)) (hpos : ∀ r, 0 ≤ kM (MX 14) r) (hO12 : O12 = vD (vE H (MX 14) D9 D10 D11)) (hO13 : O13 = vS fun r => amax (vE H (MX 14) D9 D10 D11 r)) (hO14 : O14 = vC H (MX 14)) (hO15 : O15 = vS (kM (MX 14))) (K : PUnit → sProp 𝕄) :
    iprop(vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 (i 0).val ∗ (vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 ((i 0).val + 1) -∗ K ⟨⟩))
      ⊢ wp frame (wpE (defs₀ (F := Ideal)) Variants.none c none) Set.univ (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold vheld owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %p12, %f12, %e12, H12⟩, ⟨%d13, %p13, %f13, %e13, H13⟩, ⟨%d14, %p14, %f14, %e14, H14⟩, ⟨%d15, %p15, %f15, %e15, H15⟩, ⟨%d16, %f16, -, H16⟩, ⟨%d17, %p17, %f17, %e17, H17⟩, ⟨%d18, %p18, %f18, %e18, H18⟩, ⟨%d19, %f19, -, H19⟩, ⟨%d20, %p20, %f20, %e20, H20⟩⟩, Hk⟩
  have hlt : (i 0).val < 14 := (i 0).isLt
  have hn13 : (i 0).val = 13 := (cond2_iff i).mp h2
  have x17 : arg17.view.read (Elt Ideal) f17 = X := e17.trans (p17 (by omega))
  have x20 : arg20.view.read (Elt Ideal) f20 = MX (i 0).val := e20.trans (p20 (by omega) (by omega))
  have hk := hH ⟨(i 0).val, hlt⟩ rfl
  have hmx := hM ⟨(i 0).val, hlt⟩ rfl
  have q18 : ∀ (k : Fin 14) (r : Fin 288) (l : Fin 512), arg18.view.read (Elt Ideal) (arg18.view.writes (Elt Ideal) f18 (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.1) (ix3 k r l) = H k (ix2 r l) := by
    intro k r l
    rw [runLast_slab, slab_read, readAt_whole arg17.view inb_S288x16384_S288x16384_0_0 (by decide) f17, readAt_whole arg6.view inb_S16384x512_S16384x512_0_0 (by decide) f6, readAt_whole arg7.view inb_S1x512_S1x512_0_0 (by decide) f7, readAt_whole arg8.view inb_S1x512_S1x512_0_0 (by decide) f8, x17, e6, e7, e8]
    split
    · next h => rw [hH k h]
    · next h => rw [e18]; exact p18 k r l (by omega)
  have hm : MX 14 = arg20.view.readCov [(⟨Rect.unit (s := S288x128) ![0, 0] S288x128.size inb_S288x128_S288x128_0_0, mxS (kHid (arg17.view.readAt (Elt Ideal) (Rect.unit ![0, 0] S288x16384.size inb_S288x16384_S288x16384_0_0).toLoadRect f17) (arg6.view.readAt (Elt Ideal) (Rect.unit ![0, 0] S16384x512.size inb_S16384x512_S16384x512_0_0).toLoadRect f6) (arg7.view.readAt (Elt Ideal) (Rect.unit ![0, 0] S1x512.size inb_S1x512_S1x512_0_0).toLoadRect f7) (arg8.view.readAt (Elt Ideal) (Rect.unit ![0, 0] S1x512.size inb_S1x512_S1x512_0_0).toLoadRect f8)) (arg20.view.readAt (Elt Ideal) (Rect.unit ![0, 0] S288x128.size inb_S288x128_S288x128_0_0).toLoadRect f20)⟩ : View.Piece (Elt Ideal) S288x128 .f32)] (Rect.unit ![0, 0] S288x128.size inb_S288x128_S288x128_0_0).toLoadRect := by
    rw [View.readCov_unit_lit _ _ _ (by decide), readAt_whole arg17.view inb_S288x16384_S288x16384_0_0 (by decide) f17, readAt_whole arg6.view inb_S16384x512_S16384x512_0_0 (by decide) f6, readAt_whole arg7.view inb_S1x512_S1x512_0_0 (by decide) f7, readAt_whole arg8.view inb_S1x512_S1x512_0_0 (by decide) f8, readAt_whole arg20.view inb_S288x128_S288x128_0_0 (by decide) f20, x17, x20, e6, e7, e8, hk, ← hmx]
    dsimp only
    rw [hn13]
  have q15 : ∀ g, arg15.view.read (Elt Ideal) (arg15.view.writes (Elt Ideal) g (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.1) = O15 := by
    intro g
    rw [runLast_scales c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20 (MX 14) hm, hO15]
    exact sc_read _ _ _ _ fun r l => pay753_apply _ r (hpos r) l
  have q14 : ∀ g, arg14.view.read (Elt Ideal) (arg14.view.writes (Elt Ideal) g (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.1) = O14 := by
    intro g
    rw [runLast_codes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20 (MX 14) hm, hO14]
    refine hc_read _ _ _ _ _ _ (fun r l => pay760_apply _ r _ (pay754_apply _ r (hpos r)) l) fun k b j l => ?_
    refine (readAt3 (m0 := 1) (m1 := 72) (m2 := 512) arg18.view _ (hcSrc_inb k b) k.val (72 * b.val) 0 rfl _ 0 j l).trans ?_
    rw [q18]
    rw [show Fin.ofNat 14 (k.val + (0 : Fin 1).val) = k from Fin.ext (Nat.mod_eq_of_lt k.isLt), show Fin.ofNat 512 (0 + l.val) = l from Fin.ext (by rw [Fin.val_ofNat, Nat.zero_add, Nat.mod_eq_of_lt l.isLt])]
  have hw : ∀ (T : Fin 14 → FVec Ideal S1x288x512 .f32), (∀ (k : Fin 14) (r : Fin 288) (l : Fin 512), T k (ix3 (0 : Fin 1) r l) = H k (ix2 r l)) →
      arg19.view.readCov (hwList (k0_pay754 (MX 14)) T) (Rect.unit ![0, 0] S288x7168.size inb_S288x7168_S288x7168_0_0).toLoadRect = vW H (MX 14) := fun T hT =>
    (readAt_whole arg19.view inb_S288x7168_S288x7168_0_0 (by decide) _).trans (hw_read _ _ H (MX 14) _ T (fun r l => pay754_apply _ r (hpos r) l) hT)
  have hT : ∀ (k : Fin 14) (r : Fin 288) (l : Fin 512), arg18.view.readAt (Elt Ideal) (Rect.unit (s := S14x288x512) ![k.val, 0, 0] S1x288x512.size (hwSrc_inb k)).toLoadRect (arg18.view.writes (Elt Ideal) f18 (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.1) (ix3 (0 : Fin 1) r l) = H k (ix2 r l) := by
    intro k r l
    refine (readAt3 (m0 := 1) (m1 := 288) (m2 := 512) arg18.view _ (hwSrc_inb k) k.val 0 0 rfl _ 0 r l).trans ?_
    rw [q18]
    rw [show Fin.ofNat 14 (k.val + (0 : Fin 1).val) = k from Fin.ext (Nat.mod_eq_of_lt k.isLt), show Fin.ofNat 512 (0 + l.val) = l from Fin.ext (by rw [Fin.val_ofNat, Nat.zero_add, Nat.mod_eq_of_lt l.isLt]),
      show Fin.ofNat 288 (0 + r.val) = r from Fin.ext (by rw [Fin.val_ofNat, Nat.zero_add, Nat.mod_eq_of_lt r.isLt])]
  have hE : ∀ r, (fun x => k0_pay850 (F := Ideal) (k0_pay753 (MX 14)) (vW H (MX 14)) D9 D10 D11 (ix2 r x)) = vE H (MX 14) D9 D10 D11 r := fun r => funext fun x =>
    pay850_apply _ _ _ _ _ r _ (pay753_apply _ r (hpos r)) x
  have q13 : ∀ g, arg13.view.read (Elt Ideal) (arg13.view.writes (Elt Ideal) g (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.1) = O13 := by
    intro g
    rw [runLast_scales2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20 (MX 14) hm, hw _ hT, readAt_whole arg9.view inb_S7168x512_S7168x512_0_0 (by decide) f9, readAt_whole arg10.view inb_S1x512_S1x512_0_0 (by decide) f10, readAt_whole arg11.view inb_S1x512_S1x512_0_0 (by decide) f11, e9, e10, e11, hO13]
    refine sc_read _ _ _ _ fun r l => (pay855_apply _ _ _ _ _ r l).trans ?_
    rw [hE r]
  have q12 : ∀ g, arg12.view.read (Elt Ideal) (arg12.view.writes (Elt Ideal) g (runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).1) = O12 := by
    intro g
    rw [runLast_codes2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20 (MX 14) hm, hw _ hT, readAt_whole arg9.view inb_S7168x512_S7168x512_0_0 (by decide) f9, readAt_whole arg10.view inb_S1x512_S1x512_0_0 (by decide) f10, readAt_whole arg11.view inb_S1x512_S1x512_0_0 (by decide) f11, e9, e10, e11, hO12]
    refine ec_read _ _ _ _ fun r l => (pay856_apply _ _ _ _ _ _ r l).trans ?_
    rw [hE r]
    exact congrArg (fun q => code q _) (congrFun (hE r) l)
  iapply ((runLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 f6 f7 f8 f9 f10 f11 f12 f13 f14 f15 f17 f18 f19 f20).2.2.2.2.2 Set.univ K)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H17]; · iexact H17
  isplitl [H18]; · iexact H18
  isplitl [H19]; · iexact H19
  isplitl [H20]; · iexact H20
  iintro ⟨H6, H7, H8, H9, H10, H11, ⟨%g12, H12⟩, ⟨%g13, H13⟩, ⟨%g14, H14⟩, ⟨%g15, H15⟩, H17, H18, ⟨%g19, H19⟩, ⟨%g20, H20⟩⟩
  iapply Hk
  isplitl [H1]; · iapply (keepD c arg1 f1 D1 e1); iexact H1
  isplitl [H2]; · iapply (keepD c arg2 f2 D2 e2); iexact H2
  isplitl [H3]; · iapply (keepD c arg3 f3 D3 e3); iexact H3
  isplitl [H4]; · iapply (keepD c arg4 f4 D4 e4); iexact H4
  isplitl [H5]; · iapply (keepD c arg5 f5 D5 e5); iexact H5
  isplitl [H6]; · iapply (keepD c arg6 f6 D6 e6); iexact H6
  isplitl [H7]; · iapply (keepD c arg7 f7 D7 e7); iexact H7
  isplitl [H8]; · iapply (keepD c arg8 f8 D8 e8); iexact H8
  isplitl [H9]; · iapply (keepD c arg9 f9 D9 e9); iexact H9
  isplitl [H10]; · iapply (keepD c arg10 f10 D10 e10); iexact H10
  isplitl [H11]; · iapply (keepD c arg11 f11 D11 e11); iexact H11
  isplitl [H12]; · iapply (keepP c arg12 (_) (fun d => (i 0).val + 1 = 14 → d = O12) (fun _ => q12 _)); iexact H12
  isplitl [H13]; · iapply (keepP c arg13 (_) (fun d => (i 0).val + 1 = 14 → d = O13) (fun _ => q13 _)); iexact H13
  isplitl [H14]; · iapply (keepP c arg14 (_) (fun d => (i 0).val + 1 = 14 → d = O14) (fun _ => q14 _)); iexact H14
  isplitl [H15]; · iapply (keepP c arg15 (_) (fun d => (i 0).val + 1 = 14 → d = O15) (fun _ => q15 _)); iexact H15
  isplitl [H16]; · iapply (keepA c arg16 _); iexact H16
  isplitl [H17]; · iapply (keepP c arg17 (_) (fun d => 0 < (i 0).val + 1 → d = X) (fun _ => x17)); iexact H17
  isplitl [H18]; · iapply (keepP c arg18 (_) (fun d => ∀ (k : Fin 14) (r : Fin 288) (l : Fin 512), k.val < (i 0).val + 1 → d (ix3 k r l) = H k (ix2 r l)) (fun k r l _ => q18 k r l)); iexact H18
  isplitl [H19]; · iapply (keepA c arg19 _); iexact H19
  iapply (keepP c arg20 (_) (fun d => 0 < (i 0).val + 1 → (i 0).val + 1 < 14 → d = MX ((i 0).val + 1)) (fun _ h => absurd h (by omega))); iexact H20

end Cert.KernelIdeal.Hand

end
-- ==== Proof.ValueRun.lean ====
module

public import proofs.«01_k».proof.Proof.ValueStep
public import Idealize.ShloMosaic.Lib.Pipeline.DatRel
public import Idealize.ShloMosaic.Lib.Pipeline.ArrRel
public import proofs.«01_k».proof.Proof.Gen.KernelIdeal.Frame
public import proofs.«01_k».proof.Proof.Gen.KernelIdeal.Loops
public import proofs.«01_k».proof.Proof.Gen.KernelIdeal.Points

/-! The kernel's run with its four output arrays named. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Val

local notation "𝕄" => MT nD τ sig Unit (Elt Ideal) ℕ (UR sig nD τ) ℕ

section Step

variable (c : Dev nD) (i : grid0.Coords)
  (arg1 : Memref sig .tc .vmem S4x1152x512 .fp8e4m3) (harg1 : arg1.IsWhole)
  (arg2 : Memref sig .tc .vmem S4x1x1152 .f32) (harg2 : arg2.IsWhole)
  (arg3 : Memref sig .tc .vmem S4x16x512 .fp8e4m3) (harg3 : arg3.IsWhole)
  (arg4 : Memref sig .tc .vmem S4x1x16 .f32) (harg4 : arg4.IsWhole)
  (arg5 : Memref sig .tc .vmem S32x512 .f32) (harg5 : arg5.IsWhole)
  (arg6 : Memref sig .tc .vmem S16384x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S7168x512 .fp8e4m3) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S4x72x512 .fp8e4m3) (harg12 : arg12.IsWhole)
  (arg13 : Memref sig .tc .vmem S4x1x72 .f32) (harg13 : arg13.IsWhole)
  (arg14 : Memref sig .tc .vmem S4x72x7168 .fp8e4m3) (harg14 : arg14.IsWhole)
  (arg15 : Memref sig .tc .vmem S4x1x72 .f32) (harg15 : arg15.IsWhole)
  (arg16 : Memref sig .tc .vmem S4x4672x128 .f32) (harg16 : arg16.IsWhole)
  (arg17 : Memref sig .tc .vmem S288x16384 .bf16) (harg17 : arg17.IsWhole)
  (arg18 : Memref sig .tc .vmem S14x288x512 .f32) (harg18 : arg18.IsWhole)
  (arg19 : Memref sig .tc .vmem S288x7168 .fp8e4m3) (harg19 : arg19.IsWhole)
  (arg20 : Memref sig .tc .vmem S288x128 .f32) (harg20 : arg20.IsWhole)
  (D1 : Vec Ideal S4x1152x512 .fp8e4m3) (D2 : Vec Ideal S4x1x1152 .f32) (D3 : Vec Ideal S4x16x512 .fp8e4m3) (D4 : Vec Ideal S4x1x16 .f32) (D5 : Vec Ideal S32x512 .f32) (D6 : Vec Ideal S16384x512 .fp8e4m3) (D7 : Vec Ideal S1x512 .f32) (D8 : Vec Ideal S1x512 .f32) (D9 : Vec Ideal S7168x512 .fp8e4m3) (D10 : Vec Ideal S1x512 .f32) (D11 : Vec Ideal S1x512 .f32)
  (X : FVec Ideal S288x16384 .bf16) (H : Fin 14 → FVec Ideal S288x512 .f32) (MX : ℕ → FVec Ideal S288x128 .f32)
  (O12 : Vec Ideal S4x72x512 .fp8e4m3) (O13 : Vec Ideal S4x1x72 .f32) (O14 : Vec Ideal S4x72x7168 .fp8e4m3) (O15 : Vec Ideal S4x1x72 .f32)

/-- A point: from the contents before it to the contents after it. -/
theorem v_step (n : ℕ) (hn : (i 0).val = n) (hX : n = 0 → XF D1 D2 D3 D4 D5 = X) (hM0 : MX 0 = k0_pay865 (F := Ideal) k0_pay751) (hH : ∀ k : Fin 14, k.val = n → kHid X D6 D7 D8 = H k) (hM : ∀ k : Fin 14, k.val = n → MX (k.val + 1) = mxS (H k) (MX k.val)) (hpos : ∀ r, 0 ≤ kM (MX 14) r) (hO12 : n = 13 → O12 = vD (vE H (MX 14) D9 D10 D11)) (hO13 : n = 13 → O13 = vS fun r => amax (vE H (MX 14) D9 D10 D11 r)) (hO14 : O14 = vC H (MX 14)) (hO15 : O15 = vS (kM (MX 14))) (K : PUnit → sProp 𝕄) :
    iprop(vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 n ∗ (vheld c arg1 arg2 arg3 arg4 arg5 arg6 arg7 arg8 arg9 arg10 arg11 arg12 arg13 arg14 arg15 arg16 arg17 arg18 arg19 arg20 D1 D2 D3 D4 D5 D6 D7 D8 D9 D10 D11 X H MX O12 O13 O14 O15 (n + 1) -∗ K ⟨⟩))
      ⊢ wp frame (wpE (defs₀ (F := Ideal)) Variants.none c none) Set.univ (cc0__body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  subst hn
  by_cases h1 : k0_cond1 i = 1#1
  · have h0 := (cond1_iff i).mp h1
    exact step_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 D1 D2 D3 D4 D5 D6 D7 D8 D9 D10 D11 X H MX O12 O13 O14 O15 h1 (fun h => absurd ((cond2_iff i).mp h) (by omega)) (hX h0) hM0 hH hM K
  · by_cases h2 : k0_cond2 i = 1#1
    · have h13 := (cond2_iff i).mp h2
      exact step_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 D1 D2 D3 D4 D5 D6 D7 D8 D9 D10 D11 X H MX O12 O13 O14 O15 h1 h2 hH hM hpos (hO12 h13) (hO13 h13) hO14 hO15 K
    · exact step_mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 D1 D2 D3 D4 D5 D6 D7 D8 D9 D10 D11 X H MX O12 O13 O14 O15 h1 h2 hH hM K

end Step

variable (m : (ℓ : Loc nD τ sig) → Buf (Elt Ideal) ℓ) (ρ : Dev nD → PrngReg)

/-- The grid has fourteen points. -/
theorem cfgN : cfg0.N = 14 := by decide

/-- The grid's point of a number. -/
def pt (k : Fin 14) : Fin cfg0.N := ⟨k.val, by rw [cfgN]; exact k.isLt⟩

/-- The window matrix. -/
def xV (c : Dev nD) : FVec Ideal S288x16384 .bf16 := XF (iblk m c 0 (pt 0)) (iblk m c 1 (pt 0)) (iblk m c 2 (pt 0)) (iblk m c 3 (pt 0)) (iblk m c 4 (pt 0))

/-- The hidden layer's slabs. -/
def hV (c : Dev nD) (k : Fin 14) : FVec Ideal S288x512 .f32 := kHid (xV m c) (iblk m c 5 (pt k)) (iblk m c 6 (pt k)) (iblk m c 7 (pt k))

/-- The running maxima after the first slabs. -/
def mxV (c : Dev nD) : ℕ → FVec Ideal S288x128 .f32
  | 0 => k0_pay865 (F := Ideal) k0_pay751
  | n + 1 => if h : n < 14 then mxS (hV m c ⟨n, h⟩) (mxV c n) else mxV c n

/-- The second layer. -/
def eV (c : Dev nD) : Fin 288 → Fin 512 → EReal := vE (hV m c) (mxV m c 14) (iblk m c 8 (pt 13)) (iblk m c 9 (pt 13)) (iblk m c 10 (pt 13))

/-- The four results. -/
def o12 (c : Dev nD) : Vec Ideal S4x72x512 .fp8e4m3 := vD (eV m c)
/-- The second result: the scales of the second layer. -/
def o13 (c : Dev nD) : Vec Ideal S4x1x72 .f32 := vS fun r => amax (eV m c r)
/-- The third result: the codes of the hidden rows. -/
def o14 (c : Dev nD) : Vec Ideal S4x72x7168 .fp8e4m3 := vC (hV m c) (mxV m c 14)
/-- The fourth result: the scales of the hidden rows. -/
def o15 (c : Dev nD) : Vec Ideal S4x1x72 .f32 := vS (kM (mxV m c 14))

/-- What the points carry in their scratch buffers: before point `n` the window matrix, the slabs before `n`, and their maxima. -/
def vPhi (c : Dev nD) (n : ℕ) : sProp 𝕄 :=
  iprop(((∃ d, owns (c : Thread nD τ) (Memref.whole cc0_scratch0) fullShare d)
      ∗ (∃ d, ⌜0 < n → d = xV m c⌝ ∗ owns (c : Thread nD τ) (Memref.whole cc0_scratch1) fullShare d)
      ∗ (∃ d, ⌜∀ (k : Fin 14) (r : Fin 288) (l : Fin 512), k.val < n → d (ix3 k r l) = hV m c k (ix2 r l)⌝ ∗ owns (c : Thread nD τ) (Memref.whole cc0_scratch2) fullShare d)
      ∗ (∃ d, owns (c : Thread nD τ) (Memref.whole cc0_scratch3) fullShare d)
      ∗ (∃ d, ⌜0 < n → n < 14 → d = mxV m c n⌝ ∗ owns (c : Thread nD τ) (Memref.whole cc0_scratch4) fullShare d))
    ∗ (∃ r, prngReg c r))

/-- The pipeline's data: every input window at its block. -/
def vDats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => ((cfg0.win 11).stage (cfg0.slots t 11)).view.read (Elt Ideal) ((cfg0.win 11).stage (cfg0.slots t 11)).view.junk
    | ⟨12, _⟩ => ((cfg0.win 12).stage (cfg0.slots t 12)).view.read (Elt Ideal) ((cfg0.win 12).stage (cfg0.slots t 12)).view.junk
    | ⟨13, _⟩ => ((cfg0.win 13).stage (cfg0.slots t 13)).view.read (Elt Ideal) ((cfg0.win 13).stage (cfg0.slots t 13)).view.junk
    | ⟨14, _⟩ => ((cfg0.win 14).stage (cfg0.slots t 14)).view.read (Elt Ideal) ((cfg0.win 14).stage (cfg0.slots t 14)).view.junk
  Φ n := vPhi m c n.val
  q _ := fullShare
  owed _ := 0

/-- The arrays the windows start from are those in memory. -/
theorem vDats_A (c : Dev nD) (w : Fin cfg0.W) : (vDats m c).A w = V m c (Pipeline.arrRef spec0 w) := by
  dsimp only [vDats]

/-- The windows of which only the last point's contents are stated. -/
def vF (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true

/-- What the last point leaves in them. -/
def vRl (c : Dev nD) (w : Fin cfg0.W) (t : Fin cfg0.N) : ((cfg0.win w).block.Idx → Elt Ideal (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun X => t.val = 13 → X = o12 m c
  | ⟨12, _⟩ => fun X => t.val = 13 → X = o13 m c
  | ⟨13, _⟩ => fun X => t.val = 13 → X = o14 m c
  | ⟨14, _⟩ => fun X => t.val = 13 → X = o15 m c

/-- The scratch buffers and the generator, one by one. -/
theorem vPhi_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d))
      ∗ (∃ r, prngReg c r)) := by
  unfold Pipeline.ΦA; rw [scopedRest0_eq]; simp only [owns_whole]; try rfl

/-- Before the first point the scratch buffers hold anything. -/
theorem v_in (c : Dev nD) : Pipeline.ΦA spec0 c ⊢ vPhi m c 0 := by
  rw [vPhi_eq]; unfold vPhi
  iintro ⟨⟨H16, ⟨%d17, H17⟩, ⟨%d18, H18⟩, H19, ⟨%d20, H20⟩⟩, Hg⟩
  isplitr [Hg]
  · isplitl [H16]; · iexact H16
    isplitl [H17]
    · iexists d17
      isplitr
      · ipureintro; exact fun h => absurd h (by omega)
      · iexact H17
    isplitl [H18]
    · iexists d18
      isplitr
      · ipureintro; exact fun _ _ _ h => absurd h (by omega)
      · iexact H18
    isplitl [H19]; · iexact H19
    iexists d20
    isplitr
    · ipureintro; exact fun h => absurd h (by omega)
    · iexact H20
  iexact Hg

/-- After the last point they are forgotten. -/
theorem v_out (c : Dev nD) (n : ℕ) : vPhi m c n ⊢ Pipeline.ΦA spec0 c := by
  rw [vPhi_eq]; unfold vPhi
  iintro ⟨⟨H16, ⟨%d17, -, H17⟩, ⟨%d18, -, H18⟩, H19, ⟨%d20, -, H20⟩⟩, Hg⟩
  isplitr [Hg]
  · isplitl [H16]; · iexact H16
    isplitl [H17]; · iexists d17; iexact H17
    isplitl [H18]; · iexists d18; iexact H18
    isplitl [H19]; · iexact H19
    iexists d20; iexact H20
  iexact Hg

/-- The coordinate of a point is its number. -/
theorem coord_val : ∀ t : Fin cfg0.N, (grid0.coords t 0).val = t.val :=
  (by decide +kernel : ∀ t : Fin grid0.N, (grid0.coords t 0).val = t.val)

/-- A point's row before it: the inputs at their blocks, the outputs at anything. -/
def vPre (c : Dev nD) (t : Fin cfg0.N) : sProp 𝕄 :=
  iprop((vDats m c).Φ t.castSucc ∗ (vDats m c).owesAt () t.castSucc
    ∗ (∃ d, owns (c : Thread nD τ) (st0_0 t) fullShare ((vDats m c).before 0 t d))
    ∗ (∃ d, owns (c : Thread nD τ) (st0_1 t) fullShare ((vDats m c).before 1 t d))
    ∗ (∃ d, owns (c : Thread nD τ) (st0_2 t) fullShare ((vDats m c).before 2 t d))
    ∗ (∃ d, owns (c : Thread nD τ) (st0_3 t) fullShare ((vDats m c).before 3 t d))
    ∗ (∃ d, owns (c : Thread nD τ) (st0_4 t) fullShare ((vDats m c).before 4 t d))
    ∗ (∃ d, owns (c : Thread nD τ) (st0_5 t) fullShare ((vDats m c).before 5 t d))
    ∗ (∃ d, owns (c : Thread nD τ) (st0_6 t) fullShare ((vDats m c).before 6 t d))
    ∗ (∃ d, owns (c : Thread nD τ) (st0_7 t) fullShare ((vDats m c).before 7 t d))
    ∗ (∃ d, owns (c : Thread nD τ) (st0_8 t) fullShare ((vDats m c).before 8 t d))
    ∗ (∃ d, owns (c : Thread nD τ) (st0_9 t) fullShare ((vDats m c).before 9 t d))
    ∗ (∃ d, owns (c : Thread nD τ) (st0_10 t) fullShare ((vDats m c).before 10 t d))
    ∗ (∃ Y, ⌜((vDats m c).toRRel vF (vRl m c)).Finds 11 t Y⌝ ∗ owns (c : Thread nD τ) (st0_11 t) fullShare Y)
    ∗ (∃ Y, ⌜((vDats m c).toRRel vF (vRl m c)).Finds 12 t Y⌝ ∗ owns (c : Thread nD τ) (st0_12 t) fullShare Y)
    ∗ (∃ Y, ⌜((vDats m c).toRRel vF (vRl m c)).Finds 13 t Y⌝ ∗ owns (c : Thread nD τ) (st0_13 t) fullShare Y)
    ∗ (∃ Y, ⌜((vDats m c).toRRel vF (vRl m c)).Finds 14 t Y⌝ ∗ owns (c : Thread nD τ) (st0_14 t) fullShare Y))

/-- A point's row after it. -/
def vPost (c : Dev nD) (t : Fin cfg0.N) : sProp 𝕄 :=
  iprop((vDats m c).Φ t.succ ∗ (vDats m c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ (∃ X, ⌜vRl m c 11 t X⌝ ∗ owns (c : Thread nD τ) (st0_11 t) fullShare X)
    ∗ (∃ X, ⌜vRl m c 12 t X⌝ ∗ owns (c : Thread nD τ) (st0_12 t) fullShare X)
    ∗ (∃ X, ⌜vRl m c 13 t X⌝ ∗ owns (c : Thread nD τ) (st0_13 t) fullShare X)
    ∗ (∃ X, ⌜vRl m c 14 t X⌝ ∗ owns (c : Thread nD τ) (st0_14 t) fullShare X))

/-- A point is known by its number. -/
theorem pt_of {k : Fin 14} {t : Fin cfg0.N} (h : k.val = t.val) : pt k = t := Fin.ext h

/-- The maxima after one more slab. -/
theorem mxV_step (c : Dev nD) (k : Fin 14) : mxV m c (k.val + 1) = mxS (hV m c k) (mxV m c k.val) := by
  rw [mxV, dif_pos k.isLt]

set_option maxHeartbeats 4000000 in
/-- A point's body keeps what the points carry, and the last one leaves the four results in their windows. -/
theorem v_body (hpos : ∀ c r, 0 ≤ kM (mxV m c 14) r) (c : Dev nD) (t : Fin cfg0.N) :
    vPre m c t ⊢ wp frame (wpE (defs₀ (F := Ideal)) Variants.none c none) Set.univ (bodyAt0 t) (fun _ => vPost m c t) := by
  have b0 : ∀ d, (vDats m c).before 0 t d = iblk m c 0 t := fun d => before0_0_of m (vDats m c) rfl (fun _ => rfl) t d
  have b1 : ∀ d, (vDats m c).before 1 t d = iblk m c 1 t := fun d => before0_1_of m (vDats m c) rfl (fun _ => rfl) t d
  have b2 : ∀ d, (vDats m c).before 2 t d = iblk m c 2 t := fun d => before0_2_of m (vDats m c) rfl (fun _ => rfl) t d
  have b3 : ∀ d, (vDats m c).before 3 t d = iblk m c 3 t := fun d => before0_3_of m (vDats m c) rfl (fun _ => rfl) t d
  have b4 : ∀ d, (vDats m c).before 4 t d = iblk m c 4 t := fun d => before0_4_of m (vDats m c) rfl (fun _ => rfl) t d
  have b5 : ∀ d, (vDats m c).before 5 t d = iblk m c 5 t := fun d => before0_5_of m (vDats m c) rfl (fun _ => rfl) t d
  have b6 : ∀ d, (vDats m c).before 6 t d = iblk m c 6 t := fun d => before0_6_of m (vDats m c) rfl (fun _ => rfl) t d
  have b7 : ∀ d, (vDats m c).before 7 t d = iblk m c 7 t := fun d => before0_7_of m (vDats m c) rfl (fun _ => rfl) t d
  have b8 : ∀ d, (vDats m c).before 8 t d = iblk m c 8 t := fun d => before0_8_of m (vDats m c) rfl (fun _ => rfl) t d
  have b9 : ∀ d, (vDats m c).before 9 t d = iblk m c 9 t := fun d => before0_9_of m (vDats m c) rfl (fun _ => rfl) t d
  have b10 : ∀ d, (vDats m c).before 10 t d = iblk m c 10 t := fun d => before0_10_of m (vDats m c) rfl (fun _ => rfl) t d
  have hX : t.val = 0 → XF (iblk m c 0 t) (iblk m c 1 t) (iblk m c 2 t) (iblk m c 3 t) (iblk m c 4 t) = xV m c := by
    intro h
    have e : pt 0 = t := pt_of h.symm
    unfold xV; rw [e]
  have hH : ∀ k : Fin 14, k.val = t.val → kHid (xV m c) (iblk m c 5 t) (iblk m c 6 t) (iblk m c 7 t) = hV m c k := by
    intro k h
    unfold hV; rw [pt_of h]
  have hO12 : t.val = 13 → o12 m c = vD (vE (hV m c) (mxV m c 14) (iblk m c 8 t) (iblk m c 9 t) (iblk m c 10 t)) := by
    intro h
    have e : pt 13 = t := pt_of h.symm
    unfold o12 eV; rw [e]
  have hO13 : t.val = 13 → o13 m c = vS fun r => amax (vE (hV m c) (mxV m c 14) (iblk m c 8 t) (iblk m c 9 t) (iblk m c 10 t) r) := by
    intro h
    have e : pt 13 = t := pt_of h.symm
    unfold o13 eV; rw [e]
  unfold vPre vPost bodyAt0
  simp only [b0, b1, b2, b3, b4, b5, b6, b7, b8, b9, b10]
  rw [show (vDats m c).Φ t.castSucc = vPhi m c t.val from rfl, show (vDats m c).Φ t.succ = vPhi m c (t.val + 1) from rfl]
  unfold vPhi
  iintro ⟨⟨⟨H16, H17, H18, H19, H20⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, -, H12⟩, ⟨%d13, -, H13⟩, ⟨%d14, -, H14⟩, ⟨%d15, -, H15⟩⟩
  iapply (v_step c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (xV m c) (hV m c) (mxV m c) (o12 m c) (o13 m c) (o14 m c) (o15 m c) t.val (coord_val t) hX rfl hH (fun k _ => mxV_step m c k) (hpos c) hO12 hO13 rfl rfl)
  unfold vheld
  isplitr [Hg Ho]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists d12
      isplitr
      · ipureintro; exact fun h => absurd h (by have := t.isLt; have := cfgN; omega)
      · iexact H12
    isplitl [H13]
    · iexists d13
      isplitr
      · ipureintro; exact fun h => absurd h (by have := t.isLt; have := cfgN; omega)
      · iexact H13
    isplitl [H14]
    · iexists d14
      isplitr
      · ipureintro; exact fun h => absurd h (by have := t.isLt; have := cfgN; omega)
      · iexact H14
    isplitl [H15]
    · iexists d15
      isplitr
      · ipureintro; exact fun h => absurd h (by have := t.isLt; have := cfgN; omega)
      · iexact H15
    isplitl [H16]; · iexact H16
    isplitl [H17]; · iexact H17
    isplitl [H18]; · iexact H18
    isplitl [H19]; · iexact H19
    iexact H20
  iintro ⟨H1, H2, H3, H4, H5, H6, H7, H8, H9, H10, H11, ⟨%d12, %p12, H12⟩, ⟨%d13, %p13, H13⟩, ⟨%d14, %p14, H14⟩, ⟨%d15, %p15, H15⟩, H16, H17, H18, H19, H20⟩
  isplitl [H16 H17 H18 H19 H20 Hg]
  · isplitl [H16 H17 H18 H19 H20]
    · isplitl [H16]; · iexact H16
      isplitl [H17]; · iexact H17
      isplitl [H18]; · iexact H18
      isplitl [H19]; · iexact H19
      iexact H20
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists d12
    isplitr
    · ipureintro; exact fun h => p12 (by omega)
    · iexact H12
  isplitl [H13]
  · iexists d13
    isplitr
    · ipureintro; exact fun h => p13 (by omega)
    · iexact H13
  isplitl [H14]
  · iexists d14
    isplitr
    · ipureintro; exact fun h => p14 (by omega)
    · iexact H14
  iexists d15
  isplitr
  · ipureintro; exact fun h => p15 (by omega)
  · iexact H15

/-- The call of the body at a point is the body at that point's buffers. -/
theorem vbody_row (t : Fin cfg0.N) : defs₀ (F := Ideal) .tc cfg0.body (cfg0.bodyArgs t (cfg0.slots t)) = bodyAt0 t := by
  unfold defs₀; rw [Defs.onTc_tc]

/-- So the body meets what the pipeline asks of it at every point. -/
theorem v_obligation (hpos : ∀ c r, 0 ≤ kM (mxV m c 14) r) (c : Dev nD) :
    Pipeline.BodyObligationRel (vDats m c) (defs₀ (F := Ideal)) Variants.none () Set.univ vF (vRl m c) := fun t => by
  refine triple_restated (v_body m hpos c t) (congrArg (wp frame (wpE (defs₀ (F := Ideal)) Variants.none c none) Set.univ) (vbody_row t).symm) ?_ fun _ => ?_
  · rw [bigSep_W0]; exact .rfl
  · rw [bigSep_W0]; exact .rfl

set_option backward.isDefEq.respectTransparency.types false in
set_option maxHeartbeats 800000 in
/-- The kernel runs to its end with the results' arrays as the last point leaves them. -/
theorem v_run (hpos : ∀ c r, 0 ≤ kM (mxV m c 14) r) : θ_run defs (onTc (τ := τ) (main (F := Ideal))) (s₀ m ρ) (fun r =>
    Pipeline.RDat.FramePost cfg0 (fun c => (vDats m c).toRRel vF (vRl m c)) (V m) r ∧ r.2.sem = fun _ => 0) :=
  Pipeline.RDat.θ_run_frame_track (Q' := _) cfgs (0 : Fin 1) launch0 defs₀ Variants.none (fun c => (vDats m c).toRRel vF (vRl m c)) m ρ main
    (hbody := fun c => (v_obligation m hpos c).toRRel) (hshare := fun c => (vDats m c).share_full fun _ => rfl)
    (howed := fun _ _ => rfl) (V := V m) (hmain := hmain m Variants.none) (hA := vDats_A m)
    (hin := v_in m) (hout := fun c => v_out m c _)

/-- The last point's block of the first result is all of it. -/
theorem whole11 : (cfg0.win 11).WholeAt (pt 13) := by decide +kernel

/-- The array of output window 11 after the run. -/
theorem v_arr11 (r : PUnit × MemSt nD τ sig (Elt Ideal)) (h : Pipeline.RDat.FramePost cfg0 (fun c => (vDats m c).toRRel vF (vRl m c)) (V m) r) (c : Dev nD) :
    r.2.mem ((c.tc : Thread nD τ).loc main_v9_0) = o12 m c := by
  obtain ⟨X, hX, hj⟩ := Pipeline.RDat.ArrAt.emb_eq_of_wholeAt ((h c).1 11) whole11
  have e : X = o12 m c := (vDats m c).toRRel_leaves rfl hX rfl
  rw [← e]
  funext j
  exact hj j

/-- The last point's block of the second result is all of it. -/
theorem whole12 : (cfg0.win 12).WholeAt (pt 13) := by decide +kernel

/-- The array of output window 12 after the run. -/
theorem v_arr12 (r : PUnit × MemSt nD τ sig (Elt Ideal)) (h : Pipeline.RDat.FramePost cfg0 (fun c => (vDats m c).toRRel vF (vRl m c)) (V m) r) (c : Dev nD) :
    r.2.mem ((c.tc : Thread nD τ).loc main_v9_1) = o13 m c := by
  obtain ⟨X, hX, hj⟩ := Pipeline.RDat.ArrAt.emb_eq_of_wholeAt ((h c).1 12) whole12
  have e : X = o13 m c := (vDats m c).toRRel_leaves rfl hX rfl
  rw [← e]
  funext j
  exact hj j

/-- The last point's block of the third result is all of it. -/
theorem whole13 : (cfg0.win 13).WholeAt (pt 13) := by decide +kernel

/-- The array of output window 13 after the run. -/
theorem v_arr13 (r : PUnit × MemSt nD τ sig (Elt Ideal)) (h : Pipeline.RDat.FramePost cfg0 (fun c => (vDats m c).toRRel vF (vRl m c)) (V m) r) (c : Dev nD) :
    r.2.mem ((c.tc : Thread nD τ).loc main_v9_2) = o14 m c := by
  obtain ⟨X, hX, hj⟩ := Pipeline.RDat.ArrAt.emb_eq_of_wholeAt ((h c).1 13) whole13
  have e : X = o14 m c := (vDats m c).toRRel_leaves rfl hX rfl
  rw [← e]
  funext j
  exact hj j

/-- The last point's block of the fourth result is all of it. -/
theorem whole14 : (cfg0.win 14).WholeAt (pt 13) := by decide +kernel

/-- The array of output window 14 after the run. -/
theorem v_arr14 (r : PUnit × MemSt nD τ sig (Elt Ideal)) (h : Pipeline.RDat.FramePost cfg0 (fun c => (vDats m c).toRRel vF (vRl m c)) (V m) r) (c : Dev nD) :
    r.2.mem ((c.tc : Thread nD τ).loc main_v9_3) = o15 m c := by
  obtain ⟨X, hX, hj⟩ := Pipeline.RDat.ArrAt.emb_eq_of_wholeAt ((h c).1 14) whole14
  have e : X = o15 m c := (vDats m c).toRRel_leaves rfl hX rfl
  rw [← e]
  funext j
  exact hj j

end Cert.KernelIdeal.Hand

end
-- ==== Proof.BlkK.lean ====
module

public import proofs.«01_k».proof.Proof.Gen.KernelIdeal.Frame
public import Idealize.ShloMosaic.Lib.Pipeline.ValueKit.Point

/-! What the kernel's input blocks hold, element by element, of its arguments. -/

@[expose] public section

set_option maxRecDepth 16384

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ) (c : Dev nD) (t : Fin cfg0.N)

/-- Window 0 is at the start of its array at every point. -/
theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

/-- Window 1 is at the start of its array at every point. -/
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

/-- Window 2 is at the start of its array at every point. -/
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

/-- Window 3 is at the start of its array at every point. -/
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

/-- Window 4 is at the start of its array at every point. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Window 5 is at its array's slab of the point's number. -/
theorem idx5 : ∀ t : Fin cfg0.N, win0_5.index t 0 = 0 ∧ win0_5.index t 1 = t.val :=
  (by decide +kernel : ∀ t : Fin grid0.N, win0_5.index t 0 = 0 ∧ win0_5.index t 1 = t.val)

/-- Window 6 is at its array's slab of the point's number. -/
theorem idx6 : ∀ t : Fin cfg0.N, win0_6.index t 0 = 0 ∧ win0_6.index t 1 = t.val :=
  (by decide +kernel : ∀ t : Fin grid0.N, win0_6.index t 0 = 0 ∧ win0_6.index t 1 = t.val)

/-- Window 7 is at its array's slab of the point's number. -/
theorem idx7 : ∀ t : Fin cfg0.N, win0_7.index t 0 = 0 ∧ win0_7.index t 1 = t.val :=
  (by decide +kernel : ∀ t : Fin grid0.N, win0_7.index t 0 = 0 ∧ win0_7.index t 1 = t.val)

/-- Window 8 is at the start of its array at every point. -/
theorem idx8 : ∀ t : Fin cfg0.N, win0_8.index t 0 = 0 ∧ win0_8.index t 1 = 0 :=
  (by decide +kernel : ∀ t : Fin grid0.N, win0_8.index t 0 = 0 ∧ win0_8.index t 1 = 0)

/-- Window 9 is at the start of its array at every point. -/
theorem idx9 : ∀ t : Fin cfg0.N, win0_9.index t 0 = 0 ∧ win0_9.index t 1 = 0 :=
  (by decide +kernel : ∀ t : Fin grid0.N, win0_9.index t 0 = 0 ∧ win0_9.index t 1 = 0)

/-- Window 10 is at the start of its array at every point. -/
theorem idx10 : ∀ t : Fin cfg0.N, win0_10.index t 0 = 0 ∧ win0_10.index t 1 = 0 :=
  (by decide +kernel : ∀ t : Fin grid0.N, win0_10.index t 0 = 0 ∧ win0_10.index t 1 = 0)

/-- One element of the tokens' codes, of argument 0. -/
theorem blk0 (x : Fin 4) (u : Fin 1152) (d : Fin 512) : iblk m c 0 t (ix3 x u d) = m ((c : Thread nD τ).loc main_arg0) (ix4 x u (0 : Fin 1) d) := by
  blk_ext! [iblk, V, idx0 t]

/-- One element of the tokens' scales, of argument 1. -/
theorem blk1 (x : Fin 4) (u : Fin 1152) : iblk m c 1 t (ix3 x (0 : Fin 1) u) = m ((c : Thread nD τ).loc main_arg1) (ix3 x u (0 : Fin 1)) := by
  blk_ext! [iblk, V, idx1 t]

/-- One element of the codes of `prev`, of argument 2. -/
theorem blk2 (x : Fin 4) (u : Fin 16) (d : Fin 512) : iblk m c 2 t (ix3 x u d) = m ((c : Thread nD τ).loc main_arg2) (ix4 x u (0 : Fin 1) d) := by
  blk_ext! [iblk, V, idx2 t]

/-- One element of the scales of `prev`, of argument 3. -/
theorem blk3 (x : Fin 4) (u : Fin 16) : iblk m c 3 t (ix3 x (0 : Fin 1) u) = m ((c : Thread nD τ).loc main_arg3) (ix3 x u (0 : Fin 1)) := by
  blk_ext! [iblk, V, idx3 t]

/-- One element of the position rows, of argument 4. -/
theorem blk4 (u : Fin 32) (d : Fin 512) : iblk m c 4 t (ix2 u d) = m ((c : Thread nD τ).loc main_arg4) (ix2 u d) := by
  blk_ext! [iblk, V, idx4 t]

/-- One element of a point's slab of the first layer's weights, of argument 5. -/
theorem blk5 (s : Fin 16384) (l : Fin 512) (hl : 512 * t.val + l.val < 7168) : iblk m c 5 t (ix2 s l) = m ((c : Thread nD τ).loc main_arg5) (ix3 (⟨s.val / 512, by omega⟩ : Fin 32) (⟨s.val % 512, by omega⟩ : Fin 512) (⟨512 * t.val + l.val, hl⟩ : Fin 7168)) := by
  blk_ext! [iblk, V, idx5 t]

/-- One element of a point's slab of the first layer's column scales, of argument 6. -/
theorem blk6 (l : Fin 512) (hl : 512 * t.val + l.val < 7168) : iblk m c 6 t (ix2 (0 : Fin 1) l) = m ((c : Thread nD τ).loc main_arg6) (ix1 (⟨512 * t.val + l.val, hl⟩ : Fin 7168)) := by
  blk_ext! [iblk, V, idx6 t]

/-- One element of a point's slab of the first layer's bias, of argument 7. -/
theorem blk7 (l : Fin 512) (hl : 512 * t.val + l.val < 7168) : iblk m c 7 t (ix2 (0 : Fin 1) l) = m ((c : Thread nD τ).loc main_arg7) (ix1 (⟨512 * t.val + l.val, hl⟩ : Fin 7168)) := by
  blk_ext! [iblk, V, idx7 t]

/-- One element of the second layer's weights, of argument 8. -/
theorem blk8 (s : Fin 7168) (l : Fin 512) : iblk m c 8 t (ix2 s l) = m ((c : Thread nD τ).loc main_arg8) (ix2 s l) := by
  blk_ext! [iblk, V, idx8 t]

/-- One element of the second layer's column scales, of argument 9. -/
theorem blk9 (l : Fin 512) : iblk m c 9 t (ix2 (0 : Fin 1) l) = m ((c : Thread nD τ).loc main_arg9) (ix1 l) := by
  blk_ext! [iblk, V, idx9 t]

/-- One element of the second layer's bias, of argument 10. -/
theorem blk10 (l : Fin 512) : iblk m c 10 t (ix2 (0 : Fin 1) l) = m ((c : Thread nD τ).loc main_arg10) (ix1 l) := by
  blk_ext! [iblk, V, idx10 t]

end Cert.KernelIdeal.Hand

end
-- ==== Proof.BlkR.lean ====
module

public import proofs.«01_k».proof.Proof.Gen.ReferenceIdeal.Frame
public import Idealize.ShloMosaic.Lib.Pipeline.ValueKit.Point

/-! What the reference's input blocks hold, element by element, of its arguments. -/

@[expose] public section

set_option maxRecDepth 16384

noncomputable section

namespace Cert.ReferenceIdeal.Hand

open Idealize.ShloMosaic Idealize.ShloMosaic.TcCoe
open Cert.ReferenceIdeal Cert.ReferenceIdeal.Gen

variable (m : (ℓ : Loc nD τ sig) → Buf (Elt Ideal) ℓ) (c : Dev nD) (t : Fin cfg0.N)

/-- Window 0 is at the start of its array at every point. -/
theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

/-- Window 1 is at the start of its array at every point. -/
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

/-- Window 2 is at the start of its array at every point. -/
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

/-- Window 3 is at the start of its array at every point. -/
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

/-- Window 4 is at the start of its array at every point. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Window 5 is at the start of its array at every point. -/
theorem idx5 : ∀ t : Fin cfg0.N, win0_5.index t 0 = 0 ∧ win0_5.index t 1 = 0 :=
  (by decide +kernel : ∀ t : Fin grid0.N, win0_5.index t 0 = 0 ∧ win0_5.index t 1 = 0)

/-- Window 6 is at the start of its array at every point. -/
theorem idx6 : ∀ t : Fin cfg0.N, win0_6.index t 0 = 0 ∧ win0_6.index t 1 = 0 :=
  (by decide +kernel : ∀ t : Fin grid0.N, win0_6.index t 0 = 0 ∧ win0_6.index t 1 = 0)

/-- Window 7 is at the start of its array at every point. -/
theorem idx7 : ∀ t : Fin cfg0.N, win0_7.index t 0 = 0 ∧ win0_7.index t 1 = 0 :=
  (by decide +kernel : ∀ t : Fin grid0.N, win0_7.index t 0 = 0 ∧ win0_7.index t 1 = 0)

/-- Window 8 is at the start of its array at every point. -/
theorem idx8 : ∀ t : Fin cfg0.N, win0_8.index t 0 = 0 ∧ win0_8.index t 1 = 0 :=
  (by decide +kernel : ∀ t : Fin grid0.N, win0_8.index t 0 = 0 ∧ win0_8.index t 1 = 0)

/-- Window 9 is at the start of its array at every point. -/
theorem idx9 : ∀ t : Fin cfg0.N, win0_9.index t 0 = 0 ∧ win0_9.index t 1 = 0 :=
  (by decide +kernel : ∀ t : Fin grid0.N, win0_9.index t 0 = 0 ∧ win0_9.index t 1 = 0)

/-- Window 10 is at the start of its array at every point. -/
theorem idx10 : ∀ t : Fin cfg0.N, win0_10.index t 0 = 0 ∧ win0_10.index t 1 = 0 :=
  (by decide +kernel : ∀ t : Fin grid0.N, win0_10.index t 0 = 0 ∧ win0_10.index t 1 = 0)

/-- One element of the tokens' codes, of argument 0. -/
theorem blk0 (x : Fin 4) (u : Fin 1152) (d : Fin 512) : iblk m c 0 t (ix3 x u d) = m ((c : Thread nD τ).loc main_arg0) (ix4 x u (0 : Fin 1) d) := by
  blk_ext! [iblk, V, idx0 t]

/-- One element of the tokens' scales, of argument 1. -/
theorem blk1 (x : Fin 4) (u : Fin 1152) : iblk m c 1 t (ix3 x u (0 : Fin 1)) = m ((c : Thread nD τ).loc main_arg1) (ix3 x u (0 : Fin 1)) := by
  blk_ext! [iblk, V, idx1 t]

/-- One element of the codes of `prev`, of argument 2. -/
theorem blk2 (x : Fin 4) (u : Fin 16) (d : Fin 512) : iblk m c 2 t (ix3 x u d) = m ((c : Thread nD τ).loc main_arg2) (ix4 x u (0 : Fin 1) d) := by
  blk_ext! [iblk, V, idx2 t]

/-- One element of the scales of `prev`, of argument 3. -/
theorem blk3 (x : Fin 4) (u : Fin 16) : iblk m c 3 t (ix3 x u (0 : Fin 1)) = m ((c : Thread nD τ).loc main_arg3) (ix3 x u (0 : Fin 1)) := by
  blk_ext! [iblk, V, idx3 t]

/-- One element of the position rows, of argument 4. -/
theorem blk4 (u : Fin 32) (d : Fin 512) : iblk m c 4 t (ix2 u d) = m ((c : Thread nD τ).loc main_arg4) (ix2 u d) := by
  blk_ext! [iblk, V, idx4 t]

/-- One element of the first layer's weights, of argument 5. -/
theorem blk5 (s : Fin 16384) (l : Fin 7168) : iblk m c 5 t (ix2 s l) = m ((c : Thread nD τ).loc main_arg5) (ix3 (⟨s.val / 512, by omega⟩ : Fin 32) (⟨s.val % 512, by omega⟩ : Fin 512) l) := by
  blk_ext! [iblk, V, idx5 t]

/-- One element of the first layer's column scales, of argument 6. -/
theorem blk6 (l : Fin 7168) : iblk m c 6 t (ix2 (0 : Fin 1) l) = m ((c : Thread nD τ).loc main_arg6) (ix1 l) := by
  blk_ext! [iblk, V, idx6 t]

/-- One element of the first layer's bias, of argument 7. -/
theorem blk7 (l : Fin 7168) : iblk m c 7 t (ix2 (0 : Fin 1) l) = m ((c : Thread nD τ).loc main_arg7) (ix1 l) := by
  blk_ext! [iblk, V, idx7 t]

/-- One element of the second layer's weights, of argument 8. -/
theorem blk8 (s : Fin 7168) (l : Fin 512) : iblk m c 8 t (ix2 s l) = m ((c : Thread nD τ).loc main_arg8) (ix2 s l) := by
  blk_ext! [iblk, V, idx8 t]

/-- One element of the second layer's column scales, of argument 9. -/
theorem blk9 (l : Fin 512) : iblk m c 9 t (ix2 (0 : Fin 1) l) = m ((c : Thread nD τ).loc main_arg9) (ix1 l) := by
  blk_ext! [iblk, V, idx9 t]

/-- One element of the second layer's bias, of argument 10. -/
theorem blk10 (l : Fin 512) : iblk m c 10 t (ix2 (0 : Fin 1) l) = m ((c : Thread nD τ).loc main_arg10) (ix1 l) := by
  blk_ext! [iblk, V, idx10 t]

end Cert.ReferenceIdeal.Hand

end
-- ==== Proof.RefRun.lean ====
module

public import proofs.«01_k».proof.Proof.BlkR
public import proofs.«01_k».proof.Proof.Gen.ReferenceIdeal.Value

/-! The reference's four results, of its input blocks. -/

@[expose] public section

set_option maxRecDepth 16384

noncomputable section

namespace Cert.ReferenceIdeal.Hand

open Idealize.ShloMosaic Idealize.ShloMosaic.TcCoe
open Cert.ReferenceIdeal Cert.ReferenceIdeal.Gen

variable (m : (ℓ : Loc nD τ sig) → Buf (Elt Ideal) ℓ) (c : Dev nD)

/-- The only point. -/
def r0 : Fin cfg0.N := ⟨0, by decide⟩

/-- The array of output window 11 is what the point leaves in it. -/
theorem ref11 : (dats (F := Ideal) m 0 c).arrAt 11 cfg0.N = out0_11 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) := by
  funext j
  refine ((dats (F := Ideal) m 0 c).arrAt_emb_eq_after_last 11 r0 (by decide +kernel) j).trans ?_
  rw [after0_11]
  generalize out0_11 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) = f
  rfl

/-- The array of output window 12 is what the point leaves in it. -/
theorem ref12 : (dats (F := Ideal) m 0 c).arrAt 12 cfg0.N = out0_12 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) := by
  funext j
  refine ((dats (F := Ideal) m 0 c).arrAt_emb_eq_after_last 12 r0 (by decide +kernel) j).trans ?_
  rw [after0_12]
  generalize out0_12 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) = f
  rfl

/-- The array of output window 13 is what the point leaves in it. -/
theorem ref13 : (dats (F := Ideal) m 0 c).arrAt 13 cfg0.N = out0_13 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) := by
  funext j
  refine ((dats (F := Ideal) m 0 c).arrAt_emb_eq_after_last 13 r0 (by decide +kernel) j).trans ?_
  rw [after0_13]
  generalize out0_13 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) = f
  rfl

/-- The array of output window 14 is what the point leaves in it. -/
theorem ref14 : (dats (F := Ideal) m 0 c).arrAt 14 cfg0.N = out0_14 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) := by
  funext j
  refine ((dats (F := Ideal) m 0 c).arrAt_emb_eq_after_last 14 r0 (by decide +kernel) j).trans ?_
  rw [after0_14]
  generalize out0_14 (iblk m c 0 r0) (iblk m c 1 r0) (iblk m c 2 r0) (iblk m c 3 r0) (iblk m c 4 r0) (iblk m c 5 r0) (iblk m c 6 r0) (iblk m c 7 r0) (iblk m c 8 r0) (iblk m c 9 r0) (iblk m c 10 r0) = f
  rfl

end Cert.ReferenceIdeal.Hand

end
-- ==== Proof.ValueAll.lean ====
module

public import proofs.«01_k».proof.Proof.ValueEq
public import proofs.«01_k».proof.Proof.ValueRun
public import proofs.«01_k».proof.Proof.BlkK
public import proofs.«01_k».proof.Proof.RefRun

/-! The value claim: from equal arguments the kernel and the reference end with equal results. -/

@[expose] public section

set_option maxRecDepth 16384

noncomputable section

namespace Cert.Val

open Idealize.ShloMosaic Idealize.ShloMosaic.TcCoe Idealize.SL.Sem
open KernelIdeal.Hand (pt xV hV mxV eV o12 o13 o14 o15)
open ReferenceIdeal.Hand (r0)

variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ) (g' : Dev ReferenceIdeal.nD → PrngReg)

/-- The two memories hold the same arguments. -/
def Agree : Prop := ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)

variable {m m'} (h : Agree m m') (c : Dev KernelIdeal.nD)
include h

/-- So the blocks are the same arrays. -/
theorem same : Same (KernelIdeal.Gen.iblk m c 0 (pt 0)) (KernelIdeal.Gen.iblk m c 1 (pt 0)) (KernelIdeal.Gen.iblk m c 2 (pt 0)) (KernelIdeal.Gen.iblk m c 3 (pt 0)) (KernelIdeal.Gen.iblk m c 4 (pt 0)) (fun k => KernelIdeal.Gen.iblk m c 5 (pt k)) (fun k => KernelIdeal.Gen.iblk m c 6 (pt k)) (fun k => KernelIdeal.Gen.iblk m c 7 (pt k)) (KernelIdeal.Gen.iblk m c 8 (pt 13)) (KernelIdeal.Gen.iblk m c 9 (pt 13)) (KernelIdeal.Gen.iblk m c 10 (pt 13))
    (ReferenceIdeal.Gen.iblk m' c 0 r0) (ReferenceIdeal.Gen.iblk m' c 1 r0) (ReferenceIdeal.Gen.iblk m' c 2 r0) (ReferenceIdeal.Gen.iblk m' c 3 r0) (ReferenceIdeal.Gen.iblk m' c 4 r0) (ReferenceIdeal.Gen.iblk m' c 5 r0) (ReferenceIdeal.Gen.iblk m' c 6 r0) (ReferenceIdeal.Gen.iblk m' c 7 r0) (ReferenceIdeal.Gen.iblk m' c 8 r0) (ReferenceIdeal.Gen.iblk m' c 9 r0) (ReferenceIdeal.Gen.iblk m' c 10 r0) := by
  obtain ⟨a0, a1, a2, a3, a4, a5, a6, a7, a8, a9, a10⟩ := h c
  exact {
    h0 := fun x u d => (KernelIdeal.Hand.blk0 m c (pt 0) x u d).trans ((congrFun a0 _).symm.trans (ReferenceIdeal.Hand.blk0 m' c r0 x u d).symm)
    h1 := fun x u => (KernelIdeal.Hand.blk1 m c (pt 0) x u).trans ((congrFun a1 _).symm.trans (ReferenceIdeal.Hand.blk1 m' c r0 x u).symm)
    h2 := fun x u d => (KernelIdeal.Hand.blk2 m c (pt 0) x u d).trans ((congrFun a2 _).symm.trans (ReferenceIdeal.Hand.blk2 m' c r0 x u d).symm)
    h3 := fun x u => (KernelIdeal.Hand.blk3 m c (pt 0) x u).trans ((congrFun a3 _).symm.trans (ReferenceIdeal.Hand.blk3 m' c r0 x u).symm)
    h4 := fun u d => (KernelIdeal.Hand.blk4 m c (pt 0) u d).trans ((congrFun a4 _).symm.trans (ReferenceIdeal.Hand.blk4 m' c r0 u d).symm)
    h5 := fun k s l => (KernelIdeal.Hand.blk5 m c (pt k) s l (by have := k.isLt; have := l.isLt; change 512 * k.val + l.val < 7168; omega)).trans ((congrFun a5 _).symm.trans (ReferenceIdeal.Hand.blk5 m' c r0 s ⟨512 * k.val + l.val, by omega⟩).symm)
    h6 := fun k l => (KernelIdeal.Hand.blk6 m c (pt k) l (by have := k.isLt; have := l.isLt; change 512 * k.val + l.val < 7168; omega)).trans ((congrFun a6 _).symm.trans (ReferenceIdeal.Hand.blk6 m' c r0 ⟨512 * k.val + l.val, by omega⟩).symm)
    h7 := fun k l => (KernelIdeal.Hand.blk7 m c (pt k) l (by have := k.isLt; have := l.isLt; change 512 * k.val + l.val < 7168; omega)).trans ((congrFun a7 _).symm.trans (ReferenceIdeal.Hand.blk7 m' c r0 ⟨512 * k.val + l.val, by omega⟩).symm)
    h8 := fun s l => (KernelIdeal.Hand.blk8 m c (pt 13) s l).trans ((congrFun a8 _).symm.trans (ReferenceIdeal.Hand.blk8 m' c r0 s l).symm)
    h9 := fun l => (KernelIdeal.Hand.blk9 m c (pt 13) l).trans ((congrFun a9 _).symm.trans (ReferenceIdeal.Hand.blk9 m' c r0 l).symm)
    h10 := fun l => (KernelIdeal.Hand.blk10 m c (pt 13) l).trans ((congrFun a10 _).symm.trans (ReferenceIdeal.Hand.blk10 m' c r0 l).symm) }

/-- The greatest value of each hidden row is not negative. -/
theorem mx_nonneg (r : Fin 288) : 0 ≤ KernelIdeal.Hand.kM (mxV m c 14) r :=
  rowmax_nonneg (same h c) (hV m c) (mxV m c) (fun _ => rfl) rfl (fun k => KernelIdeal.Hand.mxV_step m c k) r

/-- The first result is the reference's. -/
theorem out0_eq : o12 m c = (ReferenceIdeal.Gen.dats (F := Ideal) m' 0 c).arrAt 11 ReferenceIdeal.cfg0.N :=
  (res0 (same h c) (hV m c) (mxV m c) (fun _ => rfl) rfl (fun k => KernelIdeal.Hand.mxV_step m c k)).trans (ReferenceIdeal.Hand.ref11 m' c).symm

/-- The second result is the reference's. -/
theorem out1_eq : o13 m c = (ReferenceIdeal.Gen.dats (F := Ideal) m' 0 c).arrAt 12 ReferenceIdeal.cfg0.N :=
  (res1 (same h c) (hV m c) (mxV m c) (fun _ => rfl) rfl (fun k => KernelIdeal.Hand.mxV_step m c k)).trans (ReferenceIdeal.Hand.ref12 m' c).symm

/-- The third result is the reference's. -/
theorem out2_eq : o14 m c = (ReferenceIdeal.Gen.dats (F := Ideal) m' 0 c).arrAt 13 ReferenceIdeal.cfg0.N :=
  (res2 (same h c) (hV m c) (mxV m c) (fun _ => rfl) rfl (fun k => KernelIdeal.Hand.mxV_step m c k)).trans (ReferenceIdeal.Hand.ref13 m' c).symm

/-- The fourth result is the reference's. -/
theorem out3_eq : o15 m c = (ReferenceIdeal.Gen.dats (F := Ideal) m' 0 c).arrAt 14 ReferenceIdeal.cfg0.N :=
  (res3 (same h c) (hV m c) (mxV m c) (fun _ => rfl) rfl (fun k => KernelIdeal.Hand.mxV_step m c k)).trans (ReferenceIdeal.Hand.ref14 m' c).symm

/-- The kernel ends with the named results. -/
theorem kernel_ends : θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v9_0) = o12 m c
      ∧ r.2.mem ((c.tc : Thread KernelIdeal.nD KernelIdeal.τ).loc KernelIdeal.main_v9_1) = o13 m c
      ∧ r.2.mem ((c.tc : Thread KernelIdeal.nD KernelIdeal.τ).loc KernelIdeal.main_v9_2) = o14 m c
      ∧ r.2.mem ((c.tc : Thread KernelIdeal.nD KernelIdeal.τ).loc KernelIdeal.main_v9_3) = o15 m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)
      ∧ r.2.mem ((c.tc : Thread KernelIdeal.nD KernelIdeal.τ).loc KernelIdeal.main_arg9) = m ((c.tc : Thread KernelIdeal.nD KernelIdeal.τ).loc KernelIdeal.main_arg9)
      ∧ r.2.mem ((c.tc : Thread KernelIdeal.nD KernelIdeal.τ).loc KernelIdeal.main_arg10) = m ((c.tc : Thread KernelIdeal.nD KernelIdeal.τ).loc KernelIdeal.main_arg10)) :=
  (θ_run KernelIdeal.defs _ _).mono (fun r hr c => ⟨KernelIdeal.Hand.v_arr11 m r hr.1 c, KernelIdeal.Hand.v_arr12 m r hr.1 c, KernelIdeal.Hand.v_arr13 m r hr.1 c, KernelIdeal.Hand.v_arr14 m r hr.1 c,
      ((hr.1 c).2 KernelIdeal.main_arg0 (Pipeline.mem_restRefs_of KernelIdeal.main_arg0 (by decide) (by decide))).trans (KernelIdeal.Gen.V_main_arg0 m c),
      ((hr.1 c).2 KernelIdeal.main_arg1 (Pipeline.mem_restRefs_of KernelIdeal.main_arg1 (by decide) (by decide))).trans (KernelIdeal.Gen.V_main_arg1 m c),
      ((hr.1 c).2 KernelIdeal.main_arg2 (Pipeline.mem_restRefs_of KernelIdeal.main_arg2 (by decide) (by decide))).trans (KernelIdeal.Gen.V_main_arg2 m c),
      ((hr.1 c).2 KernelIdeal.main_arg3 (Pipeline.mem_restRefs_of KernelIdeal.main_arg3 (by decide) (by decide))).trans (KernelIdeal.Gen.V_main_arg3 m c),
      (hr.1.arr_in c 4 rfl).trans (KernelIdeal.Gen.V_main_arg4 m c),
      ((hr.1 c).2 KernelIdeal.main_arg5 (Pipeline.mem_restRefs_of KernelIdeal.main_arg5 (by decide) (by decide))).trans (KernelIdeal.Gen.V_main_arg5 m c),
      ((hr.1 c).2 KernelIdeal.main_arg6 (Pipeline.mem_restRefs_of KernelIdeal.main_arg6 (by decide) (by decide))).trans (KernelIdeal.Gen.V_main_arg6 m c),
      ((hr.1 c).2 KernelIdeal.main_arg7 (Pipeline.mem_restRefs_of KernelIdeal.main_arg7 (by decide) (by decide))).trans (KernelIdeal.Gen.V_main_arg7 m c),
      (hr.1.arr_in c 8 rfl).trans (KernelIdeal.Gen.V_main_arg8 m c),
      ((hr.1 c).2 KernelIdeal.main_arg9 (Pipeline.mem_restRefs_of KernelIdeal.main_arg9 (by decide) (by decide))).trans (KernelIdeal.Gen.V_main_arg9 m c),
      ((hr.1 c).2 KernelIdeal.main_arg10 (Pipeline.mem_restRefs_of KernelIdeal.main_arg10 (by decide) (by decide))).trans (KernelIdeal.Gen.V_main_arg10 m c)⟩) (KernelIdeal.Hand.v_run m g fun c r => mx_nonneg h c r)

/-- The reference ends with the same. -/
theorem reference_ends : θ_run (ReferenceIdeal.defs (F := Ideal)) (onTc (τ := ReferenceIdeal.τ) (ReferenceIdeal.main (F := Ideal))) ⟨m', fun _ => 0, g'⟩ (fun r => ∀ c : Dev ReferenceIdeal.nD,
      r.2.mem ((c.tc : Thread ReferenceIdeal.nD ReferenceIdeal.τ).loc ReferenceIdeal.main_v7_0) = o12 m c
      ∧ r.2.mem ((c.tc : Thread ReferenceIdeal.nD ReferenceIdeal.τ).loc ReferenceIdeal.main_v7_1) = o13 m c
      ∧ r.2.mem ((c.tc : Thread ReferenceIdeal.nD ReferenceIdeal.τ).loc ReferenceIdeal.main_v7_2) = o14 m c
      ∧ r.2.mem ((c.tc : Thread ReferenceIdeal.nD ReferenceIdeal.τ).loc ReferenceIdeal.main_v7_3) = o15 m c
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)
      ∧ r.2.mem ((c.tc : Thread ReferenceIdeal.nD ReferenceIdeal.τ).loc ReferenceIdeal.main_arg4) = m' ((c.tc : Thread ReferenceIdeal.nD ReferenceIdeal.τ).loc ReferenceIdeal.main_arg4)
      ∧ r.2.mem ((c.tc : Thread ReferenceIdeal.nD ReferenceIdeal.τ).loc ReferenceIdeal.main_arg5) = m' ((c.tc : Thread ReferenceIdeal.nD ReferenceIdeal.τ).loc ReferenceIdeal.main_arg5)
      ∧ r.2.mem ((c.tc : Thread ReferenceIdeal.nD ReferenceIdeal.τ).loc ReferenceIdeal.main_arg6) = m' ((c.tc : Thread ReferenceIdeal.nD ReferenceIdeal.τ).loc ReferenceIdeal.main_arg6)
      ∧ r.2.mem ((c.tc : Thread ReferenceIdeal.nD ReferenceIdeal.τ).loc ReferenceIdeal.main_arg7) = m' ((c.tc : Thread ReferenceIdeal.nD ReferenceIdeal.τ).loc ReferenceIdeal.main_arg7)
      ∧ r.2.mem ((c.tc : Thread ReferenceIdeal.nD ReferenceIdeal.τ).loc ReferenceIdeal.main_arg8) = m' ((c.tc : Thread ReferenceIdeal.nD ReferenceIdeal.τ).loc ReferenceIdeal.main_arg8)
      ∧ r.2.mem ((c.tc : Thread ReferenceIdeal.nD ReferenceIdeal.τ).loc ReferenceIdeal.main_arg9) = m' ((c.tc : Thread ReferenceIdeal.nD ReferenceIdeal.τ).loc ReferenceIdeal.main_arg9)
      ∧ r.2.mem ((c.tc : Thread ReferenceIdeal.nD ReferenceIdeal.τ).loc ReferenceIdeal.main_arg10) = m' ((c.tc : Thread ReferenceIdeal.nD ReferenceIdeal.τ).loc ReferenceIdeal.main_arg10)) :=
  (θ_run ReferenceIdeal.defs _ _).mono (fun r hr c => ⟨(hr c).1.trans (out0_eq h c).symm, (hr c).2.1.trans (out1_eq h c).symm, (hr c).2.2.1.trans (out2_eq h c).symm,
      (hr c).2.2.2.1.trans (out3_eq h c).symm, (hr c).2.2.2.2⟩) (ReferenceIdeal.Value.run_blocks m' g')

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.IdealFrame
public import proofs.«01_k».proof.Proof.ValueAll
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => Cert.Kernel.Hand.frame m ρ, fun m ρ _ => Cert.KernelIdeal.Hand.frame m ρ,
    fun m ρ _ => Cert.ReferenceIdeal.Gen.frame m ρ, trivial, fun m g m' g' _ h => ?_⟩
  exact ⟨Cert.KernelIdeal.Hand.o12 m, Cert.KernelIdeal.Hand.o13 m, Cert.KernelIdeal.Hand.o14 m, Cert.KernelIdeal.Hand.o15 m,
    Cert.Val.kernel_ends g h, Cert.Val.reference_ends g' h⟩⟩

end Cert.Proof

end
